-- ==== Defs.lean ====
def Pre_Kernel [hPre_rows_apart : Cert.Pre_rows_apart.Facts] (m : (ℓ : Loc Cert.Kernel.nD Cert.Kernel.τ Cert.Kernel.sig) → Buf (Elt Bits) ℓ) : Prop :=
  ∀ c : Dev Cert.Kernel.nD,
    (Cert.Pre_rows_apart.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_apart : Cert.Pre_rows_apart.Facts] (m : (ℓ : Loc Cert.KernelIdeal.nD Cert.KernelIdeal.τ Cert.KernelIdeal.sig) → Buf (Elt Ideal) ℓ) : Prop :=
  ∀ c : Dev Cert.KernelIdeal.nD,
    (Cert.Pre_rows_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference [hPre_rows_apart : Cert.Pre_rows_apart.Facts] (m : (ℓ : Loc Cert.Reference.nD Cert.Reference.τ Cert.Reference.sig) → Buf (Elt Bits) ℓ) : Prop :=
  ∀ c : Dev Cert.Reference.nD,
    (Cert.Pre_rows_apart.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal [hPre_rows_apart : Cert.Pre_rows_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_rows_exist : Cert.Pre_rows_exist.Facts] (m : (ℓ : Loc Cert.Kernel7.nD Cert.Kernel7.τ Cert.Kernel7.sig) → Buf (Elt Bits) ℓ) : Prop :=
  ∀ c : Dev Cert.Kernel7.nD,
    (Cert.Pre_rows_exist.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7Ideal [hPre_rows_exist : Cert.Pre_rows_exist.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_rows_exist.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal [hPre_rows_exist : Cert.Pre_rows_exist.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_rows_exist.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] [hPre_rows_apart : Cert.Pre_rows_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] [hPre_rows_apart : Cert.Pre_rows_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_rows_exist : Cert.Pre_rows_exist.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_rows_exist : Cert.Pre_rows_exist.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] [hPre_rows_exist : Cert.Pre_rows_exist.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def bitexact_Kernel_Reference [hKernel : Cert.Kernel.Facts] [hReference : Cert.Reference.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_rows_exist : Cert.Pre_rows_exist.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "inv_qk" .f32 0x3BAAAAAB#32 ((192⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  IdealRules.named_const.Statement Cert.Kernel12Ideal.κ "inv_qk" .f32 0x3BAAAAAB#32 ((192⁻¹ : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_rows_apart : Cert.Pre_rows_apart.Facts) (hPre_finite : Cert.Pre_finite.Facts) (hPre_rows_exist : Cert.Pre_rows_exist.Facts),
    quiescent_Kernel (hKernel := hKernel) (hPre_rows_apart := hPre_rows_apart)
    ∧ quiescent_KernelIdeal (hKernelIdeal := hKernelIdeal) (hPre_rows_apart := hPre_rows_apart)
    ∧ quiescent_Reference (hReference := hReference) (hPre_rows_apart := hPre_rows_apart)
    ∧ quiescent_ReferenceIdeal (hReferenceIdeal := hReferenceIdeal) (hPre_rows_apart := hPre_rows_apart)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_rows_exist := hPre_rows_exist)
    ∧ quiescent_Kernel7Ideal (hKernel7Ideal := hKernel7Ideal) (hPre_rows_exist := hPre_rows_exist)
    ∧ quiescent_Reference7Ideal (hReference7Ideal := hReference7Ideal) (hPre_rows_exist := hPre_rows_exist)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ bitexact_Kernel_Reference (hKernel := hKernel) (hReference := hReference) (hPre_rows_apart := hPre_rows_apart)
    ∧ algebraic_KernelIdeal_ReferenceIdeal (hKernelIdeal := hKernelIdeal) (hReferenceIdeal := hReferenceIdeal) (hPre_rows_apart := hPre_rows_apart)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_rows_exist := hPre_rows_exist)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S32x8192x192 : Shape := ⟨3, ![32, 8192, 192]⟩
abbrev S8192x4096 : Shape := ⟨2, ![8192, 4096]⟩
abbrev S1x8192 : Shape := ⟨2, ![1, 8192]⟩
abbrev S_ : Shape := ⟨0, ![]⟩

class Facts : Prop where
  bitsLt_bf16_f32 : FTy.bits .bf16 < FTy.bits .f32
  bcast_S_S32x8192x192 : S_.BroadcastsInDim S32x8192x192 (![] : Fin 0 → Fin S32x8192x192.rank)

variable [Facts]

def fn {F : FTy → Type} [FloatOps F] (main_arg0 : FVec F S32x8192x192 .bf16) (main_arg1 : FVec F S32x8192x192 .bf16) (main_arg2 : FVec F S8192x4096 .bf16) (main_arg3 : IVec S1x8192 32) : IVec S32x8192x192 1 :=
  let main_v0 : FVec F S32x8192x192 .f32 := (extf .f32 · bitsLt_bf16_f32) main_arg0
  let main_v1 : FVec F S32x8192x192 .f32 := Host.absf main_v0
  let main_cst : FVec F S_ .f32 := constant S_ .f32 0x7F800000#32
  let main_v2 : FVec F S32x8192x192 .f32 := broadcastInDim S32x8192x192 ![] bcast_S_S32x8192x192 main_cst
  let main_v3 : IVec S32x8192x192 1 := cmpf .olt main_v1 main_v2
  let main_v4 : FVec F S32x8192x192 .f32 := (extf .f32 · bitsLt_bf16_f32) main_arg1
  let main_v5 : FVec F S32x8192x192 .f32 := Host.absf main_v4
  let main_cst_0 : FVec F S_ .f32 := constant S_ .f32 0x7F800000#32
  let main_v6 : FVec F S32x8192x192 .f32 := broadcastInDim S32x8192x192 ![] bcast_S_S32x8192x192 main_cst_0
  let main_v7 : IVec S32x8192x192 1 := cmpf .olt main_v5 main_v6
  let main_v8 : IVec S32x8192x192 1 := andi main_v3 main_v7
  main_v8
-- ==== Pre_rows_apart.lean ====
abbrev S8192x4096 : Shape := ⟨2, ![8192, 4096]⟩
abbrev S16384 : Shape := ⟨1, ![16384]⟩
abbrev S16384x16384 : Shape := ⟨2, ![16384, 16384]⟩
abbrev S_ : Shape := ⟨0, ![]⟩
abbrev S16384x1 : Shape := ⟨2, ![16384, 1]⟩
abbrev S1x16384 : Shape := ⟨2, ![1, 16384]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)

variable [Facts]

def fn {F : FTy → Type} [FloatOps F] (main_arg0 : FVec F S8192x4096 .f32) (main_arg1 : IVec S16384 32) : IVec S16384x16384 1 :=
  let main_v0 : IVec S16384x16384 32 := iotaInDim S16384x16384 32 0
  let main_v1 : IVec S16384x16384 32 := iotaInDim S16384x16384 32 1
  let main_c : IVec S_ 32 := constantI S_ 32 0#32
  let main_v2 : IVec S16384 32 := broadcastInDim S16384 ![] bcast_S_S16384 main_c
  let main_v3 : IVec S16384 1 := cmpi .sge main_arg1 main_v2
  let main_c_0 : IVec S_ 32 := constantI S_ 32 24576#32
  let main_v4 : IVec S16384 32 := broadcastInDim S16384 ![] bcast_S_S16384 main_c_0
  let main_v5 : IVec S16384 1 := cmpi .slt main_arg1 main_v4
  let main_v6 : IVec S16384 1 := andi main_v3 main_v5
  let main_v7 : IVec S16384x1 1 := broadcastInDim S16384x1 ![0] bcast_S16384_S16384x1_0 main_v6
  let main_v8 : IVec S16384x1 32 := broadcastInDim S16384x1 ![0] bcast_S16384_S16384x1_0 main_arg1
  let main_v9 : IVec S1x16384 32 := broadcastInDim S1x16384 ![1] bcast_S16384_S1x16384_1 main_arg1
  let main_v10 : IVec S16384x16384 32 := broadcastInDim S16384x16384 ![0, 1] bcast_S16384x1_S16384x16384_0_1 main_v8
  let main_v11 : IVec S16384x16384 32 := broadcastInDim S16384x16384 ![0, 1] bcast_S1x16384_S16384x16384_0_1 main_v9
  let main_v12 : IVec S16384x16384 1 := cmpi .ne main_v10 main_v11
  let main_v13 : IVec S16384x16384 1 := cmpi .eq main_v0 main_v1
  let main_v14 : IVec S16384x16384 1 := ori main_v12 main_v13
  let main_v15 : IVec S16384x16384 1 := broadcastInDim S16384x16384 ![0, 1] bcast_S16384x1_S16384x16384_0_1 main_v7
  let main_v16 : IVec S16384x16384 1 := andi main_v15 main_v14
  main_v16
-- ==== Pre_rows_exist.lean ====
abbrev S8192x4096 : Shape := ⟨2, ![8192, 4096]⟩
abbrev S8192x128 : Shape := ⟨2, ![8192, 128]⟩
abbrev S24576x4096 : Shape := ⟨2, ![24576, 4096]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S8192x4096 .f32) (main_arg1 : FVec F S8192x128 .f32) (main_arg2 : FVec F S24576x4096 .f32) (main_arg3 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 24576#32
  let main_v2 : IVec S16384 32 := broadcastInDim S16384 ![] bcast_S_S16384 main_c_0
  let main_v3 : IVec S16384 1 := cmpi .slt main_arg3 main_v2
  let main_v4 : IVec S16384 1 := andi main_v1 main_v3
  main_v4
-- ==== Kernel.lean ====
abbrev S8192x4096 : Shape := ⟨2, ![8192, 4096]⟩
abbrev S16384 : Shape := ⟨1, ![16384]⟩
abbrev S_ : Shape := ⟨0, ![]⟩
abbrev S24576x4096 : Shape := ⟨2, ![24576, 4096]⟩
abbrev S1 : Shape := ⟨1, ![1]⟩
abbrev S1x4096 : Shape := ⟨2, ![1, 4096]⟩

abbrev nBuf : Space → Nat
  | .hbm => 3
  | .vmem => 0
  | .smem => 1
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S24576x4096, .f32⟩
  | .local _ .smem, ⟨0, _⟩ => ⟨S16384, .i32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_arg1 : Ref sig .tc := ⟨.smem, 0, rfl⟩

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let c2_i32 : BitVec 32 := 2#32
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v3 : BitVec 32 := Scalar.addi v0 arg6
  let v4 : BitVec 32 := Scalar.muli c2_i32 v3
  let c0_i32_6 : BitVec 32 := 0#32
  let v5 : BitVec 32 := Scalar.addi v4 c0_i32_6
  let v6 : Index := Scalar.indexCast v5
  ![v6.toNat]
def k0_off2 (v7 : BitVec 32) : Fin 2 → Nat :=
  let c0_i32_7 : BitVec 32 := 0#32
  ![v7.toNat, 0]

def k0_chk1 (v7 : BitVec 32) : Prop :=
  (∀ a, (k0_off2 v7) a + S1x4096.size a ≤ S24576x4096.size a)
theorem k0_off2_inb : ∀ (v7 : BitVec 32) (k0_hw1 : k0_chk1 v7), ∀ a, (k0_off2 v7) a + S1x4096.size a ≤ S24576x4096.size a := fun v7 k0_hw1 => k0_hw1

def k0_off3 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v8 : BitVec 32 := Scalar.addi v0 arg6
  let c0_i32_8 : BitVec 32 := 0#32
  ![v8.toNat, 0]
def k0_off4 (i : grid0.Coords) (k0_t1 : Fin k0_t1_loop.trips) : Fin 1 → Nat :=
  let c2_i32_9 : BitVec 32 := 2#32
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v11 : BitVec 32 := Scalar.addi v0 arg6
  let v12 : BitVec 32 := Scalar.muli c2_i32_9 v11
  let c1_i32_10 : BitVec 32 := 1#32
  let v13 : BitVec 32 := Scalar.addi v12 c1_i32_10
  let v14 : Index := Scalar.indexCast v13
  ![v14.toNat]
def k0_off5 (v15 : BitVec 32) : Fin 2 → Nat :=
  let c0_i32_11 : BitVec 32 := 0#32
  ![v15.toNat, 0]

def k0_chk2 (v15 : BitVec 32) : Prop :=
  (∀ a, (k0_off5 v15) a + S1x4096.size a ≤ S24576x4096.size a)
theorem k0_off5_inb : ∀ (v15 : BitVec 32) (k0_hw2 : k0_chk2 v15), ∀ a, (k0_off5 v15) a + S1x4096.size a ≤ S24576x4096.size a := fun v15 k0_hw2 => k0_hw2

def k0_off6 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v16 : BitVec 32 := Scalar.addi v0 arg6
  let c0_i32_12 : BitVec 32 := 0#32
  ![v16.toNat, 0]
@[reducible] def k0_t2_loop : Scf.Loop 32 :=
  let c0_i32_2 : BitVec 32 := 0#32
  let c512_i32_3 : BitVec 32 := 512#32
  let v2 : BitVec 32 := Scalar.addi c0_i32_2 c512_i32_3
  let c1_i32_4 : BitVec 32 := 1#32
  ⟨c0_i32_2, v2, c1_i32_4⟩
def k0_off7 (i : grid0.Coords) (k0_t2 : Fin k0_t2_loop.trips) : Fin 1 → Nat :=
  let c2_i32 : BitVec 32 := 2#32
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg6 : BitVec 32 := Scf.iv c0_i32_2 c1_i32_4 k0_t2
  let v3 : BitVec 32 := Scalar.addi v0 arg6
  let v4 : BitVec 32 := Scalar.muli c2_i32 v3
  let c0_i32_6 : BitVec 32 := 0#32
  let v5 : BitVec 32 := Scalar.addi v4 c0_i32_6
  let v6 : Index := Scalar.indexCast v5
  ![v6.toNat]
def k0_off8 (v7 : BitVec 32) : Fin 2 → Nat :=
  let c0_i32_7 : BitVec 32 := 0#32
  ![v7.toNat, 0]

def k0_chk3 (v7 : BitVec 32) : Prop :=
  (∀ a, (k0_off8 v7) a + S1x4096.size a ≤ S24576x4096.size a)
theorem k0_off8_inb : ∀ (v7 : BitVec 32) (k0_hw3 : k0_chk3 v7), ∀ a, (k0_off8 v7) a + S1x4096.size a ≤ S24576x4096.size a := fun v7 k0_hw3 => k0_hw3

def k0_off9 (i : grid0.Coords) (k0_t2 : Fin k0_t2_loop.trips) : Fin 2 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg6 : BitVec 32 := Scf.iv c0_i32_2 c1_i32_4 k0_t2
  let v8 : BitVec 32 := Scalar.addi v0 arg6
  let c0_i32_8 : BitVec 32 := 0#32
  ![v8.toNat, 0]
def k0_off10 (i : grid0.Coords) (k0_t2 : Fin k0_t2_loop.trips) : Fin 1 → Nat :=
  let c2_i32_9 : BitVec 32 := 2#32
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg6 : BitVec 32 := Scf.iv c0_i32_2 c1_i32_4 k0_t2
  let v11 : BitVec 32 := Scalar.addi v0 arg6
  let v12 : BitVec 32 := Scalar.muli c2_i32_9 v11
  let c1_i32_10 : BitVec 32 := 1#32
  let v13 : BitVec 32 := Scalar.addi v12 c1_i32_10
  let v14 : Index := Scalar.indexCast v13
  ![v14.toNat]
def k0_off11 (v15 : BitVec 32) : Fin 2 → Nat :=
  let c0_i32_11 : BitVec 32 := 0#32
  ![v15.toNat, 0]

def k0_chk4 (v15 : BitVec 32) : Prop :=
  (∀ a, (k0_off11 v15) a + S1x4096.size a ≤ S24576x4096.size a)
theorem k0_off11_inb : ∀ (v15 : BitVec 32) (k0_hw4 : k0_chk4 v15), ∀ a, (k0_off11 v15) a + S1x4096.size a ≤ S24576x4096.size a := fun v15 k0_hw4 => k0_hw4

def k0_off12 (i : grid0.Coords) (k0_t2 : Fin k0_t2_loop.trips) : Fin 2 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg6 : BitVec 32 := Scf.iv c0_i32_2 c1_i32_4 k0_t2
  let v16 : BitVec 32 := Scalar.addi v0 arg6
  let c0_i32_12 : BitVec 32 := 0#32
  ![v16.toNat, 0]
-- ==== Reference.lean ====
abbrev S8192x4096 : Shape := ⟨2, ![8192, 4096]⟩
abbrev S16384 : Shape := ⟨1, ![16384]⟩
abbrev S_ : Shape := ⟨0, ![]⟩
abbrev S24576x4096 : Shape := ⟨2, ![24576, 4096]⟩
abbrev S8192x2x4096 : Shape := ⟨3, ![8192, 2, 4096]⟩
abbrev S16384x4096 : Shape := ⟨2, ![16384, 4096]⟩
abbrev S16384x1 : Shape := ⟨2, ![16384, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384, .i32⟩
  | .hbm, ⟨2, _⟩ => ⟨S_, .f32⟩
  | .hbm, ⟨3, _⟩ => ⟨S24576x4096, .f32⟩
  | .hbm, ⟨4, _⟩ => ⟨S8192x2x4096, .f32⟩
  | .hbm, ⟨5, _⟩ => ⟨S16384x4096, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S24576x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel2.lean ====
abbrev S24576x4096 : Shape := ⟨2, ![24576, 4096]⟩
abbrev S32 : Shape := ⟨1, ![32]⟩
abbrev S4096 : Shape := ⟨1, ![4096]⟩
abbrev S4x32x4096x256 : Shape := ⟨4, ![4, 32, 4096, 256]⟩
abbrev S4x32x256x4096 : Shape := ⟨4, ![4, 32, 256, 4096]⟩
abbrev S_ : Shape := ⟨0, ![]⟩
abbrev S96 : Shape := ⟨1, ![96]⟩
abbrev S1 : Shape := ⟨1, ![1]⟩
abbrev S1x96 : Shape := ⟨2, ![1, 96]⟩
abbrev S32x1 : Shape := ⟨2, ![32, 1]⟩
abbrev S32x96 : Shape := ⟨2, ![32, 96]⟩
abbrev S1x4096 : Shape := ⟨2, ![1, 4096]⟩
abbrev S256x4096 : Shape := ⟨2, ![256, 4096]⟩
abbrev S1x1x4096x256 : Shape := ⟨4, ![1, 1, 4096, 256]⟩
abbrev S1x1x256x4096 : Shape := ⟨4, ![1, 1, 256, 4096]⟩
abbrev S256 : Shape := ⟨1, ![256]⟩
abbrev S256x1 : Shape := ⟨2, ![256, 1]⟩
abbrev S4096x256 : Shape := ⟨2, ![4096, 256]⟩
abbrev S256x256 : Shape := ⟨2, ![256, 256]⟩

abbrev nBuf : Space → Nat
  | .hbm => 57
  | .vmem => 11
  | .smem => 2
  | _ => 0

abbrev bufTy : (tb : Table) → Fin (tcTables nBuf tb) → BufTy
  | .hbm, ⟨0, _⟩ => ⟨S24576x4096, .f32⟩
  | .hbm, ⟨1, _⟩ => ⟨S32, .i32⟩
  | .hbm, ⟨2, _⟩ => ⟨S4096, .f32⟩
  | .hbm, ⟨3, _⟩ => ⟨S4x32x4096x256, .f32⟩
  | .hbm, ⟨4, _⟩ => ⟨S4x32x4096x256, .f32⟩
  | .hbm, ⟨5, _⟩ => ⟨S4x32x256x4096, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S96, .i32⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S96, .i32⟩
  | .hbm, ⟨39, _⟩ => ⟨S96, .i32⟩
  | .hbm, ⟨40, _⟩ => ⟨S1x96, .i32⟩
  | .hbm, ⟨41, _⟩ => ⟨S32x1, .i32⟩
  | .hbm, ⟨42, _⟩ => ⟨S32x96, .i32⟩
  | .hbm, ⟨43, _⟩ => ⟨S32x96, .i32⟩
  | .hbm, ⟨44, _⟩ => ⟨S32x96, .i1⟩
  | .hbm, ⟨45, _⟩ => ⟨S32x96, .i32⟩
  | .hbm, ⟨46, _⟩ => ⟨S_, .i32⟩
  | .hbm, ⟨47, _⟩ => ⟨S96, .i32⟩
  | .hbm, ⟨48, _⟩ => ⟨S_, .i32⟩
  | .hbm, ⟨49, _⟩ => ⟨S96, .i32⟩
  | .hbm, ⟨50, _⟩ => ⟨S96, .i32⟩
  | .hbm, ⟨51, _⟩ => ⟨S1, .i32⟩
  | .hbm, ⟨52, _⟩ => ⟨S_, .i32⟩
  | .hbm, ⟨53, _⟩ => ⟨S96, .i32⟩
  | .hbm, ⟨54, _⟩ => ⟨S96, .i1⟩
  | .hbm, ⟨55, _⟩ => ⟨S1x4096, .f32⟩
  | .hbm, ⟨56, _⟩ => ⟨S24576x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x4096x256, .f32⟩
  | .local _ .vmem, ⟨7, _⟩ => ⟨S1x1x256x4096, .f32⟩
  | .local _ .vmem, ⟨8, _⟩ => ⟨S1x1x256x4096, .f32⟩
  | .local _ .vmem, ⟨9, _⟩ => ⟨S256x4096, .f32⟩
  | .local _ .vmem, ⟨10, _⟩ => ⟨S256x4096, .f32⟩
  | .local _ .smem, ⟨0, _⟩ => ⟨S96, .i32⟩
  | .local _ .smem, ⟨1, _⟩ => ⟨S96, .i32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_call2_call0_v0 : Ref sig .tc := ⟨.hbm, 40, rfl⟩
abbrev main_call2_call0_v1 : Ref sig .tc := ⟨.hbm, 41, rfl⟩
abbrev main_call2_call0_v2 : Ref sig .tc := ⟨.hbm, 42, rfl⟩
abbrev main_call2_call0_v3 : Ref sig .tc := ⟨.hbm, 43, rfl⟩
abbrev main_call2_call0_v4 : Ref sig .tc := ⟨.hbm, 44, rfl⟩
abbrev main_call2_call0_v5 : Ref sig .tc := ⟨.hbm, 45, rfl⟩
abbrev main_call2_call0_c : Ref sig .tc := ⟨.hbm, 46, rfl⟩
abbrev main_v12 : Ref sig .tc := ⟨.hbm, 47, rfl⟩
abbrev main_c_3 : Ref sig .tc := ⟨.hbm, 48, rfl⟩
abbrev main_v13 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v21 : Ref sig .tc := ⟨.hbm, 55, rfl⟩
abbrev main_v22 : Ref sig .tc := ⟨.hbm, 56, rfl⟩
abbrev main_v14 : Ref sig .tc := ⟨.smem, 0, rfl⟩
abbrev main_v20 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_v14.idx, main_v20.idx], fun | 0 => main_v14.names | 1 => main_v20.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S24576x4096 : Shape := ⟨2, ![24576, 4096]⟩
abbrev S32 : Shape := ⟨1, ![32]⟩
abbrev S4096 : Shape := ⟨1, ![4096]⟩
abbrev S4x32x4096x256 : Shape := ⟨4, ![4, 32, 4096, 256]⟩
abbrev S4x32x256x4096 : Shape := ⟨4, ![4, 32, 256, 4096]⟩
abbrev S_ : Shape := ⟨0, ![]⟩
abbrev S96 : Shape := ⟨1, ![96]⟩
abbrev S1x32 : Shape := ⟨2, ![1, 32]⟩
abbrev S96x1 : Shape := ⟨2, ![96, 1]⟩
abbrev S96x32 : Shape := ⟨2, ![96, 32]⟩
abbrev S96x256 : Shape := ⟨2, ![96, 256]⟩
abbrev S24576 : Shape := ⟨1, ![24576]⟩
abbrev S24576x1 : Shape := ⟨2, ![24576, 1]⟩
abbrev S24576x32 : Shape := ⟨2, ![24576, 32]⟩
abbrev S1 : Shape := ⟨1, ![1]⟩
abbrev S1x4096 : Shape := ⟨2, ![1, 4096]⟩
abbrev S1x32x4096x256 : Shape := ⟨4, ![1, 32, 4096, 256]⟩
abbrev S32x4096x256 : Shape := ⟨3, ![32, 4096, 256]⟩
abbrev S24576x32x256 : Shape := ⟨3, ![24576, 32, 256]⟩
abbrev S24576x32x1 : Shape := ⟨3, ![24576, 32, 1]⟩
abbrev S1x32x256x4096 : Shape := ⟨4, ![1, 32, 256, 4096]⟩
abbrev S32x256x4096 : Shape := ⟨3, ![32, 256, 4096]⟩

abbrev nBuf : Space → Nat
  | .hbm => 98
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S32, .i32⟩
  | .hbm, ⟨2, _⟩ => ⟨S4096, .f32⟩
  | .hbm, ⟨3, _⟩ => ⟨S4x32x4096x256, .f32⟩
  | .hbm, ⟨4, _⟩ => ⟨S4x32x4096x256, .f32⟩
  | .hbm, ⟨5, _⟩ => ⟨S4x32x256x4096, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S96, .i32⟩
  | .hbm, ⟨34, _⟩ => ⟨S1x32, .i32⟩
  | .hbm, ⟨35, _⟩ => ⟨S96x1, .i32⟩
  | .hbm, ⟨36, _⟩ => ⟨S96x32, .i32⟩
  | .hbm, ⟨37, _⟩ => ⟨S96x32, .i32⟩
  | .hbm, ⟨38, _⟩ => ⟨S96x32, .i1⟩
  | .hbm, ⟨39, _⟩ => ⟨S96x32, .i32⟩
  | .hbm, ⟨40, _⟩ => ⟨S_, .i32⟩
  | .hbm, ⟨41, _⟩ => ⟨S96, .i32⟩
  | .hbm, ⟨42, _⟩ => ⟨S96x256, .i32⟩
  | .hbm, ⟨43, _⟩ => ⟨S24576, .i32⟩
  | .hbm, ⟨44, _⟩ => ⟨S24576x1, .i32⟩
  | .hbm, ⟨45, _⟩ => ⟨S1x32, .i32⟩
  | .hbm, ⟨46, _⟩ => ⟨S24576x32, .i32⟩
  | .hbm, ⟨47, _⟩ => ⟨S24576x32, .i32⟩
  | .hbm, ⟨48, _⟩ => ⟨S24576x32, .i1⟩
  | .hbm, ⟨49, _⟩ => ⟨S24576x32, .f32⟩
  | .hbm, ⟨50, _⟩ => ⟨S1, .i32⟩
  | .hbm, ⟨51, _⟩ => ⟨S_, .i32⟩
  | .hbm, ⟨52, _⟩ => ⟨S96, .i32⟩
  | .hbm, ⟨53, _⟩ => ⟨S96, .i1⟩
  | .hbm, ⟨54, _⟩ => ⟨S96, .f32⟩
  | .hbm, ⟨55, _⟩ => ⟨S96x256, .f32⟩
  | .hbm, ⟨56, _⟩ => ⟨S24576, .f32⟩
  | .hbm, ⟨57, _⟩ => ⟨S24576x1, .f32⟩
  | .hbm, ⟨58, _⟩ => ⟨S24576x32, .f32⟩
  | .hbm, ⟨59, _⟩ => ⟨S24576x32, .f32⟩
  | .hbm, ⟨60, _⟩ => ⟨S24576x4096, .f32⟩
  | .hbm, ⟨61, _⟩ => ⟨S_, .f32⟩
  | .hbm, ⟨62, _⟩ => ⟨S24576, .f32⟩
  | .hbm, ⟨63, _⟩ => ⟨S24576x1, .f32⟩
  | .hbm, ⟨64, _⟩ => ⟨S_, .f32⟩
  | .hbm, ⟨65, _⟩ => ⟨S24576x1, .f32⟩
  | .hbm, ⟨66, _⟩ => ⟨S24576x1, .f32⟩
  | .hbm, ⟨67, _⟩ => ⟨S_, .f32⟩
  | .hbm, ⟨68, _⟩ => ⟨S24576x1, .f32⟩
  | .hbm, ⟨69, _⟩ => ⟨S24576x1, .f32⟩
  | .hbm, ⟨70, _⟩ => ⟨S24576x1, .f32⟩
  | .hbm, ⟨71, _⟩ => ⟨S24576x4096, .f32⟩
  | .hbm, ⟨72, _⟩ => ⟨S24576x4096, .f32⟩
  | .hbm, ⟨73, _⟩ => ⟨S1x4096, .f32⟩
  | .hbm, ⟨74, _⟩ => ⟨S24576x4096, .f32⟩
  | .hbm, ⟨75, _⟩ => ⟨S24576x4096, .f32⟩
  | .hbm, ⟨76, _⟩ => ⟨S1x32x4096x256, .f32⟩
  | .hbm, ⟨77, _⟩ => ⟨S32x4096x256, .f32⟩
  | .hbm, ⟨78, _⟩ => ⟨S24576x32x256, .f32⟩
  | .hbm, ⟨79, _⟩ => ⟨S24576x32x256, .f32⟩
  | .hbm, ⟨80, _⟩ => ⟨S24576x32x256, .f32⟩
  | .hbm, ⟨81, _⟩ => ⟨S_, .f32⟩
  | .hbm, ⟨82, _⟩ => ⟨S24576x32x256, .f32⟩
  | .hbm, ⟨83, _⟩ => ⟨S24576x32x256, .f32⟩
  | .hbm, ⟨84, _⟩ => ⟨S_, .f32⟩
  | .hbm, ⟨85, _⟩ => ⟨S24576x32x256, .f32⟩
  | .hbm, ⟨86, _⟩ => ⟨S24576x32x256, .f32⟩
  | .hbm, ⟨87, _⟩ => ⟨S24576x32x256, .f32⟩
  | .hbm, ⟨88, _⟩ => ⟨S1x32x4096x256, .f32⟩
  | .hbm, ⟨89, _⟩ => ⟨S32x4096x256, .f32⟩
  | .hbm, ⟨90, _⟩ => ⟨S24576x32x256, .f32⟩
  | .hbm, ⟨91, _⟩ => ⟨S24576x32x256, .f32⟩
  | .hbm, ⟨92, _⟩ => ⟨S24576x32x1, .f32⟩
  | .hbm, ⟨93, _⟩ => ⟨S24576x32x256, .f32⟩
  | .hbm, ⟨94, _⟩ => ⟨S24576x32x256, .f32⟩
  | .hbm, ⟨95, _⟩ => ⟨S1x32x256x4096, .f32⟩
  | .hbm, ⟨96, _⟩ => ⟨S32x256x4096, .f32⟩
  | .hbm, ⟨97, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst : Ref sig .tc := ⟨.hbm, 61, rfl⟩
abbrev main_v28 : Ref sig .tc := ⟨.hbm, 62, rfl⟩
abbrev main_v29 : Ref sig .tc := ⟨.hbm, 63, rfl⟩
abbrev main_cst_3 : Ref sig .tc := ⟨.hbm, 64, rfl⟩
abbrev main_v30 : Ref sig .tc := ⟨.hbm, 65, rfl⟩
abbrev main_v31 : Ref sig .tc := ⟨.hbm, 66, rfl⟩
abbrev main_cst_4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]
-- ==== Kernel3.lean ====
abbrev S32x8192x192 : Shape := ⟨3, ![32, 8192, 192]⟩
abbrev S8192x4096 : Shape := ⟨2, ![8192, 4096]⟩
abbrev S1x8192 : Shape := ⟨2, ![1, 8192]⟩
abbrev S8192 : Shape := ⟨1, ![8192]⟩
abbrev S8192x1 : Shape := ⟨2, ![8192, 1]⟩
abbrev S_ : Shape := ⟨0, ![]⟩
abbrev S32x256 : Shape := ⟨2, ![32, 256]⟩
abbrev S32 : Shape := ⟨1, ![32]⟩
abbrev S16x512 : Shape := ⟨2, ![16, 512]⟩
abbrev S16 : Shape := ⟨1, ![16]⟩
abbrev S1x16 : Shape := ⟨2, ![1, 16]⟩
abbrev S32x1 : Shape := ⟨2, ![32, 1]⟩
abbrev S32x16 : Shape := ⟨2, ![32, 16]⟩
abbrev S1x256x192 : Shape := ⟨3, ![1, 256, 192]⟩
abbrev S1x8192x192 : Shape := ⟨3, ![1, 8192, 192]⟩
abbrev S8192x128 : Shape := ⟨2, ![8192, 128]⟩
abbrev S256x1 : Shape := ⟨2, ![256, 1]⟩
abbrev S256x128 : Shape := ⟨2, ![256, 128]⟩
abbrev S256x192 : Shape := ⟨2, ![256, 192]⟩
abbrev S1 : Shape := ⟨1, ![1]⟩
abbrev S1x512x192 : Shape := ⟨3, ![1, 512, 192]⟩
abbrev S512x192 : Shape := ⟨2, ![512, 192]⟩
abbrev S512x128 : Shape := ⟨2, ![512, 128]⟩
abbrev S1x512 : Shape := ⟨2, ![1, 512]⟩
abbrev S256x512 : Shape := ⟨2, ![256, 512]⟩
abbrev S256 : Shape := ⟨1, ![256]⟩

abbrev nBuf : Space → Nat
  | .hbm => 34
  | .vmem => 11
  | .smem => 1
  | _ => 0

abbrev bufTy : (tb : Table) → Fin (tcTables nBuf tb) → BufTy
  | .hbm, ⟨0, _⟩ => ⟨S32x8192x192, .bf16⟩
  | .hbm, ⟨1, _⟩ => ⟨S32x8192x192, .bf16⟩
  | .hbm, ⟨2, _⟩ => ⟨S8192x4096, .bf16⟩
  | .hbm, ⟨3, _⟩ => ⟨S1x8192, .i32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S32x256, .i32⟩
  | .hbm, ⟨12, _⟩ => ⟨S_, .i32⟩
  | .hbm, ⟨13, _⟩ => ⟨S32, .i32⟩
  | .hbm, ⟨14, _⟩ => ⟨S16x512, .i32⟩
  | .hbm, ⟨15, _⟩ => ⟨S_, .i32⟩
  | .hbm, ⟨16, _⟩ => ⟨S16, .i32⟩
  | .hbm, ⟨17, _⟩ => ⟨S1x16, .i32⟩
  | .hbm, ⟨18, _⟩ => ⟨S32x1, .i32⟩
  | .hbm, ⟨19, _⟩ => ⟨S32x16, .i32⟩
  | .hbm, ⟨20, _⟩ => ⟨S32x16, .i32⟩
  | .hbm, ⟨21, _⟩ => ⟨S32x16, .i1⟩
  | .hbm, ⟨22, _⟩ => ⟨S16, .i32⟩
  | .hbm, ⟨23, _⟩ => ⟨S1x16, .i32⟩
  | .hbm, ⟨24, _⟩ => ⟨S_, .i32⟩
  | .hbm, ⟨25, _⟩ => ⟨S_, .i32⟩
  | .hbm, ⟨26, _⟩ => ⟨S32x16, .i32⟩
  | .hbm, ⟨27, _⟩ => ⟨S32x16, .i32⟩
  | .hbm, ⟨28, _⟩ => ⟨S32x16, .i32⟩
  | .hbm, ⟨29, _⟩ => ⟨S_, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S8192x4096, .bf16⟩
  | .local _ .vmem, ⟨0, _⟩ => ⟨S1x256x192, .bf16⟩
  | .local _ .vmem, ⟨1, _⟩ => ⟨S1x256x192, .bf16⟩
  | .local _ .vmem, ⟨2, _⟩ => ⟨S1x8192x192, .bf16⟩
  | .local _ .vmem, ⟨3, _⟩ => ⟨S1x8192x192, .bf16⟩
  | .local _ .vmem, ⟨4, _⟩ => ⟨S8192x128, .bf16⟩
  | .local _ .vmem, ⟨5, _⟩ => ⟨S8192x128, .bf16⟩
  | .local _ .vmem, ⟨6, _⟩ => ⟨S256x1, .i32⟩
  | .local _ .vmem, ⟨7, _⟩ => ⟨S256x1, .i32⟩
  | .local _ .vmem, ⟨8, _⟩ => ⟨S1x8192, .i32⟩
  | .local _ .vmem, ⟨9, _⟩ => ⟨S256x128, .bf16⟩
  | .local _ .vmem, ⟨10, _⟩ => ⟨S256x128, .bf16⟩
  | .local _ .smem, ⟨0, _⟩ => ⟨S32, .i32⟩
  | _, _ => ⟨S32x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v21 : Ref sig .tc := ⟨.hbm, 33, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 32], ![false, false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v9 : Index := Scalar.indexCast arg1
  ![v9.toNat]
@[reducible] def k0_t1_loop (v10 : BitVec 32) : Scf.Loop 32 :=
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_6 : BitVec 32 := 1#32
  ⟨c0_i32, v15, c1_i32_6⟩

def k0_mult1 (v10 : BitVec 32) (k0_t1 : Fin (k0_t1_loop v10).trips) : BitVec 32 :=
  let c0_i32 : BitVec 32 := 0#32
  let c1_i32_6 : BitVec 32 := 1#32
  let arg9 : BitVec 32 := Scf.iv c0_i32 c1_i32_6 k0_t1
  let c512_i32 : BitVec 32 := 512#32
  let v22 : BitVec 32 := Scalar.muli arg9 c512_i32
  v22
def k0_off2 (v10 : BitVec 32) (k0_t1 : Fin (k0_t1_loop v10).trips) : Fin 3 → Nat :=
  let c0_10 : Index := 0#32
  let c0_i32 : BitVec 32 := 0#32
  let c1_i32_6 : BitVec 32 := 1#32
  let arg9 : BitVec 32 := Scf.iv c0_i32 c1_i32_6 k0_t1
  let c512_i32 : BitVec 32 := 512#32
  let v22 : BitVec 32 := Scalar.muli arg9 c512_i32
  let v23 : BitVec 32 := v22
  let v24 : Index := Scalar.indexCast v23
  let c0_11 : Index := 0#32
  ![0, v24.toNat, 0]
def k0_off3 (v10 : BitVec 32) (k0_t1 : Fin (k0_t1_loop v10).trips) : Fin 2 → Nat :=
  let c0_i32 : BitVec 32 := 0#32
  let c1_i32_6 : BitVec 32 := 1#32
  let arg9 : BitVec 32 := Scf.iv c0_i32 c1_i32_6 k0_t1
  let c512_i32 : BitVec 32 := 512#32
  let v22 : BitVec 32 := Scalar.muli arg9 c512_i32
  let v23 : BitVec 32 := v22
  let v27 : Index := Scalar.indexCast v23
  let c0_12 : Index := 0#32
  ![v27.toNat, 0]
def k0_off4 (v10 : BitVec 32) (k0_t1 : Fin (k0_t1_loop v10).trips) : Fin 2 → Nat :=
  let c0_13 : Index := 0#32
  let c0_i32 : BitVec 32 := 0#32
  let c1_i32_6 : BitVec 32 := 1#32
  let arg9 : BitVec 32 := Scf.iv c0_i32 c1_i32_6 k0_t1
  let c512_i32 : BitVec 32 := 512#32
  let v22 : BitVec 32 := Scalar.muli arg9 c512_i32
  let v23 : BitVec 32 := v22
  let v29 : Index := Scalar.indexCast v23
  ![0, v29.toNat]
@[reducible] def k0_t2_loop (v10 : BitVec 32) : Scf.Loop 32 :=
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_7 : BitVec 32 := 1#32
  ⟨v15, v12, c1_i32_7⟩
def k0_mult2 (v10 : BitVec 32) (k0_t2 : Fin (k0_t2_loop v10).trips) : BitVec 32 :=
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg9 : BitVec 32 := Scf.iv v15 c1_i32_7 k0_t2
  let c512_i32 : BitVec 32 := 512#32
  let v22 : BitVec 32 := Scalar.muli arg9 c512_i32
  v22
def k0_off5 (v10 : BitVec 32) (k0_t2 : Fin (k0_t2_loop v10).trips) : Fin 3 → Nat :=
  let c0_10 : Index := 0#32
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg9 : BitVec 32 := Scf.iv v15 c1_i32_7 k0_t2
  let c512_i32 : BitVec 32 := 512#32
  let v22 : BitVec 32 := Scalar.muli arg9 c512_i32
  let v23 : BitVec 32 := v22
  let v24 : Index := Scalar.indexCast v23
  let c0_11 : Index := 0#32
  ![0, v24.toNat, 0]
def k0_off6 (v10 : BitVec 32) (k0_t2 : Fin (k0_t2_loop v10).trips) : Fin 2 → Nat :=
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg9 : BitVec 32 := Scf.iv v15 c1_i32_7 k0_t2
  let c512_i32 : BitVec 32 := 512#32
  let v22 : BitVec 32 := Scalar.muli arg9 c512_i32
  let v23 : BitVec 32 := v22
  let v27 : Index := Scalar.indexCast v23
  let c0_12 : Index := 0#32
  ![v27.toNat, 0]
def k0_off7 (v10 : BitVec 32) (k0_t2 : Fin (k0_t2_loop v10).trips) : Fin 2 → Nat :=
  let c0_13 : Index := 0#32
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg9 : BitVec 32 := Scf.iv v15 c1_i32_7 k0_t2
  let c512_i32 : BitVec 32 := 512#32
  let v22 : BitVec 32 := Scalar.muli arg9 c512_i32
  let v23 : BitVec 32 := v22
  let v29 : Index := Scalar.indexCast v23
  ![0, v29.toNat]

def k0_chk1 (v10 : BitVec 32) : Prop :=
  ((k0_t1_loop v10).OK) ∧
  (∀ k0_t1 : Fin (k0_t1_loop v10).trips, 512 ∣ (k0_mult1 v10 k0_t1).toNat) ∧
  (∀ k0_t1 : Fin (k0_t1_loop v10).trips, ∀ a, (k0_off2 v10 k0_t1) a + S1x512x192.size a ≤ S1x8192x192.size a) ∧
  (∀ k0_t1 : Fin (k0_t1_loop v10).trips, ∀ a, (k0_off3 v10 k0_t1) a + S512x128.size a ≤ S8192x128.size a) ∧
  (∀ k0_t1 : Fin (k0_t1_loop v10).trips, ∀ a, (k0_off4 v10 k0_t1) a + S1x512.size a ≤ S1x8192.size a) ∧
  ((k0_t2_loop v10).OK) ∧
  (∀ k0_t2 : Fin (k0_t2_loop v10).trips, 512 ∣ (k0_mult2 v10 k0_t2).toNat) ∧
  (∀ k0_t2 : Fin (k0_t2_loop v10).trips, ∀ a, (k0_off5 v10 k0_t2) a + S1x512x192.size a ≤ S1x8192x192.size a) ∧
  (∀ k0_t2 : Fin (k0_t2_loop v10).trips, ∀ a, (k0_off6 v10 k0_t2) a + S512x128.size a ≤ S8192x128.size a) ∧
  (∀ k0_t2 : Fin (k0_t2_loop v10).trips, ∀ a, (k0_off7 v10 k0_t2) a + S1x512.size a ≤ S1x8192.size a)
theorem k0_t1_ok : ∀ (v10 : BitVec 32) (k0_hw1 : k0_chk1 v10), (k0_t1_loop v10).OK := fun v10 k0_hw1 => k0_hw1.1
theorem k0_mult1_dvd : ∀ (v10 : BitVec 32) (k0_hw1 : k0_chk1 v10) (k0_t1 : Fin (k0_t1_loop v10).trips), 512 ∣ (k0_mult1 v10 k0_t1).toNat := fun v10 k0_hw1 k0_t1 => k0_hw1.2.1 k0_t1
theorem k0_off2_inb : ∀ (v10 : BitVec 32) (k0_hw1 : k0_chk1 v10) (k0_t1 : Fin (k0_t1_loop v10).trips), ∀ a, (k0_off2 v10 k0_t1) a + S1x512x192.size a ≤ S1x8192x192.size a := fun v10 k0_hw1 k0_t1 => k0_hw1.2.2.1 k0_t1
theorem k0_off3_inb : ∀ (v10 : BitVec 32) (k0_hw1 : k0_chk1 v10) (k0_t1 : Fin (k0_t1_loop v10).trips), ∀ a, (k0_off3 v10 k0_t1) a + S512x128.size a ≤ S8192x128.size a := fun v10 k0_hw1 k0_t1 => k0_hw1.2.2.2.1 k0_t1
theorem k0_off4_inb : ∀ (v10 : BitVec 32) (k0_hw1 : k0_chk1 v10) (k0_t1 : Fin (k0_t1_loop v10).trips), ∀ a, (k0_off4 v10 k0_t1) a + S1x512.size a ≤ S1x8192.size a := fun v10 k0_hw1 k0_t1 => k0_hw1.2.2.2.2.1 k0_t1
theorem k0_t2_ok : ∀ (v10 : BitVec 32) (k0_hw1 : k0_chk1 v10), (k0_t2_loop v10).OK := fun v10 k0_hw1 => k0_hw1.2.2.2.2.2.1
theorem k0_mult2_dvd : ∀ (v10 : BitVec 32) (k0_hw1 : k0_chk1 v10) (k0_t2 : Fin (k0_t2_loop v10).trips), 512 ∣ (k0_mult2 v10 k0_t2).toNat := fun v10 k0_hw1 k0_t2 => k0_hw1.2.2.2.2.2.2.1 k0_t2
theorem k0_off5_inb : ∀ (v10 : BitVec 32) (k0_hw1 : k0_chk1 v10) (k0_t2 : Fin (k0_t2_loop v10).trips), ∀ a, (k0_off5 v10 k0_t2) a + S1x512x192.size a ≤ S1x8192x192.size a := fun v10 k0_hw1 k0_t2 => k0_hw1.2.2.2.2.2.2.2.1 k0_t2
theorem k0_off6_inb : ∀ (v10 : BitVec 32) (k0_hw1 : k0_chk1 v10) (k0_t2 : Fin (k0_t2_loop v10).trips), ∀ a, (k0_off6 v10 k0_t2) a + S512x128.size a ≤ S8192x128.size a := fun v10 k0_hw1 k0_t2 => k0_hw1.2.2.2.2.2.2.2.2.1 k0_t2
theorem k0_off7_inb : ∀ (v10 : BitVec 32) (k0_hw1 : k0_chk1 v10) (k0_t2 : Fin (k0_t2_loop v10).trips), ∀ a, (k0_off7 v10 k0_t2) a + S1x512.size a ≤ S1x8192.size a := fun v10 k0_hw1 k0_t2 => k0_hw1.2.2.2.2.2.2.2.2.2 k0_t2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S32x8192x192 : Shape := ⟨3, ![32, 8192, 192]⟩
abbrev S8192x4096 : Shape := ⟨2, ![8192, 4096]⟩
abbrev S1x8192 : Shape := ⟨2, ![1, 8192]⟩
abbrev S8192 : Shape := ⟨1, ![8192]⟩
abbrev S_ : Shape := ⟨0, ![]⟩
abbrev S32x8192x8192 : Shape := ⟨3, ![32, 8192, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S32x8192 : Shape := ⟨2, ![32, 8192]⟩
abbrev S32x8192x1 : Shape := ⟨3, ![32, 8192, 1]⟩
abbrev S8192x32x128 : Shape := ⟨3, ![8192, 32, 128]⟩
abbrev S32x128x8192 : Shape := ⟨3, ![32, 128, 8192]⟩

abbrev nBuf : Space → Nat
  | .hbm => 56
  | .vmem => 0
  | .smem => 0
  | _ => 0

abbrev bufTy : (tb : Table) → Fin (tcTables nBuf tb) → BufTy
  | .hbm, ⟨0, _⟩ => ⟨S32x8192x192, .bf16⟩
  | .hbm, ⟨1, _⟩ => ⟨S32x8192x192, .bf16⟩
  | .hbm, ⟨2, _⟩ => ⟨S8192x4096, .bf16⟩
  | .hbm, ⟨3, _⟩ => ⟨S1x8192, .i32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S32x8192x192, .f32⟩
  | .hbm, ⟨24, _⟩ => ⟨S32x8192x192, .f32⟩
  | .hbm, ⟨25, _⟩ => ⟨S32x8192x8192, .f32⟩
  | .hbm, ⟨26, _⟩ => ⟨S1x1x8192, .i32⟩
  | .hbm, ⟨27, _⟩ => ⟨S1x8192x1, .i32⟩
  | .hbm, ⟨28, _⟩ => ⟨S1x8192x8192, .i32⟩
  | .hbm, ⟨29, _⟩ => ⟨S1x8192x8192, .i32⟩
  | .hbm, ⟨30, _⟩ => ⟨S1x8192x8192, .i1⟩
  | .hbm, ⟨31, _⟩ => ⟨S_, .f32⟩
  | .hbm, ⟨32, _⟩ => ⟨S_, .f32⟩
  | .hbm, ⟨33, _⟩ => ⟨S32x8192x8192, .i1⟩
  | .hbm, ⟨34, _⟩ => ⟨S32x8192x8192, .f32⟩
  | .hbm, ⟨35, _⟩ => ⟨S32x8192x8192, .f32⟩
  | .hbm, ⟨36, _⟩ => ⟨S_, .f32⟩
  | .hbm, ⟨37, _⟩ => ⟨S32x8192, .f32⟩
  | .hbm, ⟨38, _⟩ => ⟨S_, .f32⟩
  | .hbm, ⟨39, _⟩ => ⟨S32x8192, .f32⟩
  | .hbm, ⟨40, _⟩ => ⟨S32x8192, .f32⟩
  | .hbm, ⟨41, _⟩ => ⟨S32x8192x1, .f32⟩
  | .hbm, ⟨42, _⟩ => ⟨S32x8192x8192, .f32⟩
  | .hbm, ⟨43, _⟩ => ⟨S32x8192x8192, .f32⟩
  | .hbm, ⟨44, _⟩ => ⟨S32x8192x8192, .f32⟩
  | .hbm, ⟨45, _⟩ => ⟨S_, .f32⟩
  | .hbm, ⟨46, _⟩ => ⟨S32x8192, .f32⟩
  | .hbm, ⟨47, _⟩ => ⟨S32x8192x1, .f32⟩
  | .hbm, ⟨48, _⟩ => ⟨S32x8192x8192, .f32⟩
  | .hbm, ⟨49, _⟩ => ⟨S32x8192x8192, .f32⟩
  | .hbm, ⟨50, _⟩ => ⟨S8192x4096, .f32⟩
  | .hbm, ⟨51, _⟩ => ⟨S8192x32x128, .f32⟩
  | .hbm, ⟨52, _⟩ => ⟨S32x128x8192, .f32⟩
  | .hbm, ⟨53, _⟩ => ⟨S8192x32x128, .f32⟩
  | .hbm, ⟨54, _⟩ => ⟨S8192x4096, .f32⟩
  | .hbm, ⟨55, _⟩ => ⟨S8192x4096, .bf16⟩
  | _, _ => ⟨S32x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩

abbrev nD : Nat := 1
abbrev τ : Topo := Topo.v7x

variable {F : FTy → Type} [FloatOps F]
-- ==== Kernel4.lean ====
abbrev S8192x4096 : Shape := ⟨2, ![8192, 4096]⟩
abbrev S4096x18560 : Shape := ⟨2, ![4096, 18560]⟩
abbrev S4096x18432 : Shape := ⟨2, ![4096, 18432]⟩
abbrev S8192x18432 : Shape := ⟨2, ![8192, 18432]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x18560, .f32⟩
  | .hbm, ⟨2, _⟩ => ⟨S4096x18560, .bf16⟩
  | .hbm, ⟨3, _⟩ => ⟨S4096x18432, .bf16⟩
  | .hbm, ⟨4, _⟩ => ⟨S8192x18432, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S4096x18560 : Shape := ⟨2, ![4096, 18560]⟩
abbrev S8192x18560 : Shape := ⟨2, ![8192, 18560]⟩
abbrev S8192x18432 : Shape := ⟨2, ![8192, 18432]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x18560, .f32⟩
  | .hbm, ⟨2, _⟩ => ⟨S8192x4096, .f32⟩
  | .hbm, ⟨3, _⟩ => ⟨S8192x18560, .f32⟩
  | .hbm, ⟨4, _⟩ => ⟨S8192x18432, .f32⟩
  | .hbm, ⟨5, _⟩ => ⟨S8192x18432, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x8192 : Shape := ⟨2, ![8192, 8192]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x8192 : Shape := ⟨2, ![8192, 8192]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S8192x128 : Shape := ⟨2, ![8192, 128]⟩
abbrev S24576x4096 : Shape := ⟨2, ![24576, 4096]⟩
abbrev S16384 : Shape := ⟨1, ![16384]⟩
abbrev S256x4096 : Shape := ⟨2, ![256, 4096]⟩
abbrev S256x128 : Shape := ⟨2, ![256, 128]⟩
abbrev S2x256x4096 : Shape := ⟨3, ![2, 256, 4096]⟩
abbrev S_ : Shape := ⟨0, ![]⟩
abbrev S1 : Shape := ⟨1, ![1]⟩
abbrev S1x1x4096 : Shape := ⟨3, ![1, 1, 4096]⟩
abbrev S1x4096 : Shape := ⟨2, ![1, 4096]⟩
abbrev S256x1 : Shape := ⟨2, ![256, 1]⟩
abbrev S1x256x4096 : Shape := ⟨3, ![1, 256, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .f32⟩
  | .hbm, ⟨1, _⟩ => ⟨S8192x128, .f32⟩
  | .hbm, ⟨2, _⟩ => ⟨S24576x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S256x4096, .f32⟩
  | .local _ .vmem, ⟨5, _⟩ => ⟨S256x4096, .f32⟩
  | .local _ .vmem, ⟨6, _⟩ => ⟨S2x256x4096, .f32⟩
  | .local _ .smem, ⟨0, _⟩ => ⟨S16384, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let c2_i32 : BitVec 32 := 2#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg8 : BitVec 32 := Scf.iv c0_i32 c1_i32 k0_t1
  let v18 : BitVec 32 := Scalar.addi v0 arg8
  let v19 : BitVec 32 := Scalar.muli c2_i32 v18
  let c0_i32_16 : BitVec 32 := 0#32
  let v20 : BitVec 32 := Scalar.addi v19 c0_i32_16
  let v21 : Index := Scalar.indexCast v20
  ![v21.toNat]
def k0_off2 (k0_t1 : Fin k0_t1_loop.trips) : Fin 3 → Nat :=
  let c0_i32_17 : BitVec 32 := 0#32
  let c0_i32 : BitVec 32 := 0#32
  let c1_i32 : BitVec 32 := 1#32
  let arg8 : BitVec 32 := Scf.iv c0_i32 c1_i32 k0_t1
  let c0_i32_18 : BitVec 32 := 0#32
  ![0, arg8.toNat, 0]
def k0_off3 (v22 : BitVec 32) : Fin 2 → Nat :=
  let c0_i32_19 : BitVec 32 := 0#32
  ![v22.toNat, 0]

def k0_chk1 (v22 : BitVec 32) : Prop :=
  (∀ a, (k0_off3 v22) a + S1x4096.size a ≤ S24576x4096.size a)
theorem k0_off3_inb : ∀ (v22 : BitVec 32) (k0_hw1 : k0_chk1 v22), ∀ a, (k0_off3 v22) a + S1x4096.size a ≤ S24576x4096.size a := fun v22 k0_hw1 => k0_hw1

def k0_off4 (i : grid0.Coords) (k0_t1 : Fin k0_t1_loop.trips) : Fin 1 → Nat :=
  let c2_i32_20 : BitVec 32 := 2#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg8 : BitVec 32 := Scf.iv c0_i32 c1_i32 k0_t1
  let v26 : BitVec 32 := Scalar.addi v0 arg8
  let v27 : BitVec 32 := Scalar.muli c2_i32_20 v26
  let c1_i32_21 : BitVec 32 := 1#32
  let v28 : BitVec 32 := Scalar.addi v27 c1_i32_21
  let v29 : Index := Scalar.indexCast v28
  ![v29.toNat]
def k0_off5 (k0_t1 : Fin k0_t1_loop.trips) : Fin 3 → Nat :=
  let c1_i32_22 : BitVec 32 := 1#32
  let c0_i32 : BitVec 32 := 0#32
  let c1_i32 : BitVec 32 := 1#32
  let arg8 : BitVec 32 := Scf.iv c0_i32 c1_i32 k0_t1
  let c0_i32_23 : BitVec 32 := 0#32
  ![1, arg8.toNat, 0]
def k0_off6 (v30 : BitVec 32) : Fin 2 → Nat :=
  let c0_i32_24 : BitVec 32 := 0#32
  ![v30.toNat, 0]

def k0_chk2 (v30 : BitVec 32) : Prop :=
  (∀ a, (k0_off6 v30) a + S1x4096.size a ≤ S24576x4096.size a)
theorem k0_off6_inb : ∀ (v30 : BitVec 32) (k0_hw2 : k0_chk2 v30), ∀ a, (k0_off6 v30) a + S1x4096.size a ≤ S24576x4096.size a := fun v30 k0_hw2 => k0_hw2

@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off7 (i : grid0.Coords) (k0_t2 : Fin k0_t2_loop.trips) : Fin 1 → Nat :=
  let c2_i32 : BitVec 32 := 2#32
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg8 : BitVec 32 := Scf.iv c0_i32_2 c1_i32_4 k0_t2
  let v18 : BitVec 32 := Scalar.addi v0 arg8
  let v19 : BitVec 32 := Scalar.muli c2_i32 v18
  let c0_i32_16 : BitVec 32 := 0#32
  let v20 : BitVec 32 := Scalar.addi v19 c0_i32_16
  let v21 : Index := Scalar.indexCast v20
  ![v21.toNat]
def k0_off8 (k0_t2 : Fin k0_t2_loop.trips) : Fin 3 → Nat :=
  let c0_i32_17 : BitVec 32 := 0#32
  let c0_i32_2 : BitVec 32 := 0#32
  let c1_i32_4 : BitVec 32 := 1#32
  let arg8 : BitVec 32 := Scf.iv c0_i32_2 c1_i32_4 k0_t2
  let c0_i32_18 : BitVec 32 := 0#32
  ![0, arg8.toNat, 0]
def k0_off9 (v22 : BitVec 32) : Fin 2 → Nat :=
  let c0_i32_19 : BitVec 32 := 0#32
  ![v22.toNat, 0]

def k0_chk3 (v22 : BitVec 32) : Prop :=
  (∀ a, (k0_off9 v22) a + S1x4096.size a ≤ S24576x4096.size a)
theorem k0_off9_inb : ∀ (v22 : BitVec 32) (k0_hw3 : k0_chk3 v22), ∀ a, (k0_off9 v22) a + S1x4096.size a ≤ S24576x4096.size a := fun v22 k0_hw3 => k0_hw3

def k0_off10 (i : grid0.Coords) (k0_t2 : Fin k0_t2_loop.trips) : Fin 1 → Nat :=
  let c2_i32_20 : BitVec 32 := 2#32
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg8 : BitVec 32 := Scf.iv c0_i32_2 c1_i32_4 k0_t2
  let v26 : BitVec 32 := Scalar.addi v0 arg8
  let v27 : BitVec 32 := Scalar.muli c2_i32_20 v26
  let c1_i32_21 : BitVec 32 := 1#32
  let v28 : BitVec 32 := Scalar.addi v27 c1_i32_21
  let v29 : Index := Scalar.indexCast v28
  ![v29.toNat]
def k0_off11 (k0_t2 : Fin k0_t2_loop.trips) : Fin 3 → Nat :=
  let c1_i32_22 : BitVec 32 := 1#32
  let c0_i32_2 : BitVec 32 := 0#32
  let c1_i32_4 : BitVec 32 := 1#32
  let arg8 : BitVec 32 := Scf.iv c0_i32_2 c1_i32_4 k0_t2
  let c0_i32_23 : BitVec 32 := 0#32
  ![1, arg8.toNat, 0]
def k0_off12 (v30 : BitVec 32) : Fin 2 → Nat :=
  let c0_i32_24 : BitVec 32 := 0#32
  ![v30.toNat, 0]

def k0_chk4 (v30 : BitVec 32) : Prop :=
  (∀ a, (k0_off12 v30) a + S1x4096.size a ≤ S24576x4096.size a)
theorem k0_off12_inb : ∀ (v30 : BitVec 32) (k0_hw4 : k0_chk4 v30), ∀ a, (k0_off12 v30) a + S1x4096.size a ≤ S24576x4096.size a := fun v30 k0_hw4 => k0_hw4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x4096 : Shape := ⟨2, ![8192, 4096]⟩
abbrev S8192x128 : Shape := ⟨2, ![8192, 128]⟩
abbrev S24576x4096 : Shape := ⟨2, ![24576, 4096]⟩
abbrev S16384 : Shape := ⟨1, ![16384]⟩
abbrev S_ : Shape := ⟨0, ![]⟩
abbrev S16384x1 : Shape := ⟨2, ![16384, 1]⟩
abbrev S16384x4096 : Shape := ⟨2, ![16384, 4096]⟩
abbrev S8192x2x4096 : Shape := ⟨3, ![8192, 2, 4096]⟩
abbrev S8192x2 : Shape := ⟨2, ![8192, 2]⟩
abbrev S8192x2x1 : Shape := ⟨3, ![8192, 2, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x128, .f32⟩
  | .hbm, ⟨2, _⟩ => ⟨S24576x4096, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x4096, .f32⟩
  | .hbm, ⟨13, _⟩ => ⟨S8192x2x4096, .f32⟩
  | .hbm, ⟨14, _⟩ => ⟨S8192x2, .f32⟩
  | .hbm, ⟨15, _⟩ => ⟨S8192x2x1, .f32⟩
  | .hbm, ⟨16, _⟩ => ⟨S8192x2x4096, .f32⟩
  | .hbm, ⟨17, _⟩ => ⟨S8192x2x4096, .f32⟩
  | .hbm, ⟨18, _⟩ => ⟨S_, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel8.lean ====
abbrev S8192x4096 : Shape := ⟨2, ![8192, 4096]⟩
abbrev S4096x1024 : Shape := ⟨2, ![4096, 1024]⟩
abbrev S1024 : Shape := ⟨1, ![1024]⟩
abbrev S1x1024 : Shape := ⟨2, ![1, 1024]⟩
abbrev S8192x1024 : Shape := ⟨2, ![8192, 1024]⟩
abbrev S1024x4096 : Shape := ⟨2, ![1024, 4096]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S1x1024, .f32⟩
  | .hbm, ⟨5, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S1024, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S8192x4096 : Shape := ⟨2, ![8192, 4096]⟩
abbrev S4096x512 : Shape := ⟨2, ![4096, 512]⟩
abbrev S512 : Shape := ⟨1, ![512]⟩
abbrev S1x512 : Shape := ⟨2, ![1, 512]⟩
abbrev S8192x512 : Shape := ⟨2, ![8192, 512]⟩
abbrev S1024x4096 : Shape := ⟨2, ![1024, 4096]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x512, .f32⟩
  | .hbm, ⟨2, _⟩ => ⟨S512, .f32⟩
  | .hbm, ⟨3, _⟩ => ⟨S4096x512, .bf16⟩
  | .hbm, ⟨4, _⟩ => ⟨S1x512, .f32⟩
  | .hbm, ⟨5, _⟩ => ⟨S8192x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x4096 : Shape := ⟨2, ![8192, 4096]⟩
abbrev S4096x512 : Shape := ⟨2, ![4096, 512]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x512, .f32⟩
  | .hbm, ⟨2, _⟩ => ⟨S512, .f32⟩
  | .hbm, ⟨3, _⟩ => ⟨S8192x4096, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S512x4096, .bf16⟩
  | .hbm, ⟨3, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x512, .f32⟩
  | .hbm, ⟨3, _⟩ => ⟨S8192x4096, .f32⟩
  | .hbm, ⟨4, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024x6144 : Shape := ⟨2, ![1024, 6144]⟩
abbrev S192 : Shape := ⟨1, ![192]⟩
abbrev S8192x32 : Shape := ⟨2, ![8192, 32]⟩
abbrev S_ : Shape := ⟨0, ![]⟩
abbrev S8192x64 : Shape := ⟨2, ![8192, 64]⟩
abbrev S8192x128 : Shape := ⟨2, ![8192, 128]⟩
abbrev S1024x32x192 : Shape := ⟨3, ![1024, 32, 192]⟩
abbrev S32x1024x192 : Shape := ⟨3, ![32, 1024, 192]⟩
abbrev S32x1024x256 : Shape := ⟨3, ![32, 1024, 256]⟩
abbrev S128 : Shape := ⟨1, ![128]⟩
abbrev S1x128 : Shape := ⟨2, ![1, 128]⟩
abbrev S64 : Shape := ⟨1, ![64]⟩
abbrev S32x8192x192 : Shape := ⟨3, ![32, 8192, 192]⟩
abbrev S1024x1024 : Shape := ⟨2, ![1024, 1024]⟩
abbrev S1x1024x256 : Shape := ⟨3, ![1, 1024, 256]⟩
abbrev S1024x128 : Shape := ⟨2, ![1024, 128]⟩
abbrev S1x1024x192 : Shape := ⟨3, ![1, 1024, 192]⟩
abbrev S1024x256 : Shape := ⟨2, ![1024, 256]⟩
abbrev S1024 : Shape := ⟨1, ![1024]⟩
abbrev S1024x1 : Shape := ⟨2, ![1024, 1]⟩
abbrev S1024x64 : Shape := ⟨2, ![1024, 64]⟩
abbrev S1024x192 : Shape := ⟨2, ![1024, 192]⟩

abbrev nBuf : Space → Nat
  | .hbm => 25
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .f32⟩
  | .hbm, ⟨2, _⟩ => ⟨S192, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192x64, .f32⟩
  | .hbm, ⟨7, _⟩ => ⟨S_, .f32⟩
  | .hbm, ⟨8, _⟩ => ⟨S8192x64, .f32⟩
  | .hbm, ⟨9, _⟩ => ⟨S8192x128, .f32⟩
  | .hbm, ⟨10, _⟩ => ⟨S8192x128, .f32⟩
  | .hbm, ⟨11, _⟩ => ⟨S1024x6144, .bf16⟩
  | .hbm, ⟨12, _⟩ => ⟨S1024x32x192, .bf16⟩
  | .hbm, ⟨13, _⟩ => ⟨S32x1024x192, .bf16⟩
  | .hbm, ⟨14, _⟩ => ⟨S_, .i32⟩
  | .hbm, ⟨15, _⟩ => ⟨S_, .bf16⟩
  | .hbm, ⟨16, _⟩ => ⟨S32x1024x256, .bf16⟩
  | .hbm, ⟨17, _⟩ => ⟨S128, .f32⟩
  | .hbm, ⟨18, _⟩ => ⟨S1x128, .f32⟩
  | .hbm, ⟨19, _⟩ => ⟨S64, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S32x8192x192, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x192, .bf16⟩
  | .local _ .vmem, ⟨11, _⟩ => ⟨S1x1024x192, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel11Ideal.lean ====
variable {F : FTy → Type} [FloatOps F] [Named F]
def κ : String → Option EReal := fun
  | "inv_qk" => some ((192⁻¹ : ℝ) : EReal)
  | _ => none
-- ==== Reference11Ideal.lean ====
abbrev S8192x1024 : Shape := ⟨2, ![8192, 1024]⟩
abbrev S1024x6144 : Shape := ⟨2, ![1024, 6144]⟩
abbrev S192 : Shape := ⟨1, ![192]⟩
abbrev S8192x32 : Shape := ⟨2, ![8192, 32]⟩
abbrev S8192x6144 : Shape := ⟨2, ![8192, 6144]⟩
abbrev S8192x32x192 : Shape := ⟨3, ![8192, 32, 192]⟩
abbrev S_ : Shape := ⟨0, ![]⟩
abbrev S8192x32x1 : Shape := ⟨3, ![8192, 32, 1]⟩
abbrev S1x1x192 : Shape := ⟨3, ![1, 1, 192]⟩
abbrev S8192x32x32 : Shape := ⟨3, ![8192, 32, 32]⟩
abbrev S8192x1x32 : Shape := ⟨3, ![8192, 1, 32]⟩
abbrev S8192x32x128 : Shape := ⟨3, ![8192, 32, 128]⟩
abbrev S32x8192x192 : Shape := ⟨3, ![32, 8192, 192]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .f32⟩
  | .hbm, ⟨2, _⟩ => ⟨S192, .f32⟩
  | .hbm, ⟨3, _⟩ => ⟨S8192x32, .f32⟩
  | .hbm, ⟨4, _⟩ => ⟨S8192x32, .f32⟩
  | .hbm, ⟨5, _⟩ => ⟨S8192x1024, .f32⟩
  | .hbm, ⟨6, _⟩ => ⟨S8192x6144, .f32⟩
  | .hbm, ⟨7, _⟩ => ⟨S8192x32x192, .f32⟩
  | .hbm, ⟨8, _⟩ => ⟨S8192x32x192, .f32⟩
  | .hbm, ⟨9, _⟩ => ⟨S_, .f32⟩
  | .hbm, ⟨10, _⟩ => ⟨S8192x32, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S_, .f32⟩
  | .hbm, ⟨16, _⟩ => ⟨S8192x32x1, .f32⟩
  | .hbm, ⟨17, _⟩ => ⟨S8192x32x1, .f32⟩
  | .hbm, ⟨18, _⟩ => ⟨S8192x32x1, .f32⟩
  | .hbm, ⟨19, _⟩ => ⟨S8192x32x192, .f32⟩
  | .hbm, ⟨20, _⟩ => ⟨S8192x32x192, .f32⟩
  | .hbm, ⟨21, _⟩ => ⟨S1x1x192, .f32⟩
  | .hbm, ⟨22, _⟩ => ⟨S8192x32x192, .f32⟩
  | .hbm, ⟨23, _⟩ => ⟨S8192x32x192, .f32⟩
  | .hbm, ⟨24, _⟩ => ⟨S8192x32x32, .f32⟩
  | .hbm, ⟨25, _⟩ => ⟨S8192x32x32, .f32⟩
  | .hbm, ⟨26, _⟩ => ⟨S8192x1x32, .f32⟩
  | .hbm, ⟨27, _⟩ => ⟨S8192x1x32, .f32⟩
  | .hbm, ⟨28, _⟩ => ⟨S8192x32x128, .f32⟩
  | .hbm, ⟨29, _⟩ => ⟨S8192x32x32, .f32⟩
  | .hbm, ⟨30, _⟩ => ⟨S8192x32x32, .f32⟩
  | .hbm, ⟨31, _⟩ => ⟨S8192x32x32, .f32⟩
  | .hbm, ⟨32, _⟩ => ⟨S8192x32x32, .f32⟩
  | .hbm, ⟨33, _⟩ => ⟨S8192x32x32, .f32⟩
  | .hbm, ⟨34, _⟩ => ⟨S8192x32x32, .f32⟩
  | .hbm, ⟨35, _⟩ => ⟨S8192x32x32, .f32⟩
  | .hbm, ⟨36, _⟩ => ⟨S8192x32x32, .f32⟩
  | .hbm, ⟨37, _⟩ => ⟨S8192x32x32, .f32⟩
  | .hbm, ⟨38, _⟩ => ⟨S8192x32x32, .f32⟩
  | .hbm, ⟨39, _⟩ => ⟨S8192x32x192, .f32⟩
  | .hbm, ⟨40, _⟩ => ⟨S32x8192x192, .f32⟩
  | .hbm, ⟨41, _⟩ => ⟨S_, .f32⟩
  | .hbm, ⟨42, _⟩ => ⟨S32x8192x192, .f32⟩
  | .hbm, ⟨43, _⟩ => ⟨S32x8192x192, .f32⟩
  | .hbm, ⟨44, _⟩ => ⟨S32x8192x192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel12.lean ====
abbrev S8192x512 : Shape := ⟨2, ![8192, 512]⟩
abbrev S512x4096 : Shape := ⟨2, ![512, 4096]⟩
abbrev S8192x64 : Shape := ⟨2, ![8192, 64]⟩
abbrev S192 : Shape := ⟨1, ![192]⟩
abbrev S8192x32 : Shape := ⟨2, ![8192, 32]⟩
abbrev S_ : Shape := ⟨0, ![]⟩
abbrev S8192x128 : Shape := ⟨2, ![8192, 128]⟩
abbrev S512x32x128 : Shape := ⟨3, ![512, 32, 128]⟩
abbrev S32x512x128 : Shape := ⟨3, ![32, 512, 128]⟩
abbrev S128 : Shape := ⟨1, ![128]⟩
abbrev S1x128 : Shape := ⟨2, ![1, 128]⟩
abbrev S64 : Shape := ⟨1, ![64]⟩
abbrev S32x8192x192 : Shape := ⟨3, ![32, 8192, 192]⟩
abbrev S1024x512 : Shape := ⟨2, ![1024, 512]⟩
abbrev S1x512x128 : Shape := ⟨3, ![1, 512, 128]⟩
abbrev S1024x128 : Shape := ⟨2, ![1024, 128]⟩
abbrev S1x1024x192 : Shape := ⟨3, ![1, 1024, 192]⟩
abbrev S512x128 : Shape := ⟨2, ![512, 128]⟩
abbrev S1024 : Shape := ⟨1, ![1024]⟩
abbrev S1024x1 : Shape := ⟨2, ![1024, 1]⟩
abbrev S1024x64 : Shape := ⟨2, ![1024, 64]⟩
abbrev S1024x192 : Shape := ⟨2, ![1024, 192]⟩

abbrev nBuf : Space → Nat
  | .hbm => 24
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x64, .f32⟩
  | .hbm, ⟨3, _⟩ => ⟨S192, .f32⟩
  | .hbm, ⟨4, _⟩ => ⟨S8192x32, .f32⟩
  | .hbm, ⟨5, _⟩ => ⟨S8192x32, .f32⟩
  | .hbm, ⟨6, _⟩ => ⟨S_, .f32⟩
  | .hbm, ⟨7, _⟩ => ⟨S8192x64, .f32⟩
  | .hbm, ⟨8, _⟩ => ⟨S_, .f32⟩
  | .hbm, ⟨9, _⟩ => ⟨S8192x64, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S512x4096, .bf16⟩
  | .hbm, ⟨14, _⟩ => ⟨S512x32x128, .bf16⟩
  | .hbm, ⟨15, _⟩ => ⟨S32x512x128, .bf16⟩
  | .hbm, ⟨16, _⟩ => ⟨S128, .f32⟩
  | .hbm, ⟨17, _⟩ => ⟨S1x128, .f32⟩
  | .hbm, ⟨18, _⟩ => ⟨S64, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S32x8192x192, .bf16⟩
  | .local _ .vmem, ⟨0, _⟩ => ⟨S1024x512, .bf16⟩
  | .local _ .vmem, ⟨1, _⟩ => ⟨S1024x512, .bf16⟩
  | .local _ .vmem, ⟨2, _⟩ => ⟨S1x512x128, .bf16⟩
  | .local _ .vmem, ⟨3, _⟩ => ⟨S1x512x128, .bf16⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x192, .bf16⟩
  | .local _ .vmem, ⟨13, _⟩ => ⟨S1x1024x192, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel12Ideal.lean ====
variable {F : FTy → Type} [FloatOps F] [Named F]
def κ : String → Option EReal := fun
  | "inv_qk" => some ((192⁻¹ : ℝ) : EReal)
  | _ => none
-- ==== Reference12Ideal.lean ====
abbrev S8192x512 : Shape := ⟨2, ![8192, 512]⟩
abbrev S512x4096 : Shape := ⟨2, ![512, 4096]⟩
abbrev S8192x64 : Shape := ⟨2, ![8192, 64]⟩
abbrev S192 : Shape := ⟨1, ![192]⟩
abbrev S8192x32 : Shape := ⟨2, ![8192, 32]⟩
abbrev S8192x4096 : Shape := ⟨2, ![8192, 4096]⟩
abbrev S8192x32x128 : Shape := ⟨3, ![8192, 32, 128]⟩
abbrev S8192x1x64 : Shape := ⟨3, ![8192, 1, 64]⟩
abbrev S8192x32x64 : Shape := ⟨3, ![8192, 32, 64]⟩
abbrev S8192x32x192 : Shape := ⟨3, ![8192, 32, 192]⟩
abbrev S_ : Shape := ⟨0, ![]⟩
abbrev S8192x32x1 : Shape := ⟨3, ![8192, 32, 1]⟩
abbrev S1x1x192 : Shape := ⟨3, ![1, 1, 192]⟩
abbrev S8192x32x32 : Shape := ⟨3, ![8192, 32, 32]⟩
abbrev S8192x1x32 : Shape := ⟨3, ![8192, 1, 32]⟩
abbrev S32x8192x192 : Shape := ⟨3, ![32, 8192, 192]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x64, .f32⟩
  | .hbm, ⟨3, _⟩ => ⟨S192, .f32⟩
  | .hbm, ⟨4, _⟩ => ⟨S8192x32, .f32⟩
  | .hbm, ⟨5, _⟩ => ⟨S8192x32, .f32⟩
  | .hbm, ⟨6, _⟩ => ⟨S8192x512, .f32⟩
  | .hbm, ⟨7, _⟩ => ⟨S8192x4096, .f32⟩
  | .hbm, ⟨8, _⟩ => ⟨S8192x32x128, .f32⟩
  | .hbm, ⟨9, _⟩ => ⟨S8192x1x64, .f32⟩
  | .hbm, ⟨10, _⟩ => ⟨S8192x32x64, .f32⟩
  | .hbm, ⟨11, _⟩ => ⟨S8192x32x192, .f32⟩
  | .hbm, ⟨12, _⟩ => ⟨S8192x32x192, .f32⟩
  | .hbm, ⟨13, _⟩ => ⟨S_, .f32⟩
  | .hbm, ⟨14, _⟩ => ⟨S8192x32, .f32⟩
  | .hbm, ⟨15, _⟩ => ⟨S8192x32x1, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S_, .f32⟩
  | .hbm, ⟨20, _⟩ => ⟨S8192x32x1, .f32⟩
  | .hbm, ⟨21, _⟩ => ⟨S8192x32x1, .f32⟩
  | .hbm, ⟨22, _⟩ => ⟨S8192x32x1, .f32⟩
  | .hbm, ⟨23, _⟩ => ⟨S8192x32x192, .f32⟩
  | .hbm, ⟨24, _⟩ => ⟨S8192x32x192, .f32⟩
  | .hbm, ⟨25, _⟩ => ⟨S1x1x192, .f32⟩
  | .hbm, ⟨26, _⟩ => ⟨S8192x32x192, .f32⟩
  | .hbm, ⟨27, _⟩ => ⟨S8192x32x192, .f32⟩
  | .hbm, ⟨28, _⟩ => ⟨S8192x32x32, .f32⟩
  | .hbm, ⟨29, _⟩ => ⟨S8192x32x32, .f32⟩
  | .hbm, ⟨30, _⟩ => ⟨S8192x1x32, .f32⟩
  | .hbm, ⟨31, _⟩ => ⟨S8192x1x32, .f32⟩
  | .hbm, ⟨32, _⟩ => ⟨S8192x32x128, .f32⟩
  | .hbm, ⟨33, _⟩ => ⟨S8192x32x32, .f32⟩
  | .hbm, ⟨34, _⟩ => ⟨S8192x32x32, .f32⟩
  | .hbm, ⟨35, _⟩ => ⟨S8192x32x32, .f32⟩
  | .hbm, ⟨36, _⟩ => ⟨S8192x32x32, .f32⟩
  | .hbm, ⟨37, _⟩ => ⟨S8192x32x32, .f32⟩
  | .hbm, ⟨38, _⟩ => ⟨S8192x32x32, .f32⟩
  | .hbm, ⟨39, _⟩ => ⟨S8192x32x32, .f32⟩
  | .hbm, ⟨40, _⟩ => ⟨S8192x32x32, .f32⟩
  | .hbm, ⟨41, _⟩ => ⟨S8192x32x32, .f32⟩
  | .hbm, ⟨42, _⟩ => ⟨S8192x32x32, .f32⟩
  | .hbm, ⟨43, _⟩ => ⟨S8192x32x192, .f32⟩
  | .hbm, ⟨44, _⟩ => ⟨S32x8192x192, .f32⟩
  | .hbm, ⟨45, _⟩ => ⟨S32x8192x192, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Rows.lean ====
module

public import proofs.«01_k».proof.Proof.Gen.KernelIdeal
public import Idealize.ShloMosaic.Lib.StableHlo.Predicate

@[expose] public section

/-!
# The dispatch in words

Pair `p` of the `16384` carries row `p / 2` of the tokens to row `row pos p` of the result. After the first `n` pairs the
result is `mix Z X pos n`: the row of a pair written so far holds its token, every other row what was there before.
-/

noncomputable section

namespace Cert.KernelIdeal.Dispatch

open Cert.KernelIdeal Idealize.ShloMosaic

variable {E : Type}

/-- The table's cell `p`. -/
def cell (p : ℕ) : S16384.Idx := fun a => match a with
  | ⟨0, _⟩ => ⟨p % 16384, Nat.mod_lt _ (by decide)⟩

/-- The element in row `r` and column `j` of the tokens. -/
def tok (r : ℕ) (j : Fin 4096) : S8192x4096.Idx := fun a => match a with
  | ⟨0, _⟩ => ⟨r % 8192, Nat.mod_lt _ (by decide)⟩
  | ⟨1, _⟩ => j

/-- The result's row that pair `p` is sent to. -/
def row (pos : S16384.Idx → BitVec 32) (p : ℕ) : ℕ := (pos (cell p)).toNat

/-- Every pair has a row of the result, and no two have the same. -/
structure Apart (pos : S16384.Idx → BitVec 32) : Prop where
  lt : ∀ p, p < 16384 → row pos p < 24576
  inj : ∀ p q, p < 16384 → q < 16384 → row pos p = row pos q → p = q

open Classical in
/-- The result after `n` pairs, over what it held first. -/
def mix (Z : S24576x4096.Idx → E) (X : S8192x4096.Idx → E) (pos : S16384.Idx → BitVec 32) (n : ℕ) : S24576x4096.Idx → E := fun y =>
  if h : ∃ p, p < n ∧ row pos p = (y 0).val then X (tok (Classical.choose h / 2) (y 1)) else Z y

variable {Z : S24576x4096.Idx → E} {X : S8192x4096.Idx → E} {pos : S16384.Idx → BitVec 32} {n : ℕ}

/-- A row written so far holds its pair's token. -/
theorem mix_hit (hA : Apart pos) (hn : n ≤ 16384) {p : ℕ} (hp : p < n) {y : S24576x4096.Idx} (hy : (y 0).val = row pos p) :
    mix Z X pos n y = X (tok (p / 2) (y 1)) := by
  have h : ∃ p, p < n ∧ row pos p = (y 0).val := ⟨p, hp, hy.symm⟩
  have hc := Classical.choose_spec h
  rw [mix, dif_pos h, hA.inj _ p (by omega) (by omega) (hc.2.trans hy)]

/-- Every other row holds what it held first. -/
theorem mix_miss {y : S24576x4096.Idx} (h : ∀ p, p < n → row pos p ≠ (y 0).val) : mix Z X pos n y = Z y := by
  rw [mix, dif_neg]
  rintro ⟨p, hp, e⟩
  exact h p hp e

/-- Before any pair: what was there first. -/
theorem mix_zero : mix Z X pos 0 = Z := funext fun _ => mix_miss fun _ h => absurd h (by omega)

/-- A row that none of the pairs from `n` up to `n'` is sent to is the same after either. -/
theorem mix_same (hA : Apart pos) {n' : ℕ} (hn : n ≤ n') (hn' : n' ≤ 16384) {y : S24576x4096.Idx}
    (h : ∀ p, n ≤ p → p < n' → row pos p ≠ (y 0).val) : mix Z X pos n y = mix Z X pos n' y := by
  by_cases hx : ∃ p, p < n ∧ row pos p = (y 0).val
  · obtain ⟨p, hp, e⟩ := hx
    rw [mix_hit hA (by omega) hp e.symm, mix_hit hA hn' (by omega) e.symm]
  · have hx' : ∀ p, p < n → row pos p ≠ (y 0).val := fun p hp e => hx ⟨p, hp, e⟩
    rw [mix_miss hx', mix_miss fun p hp => if hpn : p < n then hx' p hpn else h p (by omega) hp]

end Cert.KernelIdeal.Dispatch

end
-- ==== Proof.Issue.lean ====
module

public import proofs.«01_k».proof.Proof.Rows
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic

@[expose] public section

/-!
# The rows on their way

At one step of the grid the first loop issues the `1024` rows of `512` tokens, two of each, on the one cell, and the second loop
waits for them. The step's pairs are `base + m`, `m` below `1024`.
-/

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers and their rows -/

abbrev tokens : Memref sig .tc .hbm S8192x4096 .f32 := Memref.whole main_arg0
abbrev table : Memref sig .tc .smem S16384 .i32 := Memref.whole main_arg1
abbrev out : Memref sig .tc .hbm S24576x4096 .f32 := Memref.whole main_v0

/-- Row `r` of the result. -/
def outRow (r : ℕ) : Finset S24576x4096.Idx := Finset.univ.filter fun y => (y 0).val = r
/-- Row `r` of the tokens. -/
def tokRow (r : ℕ) : Finset S8192x4096.Idx := Finset.univ.filter fun y => (y 0).val = r

theorem mem_outRow {r : ℕ} {y : S24576x4096.Idx} : y ∈ outRow r ↔ (y 0).val = r := by simp [outRow]
theorem mem_tokRow {r : ℕ} {y : S8192x4096.Idx} : y ∈ tokRow r ↔ (y 0).val = r := by simp [tokRow]

abbrev outAt (o : Fin 2 → ℕ) (h : ∀ a, o a + S1x4096.size a ≤ S24576x4096.size a) : Memref sig .tc .hbm S1x4096 .f32 :=
  out.slice (Rect.unit (s := S24576x4096) o S1x4096.size h) (fun _ => rfl)
abbrev tokAt (o : Fin 2 → ℕ) (h : ∀ a, o a + S1x4096.size a ≤ S8192x4096.size a) : Memref sig .tc .hbm S1x4096 .f32 :=
  tokens.slice (Rect.unit (s := S8192x4096) o S1x4096.size h) (fun _ => rfl)

/-- The row a transfer writes is the row its offset names. -/
theorem outAt_set {o : Fin 2 → ℕ} {h} {r : ℕ} (e : o = ![r, 0]) : (outAt o h).view.set = outRow r := by
  subst e
  refine (View.set_slice_whole main_v0 _).trans ?_
  ext y
  rw [Rect.mem_set_unit, mem_outRow]
  constructor
  · intro q
    have q0 := q 0
    change r ≤ (y 0).val ∧ (y 0).val < r + 1 at q0
    omega
  · intro q a
    match a with
    | ⟨0, _⟩ => change r ≤ (y 0).val ∧ (y 0).val < r + 1; omega
    | ⟨1, _⟩ => change 0 ≤ (y 1).val ∧ (y 1).val < 0 + 4096; have : (y 1).val < 4096 := (y 1).isLt; omega

theorem tokAt_set {o : Fin 2 → ℕ} {h} {r : ℕ} (e : o = ![r, 0]) : (tokAt o h).view.set = tokRow r := by
  subst e
  refine (View.set_slice_whole main_arg0 _).trans ?_
  ext y
  rw [Rect.mem_set_unit, mem_tokRow]
  constructor
  · intro q
    have q0 := q 0
    change r ≤ (y 0).val ∧ (y 0).val < r + 1 at q0
    omega
  · intro q a
    match a with
    | ⟨0, _⟩ => change r ≤ (y 0).val ∧ (y 0).val < r + 1; omega
    | ⟨1, _⟩ => change 0 ≤ (y 1).val ∧ (y 1).val < 0 + 4096; have : (y 1).val < 4096 := (y 1).isLt; omega

abbrev OutBuf (c : Dev nD) : Type := Buf (Elt F) ((c : Thread nD τ).loc main_v0)

/-- What a transfer of token row `r` to result row `r'` leaves in that row. -/
theorem landed {c : Dev nD} {o o' : Fin 2 → ℕ} {h h'} {r r' : ℕ} (e : o = ![r, 0]) (e' : o' = ![r', 0])
    (X : S8192x4096.Idx → Elt F .f32) (f : S24576x4096.Idx → Elt F .f32) (y : S24576x4096.Idx) (hy : y ∈ outRow r') :
    (outAt o' h').view.write (Elt F) f (ReadAs.same.apply ((tokAt o h).view.read (Elt F) X)) Finset.univ y = X (tok r (y 1)) := by
  subst e e'
  rw [mem_outRow] at hy
  have hr : r < 8192 := by have := h 0; change r + 1 ≤ 8192 at this; omega
  let x : S1x4096.Idx := fun a => match a with
    | ⟨0, _⟩ => ⟨0, Nat.one_pos⟩
    | ⟨1, _⟩ => y 1
  have hx : (outAt ![r', 0] h').view.emb x = y := by
    funext a
    match a with
    | ⟨0, _⟩ => exact Fin.ext (show r' + 1 * 0 = (y 0).val by omega)
    | ⟨1, _⟩ => exact Fin.ext (show 0 + 1 * (y 1).val = (y 1).val by omega)
  have hs : (tokAt ![r, 0] h).view.emb x = tok r (y 1) := by
    funext a
    match a with
    | ⟨0, _⟩ => exact Fin.ext (show r + 1 * 0 = r % 8192 by rw [Nat.mod_eq_of_lt hr]; omega)
    | ⟨1, _⟩ => exact Fin.ext (show 0 + 1 * (y 1).val = (y 1).val by omega)
  have key := (outAt ![r', 0] h').view.write_emb_of_mem (Val := Elt F) f
    (ReadAs.same.apply ((tokAt ![r, 0] h).view.read (Elt F) X)) (Finset.mem_univ x)
  rw [hx] at key
  refine key.trans ?_
  show X ((tokAt ![r, 0] h).view.emb x) = _
  rw [hs]

/-! ## A step's deliveries -/

variable (Z : S24576x4096.Idx → Elt F .f32) (X : S8192x4096.Idx → Elt F .f32) (pos : S16384.Idx → BitVec 32)

/-- What transfer `m` of the step takes: its row of the result, as the step found it, and its token under a share of its own. -/
def pre (c : Dev nD) (base : ℕ) (m : Fin 1024) : sProp 𝕄 :=
  iprop((out.view.loc (c : Thread nD τ) ↦[outRow (row pos (base + m.val))]{fullShare} (mix Z X pos base : S24576x4096.Idx → Elt F .f32))
    ∗ (tokens.view.loc (c : Thread nD τ) ↦[tokRow ((base + m.val) / 2)]{Transfers.shareTokN fullShare m.val} X))

/-- What it delivers: the row as the whole step leaves it, and the token back. -/
def post (c : Dev nD) (base : ℕ) (m : Fin 1024) : sProp 𝕄 :=
  iprop((out.view.loc (c : Thread nD τ) ↦[outRow (row pos (base + m.val))]{fullShare} (mix Z X pos (base + 1024) : S24576x4096.Idx → Elt F .f32))
    ∗ (tokens.view.loc (c : Thread nD τ) ↦[tokRow ((base + m.val) / 2)]{Transfers.shareTokN fullShare m.val} X))

instance post_storable (c : Dev nD) (base : ℕ) (m : Fin 1024) : Storable (upEmb : UEmb _ 𝕄) (post Z X pos c base m) := by
  unfold post; infer_instance

/-- The amount one row credits. -/
def credit : ℕ := (outAt ![0, 0] (by decide)).view.amount (SemLoc.dma 0)

/-- The step's batch: the transfers issued, and the amount waited for. -/
abbrev flight (c : Dev nD) (base j u : ℕ) : sProp 𝕄 :=
  Transfers.Batch (countersEmb (U := Pipeline.UD sig nD τ)) (c : Thread nD τ) (SemLoc.dma 0) () credit (post Z X pos c base) j u

variable {Z X pos}

/-- One transfer of the step, issued. -/
theorem wp_issue (𝒱 : Variants) (c : Dev nD) (bd) {α : Type} {base : ℕ} (hA : Apart pos) (hb : base + 1024 ≤ 16384) {j : ℕ} (hj : j < 1024)
    {o o' : Fin 2 → ℕ} {h h'} (e : o = ![(base + j) / 2, 0]) (e' : o' = ![row pos (base + j), 0])
    {hs hd hsem} {k : PUnit → Prog (TpuEff nD τ sig (Elt F) Λ₀ .tc) α} {Q : α → sProp 𝕄} :
    iprop(pre Z X pos c base ⟨j, hj⟩ ∗ flight Z X pos c base j 0)
      ⊢ iprop((flight Z X pos c base (j + 1) 0 -∗ wp frame (wpE defs₀ 𝒱 (c : Thread nD τ) bd) Set.univ (k ⟨⟩) Q)
          -∗ wp frame (wpE defs₀ 𝒱 (c : Thread nD τ) bd) Set.univ
            (.op (.enqueueDma (tokAt o h) (.here (outAt o' h')) (SemLoc.dma 0) hs hd hsem) k) Q) := by
  unfold pre flight
  iintro ⟨⟨Hd, Hs⟩, HB⟩ Hk
  iapply (Transfers.wp_dmaBatch (countersEmb (U := Pipeline.UD sig nD τ)) 𝒱 (c : Thread nD τ) bd (D := post Z X pos c base)
    (Sd := outRow (row pos (base + j))) (fd := mix Z X pos base) (fs := X) (q := Transfers.shareTokN fullShare j) (u := 0)
    () credit rfl (outAt_set e').le hj (Nat.zero_le _) ?_) $$ [Hd Hs HB] Hk
  · unfold post
    rw [tokAt_set e]
    refine sep_mono (Entails.of_eq (pointsTo_congr fun y hy => ?_)) .rfl
    refine (landed (c := c) e e' X _ y hy).trans (mix_hit hA hb (p := base + j) (by omega) (mem_outRow.1 hy)).symm
  · rw [tokAt_set e]
    isplitl [Hs]; · iexact Hs
    isplitl [Hd]; · iexact Hd
    iexact HB

/-- The word the table holds at a cell. -/
theorem read_cell {o : Fin 1 → ℕ} {h} {p : ℕ} (e : o = ![p]) {c : Dev nD} (x : (Rect.unit (s := S16384) o S1.size h).shape.Idx) :
    (table.access (Rect.unit (s := S16384) o S1.size h)).read (Elt F) pos x = pos (cell p) := by
  subst e
  have hp : p < 16384 := by have := h 0; change p + 1 ≤ 16384 at this; omega
  have hx : (table.access (Rect.unit (s := S16384) ![p] S1.size h)).emb x = cell p := by
    funext a
    match a with
    | ⟨0, _⟩ =>
      have hx0 : (x 0).val < 1 := (x 0).isLt
      exact Fin.ext (show p + 1 * (x 0).val = p % 16384 by rw [Nat.mod_eq_of_lt hp]; omega)
  show pos _ = _
  rw [hx]

/-- A row of the result fits it. -/
theorem row_fits (hA : Apart pos) {p : ℕ} (hp : p < 16384) :
    ∀ a : Fin 2, (![row pos p, 0] : Fin 2 → ℕ) a + S1x4096.size a ≤ S24576x4096.size a := fun a =>
  match a with
  | ⟨0, _⟩ => by have := hA.lt p hp; change row pos p + 1 ≤ 24576; omega
  | ⟨1, _⟩ => by change 0 + 4096 ≤ 4096; omega

/-- Before trip `k` of the first loop: `2 k` transfers issued, what the rest take still in hand. -/
def issuing (Z : S24576x4096.Idx → Elt F .f32) (X : S8192x4096.Idx → Elt F .f32) (pos : S16384.Idx → BitVec 32)
    (c : Dev nD) (q : PosShare TreeShare) (base k : ℕ) : sProp 𝕄 :=
  iprop((table.view.loc (c : Thread nD τ) ↦{q} pos) ∗ flight Z X pos c base (2 * k) 0
    ∗ bigSep (Ring.rangeSet 1024 (2 * k) 1024) (pre Z X pos c base))

abbrev body1 (i : grid0.Coords) := k0_t1_body (F := F) i table (Memref.isWhole_whole _) tokens (Memref.isWhole_whole _) out (Memref.isWhole_whole _)
  out (Memref.isWhole_whole _) cc0_scratch0
abbrev body2 (i : grid0.Coords) := k0_t2_body (F := F) i table (Memref.isWhole_whole _) tokens (Memref.isWhole_whole _) out (Memref.isWhole_whole _)
  out (Memref.isWhole_whole _) cc0_scratch0

theorem coord_lt (i : grid0.Coords) : (i 0).val < 16 := (i 0).isLt
theorem trip1_lt (k : Fin k0_t1_loop.trips) : k.val < 512 := lt_of_lt_of_le k.isLt k0_t1_abs.2.1

/-- One trip of the first loop. -/
theorem issue_trip (𝒱 : Variants) (c : Dev nD) (bd) (q : PosShare TreeShare) (i : grid0.Coords) (hA : Apart pos) (k : Fin k0_t1_loop.trips) {Q : Unit → sProp 𝕄} :
    iprop(issuing Z X pos c q (1024 * (i 0).val) k.val)
      ⊢ iprop((issuing Z X pos c q (1024 * (i 0).val) (k.val + 1) -∗ Q ⟨⟩)
          -∗ wp frame (wpE defs₀ 𝒱 (c : Thread nD τ) bd) Set.univ (body1 i k ⟨⟩) Q) := by
  have hi := coord_lt i
  have hk := trip1_lt k
  unfold issuing
  rw [Ring.bigSep_rangeSet_head (show 2 * k.val < 1024 by omega) (by omega),
    Ring.bigSep_rangeSet_head (show 2 * k.val + 1 < 1024 by omega) (by omega)]
  simp only [body1, k0_t1_body, Prog.lift, Prog.bind_op, Prog.bind_ret, Prog.pure_eq_ret, Prog.bind_assoc, smemLoad, smemLoadElt_bind]
  iintro ⟨HT, HB, H0, H1, HR⟩ HQ
  iapply (wp_smemLoadElt_named 𝒱 (c : Thread nD τ) bd Set.univ (m := table) (f := pos) (q := q)) $$ HT
  iintro HT %w %hw
  rw [read_cell (k0_off1_eq i k) (c := c)] at hw
  subst hw
  iapply (wp_assume 𝒱 (c : Thread nD τ) bd Set.univ (row_fits hA (p := 1024 * (i 0).val + 2 * k.val) (by omega)))
  iapply (wp_issue (Z := Z) (X := X) 𝒱 c bd hA (base := 1024 * (i 0).val) (by omega) (j := 2 * k.val) (by omega)
    ((k0_off3_eq i k).trans (by congr 1; omega)) rfl) $$ [H0 HB]
  · isplitl [H0]; · iexact H0
    iexact HB
  iintro HB
  iapply (wp_smemLoadElt_named 𝒱 (c : Thread nD τ) bd Set.univ (m := table) (f := pos) (q := q)) $$ HT
  iintro HT %w' %hw'
  rw [read_cell (p := 1024 * (i 0).val + (2 * k.val + 1)) (k0_off4_eq i k) (c := c)] at hw'
  subst hw'
  iapply (wp_assume 𝒱 (c : Thread nD τ) bd Set.univ (row_fits hA (p := 1024 * (i 0).val + (2 * k.val + 1)) (by omega)))
  iapply (wp_issue (Z := Z) (X := X) 𝒱 c bd hA (base := 1024 * (i 0).val) (by omega) (j := 2 * k.val + 1) (by omega)
    ((k0_off6_eq i k).trans (by congr 1; omega)) rfl) $$ [H1 HB]
  · isplitl [H1]; · iexact H1
    iexact HB
  iintro HB
  rw [wp_ret]
  imodintro
  iapply HQ
  isplitl [HT]; · iexact HT
  isplitl [HB]; · iexact HB
  iexact HR

end Cert.KernelIdeal.Dispatch

end
-- ==== Proof.Drain.lean ====
module

public import proofs.«01_k».proof.Proof.Issue

@[expose] public section

/-!
# The step's waits, and the step

The second loop waits once for each transfer; the last wait hands back every row delivered and the cell at zero. A step takes the
result after `base` pairs to the result after `base + 1024`.
-/

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {Z : S24576x4096.Idx → Elt F .f32} {X : S8192x4096.Idx → Elt F .f32} {pos : S16384.Idx → BitVec 32}

theorem credit_eq : credit = 512 := by decide

/-- A wait of the step that is not its last. -/
theorem wp_wait (𝒱 : Variants) (c : Dev nD) (bd) {α : Type} {base u : ℕ} (hu : u + credit < credit * 1024)
    {o o' : Fin 2 → ℕ} {h h'} {hs hd} {W : Waits sig Unit} {k : PUnit → Prog (TpuEff nD τ sig (Elt F) Λ₀ .tc) α} {Q : α → sProp 𝕄} :
    iprop(flight Z X pos c base 1024 u ∗ owes (c : Thread nD τ) 0 W)
      ⊢ iprop((flight Z X pos c base 1024 (u + credit) ∗ owes (c : Thread nD τ) 0 (insert (SemLoc.dma 0, ()) W)
            -∗ wp frame (wpE defs₀ 𝒱 (c : Thread nD τ) bd) Set.univ (k ⟨⟩) Q)
          -∗ wp frame (wpE defs₀ 𝒱 (c : Thread nD τ) bd) Set.univ (.op (.waitDma2 (0 : DmaSem sig) (tokAt o h) (outAt o' h') hs hd) k) Q) :=
  Transfers.wp_waitBatch (countersEmb (U := Pipeline.UD sig nD τ)) 𝒱 (c : Thread nD τ) bd (srcw := tokAt o h) (dstw := outAt o' h') () rfl hu

/-- The step's last wait. -/
theorem wp_wait_last (𝒱 : Variants) (c : Dev nD) (bd) {α : Type} {base u : ℕ} (hu : u + credit = credit * 1024)
    {o o' : Fin 2 → ℕ} {h h'} {hs hd} {W : Waits sig Unit} {k : PUnit → Prog (TpuEff nD τ sig (Elt F) Λ₀ .tc) α} {Q : α → sProp 𝕄} :
    iprop(flight Z X pos c base 1024 u ∗ owes (c : Thread nD τ) 0 W)
      ⊢ iprop((bigSep Finset.univ (post Z X pos c base) ∗ semVal ((c : Thread nD τ), SemLoc.dma 0) 0
              ∗ owes (c : Thread nD τ) 0 (insert (SemLoc.dma 0, ()) W)
            -∗ wp frame (wpE defs₀ 𝒱 (c : Thread nD τ) bd) Set.univ (k ⟨⟩) Q)
          -∗ wp frame (wpE defs₀ 𝒱 (c : Thread nD τ) bd) Set.univ (.op (.waitDma2 (0 : DmaSem sig) (tokAt o h) (outAt o' h') hs hd) k) Q) :=
  Transfers.wp_waitBatchLast (countersEmb (U := Pipeline.UD sig nD τ)) 𝒱 (c : Thread nD τ) bd (srcw := tokAt o h) (dstw := outAt o' h') () rfl
    (show 0 < credit by rw [credit_eq]; decide) hu

/-- Before trip `k` of the second loop: `2 k` transfers waited for, and after the last everything delivered. -/
def draining (Z : S24576x4096.Idx → Elt F .f32) (X : S8192x4096.Idx → Elt F .f32) (pos : S16384.Idx → BitVec 32)
    (c : Dev nD) (q : PosShare TreeShare) (base k : ℕ) : sProp 𝕄 :=
  iprop((table.view.loc (c : Thread nD τ) ↦{q} pos) ∗ (∃ W, owes (c : Thread nD τ) 0 W)
    ∗ (if k < 512 then flight Z X pos c base 1024 (2 * k * credit)
        else iprop(bigSep Finset.univ (post Z X pos c base) ∗ semVal ((c : Thread nD τ), SemLoc.dma 0) 0)))

theorem trip2_lt (k : Fin k0_t2_loop.trips) : k.val < 512 := lt_of_lt_of_le k.isLt k0_t2_abs.2.1

/-- One trip of the second loop. -/
theorem drain_trip (𝒱 : Variants) (c : Dev nD) (bd) (q : PosShare TreeShare) (i : grid0.Coords) (hA : Apart pos) (k : Fin k0_t2_loop.trips) {Q : Unit → sProp 𝕄} :
    iprop(draining Z X pos c q (1024 * (i 0).val) k.val)
      ⊢ iprop((draining Z X pos c q (1024 * (i 0).val) (k.val + 1) -∗ Q ⟨⟩)
          -∗ wp frame (wpE defs₀ 𝒱 (c : Thread nD τ) bd) Set.univ (body2 i k ⟨⟩) Q) := by
  have hi := coord_lt i
  have hk := trip2_lt k
  have hc := credit_eq
  unfold draining
  rw [if_pos hk]
  simp only [body2, k0_t2_body, Prog.lift, Prog.bind_op, Prog.bind_ret, Prog.pure_eq_ret, Prog.bind_assoc, smemLoad, smemLoadElt_bind]
  iintro ⟨HT, ⟨%W, HW⟩, HB⟩ HQ
  iapply (wp_smemLoadElt_named 𝒱 (c : Thread nD τ) bd Set.univ (m := table) (f := pos) (q := q)) $$ HT
  iintro HT %w %hw
  rw [read_cell (k0_off7_eq i k) (c := c)] at hw
  subst hw
  iapply (wp_assume 𝒱 (c : Thread nD τ) bd Set.univ (row_fits hA (p := 1024 * (i 0).val + 2 * k.val) (by omega)))
  iapply (wp_wait (Z := Z) (X := X) 𝒱 c bd (u := 2 * k.val * credit) (by rw [hc]; omega)) $$ [HB HW]
  · isplitl [HB]; · iexact HB
    iexact HW
  iintro ⟨HB, HW⟩
  iapply (wp_smemLoadElt_named 𝒱 (c : Thread nD τ) bd Set.univ (m := table) (f := pos) (q := q)) $$ HT
  iintro HT %w' %hw'
  rw [read_cell (p := 1024 * (i 0).val + (2 * k.val + 1)) (k0_off10_eq i k) (c := c)] at hw'
  subst hw'
  iapply (wp_assume 𝒱 (c : Thread nD τ) bd Set.univ (row_fits hA (p := 1024 * (i 0).val + (2 * k.val + 1)) (by omega)))
  have hs : 2 * k.val * credit + credit + credit = 2 * (k.val + 1) * credit := by rw [hc]; omega
  by_cases hl : k.val + 1 < 512
  · rw [if_pos hl, ← hs]
    iapply (wp_wait (Z := Z) (X := X) 𝒱 c bd (u := 2 * k.val * credit + credit) (by rw [hc]; omega)) $$ [HB HW]
    · isplitl [HB]; · iexact HB
      iexact HW
    iintro ⟨HB, HW⟩
    rw [wp_ret]
    imodintro
    iapply HQ
    isplitl [HT]; · iexact HT
    isplitl [HW]; · iexists _; iexact HW
    iexact HB
  · rw [if_neg hl]
    have hk' : k.val = 511 := by omega
    iapply (wp_wait_last (Z := Z) (X := X) 𝒱 c bd (u := 2 * k.val * credit + credit) (by rw [hc]; omega)) $$ [HB HW]
    · isplitl [HB]; · iexact HB
      iexact HW
    iintro ⟨HD, HS, HW⟩
    rw [wp_ret]
    imodintro
    iapply HQ
    isplitl [HT]; · iexact HT
    isplitl [HW]; · iexists _; iexact HW
    isplitl [HD]; · iexact HD
    iexact HS

/-- The two loops of a step, from what every transfer of the step takes to what it delivers. -/
theorem loops_run (𝒱 : Variants) (c : Dev nD) (bd) (q : PosShare TreeShare) (i : grid0.Coords) (hA : Apart pos) {Q : PUnit → sProp 𝕄} :
    iprop((table.view.loc (c : Thread nD τ) ↦{q} pos) ∗ (∃ W, owes (c : Thread nD τ) 0 W) ∗ semVal ((c : Thread nD τ), SemLoc.dma 0) 0
        ∗ bigSep Finset.univ (pre Z X pos c (1024 * (i 0).val)))
      ⊢ iprop(((table.view.loc (c : Thread nD τ) ↦{q} pos) ∗ (∃ W, owes (c : Thread nD τ) 0 W) ∗ semVal ((c : Thread nD τ), SemLoc.dma 0) 0
            ∗ bigSep Finset.univ (post Z X pos c (1024 * (i 0).val)) -∗ Q ⟨⟩)
          -∗ wp frame (wpE defs₀ 𝒱 (c : Thread nD τ) bd) Set.univ (cc0_moe_dispatch (F := F) i table (Memref.isWhole_whole _)
              tokens (Memref.isWhole_whole _) out (Memref.isWhole_whole _) out (Memref.isWhole_whole _) cc0_scratch0) Q) := by
  have t1 : k0_t1_loop.trips = 512 := by decide
  have t2 : k0_t2_loop.trips = 512 := by decide
  iintro ⟨HT, HW, HS, HP⟩ HQ
  imod (Transfers.batch_alloc' (Lvl := ℕ) (countersEmb (U := Pipeline.UD sig nD τ)) (c : Thread nD τ) () credit
    (post Z X pos c (1024 * (i 0).val)) (sm := SemLoc.dma 0) (E := Set.univ)) $$ HS with HB
  rw [cc0_moe_dispatch_eq_skeleton]
  unfold cc0_moe_dispatch_skel
  iapply (Scf.wp_for_bind _ _ _ _ _ _ _ _ _ (fun k _ => issuing Z X pos c q (1024 * (i 0).val) k) (fun k acc => by
    iintro H
    iapply (issue_trip (Z := Z) (X := X) 𝒱 c bd q i hA k) $$ H
    iintro H
    iexact H)) $$ [HT HB HP]
  · unfold issuing
    isplitl [HT]; · iexact HT
    isplitl [HB]; · iexact HB
    rw [show 2 * 0 = 0 from rfl, Ring.rangeSet_univ]
    iexact HP
  iintro %acc HL
  unfold issuing
  icases HL with ⟨HT, HB, -⟩
  iapply (Scf.wp_for_bind _ _ _ _ _ _ _ _ _ (fun k _ => draining Z X pos c q (1024 * (i 0).val) k) (fun k acc => by
    iintro H
    iapply (drain_trip (Z := Z) (X := X) 𝒱 c bd q i hA k) $$ H
    iintro H
    iexact H)) $$ [HT HB HW]
  · unfold draining
    rw [if_pos (by decide : 0 < 512)]
    isplitl [HT]; · iexact HT
    isplitl [HW]; · iexact HW
    rw [show 2 * 0 * credit = 0 by simp]
    iexact HB
  iintro %acc' HL
  unfold draining
  rw [if_neg (by decide)]
  icases HL with ⟨HT, HW, HD, HS⟩
  rw [wp_pure]
  imodintro
  iapply HQ
  isplitl [HT]; · iexact HT
  isplitl [HW]; · iexact HW
  isplitl [HS]; · iexact HS
  iexact HD

end Cert.KernelIdeal.Dispatch

end
-- ==== Proof.Point.lean ====
module

public import proofs.«01_k».proof.Proof.Drain

@[expose] public section

/-!
# One step of the dispatch

The result and the tokens, held whole, come apart into what the step's transfers take and the rest, and go together again from what
they deliver and the rest.
-/

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {Z : S24576x4096.Idx → Elt F .f32} {X : S8192x4096.Idx → Elt F .f32} {pos : S16384.Idx → BitVec 32}

/-- The step's rows of the result. -/
def stepRows (pos : S16384.Idx → BitVec 32) (base : ℕ) : Finset S24576x4096.Idx :=
  (Finset.univ : Finset (Fin 1024)).biUnion fun m => outRow (row pos (base + m.val))

/-- What one transfer holds, the result at `f`. -/
def held (f : S24576x4096.Idx → Elt F .f32) (X : S8192x4096.Idx → Elt F .f32) (pos : S16384.Idx → BitVec 32) (c : Dev nD) (base : ℕ) (m : Fin 1024) : sProp 𝕄 :=
  iprop((out.view.loc (c : Thread nD τ) ↦[outRow (row pos (base + m.val))]{fullShare} f)
    ∗ (tokens.view.loc (c : Thread nD τ) ↦[tokRow ((base + m.val) / 2)]{Transfers.shareTokN fullShare m.val} X))

/-- What no transfer takes: the other rows of the result, and of the tokens the other rows of every share and the share kept. -/
def kept (f : S24576x4096.Idx → Elt F .f32) (X : S8192x4096.Idx → Elt F .f32) (pos : S16384.Idx → BitVec 32) (c : Dev nD) (base : ℕ) : sProp 𝕄 :=
  iprop((out.view.loc (c : Thread nD τ) ↦[Finset.univ \ stepRows pos base]{fullShare} f)
    ∗ (bigSep Finset.univ fun m : Fin 1024 =>
        tokens.view.loc (c : Thread nD τ) ↦[Finset.univ \ tokRow ((base + m.val) / 2)]{Transfers.shareTokN fullShare m.val} X)
    ∗ (tokens.view.loc (c : Thread nD τ) ↦{Transfers.shareDrop fullShare 1024} X))

theorem rows_apart (hA : Apart pos) {base : ℕ} (hb : base + 1024 ≤ 16384) :
    ∀ m ∈ (Finset.univ : Finset (Fin 1024)), ∀ m' ∈ (Finset.univ : Finset (Fin 1024)), m ≠ m' →
      Disjoint (outRow (row pos (base + m.val))) (outRow (row pos (base + m'.val))) := by
  intro m _ m' _ hne
  rw [Finset.disjoint_left]
  intro y hy hy'
  rw [mem_outRow] at hy hy'
  have := hA.inj _ _ (by omega) (by omega) (hy.symm.trans hy')
  exact hne (Fin.ext (by omega))

/-- The result, apart. -/
theorem out_split (hA : Apart pos) {base : ℕ} (hb : base + 1024 ≤ 16384) (c : Dev nD) (f : S24576x4096.Idx → Elt F .f32) :
    (out.view.loc (c : Thread nD τ) ↦{fullShare} f : sProp 𝕄)
      ⊣⊢ iprop((bigSep Finset.univ fun m : Fin 1024 => out.view.loc (c : Thread nD τ) ↦[outRow (row pos (base + m.val))]{fullShare} f)
        ∗ (out.view.loc (c : Thread nD τ) ↦[Finset.univ \ stepRows pos base]{fullShare} f)) := by
  have h := pointsTo_biUnion (Ix := Unit) (Val := Elt F) (Name := ℕ) (U := Pipeline.UD sig nD τ) (Lvl := ℕ) (ℓ := out.view.loc (c : Thread nD τ)) (q := fullShare) (f := f)
    (Finset.univ : Finset (Fin 1024)) (fun m => outRow (row pos (base + m.val))) (rows_apart hA hb)
  rw [← h]
  exact pointsTo_split_subset (Finset.subset_univ (stepRows pos base))

/-- The tokens, apart. -/
theorem tok_split {base : ℕ} (c : Dev nD) (X : S8192x4096.Idx → Elt F .f32) :
    (tokens.view.loc (c : Thread nD τ) ↦{fullShare} X : sProp 𝕄)
      ⊣⊢ iprop((bigSep Finset.univ fun m : Fin 1024 =>
            tokens.view.loc (c : Thread nD τ) ↦[tokRow ((base + m.val) / 2)]{Transfers.shareTokN fullShare m.val} X)
        ∗ (bigSep Finset.univ fun m : Fin 1024 =>
            tokens.view.loc (c : Thread nD τ) ↦[Finset.univ \ tokRow ((base + m.val) / 2)]{Transfers.shareTokN fullShare m.val} X)
        ∗ (tokens.view.loc (c : Thread nD τ) ↦{Transfers.shareDrop fullShare 1024} X)) := by
  have h := Transfers.pointsTo_toks_range (Ix := Unit) (Val := Elt F) (Name := ℕ) (U := Pipeline.UD sig nD τ) (Lvl := ℕ)
    (ℓ := tokens.view.loc (c : Thread nD τ)) (S := Finset.univ) (f := X) fullShare 1024
  rw [← Ring.bigSep_fin_eq_range 1024 (fun m : Fin 1024 => tokens.view.loc (c : Thread nD τ) ↦[Finset.univ]{Transfers.shareTokN fullShare m.val} X) _ (fun _ _ => rfl)] at h
  have hs : ∀ m : Fin 1024, (tokens.view.loc (c : Thread nD τ) ↦[Finset.univ]{Transfers.shareTokN fullShare m.val} X : sProp 𝕄)
      ⊣⊢ iprop((tokens.view.loc (c : Thread nD τ) ↦[tokRow ((base + m.val) / 2)]{Transfers.shareTokN fullShare m.val} X)
        ∗ (tokens.view.loc (c : Thread nD τ) ↦[Finset.univ \ tokRow ((base + m.val) / 2)]{Transfers.shareTokN fullShare m.val} X)) :=
    fun m => pointsTo_split_subset (Finset.subset_univ _)
  have hm : (bigSep Finset.univ (fun m : Fin 1024 => tokens.view.loc (c : Thread nD τ) ↦[Finset.univ]{Transfers.shareTokN fullShare m.val} X) : sProp 𝕄)
      = iprop((bigSep Finset.univ fun m : Fin 1024 =>
            tokens.view.loc (c : Thread nD τ) ↦[tokRow ((base + m.val) / 2)]{Transfers.shareTokN fullShare m.val} X)
        ∗ (bigSep Finset.univ fun m : Fin 1024 =>
            tokens.view.loc (c : Thread nD τ) ↦[Finset.univ \ tokRow ((base + m.val) / 2)]{Transfers.shareTokN fullShare m.val} X)) :=
    (BI.bigSep_congr fun m _ => Idealize.SL.BI.Entails.antisymm (hs m).1 (hs m).2).trans (bigSep_sep' _ _ _)
  rw [hm] at h
  constructor
  · refine h.1.trans ?_
    iintro ⟨HD, H1, H2⟩
    isplitl [H1]; · iexact H1
    isplitl [H2]; · iexact H2
    iexact HD
  · refine BIBase.Entails.trans ?_ h.2
    iintro ⟨H1, H2, HD⟩
    isplitl [HD]; · iexact HD
    isplitl [H1]; · iexact H1
    iexact H2

/-- Both, apart. -/
theorem step_split (hA : Apart pos) {base : ℕ} (hb : base + 1024 ≤ 16384) (c : Dev nD) (f : S24576x4096.Idx → Elt F .f32) :
    iprop((out.view.loc (c : Thread nD τ) ↦{fullShare} f) ∗ (tokens.view.loc (c : Thread nD τ) ↦{fullShare} X))
      ⊣⊢ iprop(bigSep Finset.univ (held f X pos c base) ∗ kept f X pos c base) := by
  have e : (bigSep Finset.univ (held f X pos c base) : sProp 𝕄) = _ := bigSep_sep' _ _ _
  rw [e]
  unfold kept
  constructor
  · iintro ⟨HO, HT⟩
    ihave HO := (out_split hA hb c f).1 $$ HO
    icases HO with ⟨H1, H2⟩
    ihave HT := (tok_split (base := base) c X).1 $$ HT
    icases HT with ⟨H3, H4, H5⟩
    isplitl [H1 H3]
    · isplitl [H1]; · iexact H1
      iexact H3
    isplitl [H2]; · iexact H2
    isplitl [H4]; · iexact H4
    iexact H5
  · iintro ⟨⟨H1, H3⟩, H2, H4, H5⟩
    isplitl [H1 H2]
    · iapply (out_split hA hb c f).2
      isplitl [H1]; · iexact H1
      iexact H2
    iapply (tok_split (base := base) c X).2
    isplitl [H3]; · iexact H3
    isplitl [H4]; · iexact H4
    iexact H5

attribute [local irreducible] stepRows

/-- A row that a pair of the step is sent to is a row of the step. -/
theorem mem_stepRows {base p : ℕ} {y : S24576x4096.Idx} (h : base ≤ p) (h' : p < base + 1024) (e : row pos p = (y 0).val) :
    y ∈ stepRows pos base := by
  have ⟨k, hk⟩ := Nat.exists_eq_add_of_le h
  have hk1 : k < 1024 := by omega
  have hy := mem_outRow.2 e.symm
  rw [stepRows, Finset.mem_biUnion]
  exact ⟨⟨k, hk1⟩, Finset.mem_univ _, by rw [hk] at hy; exact hy⟩

/-- The other rows of the result are the same before the step and after. -/
theorem kept_same (hA : Apart pos) {base : ℕ} (hb : base + 1024 ≤ 16384) (c : Dev nD) :
    (kept (mix Z X pos base) X pos c base : sProp 𝕄) = kept (mix Z X pos (base + 1024)) X pos c base := by
  have hf : ∀ (S : Finset S24576x4096.Idx), (∀ y, y ∉ S → ∀ p, base ≤ p → p < base + 1024 → row pos p ≠ (y 0).val) →
      (out.view.loc (c : Thread nD τ) ↦[Finset.univ \ S]{fullShare} (mix Z X pos base : S24576x4096.Idx → Elt F .f32) : sProp 𝕄)
        = (out.view.loc (c : Thread nD τ) ↦[Finset.univ \ S]{fullShare} (mix Z X pos (base + 1024) : S24576x4096.Idx → Elt F .f32)) :=
    fun S hS => pointsTo_congr fun y hy => mix_same hA (Nat.le_add_right _ _) hb (hS y (Finset.mem_sdiff.1 hy).2)
  unfold kept
  rw [hf (stepRows pos base) fun y hy p h h' e => hy (mem_stepRows h h' e)]

/-- One step: the result after the first `1024 i` pairs becomes the result after `1024` more. -/
theorem step_run (𝒱 : Variants) (c : Dev nD) (bd) (q : PosShare TreeShare) (i : grid0.Coords) (hA : Apart pos) {Q : PUnit → sProp 𝕄} :
    iprop((table.view.loc (c : Thread nD τ) ↦{q} pos) ∗ (∃ W, owes (c : Thread nD τ) 0 W) ∗ semVal ((c : Thread nD τ), SemLoc.dma 0) 0
        ∗ (out.view.loc (c : Thread nD τ) ↦{fullShare} (mix Z X pos (1024 * (i 0).val) : S24576x4096.Idx → Elt F .f32))
        ∗ (tokens.view.loc (c : Thread nD τ) ↦{fullShare} X))
      ⊢ iprop(((table.view.loc (c : Thread nD τ) ↦{q} pos) ∗ (∃ W, owes (c : Thread nD τ) 0 W) ∗ semVal ((c : Thread nD τ), SemLoc.dma 0) 0
            ∗ (out.view.loc (c : Thread nD τ) ↦{fullShare} (mix Z X pos (1024 * (i 0).val + 1024) : S24576x4096.Idx → Elt F .f32))
            ∗ (tokens.view.loc (c : Thread nD τ) ↦{fullShare} X) -∗ Q ⟨⟩)
          -∗ wp frame (wpE defs₀ 𝒱 (c : Thread nD τ) bd) Set.univ (cc0_moe_dispatch (F := F) i table (Memref.isWhole_whole _)
              tokens (Memref.isWhole_whole _) out (Memref.isWhole_whole _) out (Memref.isWhole_whole _) cc0_scratch0) Q) := by
  have hb : 1024 * (i 0).val + 1024 ≤ 16384 := by have := coord_lt i; omega
  iintro ⟨HT, HW, HS, HO, HX⟩ HQ
  ihave HP := (step_split (X := X) hA hb c (mix Z X pos (1024 * (i 0).val))).1 $$ [HO HX]
  · isplitl [HO]; · iexact HO
    iexact HX
  icases HP with ⟨HP, HK⟩
  ihave HK := (Entails.of_eq (kept_same (Z := Z) (X := X) hA hb c)) $$ HK
  iapply (loops_run (Z := Z) (X := X) 𝒱 c bd q i hA) $$ [HT HW HS HP]
  · isplitl [HT]; · iexact HT
    isplitl [HW]; · iexact HW
    isplitl [HS]; · iexact HS
    iexact HP
  iintro ⟨HT, HW, HS, HP⟩
  ihave HP := (step_split (X := X) hA hb c (mix Z X pos (1024 * (i 0).val + 1024))).2 $$ [HP HK]
  · isplitl [HP]; · iexact HP
    iexact HK
  icases HP with ⟨HO, HX⟩
  iapply HQ
  isplitl [HT]; · iexact HT
  isplitl [HW]; · iexact HW
  isplitl [HS]; · iexact HS
  isplitl [HO]; · iexact HO
  iexact HX

end Cert.KernelIdeal.Dispatch

end
-- ==== Proof.Run.lean ====
module

public import proofs.«01_k».proof.Proof.Point
public import proofs.«01_k».proof.Proof.Gen.KernelIdeal.Launch
public import Idealize.ShloMosaic.Lib.Pipeline.FrameBody
public import Idealize.ShloMosaic.Lib.Pipeline.FrameValue
public import Idealize.ShloMosaic.Lib.Pipeline.TalkSched

@[expose] public section

/-!
# The whole dispatch

The sixteen steps one after another: the result, zero at first, ends with every pair's token in that pair's row; the tokens and
the table are as they were, and the one semaphore is at zero again.
-/

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch holds -/

/-- The buffers when the kernel starts. -/
def V (c : Dev nD) (b : Ref sig .tc) : Buf (Elt F) ((c : Thread nD τ).loc b) := StableHlo.after hostOps0 (fun b => m (c, b)) b

/-- The result's zeros. -/
def Z : S24576x4096.Idx → Elt F .f32 := broadcastInDim S24576x4096 ![] bcast_S_S24576x4096 (constant S_ .f32 0x00000000#32)

/-- The table and the tokens. -/
def posOf (c : Dev nD) : S16384.Idx → BitVec 32 := m ((c.tc : Thread nD τ).loc main_arg1)
def tokOf (c : Dev nD) : S8192x4096.Idx → Elt F .f32 := m ((c.tc : Thread nD τ).loc main_arg0)

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_v0 (c : Dev nD) : V m c main_v0 = (Z : S24576x4096.Idx → Elt F .f32) := by unfold V; after_results; rfl

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub ⟨rfl, rfl⟩ main_chain

/-- The table's contents at entry. -/
def tables : (p : Fin 1) → (pcfgs (F := F) p).Adm := fun _ => ⟨fun k => V m 0 (pre0.ref k), trivial⟩

theorem tables_eq (c : Dev nD) (k : Fin pre0.K) : V m c (pre0.ref k) = (tables m 0).1 k := by
  obtain rfl : c = 0 := Subsingleton.elim _ _
  rfl

/-- The kernel's own semaphore. -/
abbrev osem0 : Fin 1 → SemLoc sig := fun j => (![SemLoc.dma 0] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 0) 0 := by
  rw [Pipeline.ownSems0_eq_of_list c osem0 [0] (by decide) (by decide)]; rfl

/-- The buffer the transfers read, and the buffer they write. -/
def H0 : Finset (Ref sig .tc) := {main_arg0}
def R0 : Finset (Ref sig .tc) := {main_v0}
theorem H0_sub : H0 ⊆ Pipeline.restRefsP sig pre0 spec0 := by decide
theorem R0_sub : R0 ⊆ Pipeline.restRefsP sig pre0 spec0 \ H0 := by decide

/-- The buffers after the last step. -/
def G (c : Dev nD) (b : Ref sig .tc) : Buf (Elt F) ((c : Thread nD τ).loc b) :=
  if h : b = main_v0 then h ▸ (mix Z (tokOf m c) (posOf m c) 16384 : S24576x4096.Idx → Elt F .f32) else V m c b

theorem G_v0 (c : Dev nD) : G m c main_v0 = (mix Z (tokOf m c) (posOf m c) 16384 : S24576x4096.Idx → Elt F .f32) := by
  unfold G; rw [dif_pos rfl]

/-- What the steps hand on: before step `t`, the result after `1024 t` pairs. -/
def inv (c : Dev nD) (t : ℕ) : sProp 𝕄 :=
  iprop((∃ r, prngReg c r) ∗ (table.view.loc (c : Thread nD τ) ↦{fullShare.right} posOf m c)
    ∗ semVal ((c : Thread nD τ), SemLoc.dma 0) 0
    ∗ (out.view.loc (c : Thread nD τ) ↦{fullShare} (mix Z (tokOf m c) (posOf m c) (1024 * t) : S24576x4096.Idx → Elt F .f32))
    ∗ (tokens.view.loc (c : Thread nD τ) ↦{fullShare} tokOf m c))

def dats (_ : Fin 1) (c : Dev nD) : Dat τ (Elt F) Unit ℕ (Pipeline.UD sig nD τ) ℕ (cfg0 (tables m 0)) c where
  A w := w.elim0
  after w _ := w.elim0
  Φ t := inv m c t.val
  q _ := fullShare
  owed _ := 0

theorem coord (t : Fin grid0.N) : (grid0.coords t 0).val = t.val := by
  rw [Pipeline.Grid.coords_val t 0 (S := 1) (B := 16) (by decide) rfl]
  have h : t.val < 16 := N_0 ▸ t.isLt
  omega

/-- No window: nothing is held for the windows. -/
theorem no_windows (P : Fin 0 → sProp 𝕄) : (bigSep Finset.univ P : sProp 𝕄) = BI.emp := rfl

theorem sound (hA : ∀ c, Apart (posOf m c)) (c : Dev nD) (t : Fin grid0.N) :
    iprop((dats m 0 c).Φ t.castSucc ∗ (dats m 0 c).owesAt () t.castSucc)
      ⊢ wp frame (wpE defs₀ Variants.none (c : Thread nD τ) none) Set.univ (cc0_moe_dispatch (F := F) (grid0.coords t) table (Memref.isWhole_whole _)
          tokens (Memref.isWhole_whole _) out (Memref.isWhole_whole _) out (Memref.isWhole_whole _) cc0_scratch0)
        fun _ => iprop((dats m 0 c).Φ t.succ ∗ (dats m 0 c).owesAt () t.succ) := by
  rw [show (dats m 0 c).Φ t.castSucc = inv m c t.val from rfl, show (dats m 0 c).Φ t.succ = inv m c (t.val + 1) from rfl]
  unfold inv
  iintro ⟨⟨HG, HT, HS, HO, HX⟩, HW⟩
  ihave HW := TalkSites.owesAt_elim (dats m 0 c) () t.castSucc 0 rfl $$ HW
  have e := coord t
  have e1 : 1024 * (t.val + 1) = 1024 * (grid0.coords t 0).val + 1024 := by rw [e]; omega
  rw [e1, ← e]
  iapply (step_run (Z := Z) (X := tokOf m c) (pos := posOf m c) Variants.none c none fullShare.right (grid0.coords t) (hA c)) $$ [HT HW HS HO HX]
  · isplitl [HT]; · iexact HT
    isplitl [HW]; · iexact HW
    isplitl [HS]; · iexact HS
    isplitl [HO]; · iexact HO
    iexact HX
  iintro ⟨HT, ⟨%W, HW⟩, HS, HO, HX⟩
  isplitr [HW]
  · isplitl [HG]; · iexact HG
    isplitl [HT]; · iexact HT
    isplitl [HS]; · iexact HS
    isplitl [HO]; · iexact HO
    iexact HX
  iapply TalkSites.owesAt_intro (dats m 0 c) () t.succ 0 rfl rfl W
  iexact HW

theorem body_obligation (hA : ∀ c, Apart (posOf m c)) (c : Dev nD) :
    BodyObligation (dats (F := F) m 0 c) (defs₀ (F := F)) Variants.none () Set.univ := fun t => by
  have hd : defs₀ (F := F) .tc (cfg0 (tables m 0)).body ((cfg0 (tables m 0)).bodyArgs t ((cfg0 (tables m 0)).slots t))
      = cc0_moe_dispatch (grid0.coords t) table (Memref.isWhole_whole _) tokens (Memref.isWhole_whole _) out (Memref.isWhole_whole _) out (Memref.isWhole_whole _) cc0_scratch0 := by
    unfold defs₀; rw [Defs.onTc_tc]
  rw [hd]
  refine BIBase.Entails.trans ?_ ((sound m hA c t).trans (wp_mono _ _ _ fun _ => ?_))
  · iintro ⟨HΦ, HW, -⟩
    isplitl [HΦ]; · iexact HΦ
    iexact HW
  · iintro ⟨HΦ, HW⟩
    isplitl [HΦ]; · iexact HΦ
    isplitl [HW]; · iexact HW
    iempintro

/-! ## The run -/

theorem routed_eq (c : Dev nD) (W : (b : Ref sig .tc) → Buf (Elt F) ((c : Thread nD τ).loc b)) :
    (Pipeline.routed R0 c W : sProp 𝕄) = (out.view.loc (c : Thread nD τ) ↦{fullShare} W main_v0) := by
  unfold Pipeline.routed; rw [BI.bigSep_eq_bigSepL_of_eq [main_v0] (by decide) (by decide)]; rfl

theorem read_eq (c : Dev nD) (W : (b : Ref sig .tc) → Buf (Elt F) ((c : Thread nD τ).loc b)) :
    (bigSep H0 (fun b => ((c : Thread nD τ).loc b) ↦{fullShare} W b) : sProp 𝕄) = (tokens.view.loc (c : Thread nD τ) ↦{fullShare} W main_arg0) := by
  rw [BI.bigSep_eq_bigSepL_of_eq [main_arg0] (by decide) (by decide)]; rfl

theorem tables_held (c : Dev nD) :
    (Pipeline.ΦT pre0 (tables m 0).1 c : sProp 𝕄) = (table.view.loc (c : Thread nD τ) ↦{fullShare.right} posOf m c) := by
  have h : (tables m 0).1 0 = posOf m c := (tables_eq m c 0).symm.trans (V_arg1 m c)
  unfold Pipeline.ΦT Pipeline.prefHeld
  rw [BI.bigSep_eq_bigSepL_of_eq [(0 : Fin 1)] (by decide) (by decide)]
  exact congrArg (fun f => (table.view.loc (c : Thread nD τ) ↦{fullShare.right} f : sProp 𝕄)) h

theorem enter (c : Dev nD) :
    iprop(Pipeline.ΦDRG osem0 spec0 H0 R0 (V m) (V m) c ∗ Pipeline.ΦT pre0 (tables m 0).1 c) ⊢ (inv m c 0 : sProp 𝕄) := by
  rw [Pipeline.ΦDRG_eq, scopedRest0_eq, ownSems00_eq, read_eq, routed_eq, tables_held, V_arg0, V_v0]
  unfold inv
  rw [Nat.mul_zero, mix_zero]
  iintro ⟨⟨-, HG, HS, HX, HO⟩, HT⟩
  isplitl [HG]; · iexact HG
  isplitl [HT]; · iexact HT
  isplitl [HS]; · iexact HS
  isplitl [HO]; · iexact HO
  iexact HX

theorem leave (c : Dev nD) : (inv m c 16 : sProp 𝕄) ⊢ Pipeline.ΦDRG osem0 spec0 H0 R0 (V m) (G m) c := by
  rw [Pipeline.ΦDRG_eq, scopedRest0_eq, ownSems00_eq, read_eq, routed_eq, V_arg0, G_v0]
  unfold inv
  iintro ⟨HG, -, HS, HO, HX⟩
  isplitr; · iempintro
  isplitl [HG]; · iexact HG
  isplitl [HS]; · iexact HS
  isplitl [HX]; · iexact HX
  iexact HO

set_option backward.isDefEq.respectTransparency.types false in
theorem run_main (hA : ∀ c, Apart (posOf m c)) : θ_run defs (onTc (τ := τ) (main (F := F))) (s₀ m ρ)
    (fun r => Pipeline.FramePostRG (Pipeline.pin pcfgs (tables m)) (dats m) 0 R0 (V m) (G m) r ∧ r.2.sem = fun _ => 0) :=
  Pipeline.θ_run_frameP_dmaRG (Q' := _) pcfgs (tables m) (dats m) (0 : Fin 1) launch0 osem0 defs₀ Variants.none ownSemFacts0 H0 R0 H0_sub R0_sub m ρ main
    (hbody := fun c => (body_obligation m hA c).loose) (hshare := fun c => (dats m 0 c).share_full fun _ => rfl)
    (howed := fun _ _ => rfl) (V := V m) (hmain := hmain m Variants.none) (hA := fun _ w => w.elim0) (hpf := fun c k => tables_eq m c k)
    (G := G m) (hin := fun c => enter m c)
    (hout := fun c => by
      rw [show (dats m 0 c).Φ (Fin.last _) = inv m c grid0.N from rfl, N_0]
      exact leave m c)
    (hQ' := fun _ h => h)

/-- The dispatch ends with every pair's token in that pair's row, its operands as they were, and no semaphore counting. -/
theorem dispatched (hA : ∀ c, Apart (posOf m c)) :
    θ_run defs (onTc (τ := τ) (main (F := F))) ⟨m, fun _ => 0, ρ⟩ (fun r => (∀ c : Dev nD,
      r.2.mem ((c.tc : Thread nD τ).loc main_v0) = (mix Z (tokOf m c) (posOf m c) 16384 : S24576x4096.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.2 c main_v0 (by decide)).trans (G_v0 m c),
      ((h.1.1 c).2 main_arg0 (Finset.mem_sdiff.mpr ⟨Pipeline.mem_restRefs_of main_arg0 (by decide) (fun w => w.elim0), by decide⟩)).trans (V_arg0 m c),
      ((h.1.1 c).2 main_arg1 (Finset.mem_sdiff.mpr ⟨Pipeline.mem_restRefs_of main_arg1 (by decide) (fun w => w.elim0), by decide⟩)).trans (V_arg1 m c)⟩, h.2⟩)
    (run_main m ρ hA)

end Cert.KernelIdeal.Dispatch

end
-- ==== Proof.Pre.lean ====
module

public import proofs.«01_k».proof.Proof.Rows
public import proofs.«01_k».proof.Proof.Gen.Pre_rows_apart
public import Idealize.ShloMosaic.Lib.ValueIdxCore
public import Idealize.ShloMosaic.Lib.Pipeline.Value

@[expose] public section

/-!
# The precondition in words

The printed precondition, all ones, says of the table what `Apart` does.
-/

namespace Cert.KernelIdeal.Dispatch

open Cert.KernelIdeal Idealize.ShloMosaic Idealize.ShloMosaic.ValueIdx Idealize.ShloMosaic.StableHlo.Predicate

variable {F : FTy → Type} [FloatOps F]

theorem one_of_and {a b : BitVec 1} (h : IntOp.andi a b = 1#1) : a = 1#1 ∧ b = 1#1 := by revert a b; decide
theorem one_of_or {a b : BitVec 1} (h : IntOp.ori a b = 1#1) : a = 1#1 ∨ b = 1#1 := by revert a b; decide

/-- A word from `0` up to the number of the result's rows, compared as a signed one, is one of those rows. -/
theorem word_lt {x : BitVec 32} (h0 : IntOp.cmpi .sge x 0#32 = 1#1) (h1 : IntOp.cmpi .slt x 24576#32 = 1#1) : x.toNat < 24576 := by
  simp only [IntOp.cmpi, ofBool_eq_one_iff, BitVec.sle, BitVec.slt, decide_eq_true_eq] at h0 h1
  have e0 : (0#32).toInt = 0 := by decide
  have e1 : (24576#32).toInt = 24576 := by decide
  rw [e0] at h0
  rw [e1] at h1
  rw [BitVec.toInt_eq_toNat_cond] at h0 h1
  have := x.isLt
  split at h0 <;> omega

theorem word_ne {x y : BitVec 32} (h : IntOp.cmpi .ne x y = 1#1) : x ≠ y := by
  simp only [IntOp.cmpi, ofBool_eq_one_iff, bne_iff_ne] at h
  exact h

/-- What the precondition says of two cells of the table. -/
theorem pre_at [hPre : Cert.Pre_rows_apart.Facts] {X : FVec F S8192x4096 .f32} {pos : S16384.Idx → BitVec 32}
    (h : Cert.Pre_rows_apart.fn (F := F) X pos = fun _ => 1#1) (p q : Fin 16384) :
    (pos (ix1 p)).toNat < 24576 ∧ (pos (ix1 p) ≠ pos (ix1 q) ∨ BitVec.ofNat 32 p.val = BitVec.ofNat 32 q.val) := by
  have e := congrFun h (ix2 p q)
  have hd := one_of_and e
  have e1 : _ = 1#1 := hd.1
  have e2 : _ = 1#1 := hd.2
  have r0 := (broadcastInDim_apply _ _ _ (ix2 p q) (ix2 p (0 : Fin 1)) (by intro a; match a with | ⟨0, _⟩ => rfl | ⟨1, _⟩ => rfl)).symm.trans e1
  have r1 := (broadcastInDim_apply _ _ _ (ix2 p (0 : Fin 1)) (ix1 p) (by intro a; match a with | ⟨0, _⟩ => rfl)).symm.trans r0
  have w := one_of_and r1
  refine ⟨word_lt w.1 w.2, ?_⟩
  rcases one_of_or e2 with e3 | e3
  · refine Or.inl ?_
    have n := word_ne e3
    rw [broadcastInDim_apply _ _ _ (ix2 p q) (ix2 p (0 : Fin 1)) (by intro a; match a with | ⟨0, _⟩ => rfl | ⟨1, _⟩ => rfl),
      broadcastInDim_apply _ _ _ (ix2 p (0 : Fin 1)) (ix1 p) (by intro a; match a with | ⟨0, _⟩ => rfl),
      broadcastInDim_apply _ _ _ (ix2 p q) (ix2 (0 : Fin 1) q) (by intro a; match a with | ⟨0, _⟩ => rfl | ⟨1, _⟩ => rfl),
      broadcastInDim_apply _ _ _ (ix2 (0 : Fin 1) q) (ix1 q) (by intro a; match a with | ⟨0, _⟩ => rfl)] at n
    exact n
  · exact Or.inr (cmpi_eq_iff.1 e3)

theorem cell_eq (p : ℕ) (h : p < 16384) : cell p = ix1 ⟨p, h⟩ := by
  funext a
  match a with
  | ⟨0, _⟩ => exact Fin.ext (Nat.mod_eq_of_lt h)

/-- The printed precondition gives every pair a row of its own. -/
theorem apart_of_pre [hPre : Cert.Pre_rows_apart.Facts] {X : FVec F S8192x4096 .f32} {pos : S16384.Idx → BitVec 32}
    (h : Cert.Pre_rows_apart.fn (F := F) X pos = fun _ => 1#1) : Apart pos where
  lt p hp := by
    rw [row, cell_eq p hp]
    exact (pre_at h ⟨p, hp⟩ ⟨p, hp⟩).1
  inj p q hp hq e := by
    rw [row, row, cell_eq p hp, cell_eq q hq] at e
    rcases (pre_at h ⟨p, hp⟩ ⟨q, hq⟩).2 with n | n
    · exact absurd (BitVec.eq_of_toNat_eq e) n
    · have t := congrArg BitVec.toNat n
      rw [BitVec.toNat_ofNat, BitVec.toNat_ofNat] at t
      change p % 2 ^ 32 = q % 2 ^ 32 at t
      omega

end Cert.KernelIdeal.Dispatch
-- ==== Proof.Value.lean ====
module

public import proofs.«01_k».proof.Proof.Rows
public import proofs.«01_k».proof.Proof.Gen.ReferenceIdeal
public import Idealize.ShloMosaic.Lib.ValueIdxCore
public import Idealize.ShloMosaic.Lib.Pipeline.Value
public import Idealize.ShloMosaic.Lib.Routing.OpsSet
public import Idealize.ShloMosaic.Lib.Routing.OpsPair

@[expose] public section

/-!
# The reference's scatter

The scatter of every token's two copies over zeros is the result after all the pairs.
-/

namespace Cert.KernelIdeal.Dispatch

open Idealize.ShloMosaic Idealize.ShloMosaic.ValueIdx

variable {E : Type}

abbrev scat [Cert.ReferenceIdeal.Facts] := Cert.ReferenceIdeal.scatter_S24576x4096_S16384x1_S16384x4096_1_0_0_1

/-- Where an element of a pair's copy lands: in the row the index names, in its own column. -/
theorem lands [Cert.ReferenceIdeal.Facts] (idx : IVec Cert.ReferenceIdeal.S16384x1 32) (p : Fin 16384) (j : Fin 4096) (r : Fin 24576) (k : Fin 4096) :
    scat.resultIdx? (ix2 p j) idx = some (ix2 r k) ↔ (idx (ix2 p (0 : Fin 1))).toInt = (r.val : ℤ) ∧ j = k := by
  have hs0 : scat.start (ix2 p j) idx 0 = (idx (ix2 p (0 : Fin 1))).toInt := by
    have hsi : scat.siIdx (ix2 p j) ⟨0, Nat.one_pos⟩ = ix2 p (0 : Fin 1) := by
      funext b
      match b with
      | ⟨0, _⟩ => rfl
      | ⟨1, _⟩ => rfl
    exact congrArg (fun x => (idx x).toInt) hsi
  have hs1 : scat.start (ix2 p j) idx 1 = 0 := rfl
  have hw0 : scat.window (ix2 p j) 0 = 0 := rfl
  have hw1 : scat.window (ix2 p j) 1 = j.val := rfl
  rw [Routing.resultIdx?_ix2, hs0, hs1, hw0, hw1, Fin.ext_iff]
  omega

/-- The pair's place in the table, its sign first mended as the reference does: a place that is a row of the result is left as it is. -/
theorem mended {pos : S16384.Idx → BitVec 32} (hA : Apart pos) [Cert.ReferenceIdeal.Facts] (p : Fin 16384) :
    (broadcastInDim Cert.ReferenceIdeal.S16384x1 ![0] Cert.ReferenceIdeal.Facts₀.bcast_S16384_S16384x1_0
        (select (cmpi .slt pos (broadcastInDim S16384 ![] Cert.ReferenceIdeal.Facts₀.bcast_S_S16384 (constantI S_ 32 0#32)))
          (addi pos (broadcastInDim S16384 ![] Cert.ReferenceIdeal.Facts₀.bcast_S_S16384 (constantI S_ 32 24576#32))) pos)
      (ix2 p (0 : Fin 1))).toInt = (row pos p.val : ℤ) := by
  have hc : cell p.val = ix1 p := by
    funext a
    match a with
    | ⟨0, _⟩ => exact Fin.ext (Nat.mod_eq_of_lt p.isLt)
  have hl := hA.lt p.val p.isLt
  rw [row, hc] at hl
  rw [broadcastInDim_apply _ _ _ (ix2 p (0 : Fin 1)) (ix1 p) (by intro a; match a with | ⟨0, _⟩ => rfl), row, hc,
    ← StableHlo.Predicate.toInt_eq_toNat_of_lt (a := pos (ix1 p)) (by omega)]
  exact congrArg BitVec.toInt (Routing.wrap_of_lt (pos (ix1 p)) _ (by omega))

/-- The row a pair carries, out of the tokens each doubled. -/
theorem doubled (X : S8192x4096.Idx → E) [Cert.ReferenceIdeal.Facts] (p : Fin 16384) (j : Fin 4096) :
    (shapeCast Cert.ReferenceIdeal.S16384x4096 (broadcastInDim Cert.ReferenceIdeal.S8192x2x4096 ![0, 2] Cert.ReferenceIdeal.Facts₀.bcast_S8192x4096_S8192x2x4096_0_2 X)
      Cert.ReferenceIdeal.Facts₀.shapeCasts_S8192x2x4096_S16384x4096) (ix2 p j) = X (tok (p.val / 2) j) := by
  have hp := p.isLt
  rw [shapeCast_apply _ _ (ix2 p j) (ix3 (⟨p.val / 2, by omega⟩ : Fin 8192) (⟨p.val % 2, by omega⟩ : Fin 2) j)
    (by
      rw [Shape.rowMajor_val_three, Shape.rowMajor_val_two]
      show (p.val / 2 * 2 + p.val % 2) * 4096 + j.val = p.val * 4096 + j.val
      omega)]
  rw [broadcastInDim_apply _ _ _ _ (tok (p.val / 2) j) (by
      intro a
      match a with
      | ⟨0, _⟩ => exact Nat.mod_eq_of_lt (show p.val / 2 < 8192 by omega)
      | ⟨1, _⟩ => rfl)]

/-- A scatter of rows, each to its pair's row of the result, is the result after all the pairs. -/
theorem scattered_rows [Cert.ReferenceIdeal.Facts] {pos : S16384.Idx → BitVec 32} (hA : Apart pos) (Z : S24576x4096.Idx → E) (X : S8192x4096.Idx → E)
    (idx : IVec Cert.ReferenceIdeal.S16384x1 32) (upd : Cert.ReferenceIdeal.S16384x4096.Idx → E)
    (hi : ∀ p : Fin 16384, (idx (ix2 p (0 : Fin 1))).toInt = (row pos p.val : ℤ))
    (hu : ∀ (p : Fin 16384) (j : Fin 4096), upd (ix2 p j) = X (tok (p.val / 2) j)) :
    Host.scatter scat (fun _ b => b) Z idx upd = mix Z X pos 16384 := by
  have key : ∀ (r : Fin 24576) (k : Fin 4096), Host.scatter scat (fun _ b => b) Z idx upd (ix2 r k) = mix Z X pos 16384 (ix2 r k) := fun r k => by
    have hl : ∀ (p : Fin 16384) (j : Fin 4096), scat.resultIdx? (ix2 p j) idx = some (ix2 r k) ↔ row pos p.val = r.val ∧ j = k := fun p j => by
      rw [lands, hi, Int.ofNat_inj]
    by_cases h : ∃ p : Fin 16384, row pos p.val = r.val
    · obtain ⟨p, hp⟩ := h
      refine (Routing.scatter_set_hit scat Z idx upd (ix2 r k) (X (tok (p.val / 2) k)) (fun q hq => ?_) (ix2 p k) ((hl p k).2 ⟨hp, rfl⟩)).trans
        (mix_hit hA le_rfl p.isLt (y := ix2 r k) hp.symm).symm
      obtain ⟨p', j, rfl⟩ : ∃ (p' : Fin 16384) (j : Fin 4096), q = ix2 p' j := ⟨q 0, q 1, eq_ix2 q⟩
      have hq := (hl p' j).1 hq
      rw [hu, hq.2, show p' = p from Fin.ext (hA.inj _ _ p'.isLt p.isLt (hq.1.trans hp.symm))]
    · refine (Routing.scatter_set_miss scat Z idx upd (ix2 r k) fun q hq => ?_).trans (mix_miss fun p hp e => h ⟨⟨p, hp⟩, e⟩).symm
      obtain ⟨p', j, rfl⟩ : ∃ (p' : Fin 16384) (j : Fin 4096), q = ix2 p' j := ⟨q 0, q 1, eq_ix2 q⟩
      exact h ⟨p', ((hl p' j).1 hq).1⟩
  funext y
  rw [eq_ix2 y]
  exact key (y 0) (y 1)

end Cert.KernelIdeal.Dispatch
-- ==== Proof.ExpertsSame.lean ====
module

public import proofs.«01_k».proof.Defs
public import proofs.«01_k».proof.Proof.Gen.Kernel2
public import proofs.«01_k».proof.Proof.Gen.Kernel2Ideal

@[expose] public section

/-!
# The two prints of the experts are one program

Nothing is rewritten between them, so at the float words they agree in their body table and in their host program.
-/

noncomputable section

namespace Cert.Kernel2Ideal.Experts

open Idealize.ShloMosaic Idealize.ShloMosaic.TcCoe

theorem same_sig : Cert.Kernel2.sig = Cert.Kernel2Ideal.sig := rfl
theorem same_labels : Cert.Kernel2.Λ₀ = Cert.Kernel2Ideal.Λ₀ := rfl
theorem same_contents : (fun p => (Cert.Kernel2.pcfgs (F := Bits) p).Adm) = (fun p => (Cert.Kernel2Ideal.pcfgs (F := Bits) p).Adm) := rfl

theorem same_table : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

theorem same_defs : Cert.Kernel2.defs (F := Bits) = Cert.Kernel2Ideal.defs (F := Bits) := by
  unfold Cert.Kernel2.defs Cert.Kernel2Ideal.defs
  rw [same_table]; rfl

set_option maxHeartbeats 2000000 in
theorem same_main : Cert.Kernel2.main (F := Bits) = Cert.Kernel2Ideal.main (F := Bits) := by
  unfold Cert.Kernel2.main Cert.Kernel2Ideal.main Cert.Kernel2.fn_floor_divide.body Cert.Kernel2Ideal.fn_floor_divide.body Cert.Kernel2.fn_cumsum.body Cert.Kernel2Ideal.fn_cumsum.body Cert.Kernel2.fn_searchsorted.body Cert.Kernel2Ideal.fn_searchsorted.body Cert.Kernel2.fn_where.body Cert.Kernel2Ideal.fn_where.body Cert.Kernel2.fn_cumsum_0.body Cert.Kernel2Ideal.fn_cumsum_0.body Cert.Kernel2.fn_searchsorted_compare_all_impl.body Cert.Kernel2Ideal.fn_searchsorted_compare_all_impl.body
  dsimp only [same_sig, same_labels, same_contents]
  rfl

end Cert.Kernel2Ideal.Experts
-- ==== Proof.ExpertsStart.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.IndicatorCount
public import Idealize.ShloMosaic.Lib.Tactic

@[expose] public section

/-!
# The experts' call at its start

What the host hands the call: the tile ends (a running sum of the tiles each expert gets), from them the expert of each tile and
the bit that says whether the tile carries tokens. The two tables' entries are bounded here.
-/

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-! ## The host's integer arithmetic -/

/-- Counts plus a tile less one: the numerator of the rounded-up division. -/
def padded (n : S32.Idx → BitVec 32) : S32.Idx → BitVec 32 :=
  subi (addi n (broadcastInDim S32 ![] bcast_S_S32 (constantI S_ 32 256#32))) (broadcastInDim S32 ![] bcast_S_S32 (constantI S_ 32 1#32))

/-- The floored quotient by a tile. -/
def tiles (n : S32.Idx → BitVec 32) : S32.Idx → BitVec 32 :=
  select
    (andi
      (cmpi .ne (signi (padded n)) (broadcastInDim S32 ![] bcast_S_S32 (signi (id (constantI S_ 32 256#32)))))
      (cmpi .ne (Host.remsi (padded n) (broadcastInDim S32 ![] bcast_S_S32 (id (constantI S_ 32 256#32)))) (broadcastInDim S32 ![] bcast_S_S32 (constantI S_ 32 0#32))))
    (subi (Host.divsi (padded n) (broadcastInDim S32 ![] bcast_S_S32 (id (constantI S_ 32 256#32)))) (broadcastInDim S32 ![] bcast_S_S32 (constantI S_ 32 1#32)))
    (Host.divsi (padded n) (broadcastInDim S32 ![] bcast_S_S32 (id (constantI S_ 32 256#32))))

/-- The tile at which each expert's tiles end. -/
def tileEnds (n : S32.Idx → BitVec 32) : S32.Idx → BitVec 32 :=
  Host.reduceWindow IntOp.addi ![32] ![1] ![31] ![0] (tiles n) (broadcastInDim S_ ![] bcast_S_S_ (constantI S_ 32 0#32)) reduceWindows_S32_S32_w32s1p31_0 h_S_

/-- The last end: how many tiles carry tokens. -/
def lastEnd (e : S32.Idx → BitVec 32) : S_.Idx → BitVec 32 :=
  shapeCast S_ (extractStridedSlice S1 ![31] e slices_S32_S1_31) shapeCasts_S1_S_

/-- The tile asked for: the tile itself, or the last one carrying tokens. -/
def asked (e : S32.Idx → BitVec 32) : S96.Idx → BitVec 32 :=
  minsi (iotaInDim S96 32 0) (broadcastInDim S96 ![] bcast_S_S96 (subi (lastEnd e) (constantI S_ 32 1#32)))

/-- How many ends lie at or before the tile asked for. -/
def ended (e : S32.Idx → BitVec 32) : S96.Idx → BitVec 32 :=
  Host.reduce IntOp.addi
    (extui 32 (cmpi .sle (broadcastInDim S32x96 ![0, 1] bcast_S32x1_S32x96_0_1 (broadcastInDim S32x1 ![0] bcast_S32_S32x1_0 e))
      (broadcastInDim S32x96 ![0, 1] bcast_S1x96_S32x96_0_1 (broadcastInDim S1x96 ![1] bcast_S96_S1x96_1 (asked e)))) natLt_1_32)
    (constantI S_ 32 0#32) reducesTo_S32x96_S96_d0 h_S_

/-- The expert of each tile, and the bit saying that the tile carries tokens. -/
def tileExpert (e : S32.Idx → BitVec 32) : S96.Idx → BitVec 32 :=
  minsi (ended e) (broadcastInDim S96 ![] bcast_S_S96 (constantI S_ 32 31#32))
def tileOn (e : S32.Idx → BitVec 32) : S96.Idx → BitVec 32 :=
  extui 32 (cmpi .slt (iotaInDim S96 32 0) (broadcastInDim S96 ![] bcast_S_S96 (lastEnd e))) natLt_1_32

/-! ## The buffers when the call starts -/

abbrev hostOps : List (HloOp τ sig (Elt F)) :=
  List.flatten [hostOps0, hostOps0_1, hostOps0_2, hostOps0_3, hostOps0_4, hostOps0_5]

def V (c : Dev nD) (b : Ref sig .tc) : Buf (Elt F) ((c : Thread nD τ).loc b) := StableHlo.after hostOps (fun b => m (c, b)) b

theorem V_arg0 (c : Dev nD) : V m c main_arg0 = m ((c : Thread nD τ).loc main_arg0) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg1 (c : Dev nD) : V m c main_arg1 = m ((c : Thread nD τ).loc main_arg1) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg2 (c : Dev nD) : V m c main_arg2 = m ((c : Thread nD τ).loc main_arg2) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg3 (c : Dev nD) : V m c main_arg3 = m ((c : Thread nD τ).loc main_arg3) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg4 (c : Dev nD) : V m c main_arg4 = m ((c : Thread nD τ).loc main_arg4) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg5 (c : Dev nD) : V m c main_arg5 = m ((c : Thread nD τ).loc main_arg5) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results

/-- The tile ends of the call's counts. -/
def endsOf (c : Dev nD) : S32.Idx → BitVec 32 := tileEnds (m ((c : Thread nD τ).loc main_arg1))

theorem V_v21 (c : Dev nD) : V m c main_v21 = (shapeCast S1x4096 (m ((c : Thread nD τ).loc main_arg2)) shapeCasts_S4096_S1x4096 : S1x4096.Idx → Elt F .f32) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results; rfl
theorem V_v20 (c : Dev nD) : V m c main_v20 = (tileOn (endsOf m c) : S96.Idx → BitVec 32) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results; rfl
theorem V_v14 (c : Dev nD) : V m c main_v14 = (tileExpert (endsOf m c) : S96.Idx → BitVec 32) := by
  unfold V; simp only [hostOps, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results; rfl

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; refine ⟨?_, ?_, ?_, ?_, ?_, ?_⟩ <;> (repeat' constructor))
    main_chain

end Cert.Kernel2Ideal.Experts
-- ==== Proof.ExpertsTables.lean ====
module

public import proofs.«01_k».proof.Proof.ExpertsStart
public import Idealize.ShloMosaic.Lib.Pipeline.Value
public import Idealize.ShloMosaic.Lib.Pointwise.ElementwiseCore
public import Idealize.ShloMosaic.Lib.ValueIdxCore
public import Idealize.ShloMosaic.Lib.ValueIdxCoords

@[expose] public section

/-!
# The two tables, entry by entry

A tile's expert is the number of tile ends at or before it, at most 31; its bit is one when it lies before the last end.
-/

set_option maxRecDepth 16384

noncomputable section

namespace Cert.Kernel2Ideal.Experts

open Cert.Kernel2Ideal Cert.Kernel2Ideal.Gen
open Idealize.ShloMosaic Idealize.ShloMosaic.ValueIdx

/-- How many of the ends `e` lie at or before `x`. -/
def countEnds (e : S32.Idx → BitVec 32) (x : BitVec 32) : ℕ :=
  (Finset.univ.filter fun k : Fin 32 => (IntOp.cmpi .sle (e (ix1 k)) x : BitVec 1) = 1#1).card

theorem countEnds_le (e : S32.Idx → BitVec 32) (x : BitVec 32) : countEnds e x ≤ 32 :=
  (Finset.card_filter_le _ _).trans (by simp)

theorem lastEnd_eq (e : S32.Idx → BitVec 32) (j : S_.Idx) : lastEnd e j = e (ix1 31) := by
  unfold lastEnd
  rw [shapeCast_apply _ _ _ (ix1 0) ((Nat.lt_one_iff.mp (Fin.isLt _)).trans (Nat.lt_one_iff.mp (Fin.isLt _)).symm)]
  exact extractStridedSlice_apply _ _ _ _ _ fun a => by fin_cases a; rfl

theorem asked_eq (e : S32.Idx → BitVec 32) (i : Fin 96) :
    asked e (ix1 i) = IntOp.minsi (BitVec.ofNat 32 i.val) (e (ix1 31) - 1#32) := by
  show IntOp.minsi _ (lastEnd e _ - 1#32) = _
  rw [lastEnd_eq]; rfl

theorem ended_eq (e : S32.Idx → BitVec 32) (i : Fin 96) :
    ended e (ix1 i) = BitVec.ofNat 32 (countEnds e (asked e (ix1 i))) := by
  unfold ended countEnds
  rw [Host.reduce_eq_fold_single IntOp.addi _ _ reducesTo_S32x96_S96_d0 (by decide) h_S_ (ix1 i),
    ← IndicatorCount.fold_addi_setWidth_eq_card]
  refine Finset.fold_congr fun k _ => ?_
  show (IntOp.cmpi .sle (e _) (asked e _) : BitVec 1).setWidth 32 = _
  congr 3
  · funext a; fin_cases a; rfl
  · funext a; fin_cases a; rfl

theorem tileOn_eq (e : S32.Idx → BitVec 32) (i : Fin 96) :
    tileOn e (ix1 i) = (IntOp.cmpi .slt (BitVec.ofNat 32 i.val) (e (ix1 31)) : BitVec 1).setWidth 32 := by
  show (IntOp.cmpi .slt _ (lastEnd e _) : BitVec 1).setWidth 32 = _
  rw [lastEnd_eq]; rfl

/-- Fewer than 2³¹ as an unsigned word is the same as a signed one: a count of at most 32, capped at 31. -/
theorem capped (k : ℕ) (h : k ≤ 32) : IntOp.minsi (BitVec.ofNat 32 k) 31#32 = BitVec.ofNat 32 (min k 31) := by
  revert h; revert k
  decide

theorem tileExpert_eq (e : S32.Idx → BitVec 32) (i : Fin 96) :
    tileExpert e (ix1 i) = BitVec.ofNat 32 (min (countEnds e (asked e (ix1 i))) 31) := by
  show IntOp.minsi (ended e (ix1 i)) 31#32 = _
  rw [ended_eq]; exact capped _ (countEnds_le _ _)

theorem tileExpert_lt (e : S32.Idx → BitVec 32) (i : S96.Idx) : (tileExpert e i).toNat < 32 := by
  obtain ⟨k, rfl⟩ : ∃ k : Fin 96, i = ix1 k := ⟨i 0, by funext a; fin_cases a; rfl⟩
  rw [tileExpert_eq, BitVec.toNat_ofNat]
  omega

/-- A tile before the last end. -/
def On (e : S32.Idx → BitVec 32) (i : Fin 96) : Prop := (BitVec.ofNat 32 i.val).slt (e (ix1 31)) = true
instance (e : S32.Idx → BitVec 32) (i : Fin 96) : Decidable (On e i) := inferInstanceAs (Decidable (_ = true))

theorem tileOn_one {e : S32.Idx → BitVec 32} {i : Fin 96} (h : On e i) : tileOn e (ix1 i) = 1#32 := by
  rw [tileOn_eq]; show (BitVec.ofBool ((BitVec.ofNat 32 i.val).slt (e (ix1 31)))).setWidth 32 = _
  rw [show (BitVec.ofNat 32 i.val).slt (e (ix1 31)) = true from h]; rfl

theorem tileOn_zero {e : S32.Idx → BitVec 32} {i : Fin 96} (h : ¬ On e i) : tileOn e (ix1 i) = 0#32 := by
  rw [tileOn_eq]; show (BitVec.ofBool ((BitVec.ofNat 32 i.val).slt (e (ix1 31)))).setWidth 32 = _
  rw [Bool.eq_false_of_not_eq_true h]; rfl

/-- A tile before the last end asks for itself. -/
theorem asked_on {e : S32.Idx → BitVec 32} {i : Fin 96} (h : On e i) : asked e (ix1 i) = BitVec.ofNat 32 i.val := by
  rw [asked_eq]
  unfold On at h
  generalize e (ix1 31) = x at h ⊢
  have hi := i.isLt
  have hv : (BitVec.ofNat 32 i.val).toInt = i.val := by
    rw [BitVec.toInt_eq_toNat_of_lt (by rw [BitVec.toNat_ofNat]; omega), BitVec.toNat_ofNat]; omega
  have hx : (i.val : ℤ) < x.toInt := by
    have := BitVec.slt_iff_toInt_lt.mp h; rwa [hv] at this
  have hx' := x.toInt_lt
  have hs : (x - 1#32).toInt = x.toInt - 1 := by
    rw [BitVec.toInt_sub]; exact Int.bmod_eq_of_le (by simp; omega) (by simp at hx' ⊢; omega)
  unfold IntOp.minsi
  split
  · rfl
  · rename_i hn
    apply BitVec.eq_of_toInt_eq
    have : ¬ ((BitVec.ofNat 32 i.val).toInt < (x - 1#32).toInt) := fun hh => hn (BitVec.slt_iff_toInt_lt.mpr hh)
    rw [hs, hv] at this ⊢; omega

/-- Its expert is the number of ends at or before it, and is one of the thirty-two. -/
theorem countEnds_on {e : S32.Idx → BitVec 32} {i : Fin 96} (h : On e i) : countEnds e (BitVec.ofNat 32 i.val) < 32 := by
  unfold countEnds
  refine lt_of_lt_of_eq (Finset.card_lt_card (Finset.filter_ssubset.mpr ⟨31, Finset.mem_univ _, ?_⟩)) (by simp)
  intro hc
  have h1 : (e (ix1 31)).sle (BitVec.ofNat 32 i.val) = true := by
    have : BitVec.ofBool ((e (ix1 31)).sle (BitVec.ofNat 32 i.val)) = 1#1 := hc
    cases hb : (e (ix1 31)).sle (BitVec.ofNat 32 i.val)
    · rw [hb] at this; exact absurd this (by decide)
    · rfl
  have h2 := BitVec.slt_iff_toInt_lt.mp h
  have h3 := BitVec.sle_iff_toInt_le.mp h1
  omega

theorem tileExpert_on {e : S32.Idx → BitVec 32} {i : Fin 96} (h : On e i) :
    (tileExpert e (ix1 i)).toNat = countEnds e (BitVec.ofNat 32 i.val) := by
  have := countEnds_on h
  rw [tileExpert_eq, asked_on h, BitVec.toNat_ofNat]
  omega

end Cert.Kernel2Ideal.Experts
-- ==== Proof.ExpertsPoint.lean ====
module

public import proofs.«01_k».proof.Proof.ExpertsTables
public import Idealize.ShloMosaic.Lib.Pipeline.FrameBody
public import Idealize.ShloMosaic.Lib.Ring
public import Idealize.ShloMosaic.Lib.WordCmp

@[expose] public section

/-!
# One tile

A tile that carries tokens leaves its expert's output in the staged block; any other leaves zeros.
-/

set_option maxRecDepth 16384

noncomputable section

namespace Cert.Kernel2Ideal.Experts

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body gets them. -/
abbrev expertTab : Memref sig .tc .smem S96 .i32 := Memref.whole main_v14
abbrev onTab : Memref sig .tc .smem S96 .i32 := Memref.whole main_v20
abbrev TabBuf (c : Dev nD) (M : Memref sig .tc .smem S96 .i32) : Type := Buf (Elt F) (M.view.loc (c : Thread nD τ))
abbrev tabHeld (c : Dev nD) (M : Memref sig .tc .smem S96 .i32) (f : TabBuf (F := F) c M) : sProp 𝕄 :=
  M.view.loc (c : Thread nD τ) ↦{fullShare.right} f

/-- The body on any whole blocks: the five inputs kept, the output at `y`. -/
def Leaves (c : Dev nD) (i : grid0.Coords) (a1 a2 : S96.Idx → BitVec 32)
    (x0 : Vec F S256x4096 .f32) (x1 : Vec F S1x4096 .f32) (x2 x3 : Vec F S1x1x4096x256 .f32) (x4 : Vec F S1x1x256x4096 .f32)
    (y : Vec F S256x4096 .f32) : Prop :=
  ∀ (arg3 : Memref sig .tc .vmem S256x4096 .f32) (harg3 : arg3.IsWhole) (arg4 : Memref sig .tc .vmem S1x4096 .f32) (harg4 : arg4.IsWhole)
    (arg5 : Memref sig .tc .vmem S1x1x4096x256 .f32) (harg5 : arg5.IsWhole) (arg6 : Memref sig .tc .vmem S1x1x4096x256 .f32) (harg6 : arg6.IsWhole)
    (arg7 : Memref sig .tc .vmem S1x1x256x4096 .f32) (harg7 : arg7.IsWhole) (arg8 : Memref sig .tc .vmem S256x4096 .f32) (harg8 : arg8.IsWhole)
    (E : Set ℕ) (K : PUnit → sProp 𝕄),
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ tabHeld c expertTab a1 ∗ tabHeld c onTab a2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare y
            ∗ tabHeld c expertTab a1 ∗ tabHeld c onTab a2) -∗ K ⟨⟩))
      ⊢ wp frame (wpE (defs₀ (F := F)) Variants.none c none) E
          (cc0_moe_experts i expertTab (Memref.isWhole_whole _) onTab (Memref.isWhole_whole _) arg3 harg3 arg4 harg4 arg5 harg5 arg6 harg6 arg7 harg7 arg8 harg8) K

theorem zeros2 : (![0, 0] : Fin 2 → ℕ) = fun _ => 0 := by funext a; fin_cases a <;> rfl
theorem zeros4 : (![0, 0, 0, 0] : Fin 4 → ℕ) = fun _ => 0 := by funext a; fin_cases a <;> rfl

/-- A block stored whole reads back. -/
theorem read_stored (arg8 : Memref sig .tc .vmem S256x4096 .f32) (f : BufTy.Contents (Elt F) arg8.view.ty) (p : Vec F S256x4096 .f32) :
    arg8.view.read (Elt F) (arg8.view.writes (Elt F) f
      [(⟨Rect.unit ![0, 0] S256x4096.size inb_S256x4096_S256x4096_0_0, p⟩ : View.Piece (Elt F) S256x4096 .f32)]) = p := by
  funext y
  have h := View.read_writes_of_unique (v := arg8.view) (f := f) (⟨Rect.unit ![0, 0] S256x4096.size inb_S256x4096_S256x4096_0_0, p⟩ : View.Piece (Elt F) S256x4096 .f32) y
    [_] (List.mem_singleton_self _) (fun q hq _ => List.mem_singleton.mp hq)
  have e : (Rect.unit (s := S256x4096) ![0, 0] S256x4096.size inb_S256x4096_S256x4096_0_0).emb y = y := by
    funext a; apply Fin.ext; fin_cases a <;> simp [Rect.emb, Rect.unit]
  exact (congrArg _ e.symm).trans h

/-- The output where the word is zero: zeros. -/
theorem read_off (arg8 : Memref sig .tc .vmem S256x4096 .f32) (f g : BufTy.Contents (Elt F) arg8.view.ty) (w : BitVec 32) (hw : w = 0#32) :
    arg8.view.read (Elt F) (if _hc : k0_cond2 w = 1#1 then arg8.view.writes (Elt F) f
      [(⟨Rect.unit ![0, 0] S256x4096.size inb_S256x4096_S256x4096_0_0, k0_pay2⟩ : View.Piece (Elt F) S256x4096 .f32)] else g) = k0_pay2 (F := F) := by
  rw [dif_pos (by rw [hw]; decide)]; exact read_stored _ _ _

/-- The output where the word is one: the expert's product. -/
theorem read_on (arg8 : Memref sig .tc .vmem S256x4096 .f32) (f g h : BufTy.Contents (Elt F) arg8.view.ty) (w w' : BitVec 32) (hw : w = 1#32) (hw' : w' = 1#32)
    (p : Vec F S256x4096 .f32) :
    arg8.view.read (Elt F) (if _hc : k0_cond2 w' = 1#1 then g else if _hc : k0_cond1 w = 1#1 then arg8.view.writes (Elt F) f
      [(⟨Rect.unit ![0, 0] S256x4096.size inb_S256x4096_S256x4096_0_0, p⟩ : View.Piece (Elt F) S256x4096 .f32)] else h) = p := by
  rw [dif_neg (by rw [hw']; decide), dif_pos (by rw [hw]; decide)]; exact read_stored _ _ _

/-- A block loaded whole is what it holds. -/
theorem loaded {S : Shape} {e : EltTy} (arg : Memref sig .tc .vmem S e) {off : Fin S.rank → ℕ} (h : off = fun _ => 0)
    (inb : ∀ a, off a + S.size a ≤ S.size a) (f : BufTy.Contents (Elt F) arg.view.ty) (x : S.Idx → Elt F e) (hf : arg.view.read (Elt F) f = x) :
    arg.view.readAt (Elt F) (Rect.unit off S.size inb).toLoadRect f = x :=
  (View.ld_unit_zero h inb (arg.view.read (Elt F) f)).trans hf

/-- The word of a table loaded at a point is the point's entry. -/
theorem word_at (a : S96.Idx → BitVec 32) (i : grid0.Coords) (off : Fin 1 → ℕ) (ho : off = ![(i 0).val])
    (inb : ∀ b, off b + S1.size b ≤ S96.size b) (hp : 0 < S1.numel) :
    (View.readAt (Elt F) onTab.view (Rect.unit (s := S96) off S1.size inb).toLoadRect a (Shape.Idx.first hp) : BitVec 32) = a (ix1 (i 0)) := by
  subst ho
  refine congrArg a (funext fun b => Fin.ext ?_)
  fin_cases b
  show (i 0).val + 1 * 0 = (i 0).val
  omega

theorem leaves_off (c : Dev nD) (i : grid0.Coords) (a1 a2 : S96.Idx → BitVec 32)
    (x0 : Vec F S256x4096 .f32) (x1 : Vec F S1x4096 .f32) (x2 x3 : Vec F S1x1x4096x256 .f32) (x4 : Vec F S1x1x256x4096 .f32)
    (h : a2 (ix1 (i 0)) = 0#32) : Leaves c i a1 a2 x0 x1 x2 x3 x4 (k0_pay2 (F := F)) := by
  intro arg3 harg3 arg4 harg4 arg5 harg5 arg6 harg6 arg7 harg7 arg8 harg8 E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine read_off arg8 _ _ _ ?_
    rw [← h]; unfold leaves_off.sl.r_3; exact word_at _ _ _ (k0_off2_eq i) _ _
  isplitl [HT0]; · iexact HT0
  iexact HT1

theorem leaves_on (c : Dev nD) (i : grid0.Coords) (a1 a2 : S96.Idx → BitVec 32)
    (x0 : Vec F S256x4096 .f32) (x1 : Vec F S1x4096 .f32) (x2 x3 : Vec F S1x1x4096x256 .f32) (x4 : Vec F S1x1x256x4096 .f32)
    (h : a2 (ix1 (i 0)) = 1#32) : Leaves c i a1 a2 x0 x1 x2 x3 x4 (k0_pay1 (F := F) (k0_pay3 x0 x1 x2 x3) (k0_pay4 x4)) := by
  intro arg3 harg3 arg4 harg4 arg5 harg5 arg6 harg6 arg7 harg7 arg8 harg8 E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (read_on arg8 _ _ _ _ _ ?_ ?_ _).trans ?_
    · rw [← h]; unfold leaves_on.sl.r; exact word_at _ _ _ (k0_off1_eq i) _ _
    · rw [← h]; unfold leaves_on.sl.r_3; exact word_at _ _ _ (k0_off2_eq i) _ _
    · unfold leaves_on.sl.r_1 leaves_on.sl.r_2;
      rw [loaded arg3 zeros2 _ _ _ hf0, loaded arg4 zeros2 _ _ _ hf1, loaded arg5 zeros4 _ _ _ hf2, loaded arg6 zeros4 _ _ _ hf3, loaded arg7 zeros4 _ _ _ hf4]
  isplitl [HT0]; · iexact HT0
  iexact HT1

end Cert.Kernel2Ideal.Experts
-- ==== Proof.ExpertsRun.lean ====
module

public import proofs.«01_k».proof.Proof.ExpertsPoint
public import Idealize.ShloMosaic.Lib.Pipeline.FrameBody

@[expose] public section

/-!
# The experts' whole call

The ninety-six tiles one after another: the result's blocks are the tiles' outputs, and the arguments are as they were.
-/

set_option maxRecDepth 16384

noncomputable section

namespace Cert.Kernel2Ideal.Experts

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The tables' contents at entry. -/
def tabs : pre0.Contents (Elt F) := fun k => V m 0 (pre0.ref k)

theorem tabs_eq (c : Dev nD) (k : Fin pre0.K) : V m c (pre0.ref k) = tabs m k := by
  obtain rfl : c = 0 := Subsingleton.elim _ _
  rfl

theorem tabs_expert : (tabs m 0 : S96.Idx → BitVec 32) = tileExpert (endsOf m 0) := V_v14 m 0
theorem tabs_on : (tabs m 1 : S96.Idx → BitVec 32) = tileOn (endsOf m 0) := V_v20 m 0

/-- The expert's word as the index maps read it. -/
theorem at_expert (pf : pre0.Contents (Elt F)) (i : grid0.Coords) (off : Fin 1 → ℕ) (ho : off = ![(i 0).val]) (inb : ∀ b, off b + S1.size b ≤ S96.size b) :
    (pf.at 0 (Rect.unit (s := S96) off S1.size inb) numel1_S1 : BitVec 32) = (pf 0 : S96.Idx → BitVec 32) (ix1 (i 0)) := by
  subst ho
  refine congrArg (pf 0 : S96.Idx → BitVec 32) (funext fun b => Fin.ext ?_)
  fin_cases b
  show (i 0).val + 1 * 0 = (i 0).val
  omega

theorem index2 (pf : pre0.Contents (Elt F)) (i : grid0.Coords) :
    cc0_transform_2 k0_off1_inb numel1_S1 pf i = ![0, ((pf 0 : S96.Idx → BitVec 32) (ix1 (i 0))).toNat, 0, 0] := by
  rw [← at_expert pf i _ (k0_off1_eq i) (k0_off1_inb i)]; rfl
theorem index3 (pf : pre0.Contents (Elt F)) (i : grid0.Coords) :
    cc0_transform_3 k0_off1_inb numel1_S1 pf i = ![0, ((pf 0 : S96.Idx → BitVec 32) (ix1 (i 0))).toNat, 0, 0] := by
  rw [← at_expert pf i _ (k0_off1_eq i) (k0_off1_inb i)]; rfl
theorem index4 (pf : pre0.Contents (Elt F)) (i : grid0.Coords) :
    cc0_transform_4 k0_off1_inb numel1_S1 pf i = ![0, ((pf 0 : S96.Idx → BitVec 32) (ix1 (i 0))).toNat, 0, 0] := by
  rw [← at_expert pf i _ (k0_off1_eq i) (k0_off1_inb i)]; rfl

theorem expert_lt (i : S96.Idx) : ((tabs m 0 : S96.Idx → BitVec 32) i).toNat < 32 := by
  rw [tabs_expert]; exact tileExpert_lt _ _

theorem inside (n : ℕ) (h : n < 32) (a : Fin 4) : ((![0, n, 0, 0] : Fin 4 → ℕ) a + 1) * S1x1x4096x256.size a ≤ S4x32x4096x256.size a := by
  fin_cases a
  · show (0 + 1) * 1 ≤ 4; omega
  · show (n + 1) * 1 ≤ 32; omega
  · show (0 + 1) * 4096 ≤ 4096; omega
  · show (0 + 1) * 256 ≤ 256; omega

theorem inside' (n : ℕ) (h : n < 32) (a : Fin 4) : ((![0, n, 0, 0] : Fin 4 → ℕ) a + 1) * S1x1x256x4096.size a ≤ S4x32x256x4096.size a := by
  fin_cases a
  · show (0 + 1) * 1 ≤ 4; omega
  · show (n + 1) * 1 ≤ 32; omega
  · show (0 + 1) * 256 ≤ 256; omega
  · show (0 + 1) * 4096 ≤ 4096; omega

/-- Every block of the weights lies in its array. -/
theorem ok : ok0 (F := F) (tabs m) := by
  refine ⟨fun i => ⟨?_, .inl rfl⟩, fun i => ⟨?_, .inl rfl⟩, fun i => ⟨?_, .inl rfl⟩⟩
  · rw [index2]; exact inside _ (expert_lt m _)
  · rw [index3]; exact inside _ (expert_lt m _)
  · rw [index4]; exact inside' _ (expert_lt m _)

abbrev held : (pcfg0 (F := F)).Adm := ⟨tabs m, ok m⟩
abbrev cfgH : Cfg sig Λ₀ := cfg0 (held m)

theorem tabs_held (c : Dev nD) :
    (Pipeline.ΦT pre0 (tabs m) c : sProp 𝕄) = iprop(tabHeld c expertTab (tabs m 0) ∗ tabHeld c onTab (tabs m 1)) := by
  unfold Pipeline.ΦT Pipeline.prefHeld
  rw [show (Finset.univ : Finset (Fin 2)) = insert (0 : Fin 2) {(1 : Fin 2)} from by decide, bigSep_insert (by decide), bigSep_singleton]
  rfl

/-! ## The blocks -/

/-- Window `w`'s block at point `t`. -/
def blk (c : Dev nD) (w : Fin (cfgH m).W) (t : Fin (cfgH m).N) : (((cfgH m).win w).xblock ((cfgH m).grid.coords t)).Idx → Elt F ((cfgH m).win w).elt :=
  (((cfgH m).win w).blk t).view.read (Elt F) (V m c (Pipeline.arrRef spec0 w))

/-- The tile of a point. -/
def tile (t : Fin grid0.N) : Fin 96 := grid0.coords t 0

/-- What a tile leaves. -/
def leaves (c : Dev nD) (t : Fin grid0.N) : Vec F S256x4096 .f32 :=
  if On (endsOf m 0) (tile t) then k0_pay1 (k0_pay3 (blk m c 0 t) (blk m c 1 t) (blk m c 2 t) (blk m c 3 t)) (k0_pay4 (blk m c 4 t)) else k0_pay2

def dats (_ : Fin 1) (c : Dev nD) : Dat τ (Elt F) Unit ℕ (UR sig nD τ) ℕ (cfgH m) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => leaves m c t
  Φ _ := iprop(Pipeline.ΦA spec0 c ∗ Pipeline.ΦT pre0 (tabs m) c)
  q _ := fullShare
  owed _ := 0

theorem dats_A (c : Dev nD) (w : Fin (cfgH m).W) : (dats m 0 c).A w = V m c (Pipeline.arrRef spec0 w) := by dsimp only [dats]

theorem after0 (c : Dev nD) (t : Fin (cfgH m).N) : (dats m 0 c).after 0 t = blk m c 0 t := by dsimp only [dats]; try rfl
theorem after1 (c : Dev nD) (t : Fin (cfgH m).N) : (dats m 0 c).after 1 t = blk m c 1 t := by dsimp only [dats]; try rfl
theorem after2 (c : Dev nD) (t : Fin (cfgH m).N) : (dats m 0 c).after 2 t = blk m c 2 t := by dsimp only [dats]; try rfl
theorem after3 (c : Dev nD) (t : Fin (cfgH m).N) : (dats m 0 c).after 3 t = blk m c 3 t := by dsimp only [dats]; try rfl
theorem after4 (c : Dev nD) (t : Fin (cfgH m).N) : (dats m 0 c).after 4 t = blk m c 4 t := by dsimp only [dats]; try rfl
theorem after5 (c : Dev nD) (t : Fin (cfgH m).N) : (dats m 0 c).after 5 t = leaves m c t := by dsimp only [dats]; try rfl

/-! Each input's staged buffer holds its block. -/

theorem before0 (c : Dev nD) (t : Fin (cfgH m).N) (d) : (dats m 0 c).before 0 t d = blk m c 0 t :=
  ((dats m 0 c).before_in_eq_fetched 0 rfl (fun _ => rfl) (fun _ _ _ => rfl) (fun t => by rw [after0]; unfold Dat.blockOf blk; rw [dats_A]; try rfl) t d).trans
    (by unfold Dat.fetched Dat.blockOf blk; rw [dats_A]; try rfl)
theorem before1 (c : Dev nD) (t : Fin (cfgH m).N) (d) : (dats m 0 c).before 1 t d = blk m c 1 t :=
  ((dats m 0 c).before_in_eq_fetched 1 rfl (fun _ => rfl) (fun _ _ _ => rfl) (fun t => by rw [after1]; unfold Dat.blockOf blk; rw [dats_A]; try rfl) t d).trans
    (by unfold Dat.fetched Dat.blockOf blk; rw [dats_A]; try rfl)
theorem before2 (c : Dev nD) (t : Fin (cfgH m).N) (d) : (dats m 0 c).before 2 t d = blk m c 2 t :=
  ((dats m 0 c).before_in_eq_fetched 2 rfl (fun _ => rfl) (fun _ _ _ => rfl) (fun t => by rw [after2]; unfold Dat.blockOf blk; rw [dats_A]; try rfl) t d).trans
    (by unfold Dat.fetched Dat.blockOf blk; rw [dats_A]; try rfl)
theorem before3 (c : Dev nD) (t : Fin (cfgH m).N) (d) : (dats m 0 c).before 3 t d = blk m c 3 t :=
  ((dats m 0 c).before_in_eq_fetched 3 rfl (fun _ => rfl) (fun _ _ _ => rfl) (fun t => by rw [after3]; unfold Dat.blockOf blk; rw [dats_A]; try rfl) t d).trans
    (by unfold Dat.fetched Dat.blockOf blk; rw [dats_A]; try rfl)
theorem before4 (c : Dev nD) (t : Fin (cfgH m).N) (d) : (dats m 0 c).before 4 t d = blk m c 4 t :=
  ((dats m 0 c).before_in_eq_fetched 4 rfl (fun _ => rfl) (fun _ _ _ => rfl) (fun t => by rw [after4]; unfold Dat.blockOf blk; rw [dats_A]; try rfl) t d).trans
    (by unfold Dat.fetched Dat.blockOf blk; rw [dats_A]; try rfl)

/-! ## One point -/

/-- The result's block is written back at every point. -/
theorem flush5 (t : Fin (cfgH m).N) : ((cfgH m).win 5).flush t = true :=
  ((Window.flushOf_reads cc0_transform_5 reads0_5 hreads0_5 0 (by decide) (by decide)
    (Window.sep_of_coord cc0_transform_5 0 0 (fun _ => rfl) (by decide)) (P := 1) (m := 0) (by decide) rfl t).mpr (Nat.mod_one _) :
      Window.flushOf grid0 true cc0_transform_5 t = true)

abbrev stg (t : Fin (cfgH m).N) (w : Fin (cfgH m).W) := ((cfgH m).win w).stage ((cfgH m).slots t w)

/-- The body at a point. -/
abbrev bodyAt (t : Fin (cfgH m).N) : Prog (TpuEff nD τ sig (Elt F) Λ₀ .tc) PUnit :=
  cc0_moe_experts (grid0.coords t) expertTab (Memref.isWhole_whole _) onTab (Memref.isWhole_whole _)
    (spec0_0.stage ((cfgH m).slots t 0)) (hstage0_0 (((cfgH m).slots t 0).cast nbuf0_0))
    (spec0_1.stage ((cfgH m).slots t 1)) (hstage0_1 (((cfgH m).slots t 1).cast nbuf0_1))
    (spec0_2.stage ((cfgH m).slots t 2)) (hstage0_2 (((cfgH m).slots t 2).cast nbuf0_2))
    (spec0_3.stage ((cfgH m).slots t 3)) (hstage0_3 (((cfgH m).slots t 3).cast nbuf0_3))
    (spec0_4.stage ((cfgH m).slots t 4)) (hstage0_4 (((cfgH m).slots t 4).cast nbuf0_4))
    (spec0_5.stage ((cfgH m).slots t 5)) (hstage0_5 (((cfgH m).slots t 5).cast nbuf0_5))

/-- Whichever the word, the body leaves the tile's output. -/
theorem leaves_at (c : Dev nD) (t : Fin (cfgH m).N) :
    Leaves c (grid0.coords t) (tabs m 0) (tabs m 1) (blk m c 0 t) (blk m c 1 t) (blk m c 2 t) (blk m c 3 t) (blk m c 4 t) (leaves m c t) := by
  unfold leaves
  split
  · rename_i h
    exact leaves_on c _ _ _ _ _ _ _ _ ((congrFun (tabs_on m) _).trans (tileOn_one h))
  · rename_i h
    exact leaves_off c _ _ _ _ _ _ _ _ ((congrFun (tabs_on m) _).trans (tileOn_zero h))

def preAt (c : Dev nD) (t : Fin (cfgH m).N) : sProp 𝕄 :=
  iprop((dats m 0 c).Φ t.castSucc ∗ (dats m 0 c).owesAt () t.castSucc
    ∗ (∃ d, owns (c : Thread nD τ) (stg m t 0) fullShare ((dats m 0 c).before 0 t d))
    ∗ (∃ d, owns (c : Thread nD τ) (stg m t 1) fullShare ((dats m 0 c).before 1 t d))
    ∗ (∃ d, owns (c : Thread nD τ) (stg m t 2) fullShare ((dats m 0 c).before 2 t d))
    ∗ (∃ d, owns (c : Thread nD τ) (stg m t 3) fullShare ((dats m 0 c).before 3 t d))
    ∗ (∃ d, owns (c : Thread nD τ) (stg m t 4) fullShare ((dats m 0 c).before 4 t d))
    ∗ (∃ d, owns (c : Thread nD τ) (stg m t 5) fullShare ((dats m 0 c).before 5 t d)))

def postAt (c : Dev nD) (t : Fin (cfgH m).N) : sProp 𝕄 :=
  iprop((dats m 0 c).Φ t.succ ∗ (dats m 0 c).owesAt () t.succ
    ∗ owns (c : Thread nD τ) (stg m t 0) fullShare ((dats m 0 c).after 0 t)
    ∗ owns (c : Thread nD τ) (stg m t 1) fullShare ((dats m 0 c).after 1 t)
    ∗ owns (c : Thread nD τ) (stg m t 2) fullShare ((dats m 0 c).after 2 t)
    ∗ owns (c : Thread nD τ) (stg m t 3) fullShare ((dats m 0 c).after 3 t)
    ∗ owns (c : Thread nD τ) (stg m t 4) fullShare ((dats m 0 c).after 4 t)
    ∗ owns (c : Thread nD τ) (stg m t 5) fullShare ((dats m 0 c).after 5 t))

theorem sound (c : Dev nD) (t : Fin (cfgH m).N) :
    preAt m c t ⊢ wp frame (wpE (defs₀ (F := F)) Variants.none c none) Set.univ (bodyAt m t) (fun _ => postAt m c t) := by
  unfold preAt postAt bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = iprop(Pipeline.ΦA spec0 c ∗ Pipeline.ΦT pre0 (tabs m) c) from rfl, tabs_held]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (leaves_at m c t _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem obligation (c : Dev nD) : BodyObligation (dats (F := F) m 0 c) (defs₀ (F := F)) Variants.none () Set.univ := fun t => by
  rw [bigSep_W0, bigSep_W0]
  rw [show defs₀ (F := F) .tc (cfgH m).body ((cfgH m).bodyArgs t ((cfgH m).slots t)) = bodyAt m t from by unfold defs₀; rw [Defs.onTc_tc]]
  refine triple_restated (sound m c t) rfl .rfl fun _ => ?_
  unfold postAt
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  have hf : ((cfgH m).win (5 : Fin 6)).flush t = true := flush5 m t
  generalize (cfgH m).idle (5 : Fin 6) ((cfgH m).grid.coords t) = b
  rw [hf]
  cases b <;> iexact H5

/-! ## The run -/

set_option backward.isDefEq.respectTransparency.types false in
theorem run : θ_run defs (onTc (τ := τ) (main (F := F))) (s₀ m ρ)
    (fun r => (Pipeline.FramePost (Pipeline.pin pcfgs fun _ => held m) (dats m) 0 (V m)) r ∧ r.2.sem = fun _ => 0) :=
  Pipeline.θ_run_frameP (Q' := _) pcfgs (fun _ => held m) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hpf := tabs_eq m)
    (hΦ := fun _ _ => rfl)

/-- The result, and the arguments as they were. -/
theorem experts : θ_run defs (onTc (τ := τ) (main (F := F))) (s₀ m ρ) (fun r =>
    (∀ c : Dev nD, r.2.mem ((c.tc : Thread nD τ).loc main_v22) = (dats m 0 c).arrAt 5 (cfgH m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨(h.1 c).1 5,
      ((h.1 c).1 0).trans (((dats m 0 c).arrAt_in 0 rfl _).trans ((dats_A m c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).1 2).trans (((dats m 0 c).arrAt_in 2 rfl _).trans ((dats_A m c 2).trans (V_arg3 m c))),
      ((h.1 c).1 3).trans (((dats m 0 c).arrAt_in 3 rfl _).trans ((dats_A m c 3).trans (V_arg4 m c))),
      ((h.1 c).1 4).trans (((dats m 0 c).arrAt_in 4 rfl _).trans ((dats_A m c 4).trans (V_arg5 m c)))⟩, h.2⟩) (run m ρ)

end Cert.Kernel2Ideal.Experts
-- ==== Proof.ExpertsBlocks.lean ====
module

public import proofs.«01_k».proof.Proof.ExpertsRun
public import Idealize.ShloMosaic.Lib.Pipeline.FrameValue
public import Idealize.ShloMosaic.Lib.Pipeline.Covers

@[expose] public section

/-!
# The blocks, entry by entry

Tile `t` reads rows 256 t … 256 t + 255 of the tokens and its expert's three matrices, and writes the same rows of the result.
-/

set_option maxRecDepth 16384

noncomputable section

namespace Cert.Kernel2Ideal.Experts

open Cert.Kernel2Ideal Cert.Kernel2Ideal.Gen
open Idealize.ShloMosaic Idealize.ShloMosaic.TcCoe Idealize.ShloMosaic.ValueIdx
open Idealize.ShloMosaic.Rounds
open Idealize.ShloMosaic.Pipeline (Dat Cfg Window)

variable {F : FTy → Type} [FloatOps F]

variable (m : (ℓ : Loc nD τ sig) → Buf (Elt F) ℓ)

theorem coord (t : Fin grid0.N) : (grid0.coords t 0).val = t.val := by
  rw [Pipeline.Grid.coords_val t 0 (S := 1) (B := 96) (by decide) rfl]
  have h : t.val < 96 := N_0 ▸ t.isLt
  omega

/-- A tile's row in the whole array. -/
def row (i : Fin 96) (p : Fin 256) : Fin 24576 := ⟨256 * i.val + p.val, by have := i.isLt; have := p.isLt; omega⟩

/-- A tile's expert. -/
def expert (i : Fin 96) : Fin 32 := ⟨(tileExpert (endsOf m 0) (ix1 i)).toNat, tileExpert_lt _ _⟩

theorem blk0 (c : Dev nD) (t : Fin (cfgH m).N) (p : Fin 256) (d : Fin 4096) :
    (blk m c 0 t : S256x4096.Idx → Elt F .f32) (ix2 p d) = (m ((c : Thread nD τ).loc main_arg0) : S24576x4096.Idx → Elt F .f32) (ix2 (row (tile t) p) d) := by
  show (V m c main_arg0 : S24576x4096.Idx → Elt F .f32) _ = _
  rw [V_arg0]
  refine congrArg (m ((c : Thread nD τ).loc main_arg0) : S24576x4096.Idx → Elt F .f32) (funext fun a => Fin.ext ?_)
  fin_cases a
  · show (BitVec.ofNat 32 (grid0.coords t 0).val).toNat * 256 + 1 * p.val = 256 * (grid0.coords t 0).val + p.val
    have h : (grid0.coords t 0).val < 96 := (grid0.coords t 0).isLt
    rw [BitVec.toNat_ofNat]; omega
  · show 0 * 4096 + 1 * d.val = d.val; omega

theorem blk1 (c : Dev nD) (t : Fin (cfgH m).N) (d : Fin 4096) :
    (blk m c 1 t : S1x4096.Idx → Elt F .f32) (ix2 0 d) = (m ((c : Thread nD τ).loc main_arg2) : S4096.Idx → Elt F .f32) (ix1 d) := by
  have h : (blk m c 1 t : S1x4096.Idx → Elt F .f32) (ix2 0 d) = (V m c main_v21 : S1x4096.Idx → Elt F .f32) (ix2 0 d) := by
    show (V m c main_v21 : S1x4096.Idx → Elt F .f32) _ = _
    refine congrArg (V m c main_v21 : S1x4096.Idx → Elt F .f32) (funext fun a => Fin.ext ?_)
    fin_cases a
    · rfl
    · show 0 * 4096 + 1 * d.val = d.val; omega
  rw [h, V_v21]
  refine shapeCast_apply _ _ _ _ ?_
  refine (Shape.rowMajor_val_one (ix1 d)).trans (Eq.symm ((Shape.rowMajor_val_two (ix2 0 d)).trans ?_))
  show 0 * 4096 + d.val = d.val
  omega

theorem expert_eq (t : Fin grid0.N) : ((tabs m 0 : S96.Idx → BitVec 32) (ix1 (grid0.coords t 0))).toNat = (expert m (tile t)).val := by
  rw [tabs_expert]; rfl

theorem at2 (t : Fin grid0.N) : ((cfgH m).win (2 : Fin 6)).index t = ![0, (expert m (tile t)).val, 0, 0] := by
  rw [← expert_eq, ← index2 (tabs m) (grid0.coords t)]; rfl

theorem at3 (t : Fin grid0.N) : ((cfgH m).win (3 : Fin 6)).index t = ![0, (expert m (tile t)).val, 0, 0] := by
  rw [← expert_eq, ← index3 (tabs m) (grid0.coords t)]; rfl

theorem at4 (t : Fin grid0.N) : ((cfgH m).win (4 : Fin 6)).index t = ![0, (expert m (tile t)).val, 0, 0] := by
  rw [← expert_eq, ← index4 (tabs m) (grid0.coords t)]; rfl

theorem blk2 (c : Dev nD) (t : Fin (cfgH m).N) (d : Fin 4096) (f : Fin 256) :
    (blk m c 2 t : S1x1x4096x256.Idx → Elt F .f32) (ix4 0 0 d f) = (m ((c : Thread nD τ).loc main_arg3) : S4x32x4096x256.Idx → Elt F .f32) (ix4 0 (expert m (tile t)) d f) := by
  show (V m c main_arg3 : S4x32x4096x256.Idx → Elt F .f32) _ = _
  rw [V_arg3]
  refine congrArg (m ((c : Thread nD τ).loc main_arg3) : S4x32x4096x256.Idx → Elt F .f32) (funext fun a => Fin.ext ?_)
  fin_cases a
  · show ((cfgH m).win (2 : Fin 6)).index t 0 * 1 + 1 * 0 = 0
    rw [at2]; rfl
  · show ((cfgH m).win (2 : Fin 6)).index t 1 * 1 + 1 * 0 = (expert m (tile t)).val
    rw [at2]; show (expert m (tile t)).val * 1 + 1 * 0 = _; omega
  · show ((cfgH m).win (2 : Fin 6)).index t 2 * 4096 + 1 * d.val = d.val
    rw [at2]; show 0 * 4096 + 1 * d.val = _; omega
  · show ((cfgH m).win (2 : Fin 6)).index t 3 * 256 + 1 * f.val = f.val
    rw [at2]; show 0 * 256 + 1 * f.val = _; omega

theorem blk3 (c : Dev nD) (t : Fin (cfgH m).N) (d : Fin 4096) (f : Fin 256) :
    (blk m c 3 t : S1x1x4096x256.Idx → Elt F .f32) (ix4 0 0 d f) = (m ((c : Thread nD τ).loc main_arg4) : S4x32x4096x256.Idx → Elt F .f32) (ix4 0 (expert m (tile t)) d f) := by
  show (V m c main_arg4 : S4x32x4096x256.Idx → Elt F .f32) _ = _
  rw [V_arg4]
  refine congrArg (m ((c : Thread nD τ).loc main_arg4) : S4x32x4096x256.Idx → Elt F .f32) (funext fun a => Fin.ext ?_)
  fin_cases a
  · show ((cfgH m).win (3 : Fin 6)).index t 0 * 1 + 1 * 0 = 0
    rw [at3]; rfl
  · show ((cfgH m).win (3 : Fin 6)).index t 1 * 1 + 1 * 0 = (expert m (tile t)).val
    rw [at3]; show (expert m (tile t)).val * 1 + 1 * 0 = _; omega
  · show ((cfgH m).win (3 : Fin 6)).index t 2 * 4096 + 1 * d.val = d.val
    rw [at3]; show 0 * 4096 + 1 * d.val = _; omega
  · show ((cfgH m).win (3 : Fin 6)).index t 3 * 256 + 1 * f.val = f.val
    rw [at3]; show 0 * 256 + 1 * f.val = _; omega

theorem blk4 (c : Dev nD) (t : Fin (cfgH m).N) (f : Fin 256) (d : Fin 4096) :
    (blk m c 4 t : S1x1x256x4096.Idx → Elt F .f32) (ix4 0 0 f d) = (m ((c : Thread nD τ).loc main_arg5) : S4x32x256x4096.Idx → Elt F .f32) (ix4 0 (expert m (tile t)) f d) := by
  show (V m c main_arg5 : S4x32x256x4096.Idx → Elt F .f32) _ = _
  rw [V_arg5]
  refine congrArg (m ((c : Thread nD τ).loc main_arg5) : S4x32x256x4096.Idx → Elt F .f32) (funext fun a => Fin.ext ?_)
  fin_cases a
  · show ((cfgH m).win (4 : Fin 6)).index t 0 * 1 + 1 * 0 = 0
    rw [at4]; rfl
  · show ((cfgH m).win (4 : Fin 6)).index t 1 * 1 + 1 * 0 = (expert m (tile t)).val
    rw [at4]; show (expert m (tile t)).val * 1 + 1 * 0 = _; omega
  · show ((cfgH m).win (4 : Fin 6)).index t 2 * 256 + 1 * f.val = f.val
    rw [at4]; show 0 * 256 + 1 * f.val = _; omega
  · show ((cfgH m).win (4 : Fin 6)).index t 3 * 4096 + 1 * d.val = d.val
    rw [at4]; show 0 * 4096 + 1 * d.val = _; omega

theorem cover5 : ((cfgH m).win (5 : Fin 6)).Covers := by
  refine Pipeline.Window.covers_of_indexMap_surj ((cfgH m).win (5 : Fin 6)) rfl (fun a => by
    fin_cases a
    · show 0 < 256; decide
    · show 0 < 4096; decide) fun β => ?_
  have h0 : (β 0).val < 96 := lt_of_lt_of_eq (β 0).isLt (show (24576 + 256 - 1) / 256 = 96 by decide)
  have h1 : (β 1).val < 1 := lt_of_lt_of_eq (β 1).isLt (show (4096 + 4096 - 1) / 4096 = 1 by decide)
  refine ⟨fun a => ⟨(β 0).val, lt_of_lt_of_eq h0 (by fin_cases a; rfl)⟩, fun a => ?_⟩
  fin_cases a
  · show (BitVec.ofNat 32 (β 0).val).toNat = (β 0).val
    rw [BitVec.toNat_ofNat]; omega
  · show 0 = (β 1).val
    omega

/-- The result is whatever array every tile's rows agree with. -/
theorem result_eq (c : Dev nD) (G : S24576x4096.Idx → Elt F .f32)
    (hG : ∀ (t : Fin grid0.N) (p : Fin 256) (j : Fin 4096), leaves m c t (ix2 p j) = G (ix2 (row (tile t) p) j)) :
    (dats m 0 c).arrAt (5 : Fin 6) (cfgH m).N = G := by
  refine Pipeline.Dat.arrAt_eq_of_covers (dat := dats m 0 c) (5 : Fin 6) G (cover5 m) fun t _ y => ?_
  show (dats m 0 c).after (5 : Fin 6) t _ = _
  rw [after5]
  have h0 : (y 0).val < 256 := (y 0).isLt
  have h1 : (y 1).val < 4096 := (y 1).isLt
  refine Eq.trans (congrArg (leaves m c t) (a₂ := ix2 ⟨(y 0).val, h0⟩ ⟨(y 1).val, h1⟩) (funext fun a => by fin_cases a <;> rfl)) ((hG t _ _).trans ?_)
  refine congrArg G (funext fun a => Fin.ext ?_)
  fin_cases a
  · show 256 * (grid0.coords t 0).val + (y 0).val = (BitVec.ofNat 32 (grid0.coords t 0).val).toNat * 256 + 1 * (y 0).val
    have h : (grid0.coords t 0).val < 96 := (grid0.coords t 0).isLt
    rw [BitVec.toNat_ofNat]; omega
  · show (y 1).val = 0 * 4096 + 1 * (y 1).val; omega

end Cert.Kernel2Ideal.Experts
-- ==== Proof.ExpertsMath.lean ====
module

public import proofs.«01_k».proof.Proof.ExpertsTables
public import Idealize.ShloMosaic.PureOps.Ideal.Laws

@[expose] public section

/-!
# One expert on one row

The arithmetic both programs do for a row: normalize, go through the expert's two input matrices, gate, and go through the third.
-/

noncomputable section

namespace Cert.Kernel2Ideal.Experts

open Idealize.ShloMosaic Idealize.ShloMosaic.ValueIdx

open scoped BigOperators

/-- The factor that normalizes a row whose squares sum to `q`. -/
def scale (q : EReal) : EReal :=
  Ideal.rsqrt (Ideal.div q (Ideal.ofBits .f32 0x45800000#32) + Ideal.ofBits .f32 0x358637BD#32)

/-- A normalized row, weighted. -/
def normed (x g : Fin 4096 → EReal) (d : Fin 4096) : EReal := x d * scale (∑ k, x k * x k) * g d

/-- The gated product of the two inner rows. -/
def gated (a b : EReal) : EReal :=
  a * Ideal.div (Ideal.ofBits .f32 0x3F800000#32) (Ideal.ofBits .f32 0x3F800000#32 + Ideal.exp (-a)) * b

/-- An expert's inner row. -/
def inner (x g : Fin 4096 → EReal) (wg wu : Fin 4096 → Fin 256 → EReal) (f : Fin 256) : EReal :=
  gated (∑ d, normed x g d * wg d f) (∑ d, normed x g d * wu d f)

/-- An expert's outer row. -/
def outer (x g : Fin 4096 → EReal) (wg wu : Fin 4096 → Fin 256 → EReal) (wd : Fin 256 → Fin 4096 → EReal) (j : Fin 4096) : EReal :=
  ∑ f, inner x g wg wu f * wd f j

end Cert.Kernel2Ideal.Experts
-- ==== Proof.ExpertsTile.lean ====
module

public import proofs.«01_k».proof.Proof.ExpertsMath
public import proofs.«01_k».proof.Proof.Gen.Kernel2Ideal.Skeleton
public import Idealize.ShloMosaic.Lib.MatmulPlain

@[expose] public section

/-!
# What a tile computes

The stored block, read at a row and a column, is that row through the tile's expert.
-/

set_option maxRecDepth 16384

noncomputable section

namespace Cert.Kernel2Ideal.Experts

open Cert.Kernel2Ideal Cert.Kernel2Ideal.Gen
open Idealize.ShloMosaic Idealize.ShloMosaic.ValueIdx

open scoped BigOperators

/-- The sums of squares of the rows. -/
def tSquares (x : Vec Ideal S256x4096 .f32) : FVec Ideal S256 .f32 :=
  multiReduction .add [1] S256 (mulf x x) 0x00000000#32 reduces_S256x4096_S256 (.inl rfl) rfl

theorem tSquares_apply (x : Vec Ideal S256x4096 .f32) (p : Fin 256) : tSquares x (ix1 p) = ∑ k : Fin 4096, x (ix2 p k) * x (ix2 p k) := by
  refine (Ideal.multiReduction_add_single (mulf x x) 0x00000000#32 reduces_S256x4096_S256 (.inl rfl) rfl (ix1 p)).trans ?_
  refine Finset.sum_congr rfl fun k _ => ?_
  have h : reduces_S256x4096_S256.lift (ix1 p) k = ix2 p k := by funext a; fin_cases a <;> rfl
  rw [h]; rfl

/-- The rows' normalizing factors. -/
def tFactor (x : Vec Ideal S256x4096 .f32) : FVec Ideal S256x1 .f32 :=
  rsqrt (addf (divf (shapeCast S256x1 (tSquares x) shapeCasts_S256_S256x1)
    (broadcast S256x1 (Scalar.ofBits .f32 0x45800000#32))) (broadcast S256x1 (Scalar.ofBits .f32 0x358637BD#32)))

/-- The normalized rows. -/
def tNormed (x : Vec Ideal S256x4096 .f32) (g : Vec Ideal S1x4096 .f32) : FVec Ideal S256x4096 .f32 :=
  mulf (mulf x (broadcastTo S256x4096 (tFactor x) broadcasts_S256x1_S256x4096))
    (broadcastTo S256x4096 (shapeCast S1x4096 g shapeCasts_S1x4096_S1x4096) broadcasts_S1x4096_S256x4096)

theorem column (y : FVec Ideal S256 .f32) (p : Fin 256) : shapeCast S256x1 y shapeCasts_S256_S256x1 (ix2 p 0) = y (ix1 p) := by
  refine shapeCast_apply _ _ _ _ ?_
  refine (Shape.rowMajor_val_one (ix1 p)).trans (Eq.symm ((Shape.rowMajor_val_two (ix2 p 0)).trans ?_))
  show p.val * 1 + 0 = p.val
  omega

theorem tNormed_apply (x : Vec Ideal S256x4096 .f32) (g : Vec Ideal S1x4096 .f32) (p : Fin 256) (d : Fin 4096) :
    tNormed x g (ix2 p d) = normed (fun k => x (ix2 p k)) (fun k => g (ix2 0 k)) d := by
  unfold tNormed normed
  rw [shapeCast_self]
  show x (ix2 p d) * (broadcastTo S256x4096 (tFactor x) broadcasts_S256x1_S256x4096 (ix2 p d)) * (broadcastTo S256x4096 g broadcasts_S1x4096_S256x4096 (ix2 p d)) = _
  rw [broadcastTo_apply (tFactor x) _ _ (ix2 p 0) (fun a => by fin_cases a <;> rfl), broadcastTo_apply g _ _ (ix2 0 d) (fun a => by fin_cases a <;> rfl)]
  show x (ix2 p d) * scale (shapeCast S256x1 (tSquares x) shapeCasts_S256_S256x1 (ix2 p 0)) * g (ix2 0 d) = _
  rw [column, tSquares_apply]

/-- The rows through one input matrix. -/
def tInner (h : FVec Ideal S256x4096 .f32) (w : Vec Ideal S1x1x4096x256 .f32) : FVec Ideal S256x256 .f32 :=
  matmul dot_S256x4096_S4096x256_S256x256_1_0_0_1_n_n none (truncf .bf16 h bitsLt_bf16_f32)
    (truncf .bf16 (shapeCast S4096x256 w shapeCasts_S1x1x4096x256_S4096x256) bitsLt_bf16_f32) (constant S256x256 .f32 0x00000000#32)

theorem unit_dropped (w : Vec Ideal S1x1x4096x256 .f32) (d : Fin 4096) (f : Fin 256) :
    shapeCast S4096x256 w shapeCasts_S1x1x4096x256_S4096x256 (ix2 d f) = w (ix4 0 0 d f) := by
  refine shapeCast_apply _ _ _ _ ?_
  refine (Shape.rowMajor_val_four (ix4 0 0 d f)).trans (Eq.symm ((Shape.rowMajor_val_two (ix2 d f)).trans ?_))
  show d.val * 256 + f.val = ((0 * 1 + 0) * 4096 + d.val) * 256 + f.val
  omega

theorem tInner_apply (h : FVec Ideal S256x4096 .f32) (w : Vec Ideal S1x1x4096x256 .f32) (p : Fin 256) (f : Fin 256) :
    tInner h w (ix2 p f) = ∑ d : Fin 4096, h (ix2 p d) * w (ix4 0 0 d f) := by
  show FloatOps.matmul (F := Ideal) (DotDims.plain 256 4096 256) none _ _ _ (ix2 p f) = _
  rw [Ideal.matmul_plain_apply]
  refine (congrArg (· + _) (Ideal.ofBits_zero_f32)).trans ((zero_add _).trans (Finset.sum_congr rfl fun d _ => ?_))
  show h (ix2 p d) * shapeCast S4096x256 w shapeCasts_S1x1x4096x256_S4096x256 (ix2 d f) = _
  rw [unit_dropped]

theorem inner_apply (x : Vec Ideal S256x4096 .f32) (g : Vec Ideal S1x4096 .f32) (wg wu : Vec Ideal S1x1x4096x256 .f32) (p f : Fin 256) :
    k0_pay3 x g wg wu (ix2 p f)
      = inner (fun k => x (ix2 p k)) (fun k => g (ix2 0 k)) (fun d f => wg (ix4 0 0 d f)) (fun d f => wu (ix4 0 0 d f)) f := by
  have h : ∀ w : Vec Ideal S1x1x4096x256 .f32, tInner (tNormed x g) w (ix2 p f) = ∑ d, normed (fun k => x (ix2 p k)) (fun k => g (ix2 0 k)) d * w (ix4 0 0 d f) := fun w => by
    rw [tInner_apply]; exact Finset.sum_congr rfl fun d _ => by rw [tNormed_apply]
  unfold inner
  rw [← h wg, ← h wu]
  show tInner (tNormed x g) wg (ix2 p f) * Ideal.div (Ideal.ofBits .f32 0x3F800000#32) (Ideal.ofBits .f32 0x3F800000#32 + Ideal.exp (Ideal.ofBits .f32 0x00000000#32 - tInner (tNormed x g) wg (ix2 p f))) * tInner (tNormed x g) wu (ix2 p f) = gated _ _
  rw [Ideal.ofBits_zero_f32, zero_sub]; rfl

theorem unit_dropped' (w : Vec Ideal S1x1x256x4096 .f32) (f : Fin 256) (j : Fin 4096) : k0_pay4 w (ix2 f j) = w (ix4 0 0 f j) := by
  show shapeCast S256x4096 w shapeCasts_S1x1x256x4096_S256x4096 (ix2 f j) = _
  refine shapeCast_apply _ _ _ _ ?_
  refine (Shape.rowMajor_val_four (ix4 0 0 f j)).trans (Eq.symm ((Shape.rowMajor_val_two (ix2 f j)).trans ?_))
  show f.val * 4096 + j.val = ((0 * 1 + 0) * 256 + f.val) * 4096 + j.val
  omega

/-- A tile carrying tokens stores its rows through its expert. -/
theorem tile_apply (x : Vec Ideal S256x4096 .f32) (g : Vec Ideal S1x4096 .f32) (wg wu : Vec Ideal S1x1x4096x256 .f32) (wd : Vec Ideal S1x1x256x4096 .f32)
    (p : Fin 256) (j : Fin 4096) :
    k0_pay1 (k0_pay3 x g wg wu) (k0_pay4 wd) (ix2 p j)
      = outer (fun k => x (ix2 p k)) (fun k => g (ix2 0 k)) (fun d f => wg (ix4 0 0 d f)) (fun d f => wu (ix4 0 0 d f)) (fun f j => wd (ix4 0 0 f j)) j := by
  show FloatOps.matmul (F := Ideal) (DotDims.plain 256 256 4096) none _ _ _ (ix2 p j) = _
  rw [Ideal.matmul_plain_apply]
  refine (congrArg (· + _) (Ideal.ofBits_zero_f32)).trans ((zero_add _).trans (Finset.sum_congr rfl fun f _ => ?_))
  show k0_pay3 x g wg wu (ix2 p f) * k0_pay4 wd (ix2 f j) = _
  rw [inner_apply, unit_dropped']

/-- A tile carrying none stores zeros. -/
theorem empty_apply (i : S256x4096.Idx) : (k0_pay2 : FVec Ideal S256x4096 .f32) i = 0 := Ideal.ofBits_zero_f32

end Cert.Kernel2Ideal.Experts
-- ==== Proof.ExpertsRef.lean ====
module

public import proofs.«01_k».proof.Proof.ExpertsMath
public import proofs.«01_k».proof.Proof.Gen.Reference2Ideal.Run
public import Idealize.ShloMosaic.Lib.TwoAxisContraction
public import Idealize.ShloMosaic.Lib.IdealHost
public import Idealize.ShloMosaic.Lib.IndicatorCount

@[expose] public section

/-!
# The plain mathematics, entry by entry

Every expert sees every row, and a 0/1 gate keeps the row's own. Read at a row and a column the result is the row through its expert, or zero when its tile carries no tokens.
-/

set_option maxRecDepth 16384

noncomputable section

namespace Cert.Reference2Ideal.Dense

open Cert.Reference2Ideal Cert.Reference2Ideal.Gen
open Idealize.ShloMosaic Idealize.ShloMosaic.TcCoe Idealize.ShloMosaic.ValueIdx
open Cert.Kernel2Ideal.Experts (scale normed gated inner outer countEnds countEnds_on countEnds_le On tileEnds lastEnd lastEnd_eq)

open scoped BigOperators

/-! ## The normalized rows -/

def dSquares (x : FVec Ideal S24576x4096 .f32) : FVec Ideal S24576 .f32 :=
  Host.reduceAdd (mulf x x) (constant S_ .f32 0x00000000#32) reducesTo_S24576x4096_S24576_d1 h_S_

theorem dSquares_apply (x : FVec Ideal S24576x4096 .f32) (r : Fin 24576) : dSquares x (ix1 r) = ∑ k : Fin 4096, x (ix2 r k) * x (ix2 r k) := by
  have hR : Shape.Reduces S24576x4096 [1] S24576 := by decide
  refine (hostReduceAdd_apply (mulf x x) _ reducesTo_S24576x4096_S24576_d1 h_S_ (ix1 r)).trans ?_
  refine (Ideal.hostReduceAdd_single reducesTo_S24576x4096_S24576_d1 hR (mulf x x) _ (ix1 r)).trans ?_
  refine (congrArg (· + _) (Ideal.ofBits_zero_f32)).trans ((zero_add _).trans (Finset.sum_congr rfl fun k _ => ?_))
  have h : hR.lift (ix1 r) k = ix2 r k := by funext a; fin_cases a <;> rfl
  rw [h]; rfl

def dFactor (x : FVec Ideal S24576x4096 .f32) : FVec Ideal S24576x1 .f32 :=
  Host.rsqrt (addf (Host.divf (broadcastInDim S24576x1 ![0] bcast_S24576_S24576x1_0 (dSquares x))
    (broadcastInDim S24576x1 ![] bcast_S_S24576x1 (constant S_ .f32 0x45800000#32))) (broadcastInDim S24576x1 ![] bcast_S_S24576x1 (constant S_ .f32 0x358637BD#32)))

def dNormed (x : FVec Ideal S24576x4096 .f32) (g : FVec Ideal S4096 .f32) : FVec Ideal S24576x4096 .f32 :=
  mulf (mulf x (broadcastInDim S24576x4096 ![0, 1] bcast_S24576x1_S24576x4096_0_1 (dFactor x)))
    (broadcastInDim S24576x4096 ![0, 1] bcast_S1x4096_S24576x4096_0_1 (broadcastInDim S1x4096 ![1] bcast_S4096_S1x4096_1 g))

theorem dNormed_apply (x : FVec Ideal S24576x4096 .f32) (g : FVec Ideal S4096 .f32) (r : Fin 24576) (d : Fin 4096) :
    dNormed x g (ix2 r d) = normed (fun k => x (ix2 r k)) (fun k => g (ix1 k)) d := by
  unfold dNormed normed
  show x (ix2 r d) * (broadcastInDim S24576x4096 ![0, 1] bcast_S24576x1_S24576x4096_0_1 (dFactor x) (ix2 r d))
    * (broadcastInDim S24576x4096 ![0, 1] bcast_S1x4096_S24576x4096_0_1 (broadcastInDim S1x4096 ![1] bcast_S4096_S1x4096_1 g) (ix2 r d)) = _
  rw [broadcastInDim_apply _ _ (dFactor x) _ (ix2 r 0) (fun a => by fin_cases a <;> rfl),
    broadcastInDim_apply _ _ (broadcastInDim S1x4096 ![1] bcast_S4096_S1x4096_1 g) _ (ix2 0 d) (fun a => by fin_cases a <;> rfl),
    broadcastInDim_apply _ _ g _ (ix1 d) (fun a => by fin_cases a; rfl)]
  show x (ix2 r d) * scale (broadcastInDim S24576x1 ![0] bcast_S24576_S24576x1_0 (dSquares x) (ix2 r 0)) * g (ix1 d) = _
  rw [broadcastInDim_apply _ _ (dSquares x) _ (ix1 r) (fun a => by fin_cases a; rfl), dSquares_apply]

/-! ## Every row through every expert's input matrices -/

def dInner (h : FVec Ideal S24576x4096 .f32) (w : FVec Ideal S4x32x4096x256 .f32) : FVec Ideal S24576x32x256 .f32 :=
  Host.dotGeneral dot_S24576x4096_S32x4096x256_S24576x32x256_1_1_0_02_n_n none h
    (shapeCast _ (extractStridedSlice S1x32x4096x256 ![0, 0, 0, 0] w slices_S4x32x4096x256_S1x32x4096x256_0_0_0_0) shapeCasts_S1x32x4096x256_S32x4096x256)

theorem layer (w : FVec Ideal S4x32x4096x256 .f32) (e : Fin 32) (d : Fin 4096) (f : Fin 256) :
    shapeCast S32x4096x256 (extractStridedSlice S1x32x4096x256 ![0, 0, 0, 0] w slices_S4x32x4096x256_S1x32x4096x256_0_0_0_0) shapeCasts_S1x32x4096x256_S32x4096x256 (ix3 e d f)
      = w (ix4 0 e d f) := by
  rw [shapeCast_apply _ _ _ (ix4 0 e d f) ?_]
  · exact extractStridedSlice_apply _ _ _ _ _ fun a => by fin_cases a <;> simp [ix4]
  · refine (Shape.rowMajor_val_four (ix4 0 e d f)).trans (Eq.symm ((Shape.rowMajor_val_three (ix3 e d f)).trans ?_))
    show (e.val * 4096 + d.val) * 256 + f.val = ((0 * 32 + e.val) * 4096 + d.val) * 256 + f.val
    omega

theorem dInner_apply (h : FVec Ideal S24576x4096 .f32) (w : FVec Ideal S4x32x4096x256 .f32) (r : Fin 24576) (e : Fin 32) (f : Fin 256) :
    dInner h w (ix3 r e f) = ∑ d : Fin 4096, h (ix2 r d) * w (ix4 0 e d f) := by
  unfold dInner
  simp only [Host.dotGeneral]
  rw [Ideal.dotGeneral_apply, ← Equiv.sum_comp (contrEquiv1 dot_S24576x4096_S32x4096x256_S24576x32x256_1_1_0_02_n_n 4096 (by decide) (by decide)).symm]
  refine Finset.sum_congr rfl fun d _ => ?_
  have hk := contrEquiv1_symm_val dot_S24576x4096_S32x4096x256_S24576x32x256_1_1_0_02_n_n 4096 (by decide) (by decide) d
  generalize (contrEquiv1 dot_S24576x4096_S32x4096x256_S24576x32x256_1_1_0_02_n_n 4096 (by decide) (by decide)).symm d = q at hk ⊢
  have hl : dot_S24576x4096_S32x4096x256_S24576x32x256_1_1_0_02_n_n.lhsIdx (ix3 r e f) q = ix2 r d := by
    funext a; apply Fin.ext; fin_cases a
    · rfl
    · exact hk
  have hr : dot_S24576x4096_S32x4096x256_S24576x32x256_1_1_0_02_n_n.rhsIdx (ix3 r e f) q = ix3 e d f := by
    funext a; apply Fin.ext; fin_cases a
    · rfl
    · exact hk
    · rfl
  rw [hl, hr, layer]

/-! ## The gates -/

/-- The expert whose tiles hold a tile: how many ends lie at or before it. -/
def dOwner (e : S32.Idx → BitVec 32) : S96.Idx → BitVec 32 :=
  Host.reduce IntOp.addi
    (extui 32 (cmpi .sle (broadcastInDim S96x32 ![0, 1] bcast_S1x32_S96x32_0_1 (broadcastInDim S1x32 ![1] bcast_S32_S1x32_1 e))
      (broadcastInDim S96x32 ![0, 1] bcast_S96x1_S96x32_0_1 (broadcastInDim S96x1 ![0] bcast_S96_S96x1_0 (iotaInDim S96 32 0)))) natLt_1_32)
    (constantI S_ 32 0#32) reducesTo_S96x32_S96_d1 h_S_

theorem dOwner_apply (e : S32.Idx → BitVec 32) (i : Fin 96) : dOwner e (ix1 i) = BitVec.ofNat 32 (countEnds e (BitVec.ofNat 32 i.val)) := by
  unfold dOwner countEnds
  rw [Host.reduce_eq_fold_single IntOp.addi _ _ reducesTo_S96x32_S96_d1 (by decide) h_S_ (ix1 i),
    ← IndicatorCount.fold_addi_setWidth_eq_card]
  refine Finset.fold_congr fun k _ => ?_
  show (IntOp.cmpi .sle (e _) (iotaInDim S96 32 0 _) : BitVec 1).setWidth 32 = _
  congr 3
  funext a; fin_cases a; rfl

/-- A value per tile, repeated over the tile's rows. -/
def spread {α : Type} (y : S96.Idx → α) : S24576.Idx → α := shapeCast S24576 (broadcastInDim S96x256 ![0] bcast_S96_S96x256_0 y) shapeCasts_S96x256_S24576

theorem spread_apply {α : Type} (y : S96.Idx → α) (r : Fin 24576) (i : Fin 96) (p : Fin 256) (hr : r.val = 256 * i.val + p.val) :
    spread y (ix1 r) = y (ix1 i) := by
  unfold spread
  rw [shapeCast_apply _ _ _ (ix2 i p) ?_, broadcastInDim_apply _ _ y _ (ix1 i) (fun a => by fin_cases a; rfl)]
  refine (Shape.rowMajor_val_two (ix2 i p)).trans (Eq.symm ((Shape.rowMajor_val_one (ix1 r)).trans ?_))
  show r.val = i.val * 256 + p.val
  omega

/-- One where the expert owns the row's tile. -/
def dHot (e : S32.Idx → BitVec 32) : FVec Ideal S24576x32 .f32 :=
  uitofp .f32 (cmpi .eq
    (broadcastInDim S24576x32 ![0, 1] bcast_S24576x1_S24576x32_0_1 (broadcastInDim S24576x1 ![0] bcast_S24576_S24576x1_0 (spread (dOwner e))))
    (broadcastInDim S24576x32 ![0, 1] bcast_S1x32_S24576x32_0_1 (iotaInDim S1x32 32 1)))

/-- One where the tile carries tokens. -/
def dOn (e : S32.Idx → BitVec 32) : FVec Ideal S96 .f32 :=
  uitofp .f32 (cmpi .slt (iotaInDim S96 32 0) (broadcastInDim S96 ![] bcast_S_S96 (lastEnd e)))

def dGate (e : S32.Idx → BitVec 32) : FVec Ideal S24576x32 .f32 :=
  mulf (dHot e) (broadcastInDim S24576x32 ![0, 1] bcast_S24576x1_S24576x32_0_1 (broadcastInDim S24576x1 ![0] bcast_S24576_S24576x1_0 (spread (dOn e))))

theorem dHot_apply (e : S32.Idx → BitVec 32) (r : Fin 24576) (i : Fin 96) (p : Fin 256) (hr : r.val = 256 * i.val + p.val) (k : Fin 32) :
    dHot e (ix2 r k) = if k.val = countEnds e (BitVec.ofNat 32 i.val) then 1 else 0 := by
  have h : dHot e (ix2 r k) = (((IntOp.cmpi .eq (spread (dOwner e) (ix1 r)) (BitVec.ofNat 32 k.val) : BitVec 1).toNat : ℝ) : EReal) := by
    show (((IntOp.cmpi .eq (broadcastInDim S24576x32 ![0, 1] bcast_S24576x1_S24576x32_0_1 (broadcastInDim S24576x1 ![0] bcast_S24576_S24576x1_0 (spread (dOwner e))) (ix2 r k))
      (broadcastInDim S24576x32 ![0, 1] bcast_S1x32_S24576x32_0_1 (iotaInDim S1x32 32 1) (ix2 r k)) : BitVec 1).toNat : ℝ) : EReal) = _
    rw [broadcastInDim_apply _ _ (broadcastInDim S24576x1 ![0] bcast_S24576_S24576x1_0 (spread (dOwner e))) _ (ix2 r 0) (fun a => by fin_cases a <;> rfl),
      broadcastInDim_apply _ _ (spread (dOwner e)) _ (ix1 r) (fun a => by fin_cases a; rfl),
      broadcastInDim_apply _ _ (iotaInDim S1x32 32 1) _ (ix2 0 k) (fun a => by fin_cases a <;> rfl)]
    rfl
  rw [h, spread_apply _ r i p hr, dOwner_apply]
  have hn := countEnds_le e (BitVec.ofNat 32 i.val)
  generalize countEnds e (BitVec.ofNat 32 i.val) = n at hn ⊢
  show (((BitVec.ofBool (BitVec.ofNat 32 n == BitVec.ofNat 32 k.val)).toNat : ℝ) : EReal) = _
  by_cases hk : k.val = n
  · rw [if_pos hk, hk, beq_self_eq_true]; simp
  · have hne : BitVec.ofNat 32 n ≠ BitVec.ofNat 32 k.val := fun hh => by
      have := congrArg BitVec.toNat hh
      have := k.isLt
      simp only [BitVec.toNat_ofNat] at *
      omega
    rw [if_neg hk, beq_eq_false_iff_ne.mpr hne]; simp

theorem dOn_apply (e : S32.Idx → BitVec 32) (i : Fin 96) : dOn e (ix1 i) = if On e i then 1 else 0 := by
  have h : dOn e (ix1 i) = (((BitVec.ofBool ((BitVec.ofNat 32 i.val).slt (lastEnd e ix0))).toNat : ℝ) : EReal) := by
    show (((IntOp.cmpi .slt (iotaInDim S96 32 0 (ix1 i)) (broadcastInDim S96 ![] bcast_S_S96 (lastEnd e) (ix1 i)) : BitVec 1).toNat : ℝ) : EReal) = _
    rw [broadcastInDim_scalar_apply]; rfl
  rw [h, lastEnd_eq]
  by_cases ho : On e i
  · rw [if_pos ho, show (BitVec.ofNat 32 i.val).slt (e (ix1 31)) = true from ho]; simp
  · rw [if_neg ho, Bool.eq_false_of_not_eq_true ho]; simp

theorem dGate_apply (e : S32.Idx → BitVec 32) (r : Fin 24576) (i : Fin 96) (p : Fin 256) (hr : r.val = 256 * i.val + p.val) (k : Fin 32) :
    dGate e (ix2 r k) = (if k.val = countEnds e (BitVec.ofNat 32 i.val) then 1 else 0) * (if On e i then 1 else 0) := by
  rw [← dHot_apply e r i p hr k, ← dOn_apply, ← spread_apply (dOn e) r i p hr]
  show dHot e (ix2 r k) * broadcastInDim S24576x32 ![0, 1] bcast_S24576x1_S24576x32_0_1 (broadcastInDim S24576x1 ![0] bcast_S24576_S24576x1_0 (spread (dOn e))) (ix2 r k) = _
  rw [broadcastInDim_apply _ _ (broadcastInDim S24576x1 ![0] bcast_S24576_S24576x1_0 (spread (dOn e))) _ (ix2 r 0) (fun a => by fin_cases a <;> rfl),
    broadcastInDim_apply _ _ (spread (dOn e)) _ (ix1 r) (fun a => by fin_cases a; rfl)]

/-! ## The result -/

def dHidden (a b : FVec Ideal S24576x32x256 .f32) (gate : FVec Ideal S24576x32 .f32) : FVec Ideal S24576x32x256 .f32 :=
  mulf (mulf (mulf a (Host.divf (broadcastInDim S24576x32x256 ![] bcast_S_S24576x32x256 (constant S_ .f32 0x3F800000#32))
      (addf (broadcastInDim S24576x32x256 ![] bcast_S_S24576x32x256 (constant S_ .f32 0x3F800000#32)) (Host.exp (Host.negf a))))) b)
    (broadcastInDim S24576x32x256 ![0, 1, 2] bcast_S24576x32x1_S24576x32x256_0_1_2 (broadcastInDim S24576x32x1 ![0, 1] bcast_S24576x32_S24576x32x1_0_1 gate))

theorem dHidden_apply (a b : FVec Ideal S24576x32x256 .f32) (gate : FVec Ideal S24576x32 .f32) (r : Fin 24576) (e : Fin 32) (f : Fin 256) :
    dHidden a b gate (ix3 r e f) = gated (a (ix3 r e f)) (b (ix3 r e f)) * gate (ix2 r e) := by
  show gated (a (ix3 r e f)) (b (ix3 r e f)) * broadcastInDim S24576x32x256 ![0, 1, 2] bcast_S24576x32x1_S24576x32x256_0_1_2 (broadcastInDim S24576x32x1 ![0, 1] bcast_S24576x32_S24576x32x1_0_1 gate) (ix3 r e f) = _
  rw [broadcastInDim_apply _ _ (broadcastInDim S24576x32x1 ![0, 1] bcast_S24576x32_S24576x32x1_0_1 gate) _ (ix3 r e 0) (fun a => by fin_cases a <;> rfl),
    broadcastInDim_apply _ _ gate _ (ix2 r e) (fun a => by fin_cases a <;> rfl)]

def dOuter (h : FVec Ideal S24576x32x256 .f32) (w : FVec Ideal S4x32x256x4096 .f32) : FVec Ideal S24576x4096 .f32 :=
  Host.dotGeneral dot_S24576x32x256_S32x256x4096_S24576x4096_12_01_0_2_n_n none h
    (shapeCast _ (extractStridedSlice S1x32x256x4096 ![0, 0, 0, 0] w slices_S4x32x256x4096_S1x32x256x4096_0_0_0_0) shapeCasts_S1x32x256x4096_S32x256x4096)

theorem layer' (w : FVec Ideal S4x32x256x4096 .f32) (e : Fin 32) (f : Fin 256) (j : Fin 4096) :
    shapeCast S32x256x4096 (extractStridedSlice S1x32x256x4096 ![0, 0, 0, 0] w slices_S4x32x256x4096_S1x32x256x4096_0_0_0_0) shapeCasts_S1x32x256x4096_S32x256x4096 (ix3 e f j)
      = w (ix4 0 e f j) := by
  rw [shapeCast_apply _ _ _ (ix4 0 e f j) ?_]
  · exact extractStridedSlice_apply _ _ _ _ _ fun a => by fin_cases a <;> simp [ix4]
  · refine (Shape.rowMajor_val_four (ix4 0 e f j)).trans (Eq.symm ((Shape.rowMajor_val_three (ix3 e f j)).trans ?_))
    show (e.val * 256 + f.val) * 4096 + j.val = ((0 * 32 + e.val) * 256 + f.val) * 4096 + j.val
    omega

theorem dOuter_apply (h : FVec Ideal S24576x32x256 .f32) (w : FVec Ideal S4x32x256x4096 .f32) (r : Fin 24576) (j : Fin 4096) :
    dOuter h w (ix2 r j) = ∑ e : Fin 32, ∑ f : Fin 256, h (ix3 r e f) * w (ix4 0 e f j) := by
  unfold dOuter
  simp only [Host.dotGeneral]
  rw [Ideal.dotGeneral_apply, sum_contr2 dot_S24576x32x256_S32x256x4096_S24576x4096_12_01_0_2_n_n 32 256 (by decide) (by decide) (by decide)]
  refine Finset.sum_congr rfl fun e _ => Finset.sum_congr rfl fun f _ => ?_
  have h0 := contrEquiv2_symm_val0 dot_S24576x32x256_S32x256x4096_S24576x4096_12_01_0_2_n_n 32 256 (by decide) (by decide) (by decide) (e, f)
  have h1 := contrEquiv2_symm_val1 dot_S24576x32x256_S32x256x4096_S24576x4096_12_01_0_2_n_n 32 256 (by decide) (by decide) (by decide) (e, f)
  generalize (contrEquiv2 dot_S24576x32x256_S32x256x4096_S24576x4096_12_01_0_2_n_n 32 256 (by decide) (by decide) (by decide)).symm (e, f) = q at h0 h1 ⊢
  have hl : dot_S24576x32x256_S32x256x4096_S24576x4096_12_01_0_2_n_n.lhsIdx (ix2 r j) q = ix3 r e f := by
    funext a; apply Fin.ext; fin_cases a
    · rfl
    · exact h0
    · exact h1
  have hr : dot_S24576x32x256_S32x256x4096_S24576x4096_12_01_0_2_n_n.rhsIdx (ix2 r j) q = ix3 e f j := by
    funext a; apply Fin.ext; fin_cases a
    · exact h0
    · exact h1
    · rfl
  rw [hl, hr, layer']

/-- The whole of the plain mathematics. -/
def dense (x : FVec Ideal S24576x4096 .f32) (n : S32.Idx → BitVec 32) (g : FVec Ideal S4096 .f32)
    (wg wu : FVec Ideal S4x32x4096x256 .f32) (wd : FVec Ideal S4x32x256x4096 .f32) : FVec Ideal S24576x4096 .f32 :=
  dOuter (dHidden (dInner (dNormed x g) wg) (dInner (dNormed x g) wu) (dGate (tileEnds n))) wd

theorem res_eq (m : (ℓ : Loc nD τ sig) → Buf (Elt Ideal) ℓ) (c : Dev nD) :
    Value.res_main_v53 m c = dense (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := rfl

theorem dense_apply (x : FVec Ideal S24576x4096 .f32) (n : S32.Idx → BitVec 32) (g : FVec Ideal S4096 .f32)
    (wg wu : FVec Ideal S4x32x4096x256 .f32) (wd : FVec Ideal S4x32x256x4096 .f32)
    (r : Fin 24576) (i : Fin 96) (p : Fin 256) (hr : r.val = 256 * i.val + p.val) (j : Fin 4096) :
    dense x n g wg wu wd (ix2 r j) = ∑ e : Fin 32, ∑ f : Fin 256,
      inner (fun k => x (ix2 r k)) (fun k => g (ix1 k)) (fun d f => wg (ix4 0 e d f)) (fun d f => wu (ix4 0 e d f)) f
        * ((if e.val = countEnds (tileEnds n) (BitVec.ofNat 32 i.val) then 1 else 0) * (if On (tileEnds n) i then 1 else 0)) * wd (ix4 0 e f j) := by
  unfold dense
  rw [dOuter_apply]
  refine Finset.sum_congr rfl fun e _ => Finset.sum_congr rfl fun f _ => ?_
  rw [dHidden_apply, dGate_apply _ r i p hr, dInner_apply, dInner_apply]
  have h : ∀ w : FVec Ideal S4x32x4096x256 .f32, ∑ d, dNormed x g (ix2 r d) * w (ix4 0 e d f) = ∑ d, normed (fun k => x (ix2 r k)) (fun k => g (ix1 k)) d * w (ix4 0 e d f) :=
    fun w => Finset.sum_congr rfl fun d _ => by rw [dNormed_apply]
  rw [h, h]; rfl

/-- A row of a tile carrying no tokens is zero. -/
theorem dense_off (x : FVec Ideal S24576x4096 .f32) (n : S32.Idx → BitVec 32) (g : FVec Ideal S4096 .f32)
    (wg wu : FVec Ideal S4x32x4096x256 .f32) (wd : FVec Ideal S4x32x256x4096 .f32)
    (r : Fin 24576) (i : Fin 96) (p : Fin 256) (hr : r.val = 256 * i.val + p.val) (j : Fin 4096) (ho : ¬ On (tileEnds n) i) :
    dense x n g wg wu wd (ix2 r j) = 0 := by
  rw [dense_apply x n g wg wu wd r i p hr j]
  refine Finset.sum_eq_zero fun e _ => Finset.sum_eq_zero fun f _ => ?_
  rw [if_neg ho, mul_zero, mul_zero, zero_mul]

/-- A row of a tile carrying tokens is the row through the tile's expert. -/
theorem dense_on (x : FVec Ideal S24576x4096 .f32) (n : S32.Idx → BitVec 32) (g : FVec Ideal S4096 .f32)
    (wg wu : FVec Ideal S4x32x4096x256 .f32) (wd : FVec Ideal S4x32x256x4096 .f32)
    (r : Fin 24576) (i : Fin 96) (p : Fin 256) (hr : r.val = 256 * i.val + p.val) (j : Fin 4096) (ho : On (tileEnds n) i)
    (k : Fin 32) (hk : k.val = countEnds (tileEnds n) (BitVec.ofNat 32 i.val)) :
    dense x n g wg wu wd (ix2 r j)
      = outer (fun k => x (ix2 r k)) (fun k => g (ix1 k)) (fun d f => wg (ix4 0 k d f)) (fun d f => wu (ix4 0 k d f)) (fun f j => wd (ix4 0 k f j)) j := by
  rw [dense_apply x n g wg wu wd r i p hr j, Finset.sum_eq_single k]
  · refine Finset.sum_congr rfl fun f _ => ?_
    rw [if_pos ho, if_pos hk, mul_one, mul_one]
  · intro e _ he
    refine Finset.sum_eq_zero fun f _ => ?_
    rw [if_neg (fun h => he (Fin.ext (h.trans hk.symm))), zero_mul, mul_zero, zero_mul]
  · exact fun h => absurd (Finset.mem_univ _) h

end Cert.Reference2Ideal.Dense
-- ==== Proof.ExpertsValue.lean ====
module

public import proofs.«01_k».proof.Proof.ExpertsBlocks
public import proofs.«01_k».proof.Proof.ExpertsTile
public import proofs.«01_k».proof.Proof.ExpertsRef

@[expose] public section

/-!
# The experts' result is the plain mathematics

Each tile's rows agree with the plain result, and the tiles cover it.
-/

set_option maxRecDepth 16384

noncomputable section

namespace Cert.Kernel2Ideal.Experts

open Cert.Kernel2Ideal Cert.Kernel2Ideal.Gen
open Idealize.ShloMosaic Idealize.ShloMosaic.TcCoe Idealize.ShloMosaic.ValueIdx
open Cert.Reference2Ideal.Dense (dense dense_on dense_off)

open scoped BigOperators

variable (m : (ℓ : Loc nD τ sig) → Buf (Elt Ideal) ℓ)

/-- The plain result on the call's operands. -/
def plain (c : Dev nD) : FVec Ideal S24576x4096 .f32 :=
  dense (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem ends_eq (c : Dev nD) : tileEnds (m ((c : Thread nD τ).loc main_arg1)) = endsOf m 0 := by
  obtain rfl : c = 0 := Subsingleton.elim _ _
  rfl

theorem leaves_eq (c : Dev nD) (t : Fin grid0.N) (p : Fin 256) (j : Fin 4096) :
    leaves m c t (ix2 p j) = plain m c (ix2 (row (tile t) p) j) := by
  have hr : (row (tile t) p).val = 256 * (tile t).val + p.val := rfl
  unfold leaves plain
  by_cases ho : On (endsOf m 0) (tile t)
  · rw [if_pos ho, dense_on _ _ _ _ _ _ _ (tile t) p hr j (by rw [ends_eq]; exact ho) (expert m (tile t)) (by rw [ends_eq]; exact tileExpert_on ho)]
    refine (tile_apply (blk m c 0 t) (blk m c 1 t) (blk m c 2 t) (blk m c 3 t) (blk m c 4 t) p j).trans ?_
    rw [show (fun k => (blk m c 0 t : S256x4096.Idx → Elt Ideal .f32) (ix2 p k)) = _ from funext fun k => blk0 m c t p k,
      show (fun k => (blk m c 1 t : S1x4096.Idx → Elt Ideal .f32) (ix2 0 k)) = _ from funext fun k => blk1 m c t k,
      show (fun d f => (blk m c 2 t : S1x1x4096x256.Idx → Elt Ideal .f32) (ix4 0 0 d f)) = _ from funext fun d => funext fun f => blk2 m c t d f,
      show (fun d f => (blk m c 3 t : S1x1x4096x256.Idx → Elt Ideal .f32) (ix4 0 0 d f)) = _ from funext fun d => funext fun f => blk3 m c t d f,
      show (fun f j => (blk m c 4 t : S1x1x256x4096.Idx → Elt Ideal .f32) (ix4 0 0 f j)) = _ from funext fun f => funext fun j => blk4 m c t f j]
  · rw [if_neg ho, dense_off _ _ _ _ _ _ _ (tile t) p hr j (by rw [ends_eq]; exact ho)]
    exact empty_apply _

theorem value (c : Dev nD) : (dats m 0 c).arrAt (5 : Fin 6) (cfgH m).N = plain m c := result_eq m c _ (leaves_eq m c)

end Cert.Kernel2Ideal.Experts
-- ==== Proof.AttentionSame.lean ====
module

public import proofs.«01_k».proof.Defs
public import proofs.«01_k».proof.Proof.Gen.Kernel3
public import proofs.«01_k».proof.Proof.Gen.Kernel3Ideal

@[expose] public section

/-!
# The two prints of the attention at the float words

The named constant read as its word, the two agree in their body table and in their host program.
-/

noncomputable section

namespace Cert.Kernel3Ideal.Attention

open Idealize.ShloMosaic Idealize.ShloMosaic.TcCoe

/-- A named constant as the word it is printed with. -/
@[reducible] def asWord : Named Bits where
  named _ _ {φ} w := FloatOps.ofBits φ w

attribute [local instance] asWord

theorem same_sig : Cert.Kernel3.sig = Cert.Kernel3Ideal.sig := rfl
theorem same_labels : Cert.Kernel3.Λ₀ = Cert.Kernel3Ideal.Λ₀ := rfl
theorem same_contents : (fun p => (Cert.Kernel3.pcfgs (F := Bits) p).Adm) = (fun p => (Cert.Kernel3Ideal.pcfgs (F := Bits) p).Adm) := rfl

theorem same_table : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

theorem same_defs : Cert.Kernel3.defs (F := Bits) = Cert.Kernel3Ideal.defs (F := Bits) := by
  unfold Cert.Kernel3.defs Cert.Kernel3Ideal.defs
  rw [same_table]; rfl

set_option maxHeartbeats 2000000 in
theorem same_main : Cert.Kernel3.main (F := Bits) = Cert.Kernel3Ideal.main (F := Bits) := by
  unfold Cert.Kernel3.main Cert.Kernel3Ideal.main
  dsimp only [same_sig, same_labels, same_contents]
  rfl

end Cert.Kernel3Ideal.Attention
-- ==== Proof.AttentionStart.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Tactic

@[expose] public section

/-!
# The attention's call at its start

What the host hands the call: the positions as a column and as a row, and for each block of queries how many blocks of keys it can see.
-/

set_option maxRecDepth 16384

noncomputable section

namespace Cert.Kernel3Ideal.Attention

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Rounds

variable {F : FTy → Type} [FloatOps F] [Named F]

variable (m : (ℓ : Loc nD τ sig) → Buf (Elt F) ℓ)

/-! ## The host's integer arithmetic -/

/-- Each position's chunk. -/
def chunks (p : S1x8192.Idx → BitVec 32) : S8192.Idx → BitVec 32 :=
  Host.shrsi (shapeCast S8192 (shapeCast S1x8192 (shapeCast S8192 p shapeCasts_S1x8192_S8192) shapeCasts_S8192_S1x8192) shapeCasts_S1x8192_S8192)
    (broadcastInDim S8192 ![] bcast_S_S8192 (constantI S_ 32 6#32))

/-- The largest chunk of each block of queries. -/
def lastChunk (p : S1x8192.Idx → BitVec 32) : S32.Idx → BitVec 32 :=
  Host.reduce IntOp.maxsi (shapeCast S32x256 (chunks p) shapeCasts_S8192_S32x256) (constantI S_ 32 2147483648#32) reducesTo_S32x256_S32_d1 h_S_

/-- The smallest chunk of each block of keys. -/
def firstChunk (p : S1x8192.Idx → BitVec 32) : S16.Idx → BitVec 32 :=
  Host.reduce IntOp.minsi (shapeCast S16x512 (chunks p) shapeCasts_S8192_S16x512) (constantI S_ 32 2147483647#32) reducesTo_S16x512_S16_d1 h_S_

/-- A block of keys by its number where a block of queries sees some of it, and minus one where it sees none. -/
def seen (p : S1x8192.Idx → BitVec 32) : S32x16.Idx → BitVec 32 :=
  select
    (cmpi .sle (broadcastInDim S32x16 ![0, 1] bcast_S1x16_S32x16_0_1 (broadcastInDim S1x16 ![1] bcast_S16_S1x16_1 (firstChunk p)))
      (broadcastInDim S32x16 ![0, 1] bcast_S32x1_S32x16_0_1 (broadcastInDim S32x1 ![0] bcast_S32_S32x1_0 (lastChunk p))))
    (broadcastInDim S32x16 ![0, 1] bcast_S1x16_S32x16_0_1 (broadcastInDim S1x16 ![1] bcast_S16_S1x16_1 (iotaInDim S16 32 0)))
    (broadcastInDim S32x16 ![] bcast_S_S32x16 (id (constantI S_ 32 4294967295#32)))

/-- How many blocks of keys each block of queries goes through. -/
def needed (p : S1x8192.Idx → BitVec 32) : S32.Idx → BitVec 32 :=
  addi (Host.reduce IntOp.maxsi (seen p) (constantI S_ 32 2147483648#32) reducesTo_S32x16_S32_d1 h_S_) (broadcastInDim S32 ![] bcast_S_S32 (constantI S_ 32 1#32))

/-! ## The buffers when the call starts -/

abbrev hostOps : List (HloOp τ sig (Elt F)) := List.flatten [hostOps0, hostOps0_1, hostOps0_2]

def V (c : Dev nD) (b : Ref sig .tc) : Buf (Elt F) ((c : Thread nD τ).loc b) := StableHlo.after hostOps (fun b => m (c, b)) b

theorem V_arg0 (c : Dev nD) : V m c main_arg0 = m ((c : Thread nD τ).loc main_arg0) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg1 (c : Dev nD) : V m c main_arg1 = m ((c : Thread nD τ).loc main_arg1) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg2 (c : Dev nD) : V m c main_arg2 = m ((c : Thread nD τ).loc main_arg2) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results
theorem V_arg3 (c : Dev nD) : V m c main_arg3 = m ((c : Thread nD τ).loc main_arg3) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results

/-- The positions. -/
def posOf (c : Dev nD) : S1x8192.Idx → BitVec 32 := m ((c : Thread nD τ).loc main_arg3)

theorem V_v1 (c : Dev nD) : V m c main_v1 = (shapeCast S8192x1 (shapeCast S8192 (posOf m c) shapeCasts_S1x8192_S8192) shapeCasts_S8192_S8192x1 : S8192x1.Idx → BitVec 32) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results; rfl
theorem V_v2 (c : Dev nD) : V m c main_v2 = (shapeCast S1x8192 (shapeCast S8192 (posOf m c) shapeCasts_S1x8192_S8192) shapeCasts_S8192_S1x8192 : S1x8192.Idx → BitVec 32) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results; rfl
theorem V_v20 (c : Dev nD) : V m c main_v20 = (needed (posOf m c) : S32.Idx → BitVec 32) := by
  unfold V; simp only [hostOps, hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]; after_results; rfl

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; refine ⟨?_, ?_, ?_⟩ <;> (repeat' constructor))
    main_chain

end Cert.Kernel3Ideal.Attention
-- ==== Proof.AttentionCount.lean ====
module

public import proofs.«01_k».proof.Proof.AttentionStart
public import Idealize.ShloMosaic.Lib.IndicatorCount
public import Idealize.ShloMosaic.Lib.Pointwise
public import Idealize.ShloMosaic.Lib.Pipeline.FrameValue

@[expose] public section

/-!
# The blocks of keys gone through

Between none and sixteen, and no key of a block left out is seen by any query of the block.
-/

set_option maxRecDepth 16384

noncomputable section

namespace Cert.Kernel3Ideal.Attention

open Cert.Kernel3Ideal Cert.Kernel3Ideal.Gen
open Idealize.ShloMosaic

variable (p : S1x8192.Idx → BitVec 32)

theorem maxsi_toInt (x y : BitVec 32) : (IntOp.maxsi x y : BitVec 32).toInt = max x.toInt y.toInt := by
  unfold IntOp.maxsi
  split
  · rename_i h; have := BitVec.slt_iff_toInt_lt.mp h; omega
  · rename_i h; have : ¬ _ := fun hh => h (BitVec.slt_iff_toInt_lt.mpr hh); omega

theorem minsi_toInt (x y : BitVec 32) : (IntOp.minsi x y : BitVec 32).toInt = min x.toInt y.toInt := by
  unfold IntOp.minsi
  split
  · rename_i h; have := BitVec.slt_iff_toInt_lt.mp h; omega
  · rename_i h; have : ¬ _ := fun hh => h (BitVec.slt_iff_toInt_lt.mpr hh); omega

/-! A running maximum against a bound, and a running minimum. -/

theorem max_at_most {n : ℕ} (z : BitVec 32) (f : Fin n → BitVec 32) (b : ℤ) :
    (Finset.fold IntOp.maxsi z f Finset.univ).toInt ≤ b ↔ z.toInt ≤ b ∧ ∀ k, (f k).toInt ≤ b := by
  refine (Finset.fold_op_rel_iff_and (r := fun _ y : BitVec 32 => y.toInt ≤ b) (fun {x y z} => ?_) (c := z)).trans (by simp)
  rw [maxsi_toInt]; omega

theorem min_at_least {n : ℕ} (z : BitVec 32) (f : Fin n → BitVec 32) (b : ℤ) :
    b ≤ (Finset.fold IntOp.minsi z f Finset.univ).toInt ↔ b ≤ z.toInt ∧ ∀ k, b ≤ (f k).toInt := by
  refine (Finset.fold_op_rel_iff_and (r := fun _ y : BitVec 32 => b ≤ y.toInt) (fun {x y z} => ?_) (c := z)).trans (by simp)
  rw [minsi_toInt]; omega

theorem le_max {n : ℕ} (z : BitVec 32) (f : Fin n → BitVec 32) (k : Fin n) : (f k).toInt ≤ (Finset.fold IntOp.maxsi z f Finset.univ).toInt :=
  ((max_at_most z f _).mp le_rfl).2 k

theorem min_le {n : ℕ} (z : BitVec 32) (f : Fin n → BitVec 32) (k : Fin n) : (Finset.fold IntOp.minsi z f Finset.univ).toInt ≤ (f k).toInt :=
  ((min_at_least z f _).mp le_rfl).2 k

/-! ## The chunks, entry by entry -/

/-- A position's chunk. -/
def chunk (x : BitVec 32) : BitVec 32 := x.sshiftRight 6

theorem chunks_apply (r : Fin 8192) : chunks p (ix1 r) = chunk (p (ix2 0 r)) := by
  unfold chunks
  have h : ∀ x : S1x8192.Idx → BitVec 32, shapeCast S8192 x shapeCasts_S1x8192_S8192 (ix1 r) = x (ix2 0 r) := fun x => shapeCast_apply _ _ _ _ (by
    refine (Shape.rowMajor_val_two (ix2 0 r)).trans (Eq.symm ((Shape.rowMajor_val_one (ix1 r)).trans ?_))
    show r.val = 0 * 8192 + r.val; omega)
  have h' : ∀ x : S8192.Idx → BitVec 32, shapeCast S1x8192 x shapeCasts_S8192_S1x8192 (ix2 0 r) = x (ix1 r) := fun x => shapeCast_apply _ _ _ _ (by
    refine (Shape.rowMajor_val_one (ix1 r)).trans (Eq.symm ((Shape.rowMajor_val_two (ix2 0 r)).trans ?_))
    show 0 * 8192 + r.val = r.val; omega)
  show IntOp.shrsi _ (shapeCast S8192 _ shapeCasts_S1x8192_S8192 (ix1 r)) (broadcastInDim S8192 ![] bcast_S_S8192 (constantI S_ 32 6#32) (ix1 r)) = _
  rw [h, h', h]
  rfl

/-- A query of a block. -/
def query (i : Fin 32) (r : Fin 256) : Fin 8192 := ⟨256 * i.val + r.val, by have := i.isLt; have := r.isLt; omega⟩
/-- A key of a block. -/
def key (j : Fin 16) (k : Fin 512) : Fin 8192 := ⟨512 * j.val + k.val, by have := j.isLt; have := k.isLt; omega⟩

theorem chunk_le_last (i : Fin 32) (r : Fin 256) : (chunk (p (ix2 0 (query i r)))).toInt ≤ (lastChunk p (ix1 i)).toInt := by
  unfold lastChunk
  rw [Host.reduce_eq_fold_single IntOp.maxsi _ _ reducesTo_S32x256_S32_d1 (by decide) h_S_ (ix1 i), ← chunks_apply]
  refine le_trans (le_of_eq ?_) (le_max _ _ r)
  refine congrArg BitVec.toInt (Eq.symm (shapeCast_apply _ _ _ (ix1 (query i r)) ?_))
  refine (Shape.rowMajor_val_one (ix1 (query i r))).trans (Eq.symm ((Shape.rowMajor_val_two (ix2 i r)).trans ?_))
  show i.val * 256 + r.val = 256 * i.val + r.val
  omega

theorem first_le_chunk (j : Fin 16) (k : Fin 512) : (firstChunk p (ix1 j)).toInt ≤ (chunk (p (ix2 0 (key j k)))).toInt := by
  unfold firstChunk
  rw [Host.reduce_eq_fold_single IntOp.minsi _ _ reducesTo_S16x512_S16_d1 (by decide) h_S_ (ix1 j), ← chunks_apply]
  refine le_trans (min_le _ _ k) (le_of_eq ?_)
  refine congrArg BitVec.toInt (shapeCast_apply _ _ _ (ix1 (key j k)) ?_)
  refine (Shape.rowMajor_val_one (ix1 (key j k))).trans (Eq.symm ((Shape.rowMajor_val_two (ix2 j k)).trans ?_))
  show j.val * 512 + k.val = 512 * j.val + k.val
  omega

theorem cmp_iff (x y : BitVec 32) : (IntOp.cmpi .sle x y : BitVec 1) = 1#1 ↔ x.toInt ≤ y.toInt := by
  show BitVec.ofBool (x.sle y) = 1#1 ↔ _
  rw [← BitVec.sle_iff_toInt_le]
  cases x.sle y <;> decide

theorem seen_apply (i : Fin 32) (j : Fin 16) :
    seen p (ix2 i j) = if (firstChunk p (ix1 j)).toInt ≤ (lastChunk p (ix1 i)).toInt then BitVec.ofNat 32 j.val else 4294967295#32 := by
  have ha : ∀ x : S16.Idx → BitVec 32, broadcastInDim S32x16 ![0, 1] bcast_S1x16_S32x16_0_1 (broadcastInDim S1x16 ![1] bcast_S16_S1x16_1 x) (ix2 i j) = x (ix1 j) := fun x => by
    rw [broadcastInDim_apply _ _ (broadcastInDim S1x16 ![1] bcast_S16_S1x16_1 x) _ (ix2 0 j) (fun a => by fin_cases a <;> rfl),
      broadcastInDim_apply _ _ x _ (ix1 j) (fun a => by fin_cases a; rfl)]
  have hb : ∀ x : S32.Idx → BitVec 32, broadcastInDim S32x16 ![0, 1] bcast_S32x1_S32x16_0_1 (broadcastInDim S32x1 ![0] bcast_S32_S32x1_0 x) (ix2 i j) = x (ix1 i) := fun x => by
    rw [broadcastInDim_apply _ _ (broadcastInDim S32x1 ![0] bcast_S32_S32x1_0 x) _ (ix2 i 0) (fun a => by fin_cases a <;> rfl),
      broadcastInDim_apply _ _ x _ (ix1 i) (fun a => by fin_cases a; rfl)]
  unfold seen
  show (if (IntOp.cmpi .sle (broadcastInDim S32x16 ![0, 1] bcast_S1x16_S32x16_0_1 (broadcastInDim S1x16 ![1] bcast_S16_S1x16_1 (firstChunk p)) (ix2 i j))
      (broadcastInDim S32x16 ![0, 1] bcast_S32x1_S32x16_0_1 (broadcastInDim S32x1 ![0] bcast_S32_S32x1_0 (lastChunk p)) (ix2 i j)) : BitVec 1) = 1#1
    then broadcastInDim S32x16 ![0, 1] bcast_S1x16_S32x16_0_1 (broadcastInDim S1x16 ![1] bcast_S16_S1x16_1 (iotaInDim S16 32 0)) (ix2 i j) else 4294967295#32) = _
  rw [ha, ha, hb]
  refine if_congr (cmp_iff _ _) rfl rfl

theorem needed_apply (i : Fin 32) :
    needed p (ix1 i) = Finset.fold IntOp.maxsi 2147483648#32 (fun j : Fin 16 => seen p (ix2 i j)) Finset.univ + 1#32 := by
  unfold needed
  show Host.reduce IntOp.maxsi (seen p) (constantI S_ 32 2147483648#32) reducesTo_S32x16_S32_d1 h_S_ (ix1 i) + 1#32 = _
  rw [Host.reduce_eq_fold_single IntOp.maxsi _ _ reducesTo_S32x16_S32_d1 (by decide) h_S_ (ix1 i)]
  refine congrArg (· + 1#32) (Finset.fold_congr fun j _ => congrArg (seen p) ?_)
  funext a; fin_cases a <;> rfl

/-- The blocks gone through are at most sixteen, and every block with a key some query sees is among them. -/
theorem needed_bounds (i : Fin 32) : 0 ≤ (needed p (ix1 i)).toInt ∧ (needed p (ix1 i)).toInt ≤ 16
    ∧ ∀ j : Fin 16, (firstChunk p (ix1 j)).toInt ≤ (lastChunk p (ix1 i)).toInt → (j.val : ℤ) < (needed p (ix1 i)).toInt := by
  rw [needed_apply]
  have hj : ∀ j : Fin 16, (BitVec.ofNat 32 j.val).toInt = j.val := by decide
  have hm : (4294967295#32 : BitVec 32).toInt = -1 := by decide
  have hz : (2147483648#32 : BitVec 32).toInt = -2147483648 := by decide
  have hs : ∀ j : Fin 16, -1 ≤ (seen p (ix2 i j)).toInt ∧ (seen p (ix2 i j)).toInt ≤ 15 := fun j => by
    rw [seen_apply]
    have := j.isLt
    split
    · rw [hj]; omega
    · rw [hm]; omega
  have h1 := le_trans (hs 0).1 (le_max 2147483648#32 (fun j : Fin 16 => seen p (ix2 i j)) 0)
  have h2 := (max_at_most 2147483648#32 (fun j : Fin 16 => seen p (ix2 i j)) 15).mpr ⟨by rw [hz]; omega, fun j => (hs j).2⟩
  have h3 := le_max 2147483648#32 (fun j : Fin 16 => seen p (ix2 i j))
  generalize Finset.fold IntOp.maxsi 2147483648#32 (fun j : Fin 16 => seen p (ix2 i j)) Finset.univ = w at h1 h2 h3 ⊢
  have hw : (w + 1#32).toInt = w.toInt + 1 := by
    rw [BitVec.toInt_add]; exact Int.bmod_eq_of_le (by simp; omega) (by simp; omega)
  rw [hw]
  refine ⟨by omega, by omega, fun j h => ?_⟩
  have := h3 j
  rw [seen_apply, if_pos h, hj] at this
  omega

/-- No query of the block sees a key of a block left out. -/
theorem unseen (i : Fin 32) (j : Fin 16) (h : (needed p (ix1 i)).toInt ≤ j.val) (r : Fin 256) (k : Fin 512) :
    ¬ (chunk (p (ix2 0 (key j k)))).toInt ≤ (chunk (p (ix2 0 (query i r)))).toInt := fun hc => by
  have h1 := first_le_chunk p j k
  have h2 := chunk_le_last p i r
  have := (needed_bounds p i).2.2 j (by omega)
  omega

end Cert.Kernel3Ideal.Attention
-- ==== Proof.AttentionWords.lean ====
module

public import proofs.«01_k».proof.Proof.AttentionCount
public import Idealize.ShloMosaic.Lib.LoopRemainder

@[expose] public section

/-!
# The loop's words

A count of at most sixteen makes that many trips, each at its own block of 512 keys.
-/

set_option maxRecDepth 16384

noncomputable section

namespace Cert.Kernel3Ideal.Attention

open Cert.Kernel3Ideal Cert.Kernel3Ideal.Gen
open Idealize.ShloMosaic Idealize.SL.Sem

theorem trips1 (w : BitVec 32) (n : ℕ) (h : w.toInt = n) : (k0_t1_loop w).trips = n := by
  have e : (k0_t1_loop w).ub = w := by
    show Scalar.addi 0#32 (Scalar.muli (Scalar.divsi (Scalar.subi w 0#32) 1#32) 1#32) = w
    rw [Scalar.muli_divsi_one]
    show 0#32 + (w - 0#32) = w
    simp
  show Scf.trips 0#32 (k0_t1_loop w).ub 1#32 = n
  rw [e, Scf.trips, h, show (0#32 : BitVec 32).toInt = 0 from rfl, show (1#32 : BitVec 32).toInt = 1 from rfl]
  omega

theorem trips2 (w : BitVec 32) : (k0_t2_loop w).trips = 0 := Scf.rem_trips _ _

theorem start_at : ∀ j : Fin 16, (Scalar.indexCast (Scalar.muli (Scf.iv 0#32 1#32 j.val) 512#32)).toNat = 512 * j.val := by decide
theorem multiple_at : ∀ j : Fin 16, (Scalar.muli (Scf.iv 0#32 1#32 j.val) 512#32).toNat = 512 * j.val := by decide

theorem off2_eq (w : BitVec 32) (t : Fin (k0_t1_loop w).trips) (h : t.val < 16) : k0_off2 w t = ![0, 512 * t.val, 0] := by rw [← start_at ⟨t.val, h⟩]; rfl
theorem off3_eq (w : BitVec 32) (t : Fin (k0_t1_loop w).trips) (h : t.val < 16) : k0_off3 w t = ![512 * t.val, 0] := by rw [← start_at ⟨t.val, h⟩]; rfl
theorem off4_eq (w : BitVec 32) (t : Fin (k0_t1_loop w).trips) (h : t.val < 16) : k0_off4 w t = ![0, 512 * t.val] := by rw [← start_at ⟨t.val, h⟩]; rfl

theorem in4 (j : ℕ) (h : j < 16) (a : Fin 3) : (![0, 512 * j, 0] : Fin 3 → ℕ) a + S1x512x192.size a ≤ S1x8192x192.size a := by
  fin_cases a
  · show 0 + 1 ≤ 1; omega
  · show 512 * j + 512 ≤ 8192; omega
  · show 0 + 192 ≤ 192; omega
theorem in5 (j : ℕ) (h : j < 16) (a : Fin 2) : (![512 * j, 0] : Fin 2 → ℕ) a + S512x128.size a ≤ S8192x128.size a := by
  fin_cases a
  · show 512 * j + 512 ≤ 8192; omega
  · show 0 + 128 ≤ 128; omega
theorem in7 (j : ℕ) (h : j < 16) (a : Fin 2) : (![0, 512 * j] : Fin 2 → ℕ) a + S1x512.size a ≤ S1x8192.size a := by
  fin_cases a
  · show 0 + 1 ≤ 1; omega
  · show 512 * j + 512 ≤ 8192; omega

/-- What the loop asks of its count. -/
theorem checked (w : BitVec 32) (n : ℕ) (h : w.toInt = n) (hn : n ≤ 16) : k0_chk1 w := by
  have hw : ∀ t : Fin (k0_t1_loop w).trips, t.val < 16 := fun t => by have := t.isLt; have := trips1 w n h; omega
  have no : ∀ t : Fin (k0_t2_loop w).trips, False := fun t => Nat.not_lt_zero t.val (lt_of_lt_of_eq t.isLt (trips2 w))
  refine ⟨⟨show 0 < (1#32 : BitVec 32).toInt by decide, ?_⟩, fun t => ?_, fun t => ?_, fun t => ?_, fun t => ?_, Scf.rem_ok _ _, fun t => (no t).elim, fun t => (no t).elim, fun t => (no t).elim, fun t => (no t).elim⟩
  · have := trips1 w n h
    show (0#32 : BitVec 32).toInt + ((k0_t1_loop w).trips : ℤ) * (1#32 : BitVec 32).toInt < 2 ^ 31
    rw [this, show (0#32 : BitVec 32).toInt = 0 from rfl, show (1#32 : BitVec 32).toInt = 1 from rfl]
    omega
  · exact ⟨t.val, (multiple_at ⟨t.val, hw t⟩)⟩
  · rw [off2_eq w t (hw t)]; exact in4 _ (hw t)
  · rw [off3_eq w t (hw t)]; exact in5 _ (hw t)
  · rw [off4_eq w t (hw t)]; exact in7 _ (hw t)

end Cert.Kernel3Ideal.Attention
-- ==== Proof.AttentionLoop.lean ====
module

public import proofs.«01_k».proof.Proof.AttentionWords
public import Idealize.ShloMosaic.Lib.Pipeline.FrameBody

@[expose] public section

/-!
# One block of queries

Block after block of keys, the running maximum, sum and weighted values; at the end the quotient.
-/

set_option maxRecDepth 16384

noncomputable section

namespace Cert.Kernel3Ideal.Attention

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A block of keys, of values, of the keys' positions. -/
def keysOf (x1 : Vec F S1x8192x192 .bf16) (j : ℕ) : Vec F S1x512x192 .bf16 :=
  fun y => x1 (ix3 0 ⟨(512 * j + (y 1).val) % 8192, Nat.mod_lt _ (by decide)⟩ (y 2))
def valuesOf (x2 : Vec F S8192x128 .bf16) (j : ℕ) : Vec F S512x128 .bf16 :=
  fun y => x2 (ix2 ⟨(512 * j + (y 0).val) % 8192, Nat.mod_lt _ (by decide)⟩ (y 1))
def placesOf (x4 : S1x8192.Idx → BitVec 32) (j : ℕ) : S1x512.Idx → BitVec 32 :=
  fun y => x4 (ix2 0 ⟨(512 * j + (y 1).val) % 8192, Nat.mod_lt _ (by decide)⟩)

abbrev Carried (F : FTy → Type) [FloatOps F] [Named F] : Type := FVec F S256x1 .f32 × FVec F S256x1 .f32 × FVec F S256x128 .f32

/-- One block of keys. -/
def trip (x0 : Vec F S1x256x192 .bf16) (x1 : Vec F S1x8192x192 .bf16) (x2 : Vec F S8192x128 .bf16) (x3 : Vec F S256x1 .i32) (x4 : Vec F S1x8192 .i32)
    (j : ℕ) (a : Carried F) : Carried F :=
  (k0_pay7 x0 x3 a.1 (keysOf x1 j) (placesOf x4 j), k0_pay10 x0 x3 a.1 a.2.1 (keysOf x1 j) (placesOf x4 j),
    k0_pay11 x0 x3 a.1 a.2.2 (keysOf x1 j) (valuesOf x2 j) (placesOf x4 j))

/-- The running values before block `n`. -/
def running (x0 : Vec F S1x256x192 .bf16) (x1 : Vec F S1x8192x192 .bf16) (x2 : Vec F S8192x128 .bf16) (x3 : Vec F S256x1 .i32) (x4 : Vec F S1x8192 .i32) :
    ℕ → Carried F
  | 0 => (k0_pay3, k0_pay4, k0_pay5)
  | n + 1 => trip x0 x1 x2 x3 x4 n (running x0 x1 x2 x3 x4 n)

theorem keys_loaded (arg : Memref sig .tc .vmem S1x8192x192 .bf16) (j : ℕ) (h : j < 16) (off : Fin 3 → ℕ) (ho : off = ![0, 512 * j, 0])
    (inb : ∀ a, off a + S1x512x192.size a ≤ S1x8192x192.size a) (f : BufTy.Contents (Elt F) arg.view.ty) (x : Vec F S1x8192x192 .bf16)
    (hf : arg.view.read (Elt F) f = x) :
    arg.view.readAt (Elt F) (Rect.unit (s := S1x8192x192) off S1x512x192.size inb).toLoadRect f = keysOf x j := by
  subst ho hf
  funext y
  refine congrArg (arg.view.read (Elt F) f) (funext fun a => Fin.ext ?_)
  have h1 : (y 1).val < 512 := (y 1).isLt
  have h0 : (y 0).val < 1 := (y 0).isLt
  fin_cases a
  · show 0 + 1 * (y 0).val = 0; omega
  · show 512 * j + 1 * (y 1).val = (512 * j + (y 1).val) % 8192; omega
  · show 0 + 1 * (y 2).val = (y 2).val; omega

theorem values_loaded (arg : Memref sig .tc .vmem S8192x128 .bf16) (j : ℕ) (h : j < 16) (off : Fin 2 → ℕ) (ho : off = ![512 * j, 0])
    (inb : ∀ a, off a + S512x128.size a ≤ S8192x128.size a) (f : BufTy.Contents (Elt F) arg.view.ty) (x : Vec F S8192x128 .bf16)
    (hf : arg.view.read (Elt F) f = x) :
    arg.view.readAt (Elt F) (Rect.unit (s := S8192x128) off S512x128.size inb).toLoadRect f = valuesOf x j := by
  subst ho hf
  funext y
  refine congrArg (arg.view.read (Elt F) f) (funext fun a => Fin.ext ?_)
  have h1 : (y 0).val < 512 := (y 0).isLt
  fin_cases a
  · show 512 * j + 1 * (y 0).val = (512 * j + (y 0).val) % 8192; omega
  · show 0 + 1 * (y 1).val = (y 1).val; omega

theorem places_loaded (arg : Memref sig .tc .vmem S1x8192 .i32) (j : ℕ) (h : j < 16) (off : Fin 2 → ℕ) (ho : off = ![0, 512 * j])
    (inb : ∀ a, off a + S1x512.size a ≤ S1x8192.size a) (f : BufTy.Contents (Elt F) arg.view.ty) (x : Vec F S1x8192 .i32)
    (hf : arg.view.read (Elt F) f = x) :
    arg.view.readAt (Elt F) (Rect.unit (s := S1x8192) off S1x512.size inb).toLoadRect f = placesOf x j := by
  subst ho hf
  funext y
  refine congrArg (arg.view.read (Elt F) f) (funext fun a => Fin.ext ?_)
  have h1 : (y 1).val < 512 := (y 1).isLt
  have h0 : (y 0).val < 1 := (y 0).isLt
  fin_cases a
  · show 0 + 1 * (y 0).val = 0; omega
  · show 512 * j + 1 * (y 1).val = (512 * j + (y 1).val) % 8192; omega

/-- The three blocks the loop reads, and what it carries. -/
def Inv (c : Dev nD) (arg4 : Memref sig .tc .vmem S1x8192x192 .bf16) (arg5 : Memref sig .tc .vmem S8192x128 .bf16) (arg7 : Memref sig .tc .vmem S1x8192 .i32)
    (x0 : Vec F S1x256x192 .bf16) (x1 : Vec F S1x8192x192 .bf16) (x2 : Vec F S8192x128 .bf16) (x3 : Vec F S256x1 .i32) (x4 : Vec F S1x8192 .i32)
    (n : ℕ) (a : Carried F) : sProp 𝕄 :=
  iprop(owns (c : Thread nD τ) arg4 fullShare x1 ∗ owns (c : Thread nD τ) arg5 fullShare x2 ∗ owns (c : Thread nD τ) arg7 fullShare x4
    ∗ ⌜a = running x0 x1 x2 x3 x4 n⌝)

theorem step (c : Dev nD) (i : grid0.Coords) (arg2 : Memref sig .tc .smem S32 .i32) (harg2 : arg2.IsWhole)
    (arg3 : Memref sig .tc .vmem S1x256x192 .bf16) (harg3 : arg3.IsWhole) (arg4 : Memref sig .tc .vmem S1x8192x192 .bf16) (harg4 : arg4.IsWhole)
    (arg5 : Memref sig .tc .vmem S8192x128 .bf16) (harg5 : arg5.IsWhole) (arg6 : Memref sig .tc .vmem S256x1 .i32) (harg6 : arg6.IsWhole)
    (arg7 : Memref sig .tc .vmem S1x8192 .i32) (harg7 : arg7.IsWhole) (arg8 : Memref sig .tc .vmem S256x128 .bf16) (harg8 : arg8.IsWhole)
    (x0 : Vec F S1x256x192 .bf16) (x1 : Vec F S1x8192x192 .bf16) (x2 : Vec F S8192x128 .bf16) (x3 : Vec F S256x1 .i32) (x4 : Vec F S1x8192 .i32)
    (w : BitVec 32) (hw : k0_chk1 w) (E : Set ℕ) (t : Fin (k0_t1_loop w).trips) (ht : t.val < 16) (a : Carried F) :
    Inv c arg4 arg5 arg7 x0 x1 x2 x3 x4 t.val a
      ⊢ wp frame (wpE (defs₀ (F := F)) Variants.none c none) E
          (k0_t1_body i arg2 harg2 arg3 harg3 arg4 harg4 arg5 harg5 arg6 harg6 arg7 harg7 arg8 harg8 x0 x3 w hw t a)
          (Inv c arg4 arg5 arg7 x0 x1 x2 x3 x4 (t.val + 1)) := by
  obtain ⟨a1, a2, a3⟩ := a
  unfold Inv k0_t1_body owns
  iintro ⟨⟨%f1, %hf1, H1⟩, ⟨%f2, %hf2, H2⟩, ⟨%f4, %hf4, H4⟩, %ha⟩
  sl_exec
  sl_step
  isplitl [H1]
  · iexists _; isplitr; · ipureintro; exact hf1
    iexact H1
  isplitl [H2]
  · iexists _; isplitr; · ipureintro; exact hf2
    iexact H2
  isplitl [H4]
  · iexists _; isplitr; · ipureintro; exact hf4
    iexact H4
  ipureintro
  rw [keys_loaded arg4 t.val ht _ (off2_eq w t ht) _ f1 x1 hf1, values_loaded arg5 t.val ht _ (off3_eq w t ht) _ f2 x2 hf2,
    places_loaded arg7 t.val ht _ (off4_eq w t ht) _ f4 x4 hf4]
  show _ = trip x0 x1 x2 x3 x4 t.val (running x0 x1 x2 x3 x4 t.val)
  rw [← ha]
  rfl

end Cert.Kernel3Ideal.Attention
-- ==== Proof.AttentionPoint.lean ====
module

public import proofs.«01_k».proof.Proof.AttentionLoop
public import Idealize.ShloMosaic.Lib.Ring
public import Idealize.ShloMosaic.Lib.WordCmp

@[expose] public section

/-!
# One point of the grid

The staged block of the result is the quotient of what the loop leaves.
-/

set_option maxRecDepth 16384

noncomputable section

namespace Cert.Kernel3Ideal.Attention

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The table of counts as the body gets it. -/
abbrev countTab : Memref sig .tc .smem S32 .i32 := Memref.whole main_v20
abbrev TabBuf (c : Dev nD) : Type := Buf (Elt F) (countTab.view.loc (c : Thread nD τ))
abbrev tabHeld (c : Dev nD) (f : TabBuf (F := F) c) : sProp 𝕄 := countTab.view.loc (c : Thread nD τ) ↦{fullShare.right} f

/-- What a point leaves after `n` blocks of keys. -/
def attended (x0 : Vec F S1x256x192 .bf16) (x1 : Vec F S1x8192x192 .bf16) (x2 : Vec F S8192x128 .bf16) (x3 : Vec F S256x1 .i32) (x4 : Vec F S1x8192 .i32)
    (n : ℕ) : Vec F S256x128 .bf16 :=
  k0_pay18 (running x0 x1 x2 x3 x4 n).2.1 (running x0 x1 x2 x3 x4 n).2.2

theorem zeros2 : (![0, 0] : Fin 2 → ℕ) = fun _ => 0 := by funext a; fin_cases a <;> rfl
theorem zeros3 : (![0, 0, 0] : Fin 3 → ℕ) = fun _ => 0 := by funext a; fin_cases a <;> rfl

/-- A block stored whole reads back. -/
theorem read_stored (arg8 : Memref sig .tc .vmem S256x128 .bf16) (f : BufTy.Contents (Elt F) arg8.view.ty) (p : Vec F S256x128 .bf16) :
    arg8.view.read (Elt F) (arg8.view.writes (Elt F) f
      [(⟨Rect.unit ![0, 0] S256x128.size inb_S256x128_S256x128_0_0, p⟩ : View.Piece (Elt F) S256x128 .bf16)]) = p := by
  funext y
  have h := View.read_writes_of_unique (v := arg8.view) (f := f) (⟨Rect.unit ![0, 0] S256x128.size inb_S256x128_S256x128_0_0, p⟩ : View.Piece (Elt F) S256x128 .bf16) y
    [_] (List.mem_singleton_self _) (fun q hq _ => List.mem_singleton.mp hq)
  have e : (Rect.unit (s := S256x128) ![0, 0] S256x128.size inb_S256x128_S256x128_0_0).emb y = y := by
    funext a; apply Fin.ext; fin_cases a <;> simp [Rect.emb, Rect.unit]
  exact (congrArg _ e.symm).trans h

/-- A block loaded whole is what it holds. -/
theorem loaded {S : Shape} {e : EltTy} (arg : Memref sig .tc .vmem S e) {off : Fin S.rank → ℕ} (h : off = fun _ => 0)
    (inb : ∀ a, off a + S.size a ≤ S.size a) (f : BufTy.Contents (Elt F) arg.view.ty) (x : S.Idx → Elt F e) (hf : arg.view.read (Elt F) f = x) :
    arg.view.readAt (Elt F) (Rect.unit off S.size inb).toLoadRect f = x :=
  (View.ld_unit_zero h inb (arg.view.read (Elt F) f)).trans hf

/-- The word of the table loaded at a point is the entry of the block of queries. -/
theorem word_at (a : S32.Idx → BitVec 32) (i : grid0.Coords) (off : Fin 1 → ℕ) (ho : off = ![(i 1).val])
    (inb : ∀ b, off b + S1.size b ≤ S32.size b) (hp : 0 < S1.numel) :
    (View.readAt (Elt F) countTab.view (Rect.unit (s := S32) off S1.size inb).toLoadRect a (Shape.Idx.first hp) : BitVec 32) = a (ix1 (i 1)) := by
  subst ho
  refine congrArg a (funext fun b => Fin.ext ?_)
  fin_cases b
  show (i 1).val + 1 * 0 = (i 1).val
  omega

theorem leaves (c : Dev nD) (i : grid0.Coords) (a1 : S32.Idx → BitVec 32) (n : ℕ) (hn : n ≤ 16) (hc : (a1 (ix1 (i 1))).toInt = n)
    (arg3 : Memref sig .tc .vmem S1x256x192 .bf16) (harg3 : arg3.IsWhole) (arg4 : Memref sig .tc .vmem S1x8192x192 .bf16) (harg4 : arg4.IsWhole)
    (arg5 : Memref sig .tc .vmem S8192x128 .bf16) (harg5 : arg5.IsWhole) (arg6 : Memref sig .tc .vmem S256x1 .i32) (harg6 : arg6.IsWhole)
    (arg7 : Memref sig .tc .vmem S1x8192 .i32) (harg7 : arg7.IsWhole) (arg8 : Memref sig .tc .vmem S256x128 .bf16) (harg8 : arg8.IsWhole)
    (x0 : Vec F S1x256x192 .bf16) (x1 : Vec F S1x8192x192 .bf16) (x2 : Vec F S8192x128 .bf16) (x3 : Vec F S256x1 .i32) (x4 : Vec F S1x8192 .i32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ tabHeld c a1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attended x0 x1 x2 x3 x4 n) ∗ tabHeld c a1) -∗ K ⟨⟩))
      ⊢ wp frame (wpE (defs₀ (F := F)) Variants.none c none) E
          (cc0_mla_attention i countTab (Memref.isWhole_whole _) arg3 harg3 arg4 harg4 arg5 harg5 arg6 harg6 arg7 harg7 arg8 harg8) K := by
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT, Hk⟩
  sl_exec
  have hr : leaves.sl.r (F := F) i a1 = a1 (ix1 (i 1)) := by
    unfold leaves.sl.r; exact word_at _ _ _ (k0_off1_eq i) _ _
  generalize leaves.sl.r (F := F) i a1 = w at hr ⊢
  have hwn : w.toInt = n := (congrArg BitVec.toInt hr).trans hc
  have hw : k0_chk1 w := checked w n hwn hn
  rw [loaded arg3 zeros3 _ _ _ hf0, loaded arg6 zeros2 _ _ _ hf3]
  sl_exec
  sl_for (Inv c arg4 arg5 arg7 x0 x1 x2 x3 x4) $$ [H1 H2 H4]
  · intro t acc
    exact step c i countTab (Memref.isWhole_whole _) arg3 harg3 arg4 harg4 arg5 harg5 arg6 harg6 arg7 harg7 arg8 harg8 x0 x1 x2 x3 x4 w hw E t
      (by have h := t.isLt; have e := trips1 w n hwn; change t.val < (k0_t1_loop w).trips at h; omega) acc
  · unfold Inv owns
    isplitl [H1]
    · iexists _; isplitr; · ipureintro; exact hf1
      iexact H1
    isplitl [H2]
    · iexists _; isplitr; · ipureintro; exact hf2
      iexact H2
    isplitl [H4]
    · iexists _; isplitr; · ipureintro; exact hf4
      iexact H4
    ipureintro
    rfl
  have e : Scf.trips (k0_t1_loop w).lb (k0_t1_loop w).ub (k0_t1_loop w).st = n := trips1 w n hwn
  rw [e]
  unfold Inv owns
  iintro %acc ⟨⟨%g1, %hg1, H1⟩, ⟨%g2, %hg2, H2⟩, ⟨%g4, %hg4, H4⟩, %ha⟩
  obtain ⟨b1, b2, b3⟩ := acc
  unfold leaves.sl.prog.cont_1
  sl_exec
  sl_step
  iapply Hk
  isplitl [H0]
  · iexists _; isplitr; · ipureintro; exact hf0
    iexact H0
  isplitl [H1]
  · iexists _; isplitr; · ipureintro; exact hg1
    iexact H1
  isplitl [H2]
  · iexists _; isplitr; · ipureintro; exact hg2
    iexact H2
  isplitl [H3]
  · iexists _; isplitr; · ipureintro; exact hf3
    iexact H3
  isplitl [H4]
  · iexists _; isplitr; · ipureintro; exact hg4
    iexact H4
  isplitl [H5]
  · iexists _; isplitr; swap; · iexact H5
    ipureintro
    refine (read_stored arg8 _ _).trans ?_
    unfold attended
    rw [← ha]
  iexact HT

end Cert.Kernel3Ideal.Attention
-- ==== Proof.AttentionRun.lean ====
module

public import proofs.«01_k».proof.Proof.AttentionPoint
public import Idealize.ShloMosaic.Lib.Pipeline.FrameBody

@[expose] public section

/-!
# The attention's whole call

The 1024 points one after another: the result's blocks are what the points leave, and the arguments are as they were.
-/

set_option maxRecDepth 16384

noncomputable section

namespace Cert.Kernel3Ideal.Attention

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The table -/

/-- The table's contents at entry. -/
def tabs : pre0.Contents (Elt F) := fun k => V m 0 (pre0.ref k)

theorem tabs_eq (c : Dev nD) (k : Fin pre0.K) : V m c (pre0.ref k) = tabs m k := by
  obtain rfl : c = 0 := Subsingleton.elim _ _
  rfl

theorem tabs_count : (tabs m 0 : S32.Idx → BitVec 32) = needed (posOf m 0) := V_v20 m 0

/-- Every block lies in its array. -/
theorem ok : ok0 (F := F) (tabs m) := trivial

abbrev held : (pcfg0 (F := F)).Adm := ⟨tabs m, ok m⟩
abbrev cfgH : Cfg sig Λ₀ := cfg0 (held m)

theorem tabs_held (c : Dev nD) : (Pipeline.ΦT pre0 (tabs m) c : sProp 𝕄) = tabHeld c (tabs m 0) := by
  unfold Pipeline.ΦT Pipeline.prefHeld
  rw [show (Finset.univ : Finset (Fin 1)) = {(0 : Fin 1)} from by decide, bigSep_singleton]
  rfl

/-! ## The blocks -/

/-- Window `w`'s block at point `t`. -/
def blk (c : Dev nD) (w : Fin (cfgH m).W) (t : Fin (cfgH m).N) : (((cfgH m).win w).xblock ((cfgH m).grid.coords t)).Idx → Elt F ((cfgH m).win w).elt :=
  (((cfgH m).win w).blk t).view.read (Elt F) (V m c (Pipeline.arrRef spec0 w))

/-- The blocks of keys a block of queries goes through. -/
def count (i : Fin 32) : ℕ := (needed (posOf m 0) (ix1 i)).toInt.toNat

theorem count_le (i : Fin 32) : count m i ≤ 16 := by
  have := (needed_bounds (posOf m 0) i).2.1
  unfold count; omega

theorem count_eq (i : Fin 32) : (needed (posOf m 0) (ix1 i)).toInt = count m i := by
  have := (needed_bounds (posOf m 0) i).1
  unfold count; omega

/-- What a point leaves. -/
def leaves_at (c : Dev nD) (t : Fin grid0.N) : Vec F S256x128 .bf16 :=
  attended (blk m c 0 t) (blk m c 1 t) (blk m c 2 t) (blk m c 3 t) (blk m c 4 t) (count m (grid0.coords t 1))

def dats (_ : Fin 1) (c : Dev nD) : Dat τ (Elt F) Unit ℕ (UR sig nD τ) ℕ (cfgH m) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => leaves_at m c t
  Φ _ := iprop(Pipeline.ΦA spec0 c ∗ Pipeline.ΦT pre0 (tabs m) c)
  q _ := fullShare
  owed _ := 0

theorem dats_A (c : Dev nD) (w : Fin (cfgH m).W) : (dats m 0 c).A w = V m c (Pipeline.arrRef spec0 w) := by dsimp only [dats]

theorem after0 (c : Dev nD) (t : Fin (cfgH m).N) : (dats m 0 c).after 0 t = blk m c 0 t := by dsimp only [dats]; try rfl
theorem after1 (c : Dev nD) (t : Fin (cfgH m).N) : (dats m 0 c).after 1 t = blk m c 1 t := by dsimp only [dats]; try rfl
theorem after2 (c : Dev nD) (t : Fin (cfgH m).N) : (dats m 0 c).after 2 t = blk m c 2 t := by dsimp only [dats]; try rfl
theorem after3 (c : Dev nD) (t : Fin (cfgH m).N) : (dats m 0 c).after 3 t = blk m c 3 t := by dsimp only [dats]; try rfl
theorem after4 (c : Dev nD) (t : Fin (cfgH m).N) : (dats m 0 c).after 4 t = blk m c 4 t := by dsimp only [dats]; try rfl
theorem after5 (c : Dev nD) (t : Fin (cfgH m).N) : (dats m 0 c).after 5 t = leaves_at m c t := by dsimp only [dats]; try rfl

/-! Each input's staged buffer holds its block. -/

theorem before0 (c : Dev nD) (t : Fin (cfgH m).N) (d) : (dats m 0 c).before 0 t d = blk m c 0 t :=
  ((dats m 0 c).before_in_eq_fetched 0 rfl (fun _ => rfl) (fun _ _ _ => rfl) (fun t => by rw [after0]; unfold Dat.blockOf blk; rw [dats_A]; try rfl) t d).trans
    (by unfold Dat.fetched Dat.blockOf blk; rw [dats_A]; try rfl)
theorem before1 (c : Dev nD) (t : Fin (cfgH m).N) (d) : (dats m 0 c).before 1 t d = blk m c 1 t :=
  ((dats m 0 c).before_in_eq_fetched 1 rfl (fun _ => rfl) (fun _ _ _ => rfl) (fun t => by rw [after1]; unfold Dat.blockOf blk; rw [dats_A]; try rfl) t d).trans
    (by unfold Dat.fetched Dat.blockOf blk; rw [dats_A]; try rfl)
theorem before2 (c : Dev nD) (t : Fin (cfgH m).N) (d) : (dats m 0 c).before 2 t d = blk m c 2 t :=
  ((dats m 0 c).before_in_eq_fetched 2 rfl (fun _ => rfl) (fun _ _ _ => rfl) (fun t => by rw [after2]; unfold Dat.blockOf blk; rw [dats_A]; try rfl) t d).trans
    (by unfold Dat.fetched Dat.blockOf blk; rw [dats_A]; try rfl)
theorem before3 (c : Dev nD) (t : Fin (cfgH m).N) (d) : (dats m 0 c).before 3 t d = blk m c 3 t :=
  ((dats m 0 c).before_in_eq_fetched 3 rfl (fun _ => rfl) (fun _ _ _ => rfl) (fun t => by rw [after3]; unfold Dat.blockOf blk; rw [dats_A]; try rfl) t d).trans
    (by unfold Dat.fetched Dat.blockOf blk; rw [dats_A]; try rfl)
theorem before4 (c : Dev nD) (t : Fin (cfgH m).N) (d) : (dats m 0 c).before 4 t d = blk m c 4 t :=
  ((dats m 0 c).before_in_eq_fetched 4 rfl (fun _ => rfl) (fun _ _ _ => rfl) (fun t => by rw [after4]; unfold Dat.blockOf blk; rw [dats_A]; try rfl) t d).trans
    (by unfold Dat.fetched Dat.blockOf blk; rw [dats_A]; try rfl)

/-! ## One point -/

abbrev stg (t : Fin (cfgH m).N) (w : Fin (cfgH m).W) := ((cfgH m).win w).stage ((cfgH m).slots t w)

/-- The body at a point. -/
abbrev bodyAt (t : Fin (cfgH m).N) : Prog (TpuEff nD τ sig (Elt F) Λ₀ .tc) PUnit :=
  cc0_mla_attention (grid0.coords t) countTab (Memref.isWhole_whole _)
    (spec0_0.stage ((cfgH m).slots t 0)) (hstage0_0 (((cfgH m).slots t 0).cast nbuf0_0))
    (spec0_1.stage ((cfgH m).slots t 1)) (hstage0_1 (((cfgH m).slots t 1).cast nbuf0_1))
    (spec0_2.stage ((cfgH m).slots t 2)) (hstage0_2 (((cfgH m).slots t 2).cast nbuf0_2))
    (spec0_3.stage ((cfgH m).slots t 3)) (hstage0_3 (((cfgH m).slots t 3).cast nbuf0_3))
    (spec0_4.stage ((cfgH m).slots t 4)) (hstage0_4 (((cfgH m).slots t 4).cast nbuf0_4))
    (spec0_5.stage ((cfgH m).slots t 5)) (hstage0_5 (((cfgH m).slots t 5).cast nbuf0_5))

def preAt (c : Dev nD) (t : Fin (cfgH m).N) : sProp 𝕄 :=
  iprop((dats m 0 c).Φ t.castSucc ∗ (dats m 0 c).owesAt () t.castSucc
    ∗ (∃ d, owns (c : Thread nD τ) (stg m t 0) fullShare ((dats m 0 c).before 0 t d))
    ∗ (∃ d, owns (c : Thread nD τ) (stg m t 1) fullShare ((dats m 0 c).before 1 t d))
    ∗ (∃ d, owns (c : Thread nD τ) (stg m t 2) fullShare ((dats m 0 c).before 2 t d))
    ∗ (∃ d, owns (c : Thread nD τ) (stg m t 3) fullShare ((dats m 0 c).before 3 t d))
    ∗ (∃ d, owns (c : Thread nD τ) (stg m t 4) fullShare ((dats m 0 c).before 4 t d))
    ∗ (∃ d, owns (c : Thread nD τ) (stg m t 5) fullShare ((dats m 0 c).before 5 t d)))

def postAt (c : Dev nD) (t : Fin (cfgH m).N) : sProp 𝕄 :=
  iprop((dats m 0 c).Φ t.succ ∗ (dats m 0 c).owesAt () t.succ
    ∗ owns (c : Thread nD τ) (stg m t 0) fullShare ((dats m 0 c).after 0 t)
    ∗ owns (c : Thread nD τ) (stg m t 1) fullShare ((dats m 0 c).after 1 t)
    ∗ owns (c : Thread nD τ) (stg m t 2) fullShare ((dats m 0 c).after 2 t)
    ∗ owns (c : Thread nD τ) (stg m t 3) fullShare ((dats m 0 c).after 3 t)
    ∗ owns (c : Thread nD τ) (stg m t 4) fullShare ((dats m 0 c).after 4 t)
    ∗ owns (c : Thread nD τ) (stg m t 5) fullShare ((dats m 0 c).after 5 t))

theorem sound (c : Dev nD) (t : Fin (cfgH m).N) :
    preAt m c t ⊢ wp frame (wpE (defs₀ (F := F)) Variants.none c none) Set.univ (bodyAt m t) (fun _ => postAt m c t) := by
  unfold preAt postAt bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = iprop(Pipeline.ΦA spec0 c ∗ Pipeline.ΦT pre0 (tabs m) c) from rfl, tabs_held]
  iintro ⟨⟨HΦ, HT⟩, Ho, ⟨%d0, H0⟩, ⟨%d1, H1⟩, ⟨%d2, H2⟩, ⟨%d3, H3⟩, ⟨%d4, H4⟩, ⟨%d5, H5⟩⟩
  iapply (leaves c (grid0.coords t) (tabs m 0) (count m (grid0.coords t 1)) (count_le m _)
    ((congrArg BitVec.toInt (congrFun (tabs_count m) _)).trans (count_eq m _)) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [HT]; · iexact HT
  iintro ⟨H0, H1, H2, H3, H4, H5, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  iexact H5

theorem obligation (c : Dev nD) : BodyObligation (dats (F := F) m 0 c) (defs₀ (F := F)) Variants.none () Set.univ := fun t => by
  rw [bigSep_W0, bigSep_W0]
  rw [show defs₀ (F := F) .tc (cfgH m).body ((cfgH m).bodyArgs t ((cfgH m).slots t)) = bodyAt m t from by unfold defs₀; rw [Defs.onTc_tc]]
  refine triple_restated (sound m c t) rfl .rfl fun _ => ?_
  unfold postAt
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The run -/

set_option backward.isDefEq.respectTransparency.types false in
theorem run : θ_run defs (onTc (τ := τ) (main (F := F))) (s₀ m ρ)
    (fun r => (Pipeline.FramePost (Pipeline.pin pcfgs fun _ => held m) (dats m) 0 (V m)) r ∧ r.2.sem = fun _ => 0) :=
  Pipeline.θ_run_frameP (Q' := _) pcfgs (fun _ => held m) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hpf := tabs_eq m)
    (hΦ := fun _ _ => rfl)

/-- The result, and the arguments as they were. -/
theorem attention : θ_run defs (onTc (τ := τ) (main (F := F))) (s₀ m ρ) (fun r =>
    (∀ c : Dev nD, r.2.mem ((c.tc : Thread nD τ).loc main_v21) = (dats m 0 c).arrAt 5 (cfgH m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c).1 5,
      ((h.1 c).1 0).trans (((dats m 0 c).arrAt_in 0 rfl _).trans ((dats_A m c 0).trans (V_arg0 m c))),
      ((h.1 c).1 1).trans (((dats m 0 c).arrAt_in 1 rfl _).trans ((dats_A m c 1).trans (V_arg1 m c))),
      ((h.1 c).1 2).trans (((dats m 0 c).arrAt_in 2 rfl _).trans ((dats_A m c 2).trans (V_arg2 m c))),
      ((h.1 c).2 main_arg3 (by decide : main_arg3 ∈ Pipeline.restRefs sig spec0)).trans (V_arg3 m c)⟩, h.2⟩) (run m ρ)

end Cert.Kernel3Ideal.Attention
-- ==== Proof.AttentionMath.lean ====
module

public import proofs.«01_k».proof.Proof.AttentionCount
public import Idealize.ShloMosaic.PureOps.Ideal.Laws

@[expose] public section

/-!
# A softmax taken block by block

A running maximum, with the sum and the weighted values rescaled as it grows, ends where the softmax over all keys does. The scores are numbers, or minus infinity where the mask hides the key.
-/

noncomputable section

namespace Cert.Kernel3Ideal.Attention

open Idealize.ShloMosaic

open scoped BigOperators

theorem exp_nonneg (x : EReal) : 0 ≤ Ideal.exp x := by
  induction x with
  | bot => exact le_rfl
  | top => exact le_top
  | coe r => exact EReal.coe_nonneg.mpr (Real.exp_pos r).le

/-- Below a maximum that is no infinity above, a weight is a number. -/
theorem exp_ne_top {s M : EReal} (h : s ≤ M) (hM : M ≠ ⊤) : Ideal.exp (s - M) ≠ ⊤ := by
  induction M with
  | top => exact absurd rfl hM
  | bot => rw [le_bot_iff.mp h]; exact EReal.zero_ne_top
  | coe b =>
    induction s with
    | top => exact absurd (top_le_iff.mp h) hM
    | bot => rw [EReal.bot_sub]; exact EReal.zero_ne_top
    | coe a => rw [← EReal.coe_sub]; exact EReal.coe_ne_top _

/-- A weight against one maximum becomes the weight against a larger one. -/
theorem rescale {s M M' : EReal} (h : s ≤ M) (h' : M ≤ M') (hM : M' ≠ ⊤) : Ideal.exp (M - M') * Ideal.exp (s - M) = Ideal.exp (s - M') := by
  induction s with
  | top => exact absurd (top_le_iff.mp (le_trans h h')) hM
  | bot => rw [EReal.bot_sub, EReal.bot_sub, Ideal.exp_bot, mul_zero]
  | coe a =>
    induction M with
    | top => exact absurd (top_le_iff.mp h') hM
    | bot => exact absurd (le_bot_iff.mp h) (EReal.coe_ne_bot a)
    | coe b =>
      induction M' with
      | top => exact absurd rfl hM
      | bot => exact absurd (le_bot_iff.mp h') (EReal.coe_ne_bot b)
      | coe c =>
        rw [← EReal.coe_sub, ← EReal.coe_sub, ← EReal.coe_sub, Ideal.exp_coe, Ideal.exp_coe, Ideal.exp_coe, ← EReal.coe_mul, ← Real.exp_add]
        congr 2; ring

variable {ι : Type} [DecidableEq ι]

/-- A number at least zero goes into a sum. -/
theorem into_sum (c : EReal) (h0 : 0 ≤ c) (ht : c ≠ ⊤) (K : Finset ι) (f : ι → EReal) : c * ∑ k ∈ K, f k = ∑ k ∈ K, c * f k := by
  induction K using Finset.induction_on with
  | empty => rw [Finset.sum_empty, Finset.sum_empty, mul_zero]
  | insert a K ha ih => rw [Finset.sum_insert ha, Finset.sum_insert ha, EReal.left_distrib_of_nonneg_of_ne_top h0 ht, ih]

variable (s : ι → EReal)

theorem top_ne (hs : ∀ k, s k ≠ ⊤) (K : Finset ι) : K.sup s ≠ ⊤ :=
  ne_of_lt ((Finset.sup_lt_iff bot_lt_top).mpr fun k _ => lt_top_iff_ne_top.mpr (hs k))

/-- The sum of the weighted values, when a block of keys is added. -/
theorem grow (hs : ∀ k, s k ≠ ⊤) (v : ι → EReal) (K T : Finset ι) (hd : Disjoint K T) :
    Ideal.exp (K.sup s - (K ∪ T).sup s) * (∑ k ∈ K, Ideal.exp (s k - K.sup s) * v k) + ∑ k ∈ T, Ideal.exp (s k - (K ∪ T).sup s) * v k
      = ∑ k ∈ K ∪ T, Ideal.exp (s k - (K ∪ T).sup s) * v k := by
  have hle : K.sup s ≤ (K ∪ T).sup s := Finset.sup_mono Finset.subset_union_left
  rw [Finset.sum_union hd, into_sum _ (exp_nonneg _) (exp_ne_top hle (top_ne s hs _))]
  refine congrArg (· + _) (Finset.sum_congr rfl fun k hk => ?_)
  rw [← mul_assoc, rescale (Finset.le_sup hk) hle (top_ne s hs _)]

/-- The quotient after the blocks gone through is the softmax over all keys. -/
theorem quotient [Fintype ι] (hs : ∀ k, s k ≠ ⊤) (v : ι → EReal) (K : Finset ι) (hK : ∀ k, k ∉ K → s k = ⊥) (k₀ : ι) (h₀ : s k₀ ≠ ⊥) :
    Ideal.div (∑ k ∈ K, Ideal.exp (s k - K.sup s) * v k) (∑ k ∈ K, Ideal.exp (s k - K.sup s))
      = ∑ k, v k * Ideal.div (Ideal.exp (s k - Finset.univ.sup s)) (∑ k, Ideal.exp (s k - Finset.univ.sup s)) := by
  have hsup : K.sup s = Finset.univ.sup s := by
    refine le_antisymm (Finset.sup_mono (Finset.subset_univ _)) (Finset.sup_le fun k _ => ?_)
    by_cases hk : k ∈ K
    · exact Finset.le_sup hk
    · rw [hK k hk]; exact bot_le
  rw [hsup]
  have hM := top_ne s hs Finset.univ
  have hle : ∀ k, s k ≤ Finset.univ.sup s := fun k => Finset.le_sup (Finset.mem_univ k)
  generalize Finset.univ.sup s = M at hM hle ⊢
  have hz : ∀ k, k ∉ K → Ideal.exp (s k - M) = 0 := fun k hk => by rw [hK k hk, EReal.bot_sub, Ideal.exp_bot]
  rw [Finset.sum_subset (Finset.subset_univ K) (fun k _ hk => by rw [hz k hk, zero_mul]),
    Finset.sum_subset (Finset.subset_univ K) (fun k _ hk => hz k hk)]
  have hw : ∀ k, Ideal.exp (s k - M) = ((Ideal.exp (s k - M)).toReal : EReal) := fun k =>
    (EReal.coe_toReal (exp_ne_top (hle k) hM) (ne_of_gt (lt_of_lt_of_le EReal.bot_lt_zero (exp_nonneg _)))).symm
  have hn : ∀ k, 0 ≤ (Ideal.exp (s k - M)).toReal := fun k => EReal.toReal_nonneg (exp_nonneg _)
  have hp : 0 < (Ideal.exp (s k₀ - M)).toReal := by
    have h1 := hle k₀
    have h2 := hs k₀
    generalize s k₀ = a at h₀ h1 h2 ⊢
    induction a with
    | top => exact absurd rfl h2
    | bot => exact absurd rfl h₀
    | coe a =>
      induction M with
      | top => exact absurd rfl hM
      | bot => exact absurd (le_bot_iff.mp h1) (EReal.coe_ne_bot a)
      | coe b => rw [← EReal.coe_sub]; exact Real.exp_pos _
  generalize hW : (fun k => (Ideal.exp (s k - M)).toReal) = w at *
  have hW' : ∀ k, (Ideal.exp (s k - M)).toReal = w k := fun k => congrFun hW k
  simp only [hW'] at hw hn hp
  simp only [hw]
  have hc : ∀ K : Finset ι, ∑ k ∈ K, (w k : EReal) = ((∑ k ∈ K, w k : ℝ) : EReal) := fun K => by
    induction K using Finset.induction_on with
    | empty => simp
    | insert a K ha ih => rw [Finset.sum_insert ha, Finset.sum_insert ha, ih, EReal.coe_add]
  have hL : 0 < ∑ k, w k := lt_of_lt_of_le hp (Finset.single_le_sum (fun k _ => hn k) (Finset.mem_univ k₀))
  rw [hc, Ideal.div_coe hL.ne', mul_comm, into_sum _ (EReal.coe_nonneg.mpr (by positivity)) (EReal.coe_ne_top _)]
  refine Finset.sum_congr rfl fun k _ => ?_
  rw [Ideal.div_coe hL.ne', mul_comm, mul_right_comm, mul_comm]

end Cert.Kernel3Ideal.Attention
-- ==== Proof.AttentionTile.lean ====
module

public import proofs.«01_k».proof.Proof.AttentionMath
public import proofs.«01_k».proof.Proof.AttentionPoint
public import Idealize.ShloMosaic.Lib.MatmulPlain

@[expose] public section

/-!
# What a block of queries computes

Each row carries the running softmax over the keys of the blocks gone through.
-/

set_option maxRecDepth 16384

noncomputable section

namespace Cert.Kernel3Ideal.Attention

open Cert.Kernel3Ideal Cert.Kernel3Ideal.Gen
open Idealize.ShloMosaic

open scoped BigOperators

/-! ## The constants -/

theorem ofBits_neg_inf : Ideal.ofBits .f32 0xFF800000#32 = ⊥ := by
  simp [Ideal.ofBits, Ideal.ieee]

theorem mask_bot : (Named.named (F := Ideal) (φ := .f32) κ "mask" 0xF149F2CA#32 : EReal) = ⊥ :=
  IdealRules.named_const.ideal_named_scalar _ _ _ _ (by simp [Cert.Kernel3Ideal.κ])

/-! ## One block of keys -/

/-- A column of one, at a row. -/
theorem column (y : FVec Ideal S256 .f32) (r : Fin 256) : shapeCast S256x1 y shapeCasts_S256_S256x1 (ix2 r 0) = y (ix1 r) := by
  refine shapeCast_apply _ _ _ _ ?_
  refine (Shape.rowMajor_val_one (ix1 r)).trans (Eq.symm ((Shape.rowMajor_val_two (ix2 r 0)).trans ?_))
  show r.val * 1 + 0 = r.val
  omega

theorem rows_queries (x0 : Vec Ideal S1x256x192 .bf16) (r : Fin 256) (d : Fin 192) : k0_pay1 x0 (ix2 r d) = x0 (ix3 0 r d) := by
  show shapeCast S256x192 x0 shapeCasts_S1x256x192_S256x192 (ix2 r d) = _
  refine shapeCast_apply _ _ _ _ ?_
  refine (Shape.rowMajor_val_three (ix3 0 r d)).trans (Eq.symm ((Shape.rowMajor_val_two (ix2 r d)).trans ?_))
  show r.val * 192 + d.val = (0 * 256 + r.val) * 192 + d.val
  omega

theorem rows_keys (kj : Vec Ideal S1x512x192 .bf16) (k : Fin 512) (d : Fin 192) :
    shapeCast S512x192 kj shapeCasts_S1x512x192_S512x192 (ix2 k d) = kj (ix3 0 k d) := by
  refine shapeCast_apply _ _ _ _ ?_
  refine (Shape.rowMajor_val_three (ix3 0 k d)).trans (Eq.symm ((Shape.rowMajor_val_two (ix2 k d)).trans ?_))
  show k.val * 192 + d.val = (0 * 512 + k.val) * 192 + d.val
  omega

theorem products (a : FVec Ideal S256x192 .bf16) (b : FVec Ideal S512x192 .bf16) (r : Fin 256) (k : Fin 512) :
    matmul dot_S256x192_S512x192_S256x512_1_1_0_0_n_n none a b (constant S256x512 .f32 0x00000000#32) (ix2 r k) = ∑ d : Fin 192, a (ix2 r d) * b (ix2 k d) := by
  show Ideal.ofBits .f32 0x00000000#32 + ∑ q : dot_S256x192_S512x192_S256x512_1_1_0_0_n_n.contr.Idx,
    a (dot_S256x192_S512x192_S256x512_1_1_0_0_n_n.lhsIdx (ix2 r k) q) * b (dot_S256x192_S512x192_S256x512_1_1_0_0_n_n.rhsIdx (ix2 r k) q) = _
  rw [Ideal.ofBits_zero_f32, zero_add,
    ← Equiv.sum_comp (ValueIdx.contrEquiv1 dot_S256x192_S512x192_S256x512_1_1_0_0_n_n 192 (by decide) (by decide)).symm]
  refine Finset.sum_congr rfl fun d _ => ?_
  have hk := ValueIdx.contrEquiv1_symm_val dot_S256x192_S512x192_S256x512_1_1_0_0_n_n 192 (by decide) (by decide) d
  generalize (ValueIdx.contrEquiv1 dot_S256x192_S512x192_S256x512_1_1_0_0_n_n 192 (by decide) (by decide)).symm d = q at hk ⊢
  have hl : dot_S256x192_S512x192_S256x512_1_1_0_0_n_n.lhsIdx (ix2 r k) q = ix2 r d := by
    funext a; apply Fin.ext; fin_cases a
    · rfl
    · exact hk
  have hr : dot_S256x192_S512x192_S256x512_1_1_0_0_n_n.rhsIdx (ix2 r k) q = ix2 k d := by
    funext a; apply Fin.ext; fin_cases a
    · rfl
    · exact hk
  rw [hl, hr]

theorem scores_apply (x0 : Vec Ideal S1x256x192 .bf16) (x3 : Vec Ideal S256x1 .i32) (kj : Vec Ideal S1x512x192 .bf16) (pj : Vec Ideal S1x512 .i32)
    (r : Fin 256) (k : Fin 512) :
    k0_pay6 x0 x3 kj pj (ix2 r k)
      = if (chunk (pj (ix2 0 k))).toInt ≤ (chunk (x3 (ix2 r 0))).toInt then ∑ d : Fin 192, x0 (ix3 0 r d) * kj (ix3 0 k d) else ⊥ := by
  have hp : matmul dot_S256x192_S512x192_S256x512_1_1_0_0_n_n none (k0_pay1 x0) (shapeCast S512x192 kj shapeCasts_S1x512x192_S512x192 : FVec Ideal S512x192 .bf16) (constant S256x512 .f32 0x00000000#32) (ix2 r k)
      = ∑ d : Fin 192, x0 (ix3 0 r d) * kj (ix3 0 k d) := by
    rw [products]; exact Finset.sum_congr rfl fun d _ => by rw [rows_queries, rows_keys]
  rw [← hp, ← mask_bot]
  show (if (IntOp.cmpi .sle
      (broadcastTo S256x512 (shrsi (shapeCast S1x512 pj shapeCasts_S1x512_S1x512) (broadcast S1x512 6#32)) broadcasts_S1x512_S256x512 (ix2 r k))
      (broadcastTo S256x512 (shrsi (shapeCast S256x1 x3 shapeCasts_S256x1_S256x1) (broadcast S256x1 6#32)) broadcasts_S256x1_S256x512 (ix2 r k)) : BitVec 1) = 1#1 then _ else _) = _
  rw [shapeCast_self, shapeCast_self,
    broadcastTo_apply (shrsi pj (broadcast S1x512 6#32)) _ _ (ix2 0 k) (fun a => by fin_cases a <;> rfl),
    broadcastTo_apply (shrsi x3 (broadcast S256x1 6#32)) _ _ (ix2 r 0) (fun a => by fin_cases a <;> rfl)]
  exact if_congr (cmp_iff _ _) rfl rfl

theorem fold_max (n : ℕ) (f : Fin n → EReal) : Finset.fold max ⊥ f Finset.univ = Finset.univ.sup f := rfl

variable (x0 : Vec Ideal S1x256x192 .bf16) (x3 : Vec Ideal S256x1 .i32) (kj : Vec Ideal S1x512x192 .bf16) (vj : Vec Ideal S512x128 .bf16) (pj : Vec Ideal S1x512 .i32)
  (a1 a2 : FVec Ideal S256x1 .f32) (a3 : FVec Ideal S256x128 .f32)

theorem max_apply (r : Fin 256) :
    k0_pay7 x0 x3 a1 kj pj (ix2 r 0) = max (a1 (ix2 r 0)) (Finset.univ.sup fun k : Fin 512 => k0_pay6 x0 x3 kj pj (ix2 r k)) := by
  show max (a1 (ix2 r 0)) (shapeCast S256x1 (multiReduction .maximumf [1] S256 (k0_pay6 x0 x3 kj pj) 0xFF800000#32 reduces_S256x512_S256 (.inl rfl) rfl) shapeCasts_S256_S256x1 (ix2 r 0)) = _
  rw [column]
  refine congrArg (max _) ((Ideal.multiReduction_maximumf_single (k0_pay6 x0 x3 kj pj) 0xFF800000#32 reduces_S256x512_S256 (.inl rfl) rfl (ix1 r)).trans ?_)
  refine Eq.trans ?_ (fold_max 512 _)
  refine (congrArg (fun b => Finset.fold max b _ _) ofBits_neg_inf).trans (Finset.fold_congr fun k _ => congrArg (k0_pay6 x0 x3 kj pj) ?_)
  funext a; fin_cases a <;> rfl

theorem factor_apply (r : Fin 256) : k0_pay8 x0 x3 a1 kj pj (ix2 r 0) = Ideal.exp (a1 (ix2 r 0) - k0_pay7 x0 x3 a1 kj pj (ix2 r 0)) := rfl

theorem weights_apply (r : Fin 256) (k : Fin 512) :
    k0_pay9 x0 x3 a1 kj pj (ix2 r k) = Ideal.exp (k0_pay6 x0 x3 kj pj (ix2 r k) - k0_pay7 x0 x3 a1 kj pj (ix2 r 0)) := by
  show Ideal.exp (k0_pay6 x0 x3 kj pj (ix2 r k) - broadcastTo S256x512 (k0_pay7 x0 x3 a1 kj pj) broadcasts_S256x1_S256x512 (ix2 r k)) = _
  rw [broadcastTo_apply (k0_pay7 x0 x3 a1 kj pj) _ _ (ix2 r 0) (fun a => by fin_cases a <;> rfl)]

theorem sum_apply (r : Fin 256) :
    k0_pay10 x0 x3 a1 a2 kj pj (ix2 r 0) = k0_pay8 x0 x3 a1 kj pj (ix2 r 0) * a2 (ix2 r 0) + ∑ k : Fin 512, k0_pay9 x0 x3 a1 kj pj (ix2 r k) := by
  show k0_pay8 x0 x3 a1 kj pj (ix2 r 0) * a2 (ix2 r 0)
    + shapeCast S256x1 (multiReduction .add [1] S256 (k0_pay9 x0 x3 a1 kj pj) 0x00000000#32 reduces_S256x512_S256 (.inl rfl) rfl) shapeCasts_S256_S256x1 (ix2 r 0) = _
  rw [column]
  refine congrArg (_ + ·) ((Ideal.multiReduction_add_single (k0_pay9 x0 x3 a1 kj pj) 0x00000000#32 reduces_S256x512_S256 (.inl rfl) rfl (ix1 r)).trans ?_)
  refine Finset.sum_congr rfl fun k _ => congrArg (k0_pay9 x0 x3 a1 kj pj) ?_
  funext a; fin_cases a <;> rfl

theorem values_apply (r : Fin 256) (j : Fin 128) :
    k0_pay11 x0 x3 a1 a3 kj vj pj (ix2 r j)
      = k0_pay8 x0 x3 a1 kj pj (ix2 r 0) * a3 (ix2 r j) + ∑ k : Fin 512, k0_pay9 x0 x3 a1 kj pj (ix2 r k) * vj (ix2 k j) := by
  show broadcastTo S256x128 (k0_pay8 x0 x3 a1 kj pj) broadcasts_S256x1_S256x128 (ix2 r j) * a3 (ix2 r j)
    + FloatOps.matmul (F := Ideal) (DotDims.plain 256 512 128) none (truncf .bf16 (k0_pay9 x0 x3 a1 kj pj) bitsLt_bf16_f32) vj (constant S256x128 .f32 0x00000000#32) (ix2 r j) = _
  rw [broadcastTo_apply (k0_pay8 x0 x3 a1 kj pj) _ _ (ix2 r 0) (fun a => by fin_cases a <;> rfl)]
  exact congrArg (_ + ·) ((Ideal.matmul_plain_apply none (truncf .bf16 (k0_pay9 x0 x3 a1 kj pj) bitsLt_bf16_f32) vj (constant S256x128 .f32 0x00000000#32) r j).trans
    ((congrArg (· + _) Ideal.ofBits_zero_f32).trans (zero_add _)))

end Cert.Kernel3Ideal.Attention
-- ==== Proof.AttentionRows.lean ====
module

public import proofs.«01_k».proof.Proof.AttentionTile

@[expose] public section

/-!
# A row of a block of queries

After some blocks of keys the carried values are the softmax's over the keys of those blocks, and the stored quotient is the softmax over all keys when no key left out is seen.
-/

set_option maxRecDepth 16384

noncomputable section

namespace Cert.Kernel3Ideal.Attention

open Cert.Kernel3Ideal Cert.Kernel3Ideal.Gen
open Idealize.ShloMosaic

open scoped BigOperators

/-! ## The keys gone through -/

def gone (n : ℕ) : Finset (Fin 8192) := Finset.univ.filter fun k => k.val < 512 * n

def keyIn (j : Fin 16) : Fin 512 ↪ Fin 8192 := ⟨key j, fun a b h => Fin.ext (by have := congrArg Fin.val h; simp only [key] at this; omega)⟩

def block (j : Fin 16) : Finset (Fin 8192) := Finset.univ.map (keyIn j)

theorem mem_block (j : Fin 16) (k : Fin 8192) : k ∈ block j ↔ 512 * j.val ≤ k.val ∧ k.val < 512 * j.val + 512 := by
  unfold block
  rw [Finset.mem_map]
  constructor
  · rintro ⟨a, _, rfl⟩
    have := a.isLt
    show 512 * j.val ≤ 512 * j.val + a.val ∧ 512 * j.val + a.val < 512 * j.val + 512
    omega
  · rintro ⟨h1, h2⟩
    refine ⟨⟨k.val - 512 * j.val, by omega⟩, Finset.mem_univ _, Fin.ext ?_⟩
    show 512 * j.val + (k.val - 512 * j.val) = k.val
    omega

theorem mem_gone (n : ℕ) (k : Fin 8192) : k ∈ gone n ↔ k.val < 512 * n := by simp [gone]

theorem gone_zero : gone 0 = ∅ := by ext k; rw [mem_gone]; simp

theorem gone_succ (j : Fin 16) : gone (j.val + 1) = gone j.val ∪ block j := by
  ext k; rw [Finset.mem_union, mem_gone, mem_gone, mem_block]; omega

theorem gone_disjoint (j : Fin 16) : Disjoint (gone j.val) (block j) := by
  rw [Finset.disjoint_left]; intro k h1 h2
  rw [mem_gone] at h1; rw [mem_block] at h2; omega

theorem sum_block (j : Fin 16) (f : Fin 8192 → EReal) : ∑ k : Fin 512, f (key j k) = ∑ k ∈ block j, f k :=
  (Finset.sum_map Finset.univ (keyIn j) f).symm

theorem sup_block (j : Fin 16) (f : Fin 8192 → EReal) : (Finset.univ.sup fun k : Fin 512 => f (key j k)) = (block j).sup f :=
  (Finset.sup_map Finset.univ (keyIn j) f).symm

/-! ## A row -/

variable (x0 : Vec Ideal S1x256x192 .bf16) (x1 : Vec Ideal S1x8192x192 .bf16) (x2 : Vec Ideal S8192x128 .bf16) (x3 : Vec Ideal S256x1 .i32) (x4 : Vec Ideal S1x8192 .i32)

/-- A query's score against a key, minus infinity where the key lies in a later chunk. -/
def score (r : Fin 256) (k : Fin 8192) : EReal :=
  if (chunk (x4 (ix2 0 k))).toInt ≤ (chunk (x3 (ix2 r 0))).toInt then ∑ d : Fin 192, x0 (ix3 0 r d) * x1 (ix3 0 k d) else ⊥

theorem keysOf_apply (j : Fin 16) (k : Fin 512) (d : Fin 192) : keysOf x1 j.val (ix3 0 k d) = x1 (ix3 0 (key j k) d) := by
  refine congrArg x1 (funext fun a => Fin.ext ?_)
  have := j.isLt; have := k.isLt
  fin_cases a
  · rfl
  · show (512 * j.val + k.val) % 8192 = 512 * j.val + k.val; omega
  · rfl

theorem valuesOf_apply (j : Fin 16) (k : Fin 512) (d : Fin 128) : valuesOf x2 j.val (ix2 k d) = x2 (ix2 (key j k) d) := by
  refine congrArg x2 (funext fun a => Fin.ext ?_)
  have := j.isLt; have := k.isLt
  fin_cases a
  · show (512 * j.val + k.val) % 8192 = 512 * j.val + k.val; omega
  · rfl

theorem placesOf_apply (j : Fin 16) (k : Fin 512) : placesOf x4 j.val (ix2 0 k) = x4 (ix2 0 (key j k)) := by
  refine congrArg x4 (funext fun a => Fin.ext ?_)
  have := j.isLt; have := k.isLt
  fin_cases a
  · rfl
  · show (512 * j.val + k.val) % 8192 = 512 * j.val + k.val; omega

theorem score_block (r : Fin 256) (j : Fin 16) (k : Fin 512) :
    k0_pay6 x0 x3 (keysOf x1 j.val) (placesOf x4 j.val) (ix2 r k) = score x0 x1 x3 x4 r (key j k) := by
  rw [scores_apply, placesOf_apply]
  unfold score
  refine if_congr Iff.rfl (Finset.sum_congr rfl fun d _ => ?_) rfl
  rw [keysOf_apply]

/-- What a row carries after the keys of `K`. -/
def Carries (r : Fin 256) (K : Finset (Fin 8192)) (a : Carried Ideal) : Prop :=
  a.1 (ix2 r 0) = K.sup (score x0 x1 x3 x4 r)
  ∧ a.2.1 (ix2 r 0) = ∑ k ∈ K, Ideal.exp (score x0 x1 x3 x4 r k - K.sup (score x0 x1 x3 x4 r))
  ∧ ∀ d : Fin 128, a.2.2 (ix2 r d) = ∑ k ∈ K, Ideal.exp (score x0 x1 x3 x4 r k - K.sup (score x0 x1 x3 x4 r)) * x2 (ix2 k d)

theorem carries_zero (r : Fin 256) : Carries x0 x1 x2 x3 x4 r (gone 0) (running x0 x1 x2 x3 x4 0) := by
  rw [gone_zero]
  refine ⟨?_, ?_, fun d => ?_⟩
  · rw [Finset.sup_empty]; exact mask_bot
  · rw [Finset.sum_empty]; exact Ideal.ofBits_zero_f32
  · rw [Finset.sum_empty]; exact Ideal.ofBits_zero_f32

theorem carries_trip (r : Fin 256) (hs : ∀ k, score x0 x1 x3 x4 r k ≠ ⊤) (j : Fin 16) (a : Carried Ideal) (h : Carries x0 x1 x2 x3 x4 r (gone j.val) a) :
    Carries x0 x1 x2 x3 x4 r (gone (j.val + 1)) (trip x0 x1 x2 x3 x4 j.val a) := by
  obtain ⟨h1, h2, h3⟩ := h
  have hd := gone_disjoint j
  have hM : k0_pay7 x0 x3 a.1 (keysOf x1 j.val) (placesOf x4 j.val) (ix2 r 0) = (gone j.val ∪ block j).sup (score x0 x1 x3 x4 r) := by
    rw [max_apply, h1, Finset.sup_union, ← sup_block]
    simp only [score_block]
  have hw : ∀ k : Fin 512, k0_pay9 x0 x3 a.1 (keysOf x1 j.val) (placesOf x4 j.val) (ix2 r k)
      = (fun k => Ideal.exp (score x0 x1 x3 x4 r k - (gone j.val ∪ block j).sup (score x0 x1 x3 x4 r))) (key j k) := fun k => by
    rw [weights_apply, hM, score_block]
  rw [gone_succ]
  have hl : ∑ k : Fin 512, k0_pay9 x0 x3 a.1 (keysOf x1 j.val) (placesOf x4 j.val) (ix2 r k)
      = ∑ k ∈ block j, Ideal.exp (score x0 x1 x3 x4 r k - (gone j.val ∪ block j).sup (score x0 x1 x3 x4 r)) :=
    (Finset.sum_congr rfl fun k _ => hw k).trans (sum_block j fun k => Ideal.exp (score x0 x1 x3 x4 r k - (gone j.val ∪ block j).sup (score x0 x1 x3 x4 r)))
  have hv : ∀ d : Fin 128, ∑ k : Fin 512, k0_pay9 x0 x3 a.1 (keysOf x1 j.val) (placesOf x4 j.val) (ix2 r k) * valuesOf x2 j.val (ix2 k d)
      = ∑ k ∈ block j, Ideal.exp (score x0 x1 x3 x4 r k - (gone j.val ∪ block j).sup (score x0 x1 x3 x4 r)) * x2 (ix2 k d) := fun d =>
    (Finset.sum_congr rfl fun k _ => congrArg₂ (· * ·) (hw k) (valuesOf_apply x2 j k d)).trans
      (sum_block j fun k => Ideal.exp (score x0 x1 x3 x4 r k - (gone j.val ∪ block j).sup (score x0 x1 x3 x4 r)) * x2 (ix2 k d))
  refine ⟨hM, ?_, fun d => ?_⟩
  · show k0_pay10 x0 x3 a.1 a.2.1 (keysOf x1 j.val) (placesOf x4 j.val) (ix2 r 0) = _
    rw [sum_apply, factor_apply, hM, h1, h2, hl]
    have := grow (score x0 x1 x3 x4 r) hs (fun _ => 1) (gone j.val) (block j) hd
    simp only [mul_one] at this
    exact this
  · show k0_pay11 x0 x3 a.1 a.2.2 (keysOf x1 j.val) (valuesOf x2 j.val) (placesOf x4 j.val) (ix2 r d) = _
    rw [values_apply, factor_apply, hM, h1, h3, hv]
    exact grow (score x0 x1 x3 x4 r) hs (fun k => x2 (ix2 k d)) (gone j.val) (block j) hd

theorem carries (r : Fin 256) (hs : ∀ k, score x0 x1 x3 x4 r k ≠ ⊤) (n : ℕ) (hn : n ≤ 16) :
    Carries x0 x1 x2 x3 x4 r (gone n) (running x0 x1 x2 x3 x4 n) := by
  induction n with
  | zero => exact carries_zero x0 x1 x2 x3 x4 r
  | succ n ih => exact carries_trip x0 x1 x2 x3 x4 r hs ⟨n, hn⟩ _ (ih (by omega))

/-- The softmax of a row of scores, weighting a column of values. -/
def softmax (s v : Fin 8192 → EReal) : EReal :=
  ∑ k, v k * Ideal.div (Ideal.exp (s k - Finset.univ.sup s)) (∑ k, Ideal.exp (s k - Finset.univ.sup s))

theorem attended_apply (r : Fin 256) (hs : ∀ k, score x0 x1 x3 x4 r k ≠ ⊤) (n : ℕ) (hn : n ≤ 16)
    (hl : ∀ k : Fin 8192, 512 * n ≤ k.val → score x0 x1 x3 x4 r k = ⊥) (k₀ : Fin 8192) (h₀ : score x0 x1 x3 x4 r k₀ ≠ ⊥) (d : Fin 128) :
    attended x0 x1 x2 x3 x4 n (ix2 r d) = softmax (score x0 x1 x3 x4 r) fun k => x2 (ix2 k d) := by
  obtain ⟨-, h2, h3⟩ := carries x0 x1 x2 x3 x4 r hs n hn
  show Ideal.div ((running x0 x1 x2 x3 x4 n).2.2 (ix2 r d)) (broadcastTo S256x128 (running x0 x1 x2 x3 x4 n).2.1 broadcasts_S256x1_S256x128 (ix2 r d)) = _
  rw [broadcastTo_apply (running x0 x1 x2 x3 x4 n).2.1 _ _ (ix2 r 0) (fun a => by fin_cases a <;> rfl), h2, h3]
  exact quotient (score x0 x1 x3 x4 r) hs (fun k => x2 (ix2 k d)) (gone n) (fun k hk => hl k (by rw [mem_gone] at hk; omega)) k₀ h₀

end Cert.Kernel3Ideal.Attention
-- ==== Proof.AttentionBlocks.lean ====
module

public import proofs.«01_k».proof.Proof.AttentionRun
public import Idealize.ShloMosaic.Lib.Pipeline.FrameValue
public import Idealize.ShloMosaic.Lib.Pipeline.Covers

@[expose] public section

/-!
# The attention's blocks, entry by entry

A point is a head and a block of queries. It reads that block of the head's queries and all of the head's keys and values, and writes the block's rows of the head's columns.
-/

set_option maxRecDepth 16384

noncomputable section

namespace Cert.Kernel3Ideal.Attention

open Cert.Kernel3Ideal Cert.Kernel3Ideal.Gen
open Idealize.ShloMosaic Idealize.ShloMosaic.TcCoe
open Idealize.ShloMosaic.Rounds
open Idealize.ShloMosaic.Pipeline (Dat Cfg Window)

variable {F : FTy → Type} [FloatOps F] [Named F]

variable (m : (ℓ : Loc nD τ sig) → Buf (Elt F) ℓ)

/-- A point's head and block of queries. -/
def head (t : Fin grid0.N) : Fin 32 := grid0.coords t 0
def tile (t : Fin grid0.N) : Fin 32 := grid0.coords t 1

/-- A head's column of the values. -/
def col (h : Fin 32) (d : Fin 128) : Fin 4096 := ⟨128 * h.val + d.val, by have := h.isLt; have := d.isLt; omega⟩

theorem blk0 (c : Dev nD) (t : Fin (cfgH m).N) (r : Fin 256) (d : Fin 192) :
    (blk m c 0 t : S1x256x192.Idx → Elt F .bf16) (ix3 0 r d) = (m ((c : Thread nD τ).loc main_arg0) : S32x8192x192.Idx → Elt F .bf16) (ix3 (head t) (query (tile t) r) d) := by
  show (V m c main_arg0 : S32x8192x192.Idx → Elt F .bf16) _ = _
  rw [V_arg0]
  refine congrArg (m ((c : Thread nD τ).loc main_arg0) : S32x8192x192.Idx → Elt F .bf16) (funext fun a => Fin.ext ?_)
  have h0 : (grid0.coords t 0).val < 32 := (grid0.coords t 0).isLt
  have h1 : (grid0.coords t 1).val < 32 := (grid0.coords t 1).isLt
  fin_cases a
  · show (BitVec.ofNat 32 (grid0.coords t 0).val).toNat * 1 + 1 * 0 = (grid0.coords t 0).val
    rw [BitVec.toNat_ofNat]; omega
  · show (BitVec.ofNat 32 (grid0.coords t 1).val).toNat * 256 + 1 * r.val = 256 * (grid0.coords t 1).val + r.val
    rw [BitVec.toNat_ofNat]; omega
  · show 0 * 192 + 1 * d.val = d.val; omega

theorem blk1 (c : Dev nD) (t : Fin (cfgH m).N) (k : Fin 8192) (d : Fin 192) :
    (blk m c 1 t : S1x8192x192.Idx → Elt F .bf16) (ix3 0 k d) = (m ((c : Thread nD τ).loc main_arg1) : S32x8192x192.Idx → Elt F .bf16) (ix3 (head t) k d) := by
  show (V m c main_arg1 : S32x8192x192.Idx → Elt F .bf16) _ = _
  rw [V_arg1]
  refine congrArg (m ((c : Thread nD τ).loc main_arg1) : S32x8192x192.Idx → Elt F .bf16) (funext fun a => Fin.ext ?_)
  have h0 : (grid0.coords t 0).val < 32 := (grid0.coords t 0).isLt
  fin_cases a
  · show (BitVec.ofNat 32 (grid0.coords t 0).val).toNat * 1 + 1 * 0 = (grid0.coords t 0).val
    rw [BitVec.toNat_ofNat]; omega
  · show 0 * 8192 + 1 * k.val = k.val; omega
  · show 0 * 192 + 1 * d.val = d.val; omega

theorem blk2 (c : Dev nD) (t : Fin (cfgH m).N) (k : Fin 8192) (d : Fin 128) :
    (blk m c 2 t : S8192x128.Idx → Elt F .bf16) (ix2 k d) = (m ((c : Thread nD τ).loc main_arg2) : S8192x4096.Idx → Elt F .bf16) (ix2 k (col (head t) d)) := by
  show (V m c main_arg2 : S8192x4096.Idx → Elt F .bf16) _ = _
  rw [V_arg2]
  refine congrArg (m ((c : Thread nD τ).loc main_arg2) : S8192x4096.Idx → Elt F .bf16) (funext fun a => Fin.ext ?_)
  have h0 : (grid0.coords t 0).val < 32 := (grid0.coords t 0).isLt
  fin_cases a
  · show 0 * 8192 + 1 * k.val = k.val; omega
  · show (BitVec.ofNat 32 (grid0.coords t 0).val).toNat * 128 + 1 * d.val = 128 * (grid0.coords t 0).val + d.val
    rw [BitVec.toNat_ofNat]; omega

theorem flat (p : S1x8192.Idx → BitVec 32) (r : Fin 8192) : shapeCast S8192 p shapeCasts_S1x8192_S8192 (ix1 r) = p (ix2 0 r) := by
  refine shapeCast_apply _ _ _ _ ?_
  refine (Shape.rowMajor_val_two (ix2 0 r)).trans (Eq.symm ((Shape.rowMajor_val_one (ix1 r)).trans ?_))
  show r.val = 0 * 8192 + r.val; omega

theorem blk3 (c : Dev nD) (t : Fin (cfgH m).N) (r : Fin 256) :
    (blk m c 3 t : S256x1.Idx → BitVec 32) (ix2 r 0) = posOf m c (ix2 0 (query (tile t) r)) := by
  have h : (blk m c 3 t : S256x1.Idx → BitVec 32) (ix2 r 0) = (V m c main_v1 : S8192x1.Idx → BitVec 32) (ix2 (query (tile t) r) 0) := by
    show (V m c main_v1 : S8192x1.Idx → BitVec 32) _ = _
    refine congrArg (V m c main_v1 : S8192x1.Idx → BitVec 32) (funext fun a => Fin.ext ?_)
    have h1 : (grid0.coords t 1).val < 32 := (grid0.coords t 1).isLt
    fin_cases a
    · show (BitVec.ofNat 32 (grid0.coords t 1).val).toNat * 256 + 1 * r.val = 256 * (grid0.coords t 1).val + r.val
      rw [BitVec.toNat_ofNat]; omega
    · rfl
  refine h.trans ((congrFun (V_v1 m c) _).trans (Eq.trans ?_ (flat (posOf m c) (query (tile t) r))))
  refine shapeCast_apply _ _ _ _ ?_
  refine (Shape.rowMajor_val_one (ix1 (query (tile t) r))).trans (Eq.symm ((Shape.rowMajor_val_two (ix2 (query (tile t) r) 0)).trans ?_))
  show (query (tile t) r).val * 1 + 0 = (query (tile t) r).val; omega

theorem blk4 (c : Dev nD) (t : Fin (cfgH m).N) (k : Fin 8192) :
    (blk m c 4 t : S1x8192.Idx → BitVec 32) (ix2 0 k) = posOf m c (ix2 0 k) := by
  have h : (blk m c 4 t : S1x8192.Idx → BitVec 32) (ix2 0 k) = (V m c main_v2 : S1x8192.Idx → BitVec 32) (ix2 0 k) := by
    show (V m c main_v2 : S1x8192.Idx → BitVec 32) _ = _
    refine congrArg (V m c main_v2 : S1x8192.Idx → BitVec 32) (funext fun a => Fin.ext ?_)
    fin_cases a
    · rfl
    · show 0 * 8192 + 1 * k.val = k.val; omega
  refine h.trans ((congrFun (V_v2 m c) _).trans (Eq.trans ?_ (flat (posOf m c) k)))
  refine shapeCast_apply _ _ _ _ ?_
  refine (Shape.rowMajor_val_one (ix1 k)).trans (Eq.symm ((Shape.rowMajor_val_two (ix2 0 k)).trans ?_))
  show 0 * 8192 + k.val = k.val; omega

theorem cover5 : ((cfgH m).win (5 : Fin 6)).Covers := by
  refine Pipeline.Window.covers_of_indexMap_surj ((cfgH m).win (5 : Fin 6)) rfl (fun a => by
    fin_cases a
    · show 0 < 256; decide
    · show 0 < 128; decide) fun β => ?_
  have h0 : (β 0).val < 32 := lt_of_lt_of_eq (β 0).isLt (show (8192 + 256 - 1) / 256 = 32 by decide)
  have h1 : (β 1).val < 32 := lt_of_lt_of_eq (β 1).isLt (show (4096 + 128 - 1) / 128 = 32 by decide)
  refine ⟨fun a => match a with
    | ⟨0, _⟩ => (⟨(β 1).val, h1⟩ : Fin 32)
    | ⟨1, _⟩ => (⟨(β 0).val, h0⟩ : Fin 32), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The result is whatever array every point's block agrees with. -/
theorem result_eq (c : Dev nD) (G : S8192x4096.Idx → Elt F .bf16)
    (hG : ∀ (t : Fin grid0.N) (r : Fin 256) (d : Fin 128), leaves_at m c t (ix2 r d) = G (ix2 (query (tile t) r) (col (head t) d))) :
    (dats m 0 c).arrAt (5 : Fin 6) (cfgH m).N = G := by
  refine Pipeline.Dat.arrAt_eq_of_covers (dat := dats m 0 c) (5 : Fin 6) G (cover5 m) fun t _ y => ?_
  show (dats m 0 c).after (5 : Fin 6) t _ = _
  rw [after5]
  have h0 : (y 0).val < 256 := (y 0).isLt
  have h1 : (y 1).val < 128 := (y 1).isLt
  refine Eq.trans (congrArg (leaves_at m c t) (a₂ := ix2 ⟨(y 0).val, h0⟩ ⟨(y 1).val, h1⟩) (funext fun a => by fin_cases a <;> rfl)) ((hG t _ _).trans ?_)
  refine congrArg G (funext fun a => Fin.ext ?_)
  have g0 : (grid0.coords t 0).val < 32 := (grid0.coords t 0).isLt
  have g1 : (grid0.coords t 1).val < 32 := (grid0.coords t 1).isLt
  fin_cases a
  · show 256 * (grid0.coords t 1).val + (y 0).val = (BitVec.ofNat 32 (grid0.coords t 1).val).toNat * 256 + 1 * (y 0).val
    rw [BitVec.toNat_ofNat]; omega
  · show 128 * (grid0.coords t 0).val + (y 1).val = (BitVec.ofNat 32 (grid0.coords t 0).val).toNat * 128 + 1 * (y 1).val
    rw [BitVec.toNat_ofNat]; omega

end Cert.Kernel3Ideal.Attention
-- ==== Proof.AttentionFloor.lean ====
module

public import proofs.«01_k».proof.Proof.AttentionCount

@[expose] public section

/-!
# Floor division by 64

A quotient rounded to zero, less one when the signs differ and something remains, is the shift by six.
-/

namespace Cert.Kernel3Ideal.Attention

open Idealize.ShloMosaic

theorem chunk_toInt (x : BitVec 32) : (chunk x).toInt = x.toInt / 64 := by
  unfold chunk
  rw [BitVec.toInt_sshiftRight, Int.shiftRight_eq_div_pow]; rfl

theorem quotient64 (x : BitVec 32) : IntOp.divsi .host x 64#32 = x.sdiv 64#32 := if_neg (IntOp.not_corner_of_pos (by decide))

theorem remainder64 (x : BitVec 32) : IntOp.remsi .host x 64#32 = x.srem 64#32 :=
  IntOp.remsi_of_pos .host (by decide)

/-- A word's sign. -/
def signOf (x : BitVec 32) : BitVec 32 := if x = 0 then 0 else if x.msb then -1 else 1

/-- Floor division by 64 as printed. -/
def floored (x : BitVec 32) : BitVec 32 :=
  if IntOp.andi (IntOp.cmpi .ne (signOf x) (signOf 64#32)) (IntOp.cmpi .ne (IntOp.remsi .host x 64#32) 0#32) = 1#1
    then IntOp.divsi .host x 64#32 - 1#32 else IntOp.divsi .host x 64#32

theorem floored_eq (x : BitVec 32) : floored x = chunk x := by
  apply BitVec.eq_of_toInt_eq
  rw [chunk_toInt]
  unfold floored
  rw [quotient64, remainder64]
  have hq : (x.sdiv 64#32).toInt = x.toInt.tdiv 64 := BitVec.toInt_sdiv_of_ne_or_ne _ _ (.inr (by decide))
  have hr : (x.srem 64#32).toInt = x.toInt.tmod 64 := BitVec.toInt_srem _ _
  have hlo := BitVec.le_toInt x
  have hhi := BitVec.toInt_lt (x := x)
  have hs : signOf x ≠ signOf 64#32 ↔ x.toInt ≤ 0 := by
    have h64 : signOf 64#32 = 1#32 := by decide
    rw [h64]
    unfold signOf
    by_cases h0 : x = 0
    · subst h0; decide
    · rw [if_neg h0]
      have hne : x.toInt ≠ 0 := fun h => h0 (BitVec.eq_of_toInt_eq (by rw [h]; rfl))
      have hm : x.msb = true ↔ x.toInt < 0 := by rw [BitVec.msb_eq_toInt]; simp
      by_cases hb : x.msb = true
      · rw [if_pos hb]
        exact ⟨fun _ => (hm.mp hb).le, fun _ => by decide⟩
      · rw [if_neg hb]
        exact ⟨fun h => absurd rfl h, fun h => absurd (hm.mpr (by omega)) hb⟩
  have hz : x.srem 64#32 ≠ 0#32 ↔ x.toInt.tmod 64 ≠ 0 := by
    rw [← hr]
    exact not_congr ⟨fun h => by rw [h]; rfl, fun h => BitVec.eq_of_toInt_eq (by rw [h]; rfl)⟩
  have hc : IntOp.andi (IntOp.cmpi .ne (signOf x) (signOf 64#32)) (IntOp.cmpi .ne (x.srem 64#32) 0#32) = 1#1 ↔ x.toInt ≤ 0 ∧ x.toInt.tmod 64 ≠ 0 := by
    rw [← hs, ← hz]
    have hn : ∀ a b : BitVec 32, (IntOp.cmpi .ne a b : BitVec 1) = 1#1 ↔ a ≠ b := fun a b => by
      show BitVec.ofBool (a != b) = 1#1 ↔ _
      by_cases h : a = b
      · subst h; simp
      · rw [bne_iff_ne.mpr h]; simp [h]
    exact IntOp.andi_eq_one.trans (and_congr (hn _ _) (hn _ _))
  have hmul := Int.mul_tdiv_add_tmod x.toInt 64
  have hsub : ∀ y : BitVec 32, -33554432 ≤ y.toInt → y.toInt ≤ 33554432 → (y - 1#32).toInt = y.toInt - 1 := fun y h1 h2 => by
    rw [BitVec.toInt_sub]; exact Int.bmod_eq_of_le (by simp; omega) (by simp; omega)
  norm_num at hlo hhi
  by_cases hx : 0 ≤ x.toInt
  · have h1 := Int.tdiv_eq_ediv_of_nonneg (b := 64) hx
    have h2 := Int.tmod_eq_emod_of_nonneg (b := 64) hx
    rw [if_neg (fun h => by obtain ⟨ha, hb⟩ := hc.mp h; rw [h2] at hb; omega), hq, h1]
  · have h1 : x.toInt.tdiv 64 = -((-x.toInt) / 64) := by
      rw [← Int.tdiv_eq_ediv_of_nonneg (b := 64) (by omega : 0 ≤ -x.toInt), Int.neg_tdiv, neg_neg]
    rw [h1] at hmul hq
    split
    · rename_i h
      obtain ⟨ha, hb⟩ := hc.mp h
      rw [hsub _ (by rw [hq]; omega) (by rw [hq]; omega), hq]; omega
    · rename_i h
      have hb : x.toInt.tmod 64 = 0 := by by_contra hb; exact h (hc.mpr ⟨by omega, hb⟩)
      rw [hq]; omega

end Cert.Kernel3Ideal.Attention
-- ==== Proof.AttentionRef.lean ====
module

public import proofs.«01_k».proof.Proof.AttentionRows
public import proofs.«01_k».proof.Proof.AttentionBlocks
public import proofs.«01_k».proof.Proof.AttentionFloor
public import proofs.«01_k».proof.Proof.Gen.Reference3Ideal.Run
public import Idealize.ShloMosaic.Lib.IdealHost

@[expose] public section

/-!
# The plain attention, entry by entry

Every query against every key of its head, the later chunks masked off, a softmax of each row, and the weighted values.
-/

set_option maxRecDepth 16384

noncomputable section

namespace Cert.Reference3Ideal.Plain

open Cert.Reference3Ideal Cert.Reference3Ideal.Gen
open Idealize.ShloMosaic Idealize.ShloMosaic.TcCoe
open Cert.Kernel3Ideal.Attention (chunk floored floored_eq signOf cmp_iff col softmax ofBits_neg_inf fold_max)

open scoped BigOperators

/-! ## The mask -/

def pFlat (p : S1x8192.Idx → BitVec 32) : S8192.Idx → BitVec 32 := shapeCast S8192 p shapeCasts_S1x8192_S8192

def p64 : S8192.Idx → BitVec 32 := broadcastInDim S8192 ![] bcast_S_S8192 (id (constantI S_ 32 64#32))

/-- Each position's chunk. -/
def pChunk (p : S1x8192.Idx → BitVec 32) : S8192.Idx → BitVec 32 :=
  select (andi (cmpi .ne (signi (pFlat p)) (broadcastInDim S8192 ![] bcast_S_S8192 (signi (id (constantI S_ 32 64#32)))))
      (cmpi .ne (Host.remsi (pFlat p) p64) (broadcastInDim S8192 ![] bcast_S_S8192 (constantI S_ 32 0#32))))
    (subi (Host.divsi (pFlat p) p64) (broadcastInDim S8192 ![] bcast_S_S8192 (constantI S_ 32 1#32)))
    (Host.divsi (pFlat p) p64)

theorem pFlat_apply (p : S1x8192.Idx → BitVec 32) (r : Fin 8192) : pFlat p (ix1 r) = p (ix2 0 r) := by
  refine shapeCast_apply _ _ _ _ ?_
  refine (Shape.rowMajor_val_two (ix2 0 r)).trans (Eq.symm ((Shape.rowMajor_val_one (ix1 r)).trans ?_))
  show r.val = 0 * 8192 + r.val; omega

theorem pChunk_apply (p : S1x8192.Idx → BitVec 32) (r : Fin 8192) : pChunk p (ix1 r) = chunk (p (ix2 0 r)) := by
  refine Eq.trans ?_ ((floored_eq _).trans (congrArg chunk (pFlat_apply p r)))
  rfl

/-- A key, against a query, lies in no later chunk. -/
def pSeen (p : S1x8192.Idx → BitVec 32) : S1x8192x8192.Idx → BitVec 1 :=
  cmpi .sle (broadcastInDim S1x8192x8192 ![0, 1, 2] bcast_S1x1x8192_S1x8192x8192_0_1_2 (broadcastInDim S1x1x8192 ![2] bcast_S8192_S1x1x8192_2 (pChunk p)))
    (broadcastInDim S1x8192x8192 ![0, 1, 2] bcast_S1x8192x1_S1x8192x8192_0_1_2 (broadcastInDim S1x8192x1 ![1] bcast_S8192_S1x8192x1_1 (pChunk p)))

theorem pSeen_apply (p : S1x8192.Idx → BitVec 32) (r k : Fin 8192) :
    pSeen p (ix3 0 r k) = IntOp.cmpi .sle (chunk (p (ix2 0 k))) (chunk (p (ix2 0 r))) := by
  show IntOp.cmpi .sle
    (broadcastInDim S1x8192x8192 ![0, 1, 2] bcast_S1x1x8192_S1x8192x8192_0_1_2 (broadcastInDim S1x1x8192 ![2] bcast_S8192_S1x1x8192_2 (pChunk p)) (ix3 0 r k))
    (broadcastInDim S1x8192x8192 ![0, 1, 2] bcast_S1x8192x1_S1x8192x8192_0_1_2 (broadcastInDim S1x8192x1 ![1] bcast_S8192_S1x8192x1_1 (pChunk p)) (ix3 0 r k)) = _
  rw [broadcastInDim_apply _ _ (broadcastInDim S1x1x8192 ![2] bcast_S8192_S1x1x8192_2 (pChunk p)) _ (ix3 0 0 k) (fun a => by fin_cases a <;> rfl),
    broadcastInDim_apply _ _ (broadcastInDim S1x8192x1 ![1] bcast_S8192_S1x8192x1_1 (pChunk p)) _ (ix3 0 r 0) (fun a => by fin_cases a <;> rfl),
    broadcastInDim_apply _ _ (pChunk p) (ix3 0 0 k) (ix1 k) (fun a => by fin_cases a; rfl),
    broadcastInDim_apply _ _ (pChunk p) (ix3 0 r 0) (ix1 r) (fun a => by fin_cases a; rfl), pChunk_apply, pChunk_apply]

/-! ## The scores -/

def pDots (q k : FVec Ideal S32x8192x192 .bf16) : FVec Ideal S32x8192x8192 .f32 :=
  Host.dotGeneral dot_S32x8192x192_S32x8192x192_S32x8192x8192_2_2_1_1_0_0 none (extf .f32 q bitsLt_bf16_f32) (extf .f32 k bitsLt_bf16_f32)

theorem pDots_apply (q k : FVec Ideal S32x8192x192 .bf16) (h : Fin 32) (r y : Fin 8192) :
    pDots q k (ix3 h r y) = ∑ d : Fin 192, q (ix3 h r d) * k (ix3 h y d) := by
  unfold pDots
  simp only [Host.dotGeneral]
  rw [Ideal.dotGeneral_apply, ← Equiv.sum_comp (ValueIdx.contrEquiv1 dot_S32x8192x192_S32x8192x192_S32x8192x8192_2_2_1_1_0_0 192 (by decide) (by decide)).symm]
  refine Finset.sum_congr rfl fun d _ => ?_
  have hk := ValueIdx.contrEquiv1_symm_val dot_S32x8192x192_S32x8192x192_S32x8192x8192_2_2_1_1_0_0 192 (by decide) (by decide) d
  generalize (ValueIdx.contrEquiv1 dot_S32x8192x192_S32x8192x192_S32x8192x8192_2_2_1_1_0_0 192 (by decide) (by decide)).symm d = z at hk ⊢
  have hl : dot_S32x8192x192_S32x8192x192_S32x8192x8192_2_2_1_1_0_0.lhsIdx (ix3 h r y) z = ix3 h r d := by
    funext a; apply Fin.ext; fin_cases a
    · rfl
    · rfl
    · exact hk
  have hr : dot_S32x8192x192_S32x8192x192_S32x8192x8192_2_2_1_1_0_0.rhsIdx (ix3 h r y) z = ix3 h y d := by
    funext a; apply Fin.ext; fin_cases a
    · rfl
    · rfl
    · exact hk
  rw [hl, hr]; rfl

def pScores (q k : FVec Ideal S32x8192x192 .bf16) (p : S1x8192.Idx → BitVec 32) : FVec Ideal S32x8192x8192 .f32 :=
  select (broadcastInDim S32x8192x8192 ![0, 1, 2] bcast_S1x8192x8192_S32x8192x8192_0_1_2 (pSeen p)) (pDots q k)
    (broadcastInDim S32x8192x8192 ![] bcast_S_S32x8192x8192 (id (constant S_ .f32 0xFF800000#32)))

/-- A head's query against its keys, minus infinity where the key lies in a later chunk. -/
def against (q k : FVec Ideal S32x8192x192 .bf16) (p : S1x8192.Idx → BitVec 32) (h : Fin 32) (r y : Fin 8192) : EReal :=
  if (chunk (p (ix2 0 y))).toInt ≤ (chunk (p (ix2 0 r))).toInt then ∑ d : Fin 192, q (ix3 h r d) * k (ix3 h y d) else ⊥

theorem pScores_apply (q k : FVec Ideal S32x8192x192 .bf16) (p : S1x8192.Idx → BitVec 32) (h : Fin 32) (r y : Fin 8192) :
    pScores q k p (ix3 h r y) = against q k p h r y := by
  unfold against
  rw [← pDots_apply, ← ofBits_neg_inf]
  show (if broadcastInDim S32x8192x8192 ![0, 1, 2] bcast_S1x8192x8192_S32x8192x8192_0_1_2 (pSeen p) (ix3 h r y) = 1#1 then pDots q k (ix3 h r y) else _) = _
  rw [broadcastInDim_apply _ _ (pSeen p) _ (ix3 0 r y) (fun a => by fin_cases a <;> rfl), pSeen_apply]
  exact if_congr (cmp_iff _ _) rfl rfl

/-! ## The softmax -/

/-- A value per row, repeated along the row. -/
def along (x : FVec Ideal S32x8192 .f32) : FVec Ideal S32x8192x8192 .f32 :=
  broadcastInDim S32x8192x8192 ![0, 1, 2] bcast_S32x8192x1_S32x8192x8192_0_1_2 (broadcastInDim S32x8192x1 ![0, 1] bcast_S32x8192_S32x8192x1_0_1 x)

theorem along_apply (x : FVec Ideal S32x8192 .f32) (h : Fin 32) (r y : Fin 8192) : along x (ix3 h r y) = x (ix2 h r) := by
  unfold along
  rw [broadcastInDim_apply _ _ (broadcastInDim S32x8192x1 ![0, 1] bcast_S32x8192_S32x8192x1_0_1 x) _ (ix3 h r 0) (fun a => by fin_cases a <;> rfl),
    broadcastInDim_apply _ _ x _ (ix2 h r) (fun a => by fin_cases a <;> rfl)]

def pMax (s : FVec Ideal S32x8192x8192 .f32) : FVec Ideal S32x8192 .f32 :=
  maximumf (broadcastInDim S32x8192 ![] bcast_S_S32x8192 (constant S_ .f32 0xFF800000#32))
    (Host.reduce FloatOps.maximumf s (constant S_ .f32 0xFF800000#32) reducesTo_S32x8192x8192_S32x8192_d2 h_S_)

theorem larger (x y : FVec Ideal S32x8192 .f32) (i : S32x8192.Idx) : maximumf x y i = max (x i) (y i) := rfl

theorem fold_larger {n : ℕ} (z : EReal) (hz : z = ⊥) (f : Fin n → EReal) :
    Finset.fold (FloatOps.maximumf (F := Ideal) (φ := .f32)) z f Finset.univ = Finset.univ.sup f := by
  subst hz; rfl

theorem inf_const (i : S_.Idx) : constant (F := Ideal) S_ .f32 0xFF800000#32 i = ⊥ := ofBits_neg_inf

theorem inf_rows (i : S32x8192.Idx) : broadcastInDim S32x8192 ![] bcast_S_S32x8192 (constant (F := Ideal) S_ .f32 0xFF800000#32) i = ⊥ := ofBits_neg_inf

theorem row_lift (hR : Shape.Reduces S32x8192x8192 [2] S32x8192) (h : Fin 32) (r y : Fin 8192) : hR.lift (ix2 h r) y = ix3 h r y := by
  funext a; fin_cases a <;> rfl

theorem row_max (s : FVec Ideal S32x8192x8192 .f32) (h : Fin 32) (r : Fin 8192) :
    Host.reduce FloatOps.maximumf s (constant S_ .f32 0xFF800000#32) reducesTo_S32x8192x8192_S32x8192_d2 h_S_ (ix2 h r)
      = Finset.univ.sup fun y : Fin 8192 => s (ix3 h r y) := by
  have hR : Shape.Reduces S32x8192x8192 [2] S32x8192 := by decide
  refine (Host.reduce_eq_fold_single FloatOps.maximumf s _ reducesTo_S32x8192x8192_S32x8192_d2 hR h_S_ (ix2 h r)).trans ?_
  refine (fold_larger _ (inf_const _) _).trans (Finset.sup_congr rfl fun y _ => congrArg s (row_lift hR h r y))

theorem pMax_apply (s : FVec Ideal S32x8192x8192 .f32) (h : Fin 32) (r : Fin 8192) :
    pMax s (ix2 h r) = Finset.univ.sup fun y : Fin 8192 => s (ix3 h r y) := by
  unfold pMax
  rw [larger, inf_rows, row_max]
  exact max_eq_right bot_le

def pWeights (s : FVec Ideal S32x8192x8192 .f32) : FVec Ideal S32x8192x8192 .f32 := Host.exp (subf s (along (pMax s)))

theorem pWeights_apply (s : FVec Ideal S32x8192x8192 .f32) (h : Fin 32) (r y : Fin 8192) :
    pWeights s (ix3 h r y) = Ideal.exp (s (ix3 h r y) - Finset.univ.sup fun y : Fin 8192 => s (ix3 h r y)) := by
  show Ideal.exp (s (ix3 h r y) - along (pMax s) (ix3 h r y)) = _
  rw [along_apply, pMax_apply]

def pSums (w : FVec Ideal S32x8192x8192 .f32) : FVec Ideal S32x8192 .f32 :=
  Host.reduceAdd w (constant S_ .f32 0x00000000#32) reducesTo_S32x8192x8192_S32x8192_d2 h_S_

theorem pSums_apply (w : FVec Ideal S32x8192x8192 .f32) (h : Fin 32) (r : Fin 8192) : pSums w (ix2 h r) = ∑ y : Fin 8192, w (ix3 h r y) := by
  have hR : Shape.Reduces S32x8192x8192 [2] S32x8192 := by decide
  refine (ValueIdx.hostReduceAdd_apply w _ reducesTo_S32x8192x8192_S32x8192_d2 h_S_ (ix2 h r)).trans ?_
  refine (Ideal.hostReduceAdd_single reducesTo_S32x8192x8192_S32x8192_d2 hR w _ (ix2 h r)).trans ?_
  refine (congrArg (· + _) (Ideal.ofBits_zero_f32)).trans ((zero_add _).trans (Finset.sum_congr rfl fun y _ => congrArg w (row_lift hR h r y)))

def pShares (w : FVec Ideal S32x8192x8192 .f32) : FVec Ideal S32x8192x8192 .f32 := Host.divf w (along (pSums w))

theorem pShares_apply (w : FVec Ideal S32x8192x8192 .f32) (h : Fin 32) (r y : Fin 8192) :
    pShares w (ix3 h r y) = Ideal.div (w (ix3 h r y)) (∑ y : Fin 8192, w (ix3 h r y)) := by
  show Ideal.div (w (ix3 h r y)) (along (pSums w) (ix3 h r y)) = _
  rw [along_apply, pSums_apply]

/-! ## The result -/

def pHeads (v : FVec Ideal S8192x4096 .bf16) : FVec Ideal S8192x32x128 .f32 := shapeCast _ (extf .f32 v bitsLt_bf16_f32) shapeCasts_S8192x4096_S8192x32x128

theorem pHeads_apply (v : FVec Ideal S8192x4096 .bf16) (y : Fin 8192) (h : Fin 32) (d : Fin 128) : pHeads v (ix3 y h d) = v (ix2 y (col h d)) := by
  show shapeCast S8192x32x128 (extf .f32 v bitsLt_bf16_f32) shapeCasts_S8192x4096_S8192x32x128 (ix3 y h d) = extf .f32 v bitsLt_bf16_f32 (ix2 y (col h d))
  refine shapeCast_apply _ _ _ _ ?_
  refine (Shape.rowMajor_val_two (ix2 y (col h d))).trans (Eq.symm ((Shape.rowMajor_val_three (ix3 y h d)).trans ?_))
  show (y.val * 32 + h.val) * 128 + d.val = y.val * 4096 + (128 * h.val + d.val); omega

def pMixed (v : FVec Ideal S8192x4096 .bf16) (w : FVec Ideal S32x8192x8192 .f32) : FVec Ideal S32x128x8192 .f32 :=
  Host.dotGeneral dot_S8192x32x128_S32x8192x8192_S32x128x8192_0_2_2_1_1_0 none (pHeads v) w

theorem pMixed_apply (v : FVec Ideal S8192x4096 .bf16) (w : FVec Ideal S32x8192x8192 .f32) (h : Fin 32) (d : Fin 128) (r : Fin 8192) :
    pMixed v w (ix3 h d r) = ∑ y : Fin 8192, v (ix2 y (col h d)) * w (ix3 h r y) := by
  unfold pMixed
  simp only [Host.dotGeneral]
  rw [Ideal.dotGeneral_apply, ← Equiv.sum_comp (ValueIdx.contrEquiv1 dot_S8192x32x128_S32x8192x8192_S32x128x8192_0_2_2_1_1_0 8192 (by decide) (by decide)).symm]
  refine Finset.sum_congr rfl fun y _ => ?_
  have hk := ValueIdx.contrEquiv1_symm_val dot_S8192x32x128_S32x8192x8192_S32x128x8192_0_2_2_1_1_0 8192 (by decide) (by decide) y
  generalize (ValueIdx.contrEquiv1 dot_S8192x32x128_S32x8192x8192_S32x128x8192_0_2_2_1_1_0 8192 (by decide) (by decide)).symm y = z at hk ⊢
  have hl : dot_S8192x32x128_S32x8192x8192_S32x128x8192_0_2_2_1_1_0.lhsIdx (ix3 h d r) z = ix3 y h d := by
    funext a; apply Fin.ext; fin_cases a
    · exact hk
    · rfl
    · rfl
  have hr : dot_S8192x32x128_S32x8192x8192_S32x128x8192_0_2_2_1_1_0.rhsIdx (ix3 h d r) z = ix3 h r y := by
    funext a; apply Fin.ext; fin_cases a
    · rfl
    · rfl
    · exact hk
  rw [hl, hr, pHeads_apply]

def pResult (x : FVec Ideal S32x128x8192 .f32) : FVec Ideal S8192x4096 .bf16 :=
  truncf .bf16 (shapeCast _ (transpose S8192x32x128 [2, 0, 1] x transposes_S32x128x8192_S8192x32x128_2_0_1) shapeCasts_S8192x32x128_S8192x4096) bitsLt_bf16_f32

theorem pResult_apply (x : FVec Ideal S32x128x8192 .f32) (r : Fin 8192) (h : Fin 32) (d : Fin 128) : pResult x (ix2 r (col h d)) = x (ix3 h d r) := by
  show shapeCast S8192x4096 (transpose S8192x32x128 [2, 0, 1] x transposes_S32x128x8192_S8192x32x128_2_0_1) shapeCasts_S8192x32x128_S8192x4096 (ix2 r (col h d)) = _
  rw [shapeCast_apply _ _ _ (ix3 r h d) ?_]
  · exact transpose_apply _ _ _ _ _ fun b => by fin_cases b <;> rfl
  · refine (Shape.rowMajor_val_three (ix3 r h d)).trans (Eq.symm ((Shape.rowMajor_val_two (ix2 r (col h d))).trans ?_))
    show r.val * 4096 + (128 * h.val + d.val) = (r.val * 32 + h.val) * 128 + d.val; omega

/-- The whole of the plain mathematics. -/
def plain (q k : FVec Ideal S32x8192x192 .bf16) (v : FVec Ideal S8192x4096 .bf16) (p : S1x8192.Idx → BitVec 32) : FVec Ideal S8192x4096 .bf16 :=
  pResult (pMixed v (pShares (pWeights (pScores q k p))))

theorem res_eq (m : (ℓ : Loc nD τ sig) → Buf (Elt Ideal) ℓ) (c : Dev nD) :
    Value.res_main_v27 m c = plain (m ((c : Thread nD τ).loc main_arg0)) (m ((c : Thread nD τ).loc main_arg1)) (m ((c : Thread nD τ).loc main_arg2))
      (m ((c : Thread nD τ).loc main_arg3)) := rfl

theorem plain_apply (q k : FVec Ideal S32x8192x192 .bf16) (v : FVec Ideal S8192x4096 .bf16) (p : S1x8192.Idx → BitVec 32) (r : Fin 8192) (h : Fin 32) (d : Fin 128) :
    plain q k v p (ix2 r (col h d)) = softmax (against q k p h r) fun y => v (ix2 y (col h d)) := by
  unfold plain softmax
  rw [pResult_apply, pMixed_apply]
  refine Finset.sum_congr rfl fun y _ => ?_
  rw [pShares_apply]
  simp only [pWeights_apply, pScores_apply]

end Cert.Reference3Ideal.Plain
-- ==== Proof.AttentionPre.lean ====
module

public import proofs.«01_k».proof.Proof.AttentionRef
public import proofs.«01_k».proof.Proof.Pre
public import proofs.«01_k».proof.Proof.Gen.Pre_finite

@[expose] public section

/-!
# The attention's precondition in words

The printed precondition, all ones, says that every entry of the queries and of the keys is a number, and then so is every product of a query and a key.
-/

set_option maxRecDepth 16384

noncomputable section

namespace Cert.Kernel3Ideal.Attention

open Cert.Kernel3Ideal
open Idealize.ShloMosaic
open Cert.Reference3Ideal.Plain (against)

open scoped BigOperators

/-- An extended real that is a number. -/
def Number (x : EReal) : Prop := x ≠ ⊥ ∧ x ≠ ⊤

theorem ofBits_inf : Ideal.ofBits .f32 0x7F800000#32 = ⊤ := by
  simp [Ideal.ofBits, Ideal.ieee]

theorem number_of_below {x : EReal} (h : max x (-x) < ⊤) : Number x := by
  refine ⟨?_, ?_⟩ <;> rintro rfl <;> simp at h

theorem below {x b : EReal} (hb : b = ⊤) (h : Ideal.cmp .olt (max x (-x)) b = 1#1) : Number x := by
  subst hb
  refine number_of_below ?_
  simp only [Ideal.cmp] at h
  by_contra hn
  simp [hn] at h

theorem Number.mul {x y : EReal} (hx : Number x) (hy : Number y) : Number (x * y) := by
  lift x to ℝ using ⟨hx.2, hx.1⟩
  lift y to ℝ using ⟨hy.2, hy.1⟩
  rw [← EReal.coe_mul]
  exact ⟨EReal.coe_ne_bot _, EReal.coe_ne_top _⟩

theorem Number.add {x y : EReal} (hx : Number x) (hy : Number y) : Number (x + y) := by
  lift x to ℝ using ⟨hx.2, hx.1⟩
  lift y to ℝ using ⟨hy.2, hy.1⟩
  rw [← EReal.coe_add]
  exact ⟨EReal.coe_ne_bot _, EReal.coe_ne_top _⟩

theorem Number.sum {n : ℕ} (f : Fin n → EReal) (h : ∀ d, Number (f d)) : Number (∑ d, f d) := by
  refine Finset.sum_induction f Number (fun _ _ => Number.add) ?_ fun d _ => h d
  exact ⟨EReal.zero_ne_bot, EReal.zero_ne_top⟩

/-- Every entry of the queries and of the keys is a number. -/
def Numbers (q k : FVec Ideal S32x8192x192 .bf16) : Prop := ∀ i, Number (q i) ∧ Number (k i)

theorem numbers_of_pre [hPre : Cert.Pre_finite.Facts] {q k : FVec Ideal S32x8192x192 .bf16} {v : FVec Ideal S8192x4096 .bf16} {p : S1x8192.Idx → BitVec 32}
    (h : Cert.Pre_finite.fn (F := Ideal) q k v p = fun _ => 1#1) : Numbers q k := fun i => by
  have e := Cert.KernelIdeal.Dispatch.one_of_and (congrFun h i)
  exact ⟨below ofBits_inf e.1, below ofBits_inf e.2⟩

variable {q k : FVec Ideal S32x8192x192 .bf16}

theorem Numbers.dot (hN : Numbers q k) (h : Fin 32) (r y : Fin 8192) : Number (∑ d : Fin 192, q (ix3 h r d) * k (ix3 h y d)) :=
  Number.sum _ fun d => (hN (ix3 h r d)).1.mul (hN (ix3 h y d)).2

/-- No score is infinite. -/
theorem Numbers.against_ne_top (hN : Numbers q k) (p : S1x8192.Idx → BitVec 32) (h : Fin 32) (r y : Fin 8192) : against q k p h r y ≠ ⊤ := by
  unfold against
  split
  · exact (hN.dot h r y).2
  · exact bot_ne_top

/-- A query sees its own key. -/
theorem Numbers.against_self (hN : Numbers q k) (p : S1x8192.Idx → BitVec 32) (h : Fin 32) (r : Fin 8192) : against q k p h r r ≠ ⊥ := by
  unfold against
  rw [if_pos le_rfl]
  exact (hN.dot h r r).1

end Cert.Kernel3Ideal.Attention
-- ==== Proof.AttentionValue.lean ====
module

public import proofs.«01_k».proof.Proof.AttentionPre

@[expose] public section

/-!
# What the attention computes

Every point leaves its rows of the plain attention, so the whole result is the plain attention.
-/

set_option maxRecDepth 16384

noncomputable section

namespace Cert.Kernel3Ideal.Attention

open Cert.Kernel3Ideal
open Idealize.ShloMosaic Idealize.ShloMosaic.TcCoe
open Cert.Reference3Ideal.Plain (against plain plain_apply)

open scoped BigOperators

variable (m : (ℓ : Loc nD τ sig) → Buf (Elt Ideal) ℓ)

def queries (c : Dev nD) : FVec Ideal S32x8192x192 .bf16 := m ((c : Thread nD τ).loc main_arg0)
def keys (c : Dev nD) : FVec Ideal S32x8192x192 .bf16 := m ((c : Thread nD τ).loc main_arg1)
def values (c : Dev nD) : FVec Ideal S8192x4096 .bf16 := m ((c : Thread nD τ).loc main_arg2)

/-- The scores of a point's blocks are the scores of the whole arrays. -/
theorem score_against (c : Dev nD) (t : Fin grid0.N) (r : Fin 256) :
    score (blk m c 0 t) (blk m c 1 t) (blk m c 3 t) (blk m c 4 t) r = against (queries m c) (keys m c) (posOf m c) (head t) (query (tile t) r) := by
  funext y
  unfold score against
  rw [blk3 m c t r, blk4 m c t y]
  refine if_congr Iff.rfl (Finset.sum_congr rfl fun d _ => ?_) rfl
  exact congrArg₂ (fun a b : EReal => a * b) (blk0 m c t r d) (blk1 m c t y d)

/-- No key past the counted blocks is seen. -/
theorem against_late (t : Fin grid0.N) (r : Fin 256) (y : Fin 8192) (hy : 512 * count m (tile t) ≤ y.val) :
    against (queries m 0) (keys m 0) (posOf m 0) (head t) (query (tile t) r) y = ⊥ := by
  have h1 := y.isLt
  have hj : y = key ⟨y.val / 512, by omega⟩ ⟨y.val % 512, by omega⟩ := Fin.ext (by show y.val = 512 * (y.val / 512) + y.val % 512; omega)
  have hu := unseen (posOf m 0) (tile t) ⟨y.val / 512, by omega⟩ (by
    rw [count_eq m (tile t)]
    show (count m (tile t) : ℤ) ≤ ((y.val / 512 : ℕ) : ℤ)
    exact_mod_cast (by omega : count m (tile t) ≤ y.val / 512)) r ⟨y.val % 512, by omega⟩
  rw [← hj] at hu
  exact if_neg hu

theorem leaves_plain (t : Fin grid0.N) (hN : Numbers (queries m 0) (keys m 0)) (r : Fin 256) (d : Fin 128) :
    leaves_at m 0 t (ix2 r d) = plain (queries m 0) (keys m 0) (values m 0) (posOf m 0) (ix2 (query (tile t) r) (col (head t) d)) := by
  have hs := score_against m 0 t r
  refine (attended_apply (blk m 0 0 t) (blk m 0 1 t) (blk m 0 2 t) (blk m 0 3 t) (blk m 0 4 t) r
    (fun y => by rw [hs]; exact hN.against_ne_top _ _ _ _) (count m (tile t)) (count_le m _)
    (fun y hy => by rw [hs]; exact against_late m t r y hy) (query (tile t) r) (by rw [hs]; exact hN.against_self _ _ _) d).trans ?_
  rw [plain_apply, hs]
  exact congrArg (softmax _) (funext fun y => blk2 m 0 t y d)

/-- The kernel's result is the plain attention. -/
theorem value (c : Dev nD) (hN : Numbers (queries m c) (keys m c)) :
    (dats m 0 c).arrAt (5 : Fin 6) (cfgH m).N = plain (queries m c) (keys m c) (values m c) (posOf m c) := by
  obtain rfl : c = 0 := Subsingleton.elim _ _
  exact result_eq m 0 _ fun t r d => leaves_plain m t hN r d

end Cert.Kernel3Ideal.Attention
-- ==== Proof.ProjectionsSame.lean ====
module

public import proofs.«01_k».proof.Defs
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel8
public import proofs.«01_k».proof.Proof.Gen.Kernel8Ideal
public import proofs.«01_k».proof.Proof.Gen.Kernel9
public import proofs.«01_k».proof.Proof.Gen.Kernel9Ideal
public import proofs.«01_k».proof.Proof.Gen.Kernel10
public import proofs.«01_k».proof.Proof.Gen.Kernel10Ideal

@[expose] public section

/-!
# The two prints of each projection are one program

Nothing is rewritten between them, so at the float words they agree in their body table and in their host program.
-/

noncomputable section

open Idealize.ShloMosaic Idealize.ShloMosaic.TcCoe

namespace Cert.Kernel4Ideal.InProj

theorem same_sig : Cert.Kernel4.sig = Cert.Kernel4Ideal.sig := rfl
theorem same_labels : Cert.Kernel4.Λ₀ = Cert.Kernel4Ideal.Λ₀ := rfl
theorem same_contents : (fun p => (Cert.Kernel4.pcfgs (F := Bits) p).Adm) = (fun p => (Cert.Kernel4Ideal.pcfgs (F := Bits) p).Adm) := rfl

theorem same_table : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl

theorem same_defs : Cert.Kernel4.defs (F := Bits) = Cert.Kernel4Ideal.defs (F := Bits) := by
  unfold Cert.Kernel4.defs Cert.Kernel4Ideal.defs
  rw [same_table]; rfl

theorem same_main : Cert.Kernel4.main (F := Bits) = Cert.Kernel4Ideal.main (F := Bits) := by
  unfold Cert.Kernel4.main Cert.Kernel4Ideal.main
  dsimp only [same_sig, same_labels, same_contents]
  rfl

end Cert.Kernel4Ideal.InProj

namespace Cert.Kernel5Ideal.MlaProj

theorem same_sig : Cert.Kernel5.sig = Cert.Kernel5Ideal.sig := rfl
theorem same_labels : Cert.Kernel5.Λ₀ = Cert.Kernel5Ideal.Λ₀ := rfl
theorem same_contents : (fun p => (Cert.Kernel5.pcfgs (F := Bits) p).Adm) = (fun p => (Cert.Kernel5Ideal.pcfgs (F := Bits) p).Adm) := rfl

theorem same_table : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl

theorem same_defs : Cert.Kernel5.defs (F := Bits) = Cert.Kernel5Ideal.defs (F := Bits) := by
  unfold Cert.Kernel5.defs Cert.Kernel5Ideal.defs
  rw [same_table]; rfl

theorem same_main : Cert.Kernel5.main (F := Bits) = Cert.Kernel5Ideal.main (F := Bits) := by
  unfold Cert.Kernel5.main Cert.Kernel5Ideal.main
  dsimp only [same_sig, same_labels, same_contents]
  rfl

end Cert.Kernel5Ideal.MlaProj

namespace Cert.Kernel6Ideal.SsmProj

theorem same_sig : Cert.Kernel6.sig = Cert.Kernel6Ideal.sig := rfl
theorem same_labels : Cert.Kernel6.Λ₀ = Cert.Kernel6Ideal.Λ₀ := rfl
theorem same_contents : (fun p => (Cert.Kernel6.pcfgs (F := Bits) p).Adm) = (fun p => (Cert.Kernel6Ideal.pcfgs (F := Bits) p).Adm) := rfl

theorem same_table : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

theorem same_defs : Cert.Kernel6.defs (F := Bits) = Cert.Kernel6Ideal.defs (F := Bits) := by
  unfold Cert.Kernel6.defs Cert.Kernel6Ideal.defs
  rw [same_table]; rfl

theorem same_main : Cert.Kernel6.main (F := Bits) = Cert.Kernel6Ideal.main (F := Bits) := by
  unfold Cert.Kernel6.main Cert.Kernel6Ideal.main
  dsimp only [same_sig, same_labels, same_contents]
  rfl

end Cert.Kernel6Ideal.SsmProj

namespace Cert.Kernel8Ideal.QueryProj

theorem same_sig : Cert.Kernel8.sig = Cert.Kernel8Ideal.sig := rfl
theorem same_labels : Cert.Kernel8.Λ₀ = Cert.Kernel8Ideal.Λ₀ := rfl
theorem same_contents : (fun p => (Cert.Kernel8.pcfgs (F := Bits) p).Adm) = (fun p => (Cert.Kernel8Ideal.pcfgs (F := Bits) p).Adm) := rfl

theorem same_table : Cert.Kernel8.defs₀ (F := Bits) = Cert.Kernel8Ideal.defs₀ (F := Bits) := by
  unfold Cert.Kernel8.defs₀ Cert.Kernel8Ideal.defs₀
  refine congrArg Defs.onTc ?_
  funext l a
  match l, a with
  | 0, (t, s) => rfl

theorem same_defs : Cert.Kernel8.defs (F := Bits) = Cert.Kernel8Ideal.defs (F := Bits) := by
  unfold Cert.Kernel8.defs Cert.Kernel8Ideal.defs
  rw [same_table]; rfl

theorem same_main : Cert.Kernel8.main (F := Bits) = Cert.Kernel8Ideal.main (F := Bits) := by
  unfold Cert.Kernel8.main Cert.Kernel8Ideal.main
  dsimp only [same_sig, same_labels, same_contents]
  rfl

end Cert.Kernel8Ideal.QueryProj

namespace Cert.Kernel9Ideal.LatentProj

theorem same_sig : Cert.Kernel9.sig = Cert.Kernel9Ideal.sig := rfl
theorem same_labels : Cert.Kernel9.Λ₀ = Cert.Kernel9Ideal.Λ₀ := rfl
theorem same_contents : (fun p => (Cert.Kernel9.pcfgs (F := Bits) p).Adm) = (fun p => (Cert.Kernel9Ideal.pcfgs (F := Bits) p).Adm) := rfl

theorem same_table : Cert.Kernel9.defs₀ (F := Bits) = Cert.Kernel9Ideal.defs₀ (F := Bits) := by
  unfold Cert.Kernel9.defs₀ Cert.Kernel9Ideal.defs₀
  refine congrArg Defs.onTc ?_
  funext l a
  match l, a with
  | 0, (t, s) => rfl

theorem same_defs : Cert.Kernel9.defs (F := Bits) = Cert.Kernel9Ideal.defs (F := Bits) := by
  unfold Cert.Kernel9.defs Cert.Kernel9Ideal.defs
  rw [same_table]; rfl

theorem same_main : Cert.Kernel9.main (F := Bits) = Cert.Kernel9Ideal.main (F := Bits) := by
  unfold Cert.Kernel9.main Cert.Kernel9Ideal.main
  dsimp only [same_sig, same_labels, same_contents]
  rfl

end Cert.Kernel9Ideal.LatentProj

namespace Cert.Kernel10Ideal.ValueProj

theorem same_sig : Cert.Kernel10.sig = Cert.Kernel10Ideal.sig := rfl
theorem same_labels : Cert.Kernel10.Λ₀ = Cert.Kernel10Ideal.Λ₀ := rfl
theorem same_contents : (fun p => (Cert.Kernel10.pcfgs (F := Bits) p).Adm) = (fun p => (Cert.Kernel10Ideal.pcfgs (F := Bits) p).Adm) := rfl

theorem same_table : Cert.Kernel10.defs₀ (F := Bits) = Cert.Kernel10Ideal.defs₀ (F := Bits) := by
  unfold Cert.Kernel10.defs₀ Cert.Kernel10Ideal.defs₀
  refine congrArg Defs.onTc ?_
  funext l a
  match l, a with
  | 0, (t, s) => rfl

theorem same_defs : Cert.Kernel10.defs (F := Bits) = Cert.Kernel10Ideal.defs (F := Bits) := by
  unfold Cert.Kernel10.defs Cert.Kernel10Ideal.defs
  rw [same_table]; rfl

theorem same_main : Cert.Kernel10.main (F := Bits) = Cert.Kernel10Ideal.main (F := Bits) := by
  unfold Cert.Kernel10.main Cert.Kernel10Ideal.main
  dsimp only [same_sig, same_labels, same_contents]
  rfl

end Cert.Kernel10Ideal.ValueProj

end
-- ==== Proof.InProj.lean ====
module

public import proofs.«01_k».proof.Proof.Gen.Kernel4Ideal.Value
public import proofs.«01_k».proof.Proof.Gen.Reference4Ideal
public import Idealize.ShloMosaic.Lib.Pipeline.Covers
public import Idealize.ShloMosaic.Lib.MatmulPlain
public import Idealize.ShloMosaic.Lib.StackMember

@[expose] public section

/-!
# The state-space input projection is the plain product

A point is a block of 1024 rows and a block of 1024 columns, and it contracts all 4096 features at once.
-/

set_option maxRecDepth 16384

noncomputable section

namespace Cert.Kernel4Ideal.InProj

open Cert.Kernel4Ideal Cert.Kernel4Ideal.Gen
open Idealize.ShloMosaic Idealize.ShloMosaic.TcCoe
open Idealize.ShloMosaic.Pipeline (Dat Cfg Window)
open Idealize.ShloMosaic.ValueIdx (ix2)

variable (m : (ℓ : Loc nD τ sig) → Buf (Elt Ideal) ℓ)

abbrev acts (c : Dev nD) : S8192x4096.Idx → EReal := m ((c : Thread nD τ).loc main_arg0)
abbrev weights (c : Dev nD) : S4096x18560.Idx → EReal := m ((c : Thread nD τ).loc main_arg1)

/-- A column of the projection among the columns of the weights. -/
def among (j : Fin 18432) : Fin 18560 := ⟨j.val, by omega⟩

/-- The plain product. -/
def plain (h : S8192x4096.Idx → EReal) (w : S4096x18560.Idx → EReal) : S8192x18432.Idx → EReal :=
  fun i => ∑ k : Fin 4096, h (ix2 (i 0) k) * w (ix2 k (among (i 1)))

def row (t : Fin grid0.N) (r : Fin 1024) : Fin 8192 :=
  ⟨1024 * (grid0.coords t 0).val + r.val, by have : (grid0.coords t 0).val < 8 := (grid0.coords t 0).isLt; omega⟩
def column (t : Fin grid0.N) (j : Fin 1024) : Fin 18432 :=
  ⟨1024 * (grid0.coords t 1).val + j.val, by have : (grid0.coords t 1).val < 18 := (grid0.coords t 1).isLt; omega⟩

theorem V_v1 (c : Dev nD) : V m c main_v1 = (extractStridedSlice S4096x18432 ![0, 0] (truncf .bf16 (m ((c : Thread nD τ).loc main_arg1)) bitsLt_bf16_f32 : FVec Ideal S4096x18560 .bf16) slices_S4096x18560_S4096x18432_0_0 : S4096x18432.Idx → EReal) := by
  unfold V; simp only [hostOps0, List.flatten_cons, List.flatten_nil, List.cons_append, List.nil_append, List.append_nil]; after_results

theorem blk0 (c : Dev nD) (t : Fin cfg0.N) (r : Fin 1024) (k : Fin 4096) :
    (iblk m c 0 t : S1024x4096.Idx → EReal) (ix2 r k) = acts m c (ix2 (row t r) k) := by
  show (V m c main_arg0 : S8192x4096.Idx → EReal) _ = _
  rw [V_main_arg0]
  refine congrArg (acts m c) (funext fun a => Fin.ext ?_)
  have h0 : (grid0.coords t 0).val < 8 := (grid0.coords t 0).isLt
  have h2 : (grid0.coords t 2).val < 1 := (grid0.coords t 2).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 2).val).toNat * 4096 + 1 * k.val = k.val
    rw [BitVec.toNat_ofNat]; omega

theorem blk1 (c : Dev nD) (t : Fin cfg0.N) (k : Fin 4096) (j : Fin 1024) :
    (iblk m c 1 t : S4096x1024.Idx → EReal) (ix2 k j) = weights m c (ix2 k (among (column t j))) := by
  have h : (iblk m c 1 t : S4096x1024.Idx → EReal) (ix2 k j) = (V m c main_v1 : S4096x18432.Idx → EReal) (ix2 k (column t j)) := by
    show (V m c main_v1 : S4096x18432.Idx → EReal) _ = _
    refine congrArg (V m c main_v1 : S4096x18432.Idx → EReal) (funext fun a => Fin.ext ?_)
    have h1 : (grid0.coords t 1).val < 18 := (grid0.coords t 1).isLt
    have h2 : (grid0.coords t 2).val < 1 := (grid0.coords t 2).isLt
    fin_cases a
    · show (BitVec.ofNat 32 (grid0.coords t 2).val).toNat * 4096 + 1 * k.val = k.val
      rw [BitVec.toNat_ofNat]; omega
    · show (BitVec.ofNat 32 (grid0.coords t 1).val).toNat * 1024 + 1 * j.val = 1024 * (grid0.coords t 1).val + j.val
      rw [BitVec.toNat_ofNat]; omega
  refine h.trans ((congrFun (V_v1 m c) _).trans ?_)
  refine (extractStridedSlice_apply _ _ _ _ (ix2 k (among (column t j))) fun a => ?_).trans rfl
  fin_cases a
  · show k.val = 0 + k.val; omega
  · show (column t j).val = 0 + (column t j).val; omega

theorem no_offset : (![0, 0] : Fin 2 → ℕ) = fun _ => 0 := by funext a; fin_cases a <;> rfl

theorem left (x0 : Vec Ideal S1024x4096 .bf16) (x1 : Vec Ideal S4096x1024 .bf16) : out0_2 x0 x1 = k0_pay1 x0 x1 := by
  unfold out0_2
  rw [View.canon_unit_zero no_offset, View.ld_unit_zero no_offset, View.ld_unit_zero no_offset]

theorem same (x : FVec Ideal S4096x1024 .bf16) : shapeCast S4096x1024 x shapeCasts_S4096x1024_S4096x1024 = x := by
  funext i; exact shapeCast_apply _ _ _ _ rfl

theorem pay_apply (x0 : Vec Ideal S1024x4096 .bf16) (x1 : Vec Ideal S4096x1024 .bf16) (r : Fin 1024) (j : Fin 1024) :
    (k0_pay1 x0 x1 : S1024x1024.Idx → EReal) (ix2 r j) = ∑ k : Fin 4096, (x0 (ix2 r k) : EReal) * x1 (ix2 k j) := by
  unfold k0_pay1
  rw [same]
  refine (Ideal.matmul_plain_apply (φ₁ := .bf16) (φ₂ := .bf16) none x0 x1 (constant S1024x1024 .f32 0x00000000#32) r j).trans ?_
  exact (congrArg (· + _) Ideal.ofBits_zero_f32).trans (zero_add _)

theorem point (c : Dev nD) (t : Fin cfg0.N) (r : Fin 1024) (j : Fin 1024) :
    (out0_2 (iblk m c 0 t) (iblk m c 1 t) : S1024x1024.Idx → EReal) (ix2 r j) = plain (acts m c) (weights m c) (ix2 (row t r) (column t j)) := by
  rw [left]
  refine (pay_apply _ _ r j).trans (Finset.sum_congr rfl fun k _ => ?_)
  exact congrArg₂ (fun a b : EReal => a * b) (blk0 m c t r k) (blk1 m c t k j)

theorem cover : (cfg0.win (2 : Fin 3)).Covers := by
  refine Pipeline.Window.covers_of_indexMap_surj (cfg0.win (2 : Fin 3)) rfl (fun a => by
    fin_cases a
    · show 0 < 1024; decide
    · show 0 < 1024; decide) fun β => ?_
  have h0 : (β 0).val < 8 := lt_of_lt_of_eq (β 0).isLt (show (8192 + 1024 - 1) / 1024 = 8 by decide)
  have h1 : (β 1).val < 18 := lt_of_lt_of_eq (β 1).isLt (show (18432 + 1024 - 1) / 1024 = 18 by decide)
  refine ⟨fun a => match a with
    | ⟨0, _⟩ => (⟨(β 0).val, h0⟩ : Fin 8)
    | ⟨1, _⟩ => (⟨(β 1).val, h1⟩ : Fin 18)
    | ⟨2, _⟩ => (0 : Fin 1), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The kernel's result is the plain product. -/
theorem value (c : Dev nD) : (dats m 0 c).arrAt (2 : Fin 3) cfg0.N = plain (acts m c) (weights m c) := by
  refine Pipeline.Dat.arrAt_eq_of_covers (dat := dats m 0 c) (2 : Fin 3) (plain (acts m c) (weights m c)) cover fun t _ y => ?_
  show (dats m 0 c).after (2 : Fin 3) t _ = _
  rw [after0_2]
  have h0 : (y 0).val < 1024 := (y 0).isLt
  have h1 : (y 1).val < 1024 := (y 1).isLt
  refine Eq.trans (congrArg (out0_2 (iblk m c 0 t) (iblk m c 1 t) : S1024x1024.Idx → EReal) (a₂ := ix2 ⟨(y 0).val, h0⟩ ⟨(y 1).val, h1⟩) (funext fun a => by fin_cases a <;> rfl)) ((point m c t _ _).trans ?_)
  refine congrArg (plain (acts m c) (weights m c)) (funext fun a => Fin.ext ?_)
  have g0 : (grid0.coords t 0).val < 8 := (grid0.coords t 0).isLt
  have g1 : (grid0.coords t 1).val < 18 := (grid0.coords t 1).isLt
  fin_cases a
  · show 1024 * (grid0.coords t 0).val + (y 0).val = (BitVec.ofNat 32 (grid0.coords t 0).val).toNat * 1024 + 1 * (y 0).val
    rw [BitVec.toNat_ofNat]; omega
  · show 1024 * (grid0.coords t 1).val + (y 1).val = (BitVec.ofNat 32 (grid0.coords t 1).val).toNat * 1024 + 1 * (y 1).val
    rw [BitVec.toNat_ofNat]; omega

end Cert.Kernel4Ideal.InProj

namespace Cert.Reference4Ideal.InProj

open Cert.Reference4Ideal Cert.Reference4Ideal.Gen
open Idealize.ShloMosaic Idealize.ShloMosaic.TcCoe
open Cert.Kernel4Ideal.InProj (plain among)
open Idealize.ShloMosaic.ValueIdx (ix2)

/-- The reference's result, in full width, cut to its columns, is the plain product. -/
theorem value (h : FVec Ideal S8192x4096 .bf16) (w : FVec Ideal S4096x18560 .f32) :
    (truncf .bf16 (extractStridedSlice S8192x18432 ![0, 0] (Host.dotGeneral dot_S8192x4096_S4096x18560_S8192x18560_1_0_0_1_n_n none (extf .f32 h bitsLt_bf16_f32) w) slices_S8192x18560_S8192x18432_0_0) bitsLt_bf16_f32 : S8192x18432.Idx → EReal) = plain h w := by
  funext i
  obtain ⟨a, b, rfl⟩ : ∃ (a : Fin 8192) (b : Fin 18432), i = ix2 a b := ⟨i 0, i 1, funext fun x => by fin_cases x <;> rfl⟩
  show extractStridedSlice S8192x18432 ![0, 0] (Host.dotGeneral dot_S8192x4096_S4096x18560_S8192x18560_1_0_0_1_n_n none (extf .f32 h bitsLt_bf16_f32) w : S8192x18560.Idx → EReal) slices_S8192x18560_S8192x18432_0_0 (ix2 a b) = _
  refine (extractStridedSlice_apply _ _ _ _ (ix2 a (among b)) fun x => ?_).trans ?_
  · fin_cases x
    · show a.val = 0 + a.val; omega
    · show b.val = 0 + b.val; omega
  exact StackMember.dotGeneral_plain_apply (m := 8192) (n := 18560) (k := 4096) (φ₁ := .f32) (φ₂ := .f32) none (fun i => h i) w a (among b)

end Cert.Reference4Ideal.InProj

end
-- ==== Proof.MlaProj.lean ====
module

public import proofs.«01_k».proof.Proof.Gen.Kernel5Ideal.Value
public import proofs.«01_k».proof.Proof.Gen.Reference5Ideal
public import Idealize.ShloMosaic.Lib.Pipeline.Covers
public import Idealize.ShloMosaic.Lib.MatmulPlain
public import Idealize.ShloMosaic.Lib.StackMember

@[expose] public section

/-!
# The attention's output projection is the plain product on top of its residual

A point is a block of 1024 rows and a block of 1024 columns, and it contracts all 4096 features at once.
-/

set_option maxRecDepth 16384

noncomputable section

namespace Cert.Kernel5Ideal.MlaProj

open Cert.Kernel5Ideal Cert.Kernel5Ideal.Gen
open Idealize.ShloMosaic Idealize.ShloMosaic.TcCoe
open Idealize.ShloMosaic.Pipeline (Dat Cfg Window)
open Idealize.ShloMosaic.ValueIdx (ix2)

variable (m : (ℓ : Loc nD τ sig) → Buf (Elt Ideal) ℓ)

abbrev acts (c : Dev nD) : S8192x4096.Idx → EReal := m ((c : Thread nD τ).loc main_arg0)
abbrev weights (c : Dev nD) : S4096x4096.Idx → EReal := m ((c : Thread nD τ).loc main_arg1)
abbrev residual (c : Dev nD) : S8192x4096.Idx → EReal := m ((c : Thread nD τ).loc main_arg2)

/-- The plain product on top of the residual. -/
def plain (o : S8192x4096.Idx → EReal) (w : S4096x4096.Idx → EReal) (x : S8192x4096.Idx → EReal) : S8192x4096.Idx → EReal :=
  fun i => x i + ∑ k : Fin 4096, o (ix2 (i 0) k) * w (ix2 k (i 1))

def row (t : Fin grid0.N) (r : Fin 1024) : Fin 8192 :=
  ⟨1024 * (grid0.coords t 0).val + r.val, by have : (grid0.coords t 0).val < 8 := (grid0.coords t 0).isLt; omega⟩
def column (t : Fin grid0.N) (j : Fin 1024) : Fin 4096 :=
  ⟨1024 * (grid0.coords t 1).val + j.val, by have : (grid0.coords t 1).val < 4 := (grid0.coords t 1).isLt; omega⟩

theorem V_v0 (c : Dev nD) : V m c main_v0 = (truncf .bf16 (m ((c : Thread nD τ).loc main_arg1)) bitsLt_bf16_f32 : FVec Ideal S4096x4096 .bf16) := by
  unfold V; simp only [hostOps0, List.flatten_cons, List.flatten_nil, List.cons_append, List.nil_append, List.append_nil]; after_results

theorem blk0 (c : Dev nD) (t : Fin cfg0.N) (r : Fin 1024) (k : Fin 4096) :
    (iblk m c 0 t : S1024x4096.Idx → EReal) (ix2 r k) = acts m c (ix2 (row t r) k) := by
  show (V m c main_arg0 : S8192x4096.Idx → EReal) _ = _
  rw [V_main_arg0]
  refine congrArg (acts m c) (funext fun a => Fin.ext ?_)
  have h0 : (grid0.coords t 0).val < 8 := (grid0.coords t 0).isLt
  have h2 : (grid0.coords t 2).val < 1 := (grid0.coords t 2).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 2).val).toNat * 4096 + 1 * k.val = k.val
    rw [BitVec.toNat_ofNat]; omega

theorem blk1 (c : Dev nD) (t : Fin cfg0.N) (k : Fin 4096) (j : Fin 1024) :
    (iblk m c 1 t : S4096x1024.Idx → EReal) (ix2 k j) = weights m c (ix2 k (column t j)) := by
  have h : (iblk m c 1 t : S4096x1024.Idx → EReal) (ix2 k j) = (V m c main_v0 : S4096x4096.Idx → EReal) (ix2 k (column t j)) := by
    show (V m c main_v0 : S4096x4096.Idx → EReal) _ = _
    refine congrArg (V m c main_v0 : S4096x4096.Idx → EReal) (funext fun a => Fin.ext ?_)
    have h1 : (grid0.coords t 1).val < 4 := (grid0.coords t 1).isLt
    have h2 : (grid0.coords t 2).val < 1 := (grid0.coords t 2).isLt
    fin_cases a
    · show (BitVec.ofNat 32 (grid0.coords t 2).val).toNat * 4096 + 1 * k.val = k.val
      rw [BitVec.toNat_ofNat]; omega
    · show (BitVec.ofNat 32 (grid0.coords t 1).val).toNat * 1024 + 1 * j.val = 1024 * (grid0.coords t 1).val + j.val
      rw [BitVec.toNat_ofNat]; omega
  exact h.trans (congrFun (V_v0 m c) _)

theorem blk2 (c : Dev nD) (t : Fin cfg0.N) (r : Fin 1024) (j : Fin 1024) :
    (iblk m c 2 t : S1024x1024.Idx → EReal) (ix2 r j) = residual m c (ix2 (row t r) (column t j)) := by
  show (V m c main_arg2 : S8192x4096.Idx → EReal) _ = _
  rw [V_main_arg2]
  refine congrArg (residual m c) (funext fun a => Fin.ext ?_)
  have h0 : (grid0.coords t 0).val < 8 := (grid0.coords t 0).isLt
  have h1 : (grid0.coords t 1).val < 4 := (grid0.coords t 1).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 1).val).toNat * 1024 + 1 * j.val = 1024 * (grid0.coords t 1).val + j.val
    rw [BitVec.toNat_ofNat]; omega

theorem no_offset : (![0, 0] : Fin 2 → ℕ) = fun _ => 0 := by funext a; fin_cases a <;> rfl

theorem left (x0 : Vec Ideal S1024x4096 .bf16) (x1 : Vec Ideal S4096x1024 .bf16) (x2 : Vec Ideal S1024x1024 .f32) : out0_3 x0 x1 x2 = k0_pay1 x0 x1 x2 := by
  unfold out0_3
  rw [View.canon_unit_zero no_offset, View.ld_unit_zero no_offset, View.ld_unit_zero no_offset, View.ld_unit_zero no_offset]

theorem same (x : FVec Ideal S4096x1024 .bf16) : shapeCast S4096x1024 x shapeCasts_S4096x1024_S4096x1024 = x := by
  funext i; exact shapeCast_apply _ _ _ _ rfl

theorem pay_apply (x0 : Vec Ideal S1024x4096 .bf16) (x1 : Vec Ideal S4096x1024 .bf16) (x2 : Vec Ideal S1024x1024 .f32) (r : Fin 1024) (j : Fin 1024) :
    (k0_pay1 x0 x1 x2 : S1024x1024.Idx → EReal) (ix2 r j) = (x2 (ix2 r j) : EReal) + ∑ k : Fin 4096, (x0 (ix2 r k) : EReal) * x1 (ix2 k j) := by
  unfold k0_pay1
  rw [same]
  refine (congrArg (fun s : EReal => s + x2 (ix2 r j)) (Ideal.matmul_plain_apply (φ₁ := .bf16) (φ₂ := .bf16) none x0 x1 (constant S1024x1024 .f32 0x00000000#32) r j)).trans ?_
  refine Eq.trans (congrArg (fun s : EReal => s + x2 (ix2 r j)) ?_) (add_comm _ _)
  exact (congrArg (· + _) Ideal.ofBits_zero_f32).trans (zero_add _)

theorem point (c : Dev nD) (t : Fin cfg0.N) (r : Fin 1024) (j : Fin 1024) :
    (out0_3 (iblk m c 0 t) (iblk m c 1 t) (iblk m c 2 t) : S1024x1024.Idx → EReal) (ix2 r j) = plain (acts m c) (weights m c) (residual m c) (ix2 (row t r) (column t j)) := by
  rw [left]
  refine (pay_apply _ _ _ r j).trans (congrArg₂ (fun a b : EReal => a + b) (blk2 m c t r j) (Finset.sum_congr rfl fun k _ => ?_))
  exact congrArg₂ (fun a b : EReal => a * b) (blk0 m c t r k) (blk1 m c t k j)

theorem cover : (cfg0.win (3 : Fin 4)).Covers := by
  refine Pipeline.Window.covers_of_indexMap_surj (cfg0.win (3 : Fin 4)) rfl (fun a => by
    fin_cases a
    · show 0 < 1024; decide
    · show 0 < 1024; decide) fun β => ?_
  have h0 : (β 0).val < 8 := lt_of_lt_of_eq (β 0).isLt (show (8192 + 1024 - 1) / 1024 = 8 by decide)
  have h1 : (β 1).val < 4 := lt_of_lt_of_eq (β 1).isLt (show (4096 + 1024 - 1) / 1024 = 4 by decide)
  refine ⟨fun a => match a with
    | ⟨0, _⟩ => (⟨(β 0).val, h0⟩ : Fin 8)
    | ⟨1, _⟩ => (⟨(β 1).val, h1⟩ : Fin 4)
    | ⟨2, _⟩ => (0 : Fin 1), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The kernel's result is the plain product on top of the residual. -/
theorem value (c : Dev nD) : (dats m 0 c).arrAt (3 : Fin 4) cfg0.N = plain (acts m c) (weights m c) (residual m c) := by
  refine Pipeline.Dat.arrAt_eq_of_covers (dat := dats m 0 c) (3 : Fin 4) (plain (acts m c) (weights m c) (residual m c)) cover fun t _ y => ?_
  show (dats m 0 c).after (3 : Fin 4) t _ = _
  rw [after0_3]
  have h0 : (y 0).val < 1024 := (y 0).isLt
  have h1 : (y 1).val < 1024 := (y 1).isLt
  refine Eq.trans (congrArg (out0_3 (iblk m c 0 t) (iblk m c 1 t) (iblk m c 2 t) : S1024x1024.Idx → EReal) (a₂ := ix2 ⟨(y 0).val, h0⟩ ⟨(y 1).val, h1⟩) (funext fun a => by fin_cases a <;> rfl)) ((point m c t _ _).trans ?_)
  refine congrArg (plain (acts m c) (weights m c) (residual m c)) (funext fun a => Fin.ext ?_)
  have g0 : (grid0.coords t 0).val < 8 := (grid0.coords t 0).isLt
  have g1 : (grid0.coords t 1).val < 4 := (grid0.coords t 1).isLt
  fin_cases a
  · show 1024 * (grid0.coords t 0).val + (y 0).val = (BitVec.ofNat 32 (grid0.coords t 0).val).toNat * 1024 + 1 * (y 0).val
    rw [BitVec.toNat_ofNat]; omega
  · show 1024 * (grid0.coords t 1).val + (y 1).val = (BitVec.ofNat 32 (grid0.coords t 1).val).toNat * 1024 + 1 * (y 1).val
    rw [BitVec.toNat_ofNat]; omega

end Cert.Kernel5Ideal.MlaProj

namespace Cert.Reference5Ideal.MlaProj

open Cert.Reference5Ideal Cert.Reference5Ideal.Gen
open Idealize.ShloMosaic Idealize.ShloMosaic.TcCoe
open Cert.Kernel5Ideal.MlaProj (plain)
open Idealize.ShloMosaic.ValueIdx (ix2)

/-- The reference's result is the same. -/
theorem value (o : FVec Ideal S8192x4096 .bf16) (w : FVec Ideal S4096x4096 .f32) (x : FVec Ideal S8192x4096 .f32) :
    (addf x (Host.dotGeneral dot_S8192x4096_S4096x4096_S8192x4096_1_0_0_1_n_n none (extf .f32 o bitsLt_bf16_f32) w) : S8192x4096.Idx → EReal) = plain o w x := by
  funext i
  obtain ⟨a, b, rfl⟩ : ∃ (a : Fin 8192) (b : Fin 4096), i = ix2 a b := ⟨i 0, i 1, funext fun x => by fin_cases x <;> rfl⟩
  exact congrArg (fun s : EReal => x (ix2 a b) + s) (StackMember.dotGeneral_plain_apply (m := 8192) (n := 4096) (k := 4096) (φ₁ := .f32) (φ₂ := .f32) none (fun i => o i) w a b)

end Cert.Reference5Ideal.MlaProj

end
-- ==== Proof.SsmProj.lean ====
module

public import proofs.«01_k».proof.Proof.Gen.Kernel6Ideal.Value
public import proofs.«01_k».proof.Proof.Gen.Reference6Ideal
public import Idealize.ShloMosaic.Lib.Pipeline.Covers
public import Idealize.ShloMosaic.Lib.MatmulPlain
public import Idealize.ShloMosaic.Lib.StackMember
public import Idealize.ShloMosaic.Lib.Tactic

@[expose] public section

/-!
# The state-space output projection is the plain product on top of its residual

A point is a block of 1024 rows, a block of 1024 columns and a block of 2048 features. The four points of a result block add up in a carried buffer, and the last adds the residual.
-/

set_option maxRecDepth 16384

noncomputable section

namespace Cert.Kernel6Ideal.SsmProj

open Cert.Kernel6Ideal Cert.Kernel6Ideal.Gen
open Idealize.ShloMosaic Idealize.ShloMosaic.TcCoe
open Idealize.ShloMosaic.Pipeline (Dat Cfg Window)
open Idealize.ShloMosaic.ValueIdx (ix2)

variable (m : (ℓ : Loc nD τ sig) → Buf (Elt Ideal) ℓ)

abbrev acts (c : Dev nD) : S8192x8192.Idx → EReal := m ((c : Thread nD τ).loc main_arg0)
abbrev weights (c : Dev nD) : S8192x4096.Idx → EReal := m ((c : Thread nD τ).loc main_arg1)
abbrev residual (c : Dev nD) : S8192x4096.Idx → EReal := m ((c : Thread nD τ).loc main_arg2)

/-- The plain product on top of the residual. -/
def plain (y : S8192x8192.Idx → EReal) (w : S8192x4096.Idx → EReal) (x : S8192x4096.Idx → EReal) : S8192x4096.Idx → EReal :=
  fun i => x i + ∑ k : Fin 8192, y (ix2 (i 0) k) * w (ix2 k (i 1))

/-! ## The features gone through -/

def feature (j : Fin 4) (k : Fin 2048) : Fin 8192 := ⟨2048 * j.val + k.val, by omega⟩

def gone (n : ℕ) : Finset (Fin 8192) := Finset.univ.filter fun k => k.val < 2048 * n

def featureIn (j : Fin 4) : Fin 2048 ↪ Fin 8192 := ⟨feature j, fun a b h => Fin.ext (by have := congrArg Fin.val h; simp only [feature] at this; omega)⟩

theorem mem_gone (n : ℕ) (k : Fin 8192) : k ∈ gone n ↔ k.val < 2048 * n := by simp [gone]

theorem mem_features (j : Fin 4) (k : Fin 8192) : k ∈ Finset.univ.map (featureIn j) ↔ 2048 * j.val ≤ k.val ∧ k.val < 2048 * j.val + 2048 := by
  rw [Finset.mem_map]
  constructor
  · rintro ⟨a, _, rfl⟩
    have := a.isLt
    show 2048 * j.val ≤ 2048 * j.val + a.val ∧ 2048 * j.val + a.val < 2048 * j.val + 2048
    omega
  · rintro ⟨h1, h2⟩
    exact ⟨⟨k.val - 2048 * j.val, by omega⟩, Finset.mem_univ _, Fin.ext (by show 2048 * j.val + (k.val - 2048 * j.val) = k.val; omega)⟩

theorem sum_gone_zero (f : Fin 8192 → EReal) : ∑ k ∈ gone 0, f k = 0 := by
  have h : gone 0 = ∅ := by ext k; rw [mem_gone]; simp
  rw [h, Finset.sum_empty]

theorem sum_gone_all (f : Fin 8192 → EReal) : ∑ k ∈ gone 4, f k = ∑ k, f k := by
  have h : gone 4 = Finset.univ := by ext k; rw [mem_gone]; have := k.isLt; simp
  rw [h]

theorem sum_gone_succ (j : Fin 4) (f : Fin 8192 → EReal) :
    ∑ k ∈ gone (j.val + 1), f k = ∑ k ∈ gone j.val, f k + ∑ k : Fin 2048, f (feature j k) := by
  have h : gone (j.val + 1) = gone j.val ∪ Finset.univ.map (featureIn j) := by
    ext k; rw [Finset.mem_union, mem_gone, mem_gone, mem_features]; omega
  have hd : Disjoint (gone j.val) (Finset.univ.map (featureIn j)) := by
    rw [Finset.disjoint_left]; intro k h1 h2
    rw [mem_gone] at h1; rw [mem_features] at h2; omega
  rw [h, Finset.sum_union hd]
  exact congrArg (_ + ·) (Finset.sum_map Finset.univ (featureIn j) f)

/-! ## A point's blocks -/

/-- A point's block of features. -/
def part (t : Fin grid0.N) : Fin 4 := grid0.coords t 2
def row (t : Fin grid0.N) (r : Fin 1024) : Fin 8192 :=
  ⟨1024 * (grid0.coords t 0).val + r.val, by have : (grid0.coords t 0).val < 8 := (grid0.coords t 0).isLt; omega⟩
def column (t : Fin grid0.N) (j : Fin 1024) : Fin 4096 :=
  ⟨1024 * (grid0.coords t 1).val + j.val, by have : (grid0.coords t 1).val < 4 := (grid0.coords t 1).isLt; omega⟩

theorem V_v0 (c : Dev nD) : V m c main_v0 = (truncf .bf16 (m ((c : Thread nD τ).loc main_arg1)) bitsLt_bf16_f32 : FVec Ideal S8192x4096 .bf16) := by
  unfold V; simp only [hostOps0, List.flatten_cons, List.flatten_nil, List.cons_append, List.nil_append, List.append_nil]; after_results

theorem blk0 (c : Dev nD) (t : Fin cfg0.N) (r : Fin 1024) (k : Fin 2048) :
    (iblk m c 0 t : S1024x2048.Idx → EReal) (ix2 r k) = acts m c (ix2 (row t r) (feature (part t) k)) := by
  show (V m c main_arg0 : S8192x8192.Idx → EReal) _ = _
  rw [V_main_arg0]
  refine congrArg (acts m c) (funext fun a => Fin.ext ?_)
  have h0 : (grid0.coords t 0).val < 8 := (grid0.coords t 0).isLt
  have h2 : (grid0.coords t 2).val < 4 := (grid0.coords t 2).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 2).val).toNat * 2048 + 1 * k.val = 2048 * (grid0.coords t 2).val + k.val
    rw [BitVec.toNat_ofNat]; omega

theorem blk1 (c : Dev nD) (t : Fin cfg0.N) (k : Fin 2048) (j : Fin 1024) :
    (iblk m c 1 t : S2048x1024.Idx → EReal) (ix2 k j) = weights m c (ix2 (feature (part t) k) (column t j)) := by
  have h : (iblk m c 1 t : S2048x1024.Idx → EReal) (ix2 k j) = (V m c main_v0 : S8192x4096.Idx → EReal) (ix2 (feature (part t) k) (column t j)) := by
    show (V m c main_v0 : S8192x4096.Idx → EReal) _ = _
    refine congrArg (V m c main_v0 : S8192x4096.Idx → EReal) (funext fun a => Fin.ext ?_)
    have h1 : (grid0.coords t 1).val < 4 := (grid0.coords t 1).isLt
    have h2 : (grid0.coords t 2).val < 4 := (grid0.coords t 2).isLt
    fin_cases a
    · show (BitVec.ofNat 32 (grid0.coords t 2).val).toNat * 2048 + 1 * k.val = 2048 * (grid0.coords t 2).val + k.val
      rw [BitVec.toNat_ofNat]; omega
    · show (BitVec.ofNat 32 (grid0.coords t 1).val).toNat * 1024 + 1 * j.val = 1024 * (grid0.coords t 1).val + j.val
      rw [BitVec.toNat_ofNat]; omega
  exact h.trans (congrFun (V_v0 m c) _)

theorem blk2 (c : Dev nD) (t : Fin cfg0.N) (r : Fin 1024) (j : Fin 1024) :
    (iblk m c 2 t : S1024x1024.Idx → EReal) (ix2 r j) = residual m c (ix2 (row t r) (column t j)) := by
  show (V m c main_arg2 : S8192x4096.Idx → EReal) _ = _
  rw [V_main_arg2]
  refine congrArg (residual m c) (funext fun a => Fin.ext ?_)
  have h0 : (grid0.coords t 0).val < 8 := (grid0.coords t 0).isLt
  have h1 : (grid0.coords t 1).val < 4 := (grid0.coords t 1).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 1).val).toNat * 1024 + 1 * j.val = 1024 * (grid0.coords t 1).val + j.val
    rw [BitVec.toNat_ofNat]; omega

theorem no_offset : (![0, 0] : Fin 2 → ℕ) = fun _ => 0 := by funext a; fin_cases a <;> rfl

theorem same (x : FVec Ideal S2048x1024 .bf16) : shapeCast S2048x1024 x shapeCasts_S2048x1024_S2048x1024 = x := by
  funext i; exact shapeCast_apply _ _ _ _ rfl
theorem same_block (x : FVec Ideal S1024x1024 .f32) : shapeCast S1024x1024 x shapeCasts_S1024x1024_S1024x1024 = x := by
  funext i; exact shapeCast_apply _ _ _ _ rfl

theorem zero_apply (i : S1024x1024.Idx) : (k0_pay1 (F := Ideal) : S1024x1024.Idx → EReal) i = 0 := by
  unfold k0_pay1
  rw [same_block]
  exact Ideal.ofBits_zero_f32

theorem step_apply (a : Vec Ideal S1024x1024 .f32) (x0 : Vec Ideal S1024x2048 .bf16) (x1 : Vec Ideal S2048x1024 .bf16) (r : Fin 1024) (j : Fin 1024) :
    (k0_pay2 a x0 x1 : S1024x1024.Idx → EReal) (ix2 r j) = (a (ix2 r j) : EReal) + ∑ k : Fin 2048, (x0 (ix2 r k) : EReal) * x1 (ix2 k j) := by
  unfold k0_pay2
  rw [same, same_block]
  refine congrArg (fun s : EReal => a (ix2 r j) + s) ((Ideal.matmul_plain_apply (φ₁ := .bf16) (φ₂ := .bf16) none x0 x1 (constant S1024x1024 .f32 0x00000000#32) r j).trans ?_)
  exact (congrArg (· + _) Ideal.ofBits_zero_f32).trans (zero_add _)

/-! ## What a point leaves -/

section
variable (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec Ideal S1024x2048 .bf16) (x1 : Vec Ideal S2048x1024 .bf16) (x2 : Vec Ideal S1024x1024 .f32) (xs : Vec Ideal S1024x1024 .f32)

theorem carried_first (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) no_offset, View.readCov_unit_zero (S := S1024x1024) _ no_offset]
  simp only [View.readAt_eq_ld, h3.read_unread, h4.read_unread, View.ld_unit_zero (S := S1024x2048) no_offset, View.ld_unit_zero (S := S2048x1024) no_offset]

theorem carried_middle (hc0 : ¬cond0_0 i) (hc1 : ¬cond0_1 i) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero no_offset]
  simp only [View.readAt_eq_ld, h3.read_unread, h4.read_unread, h7.read_unread, View.ld_unit_zero (S := S1024x2048) no_offset, View.ld_unit_zero (S := S2048x1024) no_offset, View.ld_unit_zero (S := S1024x1024) no_offset]

theorem written_last (hc0 : ¬cond0_0 i) (hc1 : cond0_1 i) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero no_offset, View.readCov_unit_zero (S := S1024x1024) _ no_offset]
  simp only [View.readAt_eq_ld, h3.read_unread, h4.read_unread, h5.read_unread, h7.read_unread, View.ld_unit_zero (S := S1024x2048) no_offset, View.ld_unit_zero (S := S2048x1024) no_offset, View.ld_unit_zero (S := S1024x1024) no_offset]

end

theorem places : ∀ t : Fin grid0.N, (grid0.coords t 0).val = t.val / 16 ∧ (grid0.coords t 1).val = t.val / 4 % 4 ∧ (grid0.coords t 2).val = t.val % 4 := by
  decide +kernel

/-- The terms of an entry of a point's block. -/
abbrev term (c : Dev nD) (t : Fin grid0.N) (r j : Fin 1024) (k : Fin 8192) : EReal :=
  acts m c (ix2 (row t r) k) * weights m c (ix2 k (column t j))

theorem step_term (c : Dev nD) (t : Fin cfg0.N) (a : Vec Ideal S1024x1024 .f32) (r j : Fin 1024)
    (h : (a (ix2 r j) : EReal) = ∑ k ∈ gone (part t).val, term m c t r j k) :
    (k0_pay2 a (iblk m c 0 t) (iblk m c 1 t) : S1024x1024.Idx → EReal) (ix2 r j) = ∑ k ∈ gone ((part t).val + 1), term m c t r j k := by
  rw [step_apply, sum_gone_succ]
  refine congrArg₂ (fun a b : EReal => a + b) h (Finset.sum_congr rfl fun k _ => ?_)
  exact congrArg₂ (fun a b : EReal => a * b) (blk0 m c t r k) (blk1 m c t k j)

theorem term_before (c : Dev nD) (t t' : Fin grid0.N) (e : t'.val + 1 = t.val) (h0 : ¬t.val % 4 = 0) (r j : Fin 1024) :
    term m c t' r j = term m c t r j ∧ (part t').val + 1 = (part t).val := by
  obtain ⟨p0, p1, p2⟩ := places t
  obtain ⟨q0, q1, q2⟩ := places t'
  have er : row t' r = row t r := Fin.ext (by show 1024 * (grid0.coords t' 0).val + r.val = 1024 * (grid0.coords t 0).val + r.val; rw [p0, q0]; omega)
  have ej : column t' j = column t j := Fin.ext (by show 1024 * (grid0.coords t' 1).val + j.val = 1024 * (grid0.coords t 1).val + j.val; rw [p1, q1]; omega)
  refine ⟨?_, ?_⟩
  · funext k; unfold term; rw [er, ej]
  · show (grid0.coords t' 2).val + 1 = (grid0.coords t 2).val; rw [p2, q2]; omega

theorem after_first (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  rw [carried_first]

theorem after_middle (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  rw [carried_middle]

theorem after_last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  rw [written_last]

/-! The carried buffer after a point holds the sum over the features gone through. -/

theorem carried_reset (c : Dev nD) (t : Fin cfg0.N) (h0 : t.val % 4 = 0) (r j : Fin 1024) :
    ((outsAt0 m c t.val t.isLt).2 (ix2 r j) : EReal) = ∑ k ∈ gone ((part t).val + 1), term m c t r j k := by
  rw [after_first m c t h0 (by omega)]
  refine step_term m c t _ r j ?_
  rw [show (part t).val = 0 from (places t).2.2.trans h0, sum_gone_zero]
  exact zero_apply _

theorem carried_step (c : Dev nD) (t t' : Fin cfg0.N) (e : t'.val + 1 = t.val) (h0 : ¬t.val % 4 = 0) (a : Vec Ideal S1024x1024 .f32) (r j : Fin 1024)
    (h : (a (ix2 r j) : EReal) = ∑ k ∈ gone ((part t').val + 1), term m c t' r j k) :
    (k0_pay2 a (iblk m c 0 t) (iblk m c 1 t) : S1024x1024.Idx → EReal) (ix2 r j) = ∑ k ∈ gone ((part t).val + 1), term m c t r j k := by
  refine step_term m c t a r j ?_
  obtain ⟨et, ep⟩ := term_before m c t t' e h0 r j
  rw [← et, ← ep]
  exact h

theorem carried (c : Dev nD) (n : ℕ) : ∀ (hn : n < cfg0.N) (r j : Fin 1024), n % 4 ≠ 3 →
    ((outsAt0 m c n hn).2 (ix2 r j) : EReal) = ∑ k ∈ gone ((part ⟨n, hn⟩).val + 1), term m c ⟨n, hn⟩ r j k := by
  induction n with
  | zero => exact fun hn r j _ => carried_reset m c ⟨0, hn⟩ rfl r j
  | succ n ih =>
    intro hn r j h3
    by_cases h0 : (n + 1) % 4 = 0
    · exact carried_reset m c ⟨n + 1, hn⟩ h0 r j
    · have hb : n < cfg0.N := Nat.lt_of_succ_lt hn
      have e := after_middle m c ⟨n + 1, hn⟩ h0 h3
      have s := carried_step m c ⟨n + 1, hn⟩ ⟨n, hb⟩ rfl h0 (outsAt0 m c n hb).2 r j (ih hb r j (by omega))
      rw [← s]
      exact congrFun e (ix2 r j)

theorem point (c : Dev nD) (t : Fin cfg0.N) (h3 : t.val % 4 = 3) (r : Fin 1024) (j : Fin 1024) :
    ((outsAt0 m c t.val t.isLt).1 (ix2 r j) : EReal) = plain (acts m c) (weights m c) (residual m c) (ix2 (row t r) (column t j)) := by
  have h0 : ¬t.val % 4 = 0 := by omega
  have hb : t.val - 1 < cfg0.N := Nat.lt_of_le_of_lt (Nat.sub_le _ _) t.isLt
  have hs := carried_step m c t ⟨t.val - 1, hb⟩ (by show t.val - 1 + 1 = t.val; omega) h0 (outsAt0 m c (t.val - 1) hb).2 r j
    (carried m c (t.val - 1) hb r j (by omega))
  rw [show (part t).val = 3 from (places t).2.2.trans h3, sum_gone_all] at hs
  rw [after_last m c t h0 h3]
  exact Eq.trans (congrArg₂ (fun a b : EReal => a + b) hs (blk2 m c t r j)) (add_comm _ _)

theorem cover : (cfg0.win (3 : Fin 4)).Covers := by
  refine Pipeline.Window.covers_of_indexMap_surj (cfg0.win (3 : Fin 4)) rfl (fun a => by
    fin_cases a
    · show 0 < 1024; decide
    · show 0 < 1024; decide) fun β => ?_
  have h0 : (β 0).val < 8 := lt_of_lt_of_eq (β 0).isLt (show (8192 + 1024 - 1) / 1024 = 8 by decide)
  have h1 : (β 1).val < 4 := lt_of_lt_of_eq (β 1).isLt (show (4096 + 1024 - 1) / 1024 = 4 by decide)
  refine ⟨fun a => match a with
    | ⟨0, _⟩ => (⟨(β 0).val, h0⟩ : Fin 8)
    | ⟨1, _⟩ => (⟨(β 1).val, h1⟩ : Fin 4)
    | ⟨2, _⟩ => (0 : Fin 4), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The kernel's result is the plain product on top of the residual. -/
theorem value (c : Dev nD) : (dats m 0 c).arrAt (3 : Fin 4) cfg0.N = plain (acts m c) (weights m c) (residual m c) := by
  refine Pipeline.Dat.arrAt_eq_of_covers (dat := dats m 0 c) (3 : Fin 4) (plain (acts m c) (weights m c) (residual m c)) cover fun t hf y => ?_
  show (dats m 0 c).after (3 : Fin 4) t _ = _
  rw [after0_3]
  have h0 : (y 0).val < 1024 := (y 0).isLt
  have h1 : (y 1).val < 1024 := (y 1).isLt
  refine Eq.trans (congrArg ((outsAt0 m c t.val t.isLt).1 : S1024x1024.Idx → EReal) (a₂ := ix2 ⟨(y 0).val, h0⟩ ⟨(y 1).val, h1⟩) (funext fun a => by fin_cases a <;> rfl)) ((point m c t ((flush0_3 t).mp hf) _ _).trans ?_)
  refine congrArg (plain (acts m c) (weights m c) (residual m c)) (funext fun a => Fin.ext ?_)
  have g0 : (grid0.coords t 0).val < 8 := (grid0.coords t 0).isLt
  have g1 : (grid0.coords t 1).val < 4 := (grid0.coords t 1).isLt
  fin_cases a
  · show 1024 * (grid0.coords t 0).val + (y 0).val = (BitVec.ofNat 32 (grid0.coords t 0).val).toNat * 1024 + 1 * (y 0).val
    rw [BitVec.toNat_ofNat]; omega
  · show 1024 * (grid0.coords t 1).val + (y 1).val = (BitVec.ofNat 32 (grid0.coords t 1).val).toNat * 1024 + 1 * (y 1).val
    rw [BitVec.toNat_ofNat]; omega

end Cert.Kernel6Ideal.SsmProj

namespace Cert.Reference6Ideal.SsmProj

open Cert.Reference6Ideal Cert.Reference6Ideal.Gen
open Idealize.ShloMosaic Idealize.ShloMosaic.TcCoe
open Cert.Kernel6Ideal.SsmProj (plain)
open Idealize.ShloMosaic.ValueIdx (ix2)

/-- The reference's result is the same. -/
theorem value (o : FVec Ideal S8192x8192 .bf16) (w : FVec Ideal S8192x4096 .f32) (x : FVec Ideal S8192x4096 .f32) :
    (addf x (Host.dotGeneral dot_S8192x8192_S8192x4096_S8192x4096_1_0_0_1_n_n none (extf .f32 o bitsLt_bf16_f32) w) : S8192x4096.Idx → EReal) = plain o w x := by
  funext i
  obtain ⟨a, b, rfl⟩ : ∃ (a : Fin 8192) (b : Fin 4096), i = ix2 a b := ⟨i 0, i 1, funext fun x => by fin_cases x <;> rfl⟩
  exact congrArg (fun s : EReal => x (ix2 a b) + s) (StackMember.dotGeneral_plain_apply (m := 8192) (n := 4096) (k := 8192) (φ₁ := .f32) (φ₂ := .f32) none (fun i => o i) w a b)

end Cert.Reference6Ideal.SsmProj

end
-- ==== Proof.QueryProj.lean ====
module

public import proofs.«01_k».proof.Proof.Gen.Kernel8Ideal.Value
public import proofs.«01_k».proof.Proof.Gen.Reference8Ideal
public import Idealize.ShloMosaic.Lib.Pipeline.Covers
public import Idealize.ShloMosaic.Lib.MatmulPlain
public import Idealize.ShloMosaic.Lib.StackMember
public import Idealize.ShloMosaic.Lib.IdealHost

@[expose] public section

/-!
# The queries' down projection is the plain product, its rows normalized

A point is a block of 1024 rows with all the columns, so a row's norm is taken within its point.
-/

set_option maxRecDepth 16384

noncomputable section

namespace Cert.Kernel8Ideal.QueryProj

open Cert.Kernel8Ideal Cert.Kernel8Ideal.Gen
open Idealize.ShloMosaic Idealize.ShloMosaic.TcCoe
open Idealize.ShloMosaic.Pipeline (Dat Cfg Window)
open Idealize.ShloMosaic.ValueIdx (ix1 ix2)

variable (m : (ℓ : Loc nD τ sig) → Buf (Elt Ideal) ℓ)

abbrev acts (c : Dev nD) : S8192x4096.Idx → EReal := m ((c : Thread nD τ).loc main_arg0)
abbrev weights (c : Dev nD) : S4096x1024.Idx → EReal := m ((c : Thread nD τ).loc main_arg1)
abbrev gain (c : Dev nD) : S1024.Idx → EReal := m ((c : Thread nD τ).loc main_arg2)

/-- The factor that normalizes a row whose squares sum to `q`. -/
def scale (q : EReal) : EReal :=
  Ideal.rsqrt (Ideal.div q (Ideal.ofBits .f32 0x44800000#32) + Ideal.ofBits .f32 0x358637BD#32)

/-- A normalized row, weighted. -/
def normed (x g : Fin 1024 → EReal) (d : Fin 1024) : EReal := x d * scale (∑ k, x k * x k) * g d

/-- The plain product. -/
def product (h : S8192x4096.Idx → EReal) (w : S4096x1024.Idx → EReal) (a : Fin 8192) (b : Fin 1024) : EReal :=
  ∑ k : Fin 4096, h (ix2 a k) * w (ix2 k b)

/-- The plain product, its rows normalized. -/
def plain (h : S8192x4096.Idx → EReal) (w : S4096x1024.Idx → EReal) (g : S1024.Idx → EReal) : S8192x1024.Idx → EReal :=
  fun i => normed (product h w (i 0)) (fun j => g (ix1 j)) (i 1)

def row (t : Fin grid0.N) (r : Fin 1024) : Fin 8192 :=
  ⟨1024 * (grid0.coords t 0).val + r.val, by have : (grid0.coords t 0).val < 8 := (grid0.coords t 0).isLt; omega⟩

theorem V_v0 (c : Dev nD) : V m c main_v0 = (truncf .bf16 (m ((c : Thread nD τ).loc main_arg1)) bitsLt_bf16_f32 : FVec Ideal S4096x1024 .bf16) := by
  unfold V; simp only [hostOps0, List.flatten_cons, List.flatten_nil, List.cons_append, List.nil_append, List.append_nil]; after_results

theorem V_v1 (c : Dev nD) : V m c main_v1 = (shapeCast S1x1024 (gain m c) shapeCasts_S1024_S1x1024 : S1x1024.Idx → EReal) := by
  unfold V; simp only [hostOps0, List.flatten_cons, List.flatten_nil, List.cons_append, List.nil_append, List.append_nil]; after_results; try rfl

theorem blk0 (c : Dev nD) (t : Fin cfg0.N) (r : Fin 1024) (k : Fin 4096) :
    (iblk m c 0 t : S1024x4096.Idx → EReal) (ix2 r k) = acts m c (ix2 (row t r) k) := by
  show (V m c main_arg0 : S8192x4096.Idx → EReal) _ = _
  rw [V_main_arg0]
  refine congrArg (acts m c) (funext fun a => Fin.ext ?_)
  have h0 : (grid0.coords t 0).val < 8 := (grid0.coords t 0).isLt
  have h2 : (grid0.coords t 2).val < 1 := (grid0.coords t 2).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 2).val).toNat * 4096 + 1 * k.val = k.val
    rw [BitVec.toNat_ofNat]; omega

theorem blk1 (c : Dev nD) (t : Fin cfg0.N) (k : Fin 4096) (j : Fin 1024) :
    (iblk m c 1 t : S4096x1024.Idx → EReal) (ix2 k j) = weights m c (ix2 k j) := by
  have h : (iblk m c 1 t : S4096x1024.Idx → EReal) (ix2 k j) = (V m c main_v0 : S4096x1024.Idx → EReal) (ix2 k j) := by
    show (V m c main_v0 : S4096x1024.Idx → EReal) _ = _
    refine congrArg (V m c main_v0 : S4096x1024.Idx → EReal) (funext fun a => Fin.ext ?_)
    have h1 : (grid0.coords t 1).val < 1 := (grid0.coords t 1).isLt
    have h2 : (grid0.coords t 2).val < 1 := (grid0.coords t 2).isLt
    fin_cases a
    · show (BitVec.ofNat 32 (grid0.coords t 2).val).toNat * 4096 + 1 * k.val = k.val
      rw [BitVec.toNat_ofNat]; omega
    · show (BitVec.ofNat 32 (grid0.coords t 1).val).toNat * 1024 + 1 * j.val = j.val
      rw [BitVec.toNat_ofNat]; omega
  exact h.trans (congrFun (V_v0 m c) _)

theorem blk2 (c : Dev nD) (t : Fin cfg0.N) (j : Fin 1024) :
    (iblk m c 2 t : S1x1024.Idx → EReal) (ix2 (0 : Fin 1) j) = gain m c (ix1 j) := by
  have h : (iblk m c 2 t : S1x1024.Idx → EReal) (ix2 (0 : Fin 1) j) = (V m c main_v1 : S1x1024.Idx → EReal) (ix2 (0 : Fin 1) j) := by
    show (V m c main_v1 : S1x1024.Idx → EReal) _ = _
    refine congrArg (V m c main_v1 : S1x1024.Idx → EReal) (funext fun a => Fin.ext ?_)
    have h1 : (grid0.coords t 1).val < 1 := (grid0.coords t 1).isLt
    fin_cases a
    · rfl
    · show (BitVec.ofNat 32 (grid0.coords t 1).val).toNat * 1024 + 1 * j.val = j.val
      rw [BitVec.toNat_ofNat]; omega
  refine h.trans ((congrFun (V_v1 m c) _).trans (shapeCast_apply _ _ _ _ ?_))
  rw [Shape.rowMajor_val_one, Shape.rowMajor_val_two]
  show j.val = 0 * 1024 + j.val
  omega

theorem no_offset : (![0, 0] : Fin 2 → ℕ) = fun _ => 0 := by funext a; fin_cases a <;> rfl

theorem left (x0 : Vec Ideal S1024x4096 .bf16) (x1 : Vec Ideal S4096x1024 .bf16) (x2 : Vec Ideal S1x1024 .f32) : out0_3 x0 x1 x2 = k0_pay1 x0 x1 x2 := by
  unfold out0_3
  rw [View.canon_unit_zero no_offset, View.ld_unit_zero no_offset, View.ld_unit_zero no_offset, View.ld_unit_zero no_offset]

theorem same (x : FVec Ideal S4096x1024 .bf16) : shapeCast S4096x1024 x shapeCasts_S4096x1024_S4096x1024 = x := by
  funext i; exact shapeCast_apply _ _ _ _ rfl
theorem same_gain (x : FVec Ideal S1x1024 .f32) : shapeCast S1x1024 x shapeCasts_S1x1024_S1x1024 = x := by
  funext i; exact shapeCast_apply _ _ _ _ rfl

/-! ## A point's norm -/

/-- The sum of each row's squares. -/
def squares (x : FVec Ideal S1024x1024 .f32) : FVec Ideal S1024 .f32 :=
  multiReduction .add [1] S1024 (mulf x x) 0x00000000#32 reduces_S1024x1024_S1024 (.inl rfl) rfl

theorem squares_apply (x : FVec Ideal S1024x1024 .f32) (p : Fin 1024) : squares x (ix1 p) = ∑ k : Fin 1024, x (ix2 p k) * x (ix2 p k) := by
  refine (Ideal.multiReduction_add_single (mulf x x) 0x00000000#32 reduces_S1024x1024_S1024 (.inl rfl) rfl (ix1 p)).trans ?_
  refine Finset.sum_congr rfl fun k _ => ?_
  have h : reduces_S1024x1024_S1024.lift (ix1 p) k = ix2 p k := by funext a; fin_cases a <;> rfl
  rw [h]; rfl

/-- The rows' normalizing factors. -/
def factor (x : FVec Ideal S1024x1024 .f32) : FVec Ideal S1024x1 .f32 :=
  rsqrt (addf (divf (shapeCast S1024x1 (squares x) shapeCasts_S1024_S1024x1)
    (broadcast S1024x1 (Scalar.ofBits .f32 0x44800000#32))) (broadcast S1024x1 (Scalar.ofBits .f32 0x358637BD#32)))

theorem factor_apply (x : FVec Ideal S1024x1024 .f32) (p : Fin 1024) : factor x (ix2 p (0 : Fin 1)) = scale (∑ k : Fin 1024, x (ix2 p k) * x (ix2 p k)) := by
  show scale (shapeCast S1024x1 (squares x) shapeCasts_S1024_S1024x1 (ix2 p (0 : Fin 1))) = _
  rw [shapeCast_apply (squares x) _ _ (ix1 p) (by
    rw [Shape.rowMajor_val_one, Shape.rowMajor_val_two]
    show p.val = p.val * 1 + 0
    omega), squares_apply]

/-- The normalized rows. -/
def tile (x : FVec Ideal S1024x1024 .f32) (g : Vec Ideal S1x1024 .f32) : FVec Ideal S1024x1024 .f32 :=
  mulf (mulf x (broadcastTo S1024x1024 (factor x) broadcasts_S1024x1_S1024x1024)) (broadcastTo S1024x1024 g broadcasts_S1x1024_S1024x1024)

theorem tile_apply (x : FVec Ideal S1024x1024 .f32) (g : Vec Ideal S1x1024 .f32) (p : Fin 1024) (d : Fin 1024) :
    tile x g (ix2 p d) = normed (fun k => x (ix2 p k)) (fun k => g (ix2 (0 : Fin 1) k)) d := by
  unfold tile normed
  show x (ix2 p d) * (broadcastTo S1024x1024 (factor x) broadcasts_S1024x1_S1024x1024 (ix2 p d)) * (broadcastTo S1024x1024 g broadcasts_S1x1024_S1024x1024 (ix2 p d)) = _
  rw [broadcastTo_apply (factor x) _ _ (ix2 p 0) (fun a => by fin_cases a <;> rfl), broadcastTo_apply g _ _ (ix2 0 d) (fun a => by fin_cases a <;> rfl), factor_apply]

/-- A point's product. -/
def dots (x0 : Vec Ideal S1024x4096 .bf16) (x1 : Vec Ideal S4096x1024 .bf16) : FVec Ideal S1024x1024 .f32 :=
  matmul (φ₁ := .bf16) (φ₂ := .bf16) dot_S1024x4096_S4096x1024_S1024x1024_1_0_0_1_n_n none x0 x1 (constant S1024x1024 .f32 0x00000000#32)

theorem dots_apply (x0 : Vec Ideal S1024x4096 .bf16) (x1 : Vec Ideal S4096x1024 .bf16) (r : Fin 1024) (j : Fin 1024) :
    (dots x0 x1 : S1024x1024.Idx → EReal) (ix2 r j) = ∑ k : Fin 4096, (x0 (ix2 r k) : EReal) * x1 (ix2 k j) := by
  refine (Ideal.matmul_plain_apply (φ₁ := .bf16) (φ₂ := .bf16) none x0 x1 (constant S1024x1024 .f32 0x00000000#32) r j).trans ?_
  exact (congrArg (· + _) Ideal.ofBits_zero_f32).trans (zero_add _)

theorem pay_eq (x0 : Vec Ideal S1024x4096 .bf16) (x1 : Vec Ideal S4096x1024 .bf16) (x2 : Vec Ideal S1x1024 .f32) :
    (k0_pay1 x0 x1 x2 : S1024x1024.Idx → EReal) = tile (dots x0 x1) x2 := by
  unfold k0_pay1
  rw [same, same_gain]
  rfl

theorem point (c : Dev nD) (t : Fin cfg0.N) (r : Fin 1024) (j : Fin 1024) :
    (out0_3 (iblk m c 0 t) (iblk m c 1 t) (iblk m c 2 t) : S1024x1024.Idx → EReal) (ix2 r j) = plain (acts m c) (weights m c) (gain m c) (ix2 (row t r) j) := by
  rw [left]
  refine (congrFun (pay_eq _ _ _) _).trans ((tile_apply _ _ r j).trans ?_)
  refine congrArg₂ (fun x g => normed x g j) (funext fun d => ?_) (funext fun d => blk2 m c t d)
  refine (dots_apply _ _ r d).trans (Finset.sum_congr rfl fun k _ => ?_)
  exact congrArg₂ (fun a b : EReal => a * b) (blk0 m c t r k) (blk1 m c t k d)

theorem cover : (cfg0.win (3 : Fin 4)).Covers := by
  refine Pipeline.Window.covers_of_indexMap_surj (cfg0.win (3 : Fin 4)) rfl (fun a => by
    fin_cases a
    · show 0 < 1024; decide
    · show 0 < 1024; decide) fun β => ?_
  have h0 : (β 0).val < 8 := lt_of_lt_of_eq (β 0).isLt (show (8192 + 1024 - 1) / 1024 = 8 by decide)
  have h1 : (β 1).val < 1 := lt_of_lt_of_eq (β 1).isLt (show (1024 + 1024 - 1) / 1024 = 1 by decide)
  refine ⟨fun a => match a with
    | ⟨0, _⟩ => (⟨(β 0).val, h0⟩ : Fin 8)
    | ⟨1, _⟩ => (⟨(β 1).val, h1⟩ : Fin 1)
    | ⟨2, _⟩ => (0 : Fin 1), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The kernel's result is the plain product, its rows normalized. -/
theorem value (c : Dev nD) : (dats m 0 c).arrAt (3 : Fin 4) cfg0.N = plain (acts m c) (weights m c) (gain m c) := by
  refine Pipeline.Dat.arrAt_eq_of_covers (dat := dats m 0 c) (3 : Fin 4) (plain (acts m c) (weights m c) (gain m c)) cover fun t _ y => ?_
  show (dats m 0 c).after (3 : Fin 4) t _ = _
  rw [after0_3]
  have h0 : (y 0).val < 1024 := (y 0).isLt
  have h1 : (y 1).val < 1024 := (y 1).isLt
  refine Eq.trans (congrArg (out0_3 (iblk m c 0 t) (iblk m c 1 t) (iblk m c 2 t) : S1024x1024.Idx → EReal) (a₂ := ix2 ⟨(y 0).val, h0⟩ ⟨(y 1).val, h1⟩) (funext fun a => by fin_cases a <;> rfl)) ((point m c t _ _).trans ?_)
  refine congrArg (plain (acts m c) (weights m c) (gain m c)) (funext fun a => Fin.ext ?_)
  have g0 : (grid0.coords t 0).val < 8 := (grid0.coords t 0).isLt
  have g1 : (grid0.coords t 1).val < 1 := (grid0.coords t 1).isLt
  fin_cases a
  · show 1024 * (grid0.coords t 0).val + (y 0).val = (BitVec.ofNat 32 (grid0.coords t 0).val).toNat * 1024 + 1 * (y 0).val
    rw [BitVec.toNat_ofNat]; omega
  · show (y 1).val = (BitVec.ofNat 32 (grid0.coords t 1).val).toNat * 1024 + 1 * (y 1).val
    rw [BitVec.toNat_ofNat]; omega

end Cert.Kernel8Ideal.QueryProj

namespace Cert.Reference8Ideal.QueryProj

open Cert.Reference8Ideal Cert.Reference8Ideal.Gen
open Idealize.ShloMosaic Idealize.ShloMosaic.TcCoe
open Cert.Kernel8Ideal.QueryProj (plain scale normed product)
open Idealize.ShloMosaic.ValueIdx (ix1 ix2)

/-- The whole product. -/
def whole (h : FVec Ideal S8192x4096 .bf16) (w : FVec Ideal S4096x1024 .f32) : FVec Ideal S8192x1024 .f32 :=
  Host.dotGeneral dot_S8192x4096_S4096x1024_S8192x1024_1_0_0_1_n_n none (extf .f32 h bitsLt_bf16_f32) w

theorem whole_apply (h : FVec Ideal S8192x4096 .bf16) (w : FVec Ideal S4096x1024 .f32) (a : Fin 8192) (b : Fin 1024) : whole h w (ix2 a b) = product h w a b :=
  StackMember.dotGeneral_plain_apply (m := 8192) (n := 1024) (k := 4096) (φ₁ := .f32) (φ₂ := .f32) none (fun i => h i) w a b

def squares (x : FVec Ideal S8192x1024 .f32) : FVec Ideal S8192 .f32 :=
  Host.reduceAdd (mulf x x) (constant S_ .f32 0x00000000#32) reducesTo_S8192x1024_S8192_d1 h_S_

theorem squares_apply (x : FVec Ideal S8192x1024 .f32) (r : Fin 8192) : squares x (ix1 r) = ∑ k : Fin 1024, x (ix2 r k) * x (ix2 r k) := by
  have hR : Shape.Reduces S8192x1024 [1] S8192 := by decide
  refine (ValueIdx.hostReduceAdd_apply (mulf x x) _ reducesTo_S8192x1024_S8192_d1 h_S_ (ix1 r)).trans ?_
  refine (Ideal.hostReduceAdd_single reducesTo_S8192x1024_S8192_d1 hR (mulf x x) _ (ix1 r)).trans ?_
  refine (congrArg (· + _) (Ideal.ofBits_zero_f32)).trans ((zero_add _).trans (Finset.sum_congr rfl fun k _ => ?_))
  have h : hR.lift (ix1 r) k = ix2 r k := by funext a; fin_cases a <;> rfl
  rw [h]; rfl

def factor (x : FVec Ideal S8192x1024 .f32) : FVec Ideal S8192x1 .f32 :=
  Host.rsqrt (addf (Host.divf (broadcastInDim S8192x1 ![0] bcast_S8192_S8192x1_0 (squares x))
    (broadcastInDim S8192x1 ![] bcast_S_S8192x1 (constant S_ .f32 0x44800000#32))) (broadcastInDim S8192x1 ![] bcast_S_S8192x1 (constant S_ .f32 0x358637BD#32)))

/-- The rows normalized. -/
def norm (x : FVec Ideal S8192x1024 .f32) (g : FVec Ideal S1024 .f32) : FVec Ideal S8192x1024 .f32 :=
  mulf (mulf x (broadcastInDim S8192x1024 ![0, 1] bcast_S8192x1_S8192x1024_0_1 (factor x)))
    (broadcastInDim S8192x1024 ![0, 1] bcast_S1x1024_S8192x1024_0_1 (broadcastInDim S1x1024 ![1] bcast_S1024_S1x1024_1 g))

theorem norm_apply (x : FVec Ideal S8192x1024 .f32) (g : FVec Ideal S1024 .f32) (r : Fin 8192) (d : Fin 1024) :
    norm x g (ix2 r d) = normed (fun k => x (ix2 r k)) (fun k => g (ix1 k)) d := by
  unfold norm normed
  show x (ix2 r d) * (broadcastInDim S8192x1024 ![0, 1] bcast_S8192x1_S8192x1024_0_1 (factor x) (ix2 r d))
    * (broadcastInDim S8192x1024 ![0, 1] bcast_S1x1024_S8192x1024_0_1 (broadcastInDim S1x1024 ![1] bcast_S1024_S1x1024_1 g) (ix2 r d)) = _
  rw [broadcastInDim_apply _ _ (factor x) _ (ix2 r 0) (fun a => by fin_cases a <;> rfl),
    broadcastInDim_apply _ _ (broadcastInDim S1x1024 ![1] bcast_S1024_S1x1024_1 g) _ (ix2 0 d) (fun a => by fin_cases a <;> rfl),
    broadcastInDim_apply _ _ g _ (ix1 d) (fun a => by fin_cases a; rfl)]
  show x (ix2 r d) * scale (broadcastInDim S8192x1 ![0] bcast_S8192_S8192x1_0 (squares x) (ix2 r 0)) * g (ix1 d) = _
  rw [broadcastInDim_apply _ _ (squares x) _ (ix1 r) (fun a => by fin_cases a; rfl), squares_apply]

/-- The reference's result is the same. -/
theorem value (h : FVec Ideal S8192x4096 .bf16) (w : FVec Ideal S4096x1024 .f32) (g : FVec Ideal S1024 .f32) :
    (truncf .bf16 (norm (whole h w) g) bitsLt_bf16_f32 : S8192x1024.Idx → EReal) = plain h w g := by
  funext i
  obtain ⟨a, b, rfl⟩ : ∃ (a : Fin 8192) (b : Fin 1024), i = ix2 a b := ⟨i 0, i 1, funext fun x => by fin_cases x <;> rfl⟩
  refine (norm_apply (whole h w) g a b).trans ?_
  exact congrArg (fun x => normed x (fun k => g (ix1 k)) b) (funext fun k => whole_apply h w a k)

end Cert.Reference8Ideal.QueryProj

end
-- ==== Proof.QueryBuildMath.lean ====
module

public import proofs.«01_k».proof.Proof.Gen.Kernel11Ideal
public import Idealize.ShloMosaic.Lib.IdealHost

@[expose] public section

/-!
# A head's query: the row normalized, its last 64 lanes turned, then scaled

The kernel holds a row's 192 lanes in 256, the rest zero, and scales the norm's factor before the turn.
-/

noncomputable section

namespace Cert.Kernel11Ideal.QueryBuild

open Idealize.ShloMosaic

def eps : EReal := Ideal.ofBits .f32 0x358637BD#32
def share : EReal := Ideal.ofBits .f32 0x3D93CD3A#32

theorem eps_pos : ∃ e : ℝ, 0 < e ∧ eps = (e : EReal) := by
  refine ⟨_, ?_, by unfold eps; simp [Ideal.ofBits, Ideal.ieee]; rfl⟩
  norm_num

theorem width : Ideal.ofBits .f32 0x43400000#32 = ((192 : ℝ) : EReal) := by
  simp [Ideal.ofBits, Ideal.ieee, -EReal.coe_mul]; norm_num

/-- The factor that normalizes a row whose squares sum to `q`. -/
def factor (q : EReal) : EReal := Ideal.rsqrt (Ideal.div q (Ideal.ofBits .f32 0x43400000#32) + eps)

theorem div_width (q : EReal) : Ideal.div q (Ideal.ofBits .f32 0x43400000#32) = q * ((192⁻¹ : ℝ) : EReal) := by
  rw [width, Ideal.div_coe (by norm_num), one_div]

theorem factor_real (q : EReal) (h : 0 ≤ q) : 0 ≤ factor q ∧ factor q ≠ ⊤ := by
  obtain ⟨e, he, hE⟩ := eps_pos
  unfold factor
  rw [div_width, hE]
  have hp : 0 ≤ q * ((192⁻¹ : ℝ) : EReal) := mul_nonneg h (by exact_mod_cast (by norm_num : (0 : ℝ) ≤ 192⁻¹))
  generalize q * ((192⁻¹ : ℝ) : EReal) = p at hp
  induction p using EReal.rec with
  | bot => exact absurd hp (by simp)
  | top => rw [EReal.top_add_coe, Ideal.rsqrt_top]; exact ⟨le_refl _, EReal.zero_ne_top⟩
  | coe r =>
    have hr : 0 ≤ r := by exact_mod_cast hp
    rw [← EReal.coe_add, Ideal.rsqrt_coe, if_neg (by linarith), if_neg (by linarith)]
    exact ⟨by exact_mod_cast inv_nonneg.2 (Real.sqrt_nonneg _), EReal.coe_ne_top _⟩

def squares (x : Fin 192 → EReal) : EReal := ∑ k, x k * x k

theorem square_nonneg (a : EReal) : 0 ≤ a * a := by
  rcases le_total 0 a with h | h
  · exact mul_nonneg h h
  · have := mul_nonneg (EReal.neg_nonneg.2 h) (EReal.neg_nonneg.2 h)
    rwa [neg_mul_neg] at this

theorem squares_nonneg (x : Fin 192 → EReal) : 0 ≤ squares x := Finset.sum_nonneg fun k _ => square_nonneg (x k)

/-- A normalized row, weighted. -/
def normed (x g : Fin 192 → EReal) (d : Fin 192) : EReal := x d * factor (squares x) * g d

/-- The last 64 lanes turned: lane `128 + j` against lane `160 + j`. -/
def turned (n : Fin 192 → EReal) (c s : Fin 32 → EReal) (d : Fin 192) : EReal :=
  if d.val < 128 then n d
  else if h : d.val < 160 then n d * c ⟨d.val - 128, by omega⟩ - n ⟨d.val + 32, by omega⟩ * s ⟨d.val - 128, by omega⟩
  else n ⟨d.val - 32, by omega⟩ * s ⟨d.val - 160, by omega⟩ + n d * c ⟨d.val - 160, by omega⟩

/-- A head's query or key, scaled by `k`. -/
def head (k : EReal) (x g : Fin 192 → EReal) (c s : Fin 32 → EReal) (d : Fin 192) : EReal := turned (normed x g) c s d * k

/-! ## The kernel's lanes -/

/-- A row of 192 in 256 lanes. -/
def wide (x : Fin 192 → EReal) (j : Fin 256) : EReal := if h : j.val < 192 then x ⟨j.val, h⟩ else 0

/-- The gain's last 64 in 128 lanes. -/
def tail (g : Fin 192 → EReal) (j : Fin 128) : EReal := if h : j.val < 64 then g ⟨128 + j.val, by omega⟩ else 0

/-- The tables: both halves the same. -/
def table (c : Fin 32 → EReal) (r : EReal) (j : Fin 128) : EReal :=
  if h : j.val < 32 then c ⟨j.val, h⟩ else if h : j.val < 64 then c ⟨j.val - 32, by omega⟩ else r

/-- The squares of the two halves of 128 lanes. -/
def halves (y : Fin 256 → EReal) : EReal :=
  (∑ k : Fin 128, y ⟨k.val, by omega⟩ * y ⟨k.val, by omega⟩) + ∑ k : Fin 128, y ⟨128 + k.val, by omega⟩ * y ⟨128 + k.val, by omega⟩

theorem halves_wide (x : Fin 192 → EReal) : halves (wide x) = squares x := by
  have e : squares x = (∑ k : Fin 128, x ⟨k.val, by omega⟩ * x ⟨k.val, by omega⟩) + ∑ k : Fin 64, x ⟨128 + k.val, by omega⟩ * x ⟨128 + k.val, by omega⟩ :=
    Fin.sum_univ_add (a := 128) (b := 64) (fun k : Fin 192 => x k * x k)
  have f : (∑ k : Fin 128, wide x ⟨128 + k.val, by omega⟩ * wide x ⟨128 + k.val, by omega⟩)
      = (∑ k : Fin 64, wide x ⟨128 + k.val, by omega⟩ * wide x ⟨128 + k.val, by omega⟩) + ∑ k : Fin 64, wide x ⟨128 + (64 + k.val), by omega⟩ * wide x ⟨128 + (64 + k.val), by omega⟩ :=
    Fin.sum_univ_add (a := 64) (b := 64) (fun k : Fin 128 => wide x ⟨128 + k.val, by omega⟩ * wide x ⟨128 + k.val, by omega⟩)
  unfold halves
  rw [f, e]
  refine congrArg₂ (· + ·) (Finset.sum_congr rfl fun k _ => ?_) ?_
  · rw [wide, dif_pos (by show k.val < 192; omega)]
  · refine Eq.trans (congrArg₂ (· + ·) (Finset.sum_congr rfl fun k _ => ?_) (Finset.sum_eq_zero fun k _ => ?_)) (add_zero _)
    · rw [wide, dif_pos (by show 128 + k.val < 192; omega)]
    · rw [wide, dif_neg (by show ¬ 128 + (64 + k.val) < 192; omega), mul_zero]

/-- What the kernel scales a row by. -/
def scale (k q : EReal) : EReal := Ideal.rsqrt (q * ((192⁻¹ : ℝ) : EReal) + eps) * k

theorem scale_eq (k q : EReal) : scale k q = factor q * k := by unfold scale factor; rw [div_width]

/-- The first 128 lanes of the kernel's row. -/
def low (k : EReal) (y : Fin 256 → EReal) (g : Fin 128 → EReal) (d : Fin 128) : EReal := y ⟨d.val, by omega⟩ * g d * scale k (halves y)

/-- The weighted last 128 lanes. -/
def weighed (y : Fin 256 → EReal) (g : Fin 128 → EReal) (d : Fin 128) : EReal := y ⟨128 + d.val, by omega⟩ * g d

/-- The lanes past the first 128, turned by two rotations. -/
def high (k : EReal) (y : Fin 256 → EReal) (g c s : Fin 128 → EReal) (d : Fin 64) : EReal :=
  (weighed y g ⟨d.val, by omega⟩ * c ⟨d.val, by omega⟩
    + (weighed y g ⟨(d.val + 96) % 128, by omega⟩ - weighed y g ⟨(d.val + 32) % 128, by omega⟩) * s ⟨d.val, by omega⟩) * scale k (halves y)

theorem low_eq (k : EReal) (x g : Fin 192 → EReal) (c s : Fin 32 → EReal) (d : Fin 128) :
    low k (wide x) (fun j => g ⟨j.val, by omega⟩) d = head k x g c s ⟨d.val, by omega⟩ := by
  unfold low head turned normed
  rw [if_pos d.isLt, halves_wide, scale_eq, wide, dif_pos (by show d.val < 192; omega)]
  show x ⟨d.val, _⟩ * g ⟨d.val, _⟩ * (factor (squares x) * k) = x ⟨d.val, _⟩ * factor (squares x) * g ⟨d.val, _⟩ * k
  ac_rfl

theorem weighed_in (x g : Fin 192 → EReal) (d : Fin 128) (h : d.val < 64) :
    weighed (wide x) (tail g) d = x ⟨128 + d.val, by omega⟩ * g ⟨128 + d.val, by omega⟩ := by
  unfold weighed wide tail
  rw [dif_pos (by show 128 + d.val < 192; omega), dif_pos h]

theorem weighed_out (x g : Fin 192 → EReal) (d : Fin 128) (h : ¬ d.val < 64) : weighed (wide x) (tail g) d = 0 := by
  unfold weighed tail
  rw [dif_neg h, mul_zero]

theorem turn_sub (f k a g b h c s : EReal) (h0 : 0 ≤ f) (h1 : f ≠ ⊤) :
    (a * g * c + (0 - b * h) * s) * (f * k) = (a * f * g * c - b * f * h * s) * k := by
  rw [← mul_assoc, zero_sub, neg_mul, ← sub_eq_add_neg, sub_eq_add_neg, EReal.right_distrib_of_nonneg_of_ne_top h0 h1, neg_mul, ← sub_eq_add_neg]
  congr 2 <;> ac_rfl

theorem turn_add (f k a g b h c s : EReal) (h0 : 0 ≤ f) (h1 : f ≠ ⊤) :
    (a * g * c + (b * h - 0) * s) * (f * k) = (b * f * h * s + a * f * g * c) * k := by
  rw [← mul_assoc, sub_zero, EReal.right_distrib_of_nonneg_of_ne_top h0 h1, add_comm]
  congr 2 <;> ac_rfl

theorem high_eq (k : EReal) (x g : Fin 192 → EReal) (c s : Fin 32 → EReal) (rc rs : EReal) (d : Fin 64) :
    high k (wide x) (tail g) (table c rc) (table s rs) d = head k x g c s ⟨128 + d.val, by omega⟩ := by
  obtain ⟨h0, h1⟩ := factor_real (squares x) (squares_nonneg x)
  unfold high head turned
  rw [halves_wide, scale_eq, weighed_in x g _ d.isLt, if_neg (by show ¬ 128 + d.val < 128; omega)]
  by_cases hd : d.val < 32
  · rw [dif_pos (by show 128 + d.val < 160; omega), weighed_out x g _ (by show ¬ (d.val + 96) % 128 < 64; omega), weighed_in x g _ (by show (d.val + 32) % 128 < 64; omega),
      table, dif_pos hd, table, dif_pos hd]
    refine (turn_sub _ _ _ _ _ _ _ _ h0 h1).trans ?_
    have e : 128 + (d.val + 32) % 128 = 128 + d.val + 32 := by omega
    have e' : 128 + d.val - 128 = d.val := by omega
    simp only [e, e', normed]
  · rw [dif_neg (by show ¬ 128 + d.val < 160; omega), weighed_in x g _ (by show (d.val + 96) % 128 < 64; omega), weighed_out x g _ (by show ¬ (d.val + 32) % 128 < 64; omega),
      table, dif_neg hd, dif_pos d.isLt, table, dif_neg hd, dif_pos d.isLt]
    refine (turn_add _ _ _ _ _ _ _ _ h0 h1).trans ?_
    have e : 128 + (d.val + 96) % 128 = 128 + d.val - 32 := by omega
    have e' : 128 + d.val - 160 = d.val - 32 := by omega
    simp only [e, e', normed]

/-! ## The whole array -/

open Idealize.ShloMosaic.ValueIdx (ix1 ix2)

/-- A row's lanes of one head, before its norm. -/
def product (q : S8192x1024.Idx → EReal) (w : S1024x6144.Idx → EReal) (a : Fin 8192) (h : Fin 32) (d : Fin 192) : EReal :=
  ∑ k : Fin 1024, q (ix2 a k) * w (ix2 k ⟨192 * h.val + d.val, by omega⟩)

/-- Every head's queries. -/
def plain (q : S8192x1024.Idx → EReal) (w : S1024x6144.Idx → EReal) (g : S192.Idx → EReal) (c s : S8192x32.Idx → EReal) : S32x8192x192.Idx → EReal :=
  fun i => head share (product q w (i 1) (i 0)) (fun d => g (ix1 d)) (fun j => c (ix2 (i 1) j)) (fun j => s (ix2 (i 1) j)) (i 2)

end Cert.Kernel11Ideal.QueryBuild

end
-- ==== Proof.QueryBuildHost.lean ====
module

public import proofs.«01_k».proof.Proof.QueryBuildMath
public import proofs.«01_k».proof.Proof.Gen.Kernel11Ideal.Value
public import Idealize.ShloMosaic.Lib.KernelVsHost

@[expose] public section

/-!
# The arrays the host lays out for the heads' queries

The weight by head, in 256 lanes; the gain in two pieces; the tables in 128 lanes.
-/

set_option maxRecDepth 16384

noncomputable section

namespace Cert.Kernel11Ideal.QueryBuild

open Cert.Kernel11Ideal Cert.Kernel11Ideal.Gen
open Idealize.ShloMosaic Idealize.ShloMosaic.TcCoe
open Idealize.ShloMosaic.ValueIdx (ix1 ix2 ix3)

variable (m : (ℓ : Loc nD τ sig) → Buf (Elt Ideal) ℓ)

abbrev latent (c : Dev nD) : S8192x1024.Idx → EReal := m ((c : Thread nD τ).loc main_arg0)
abbrev weights (c : Dev nD) : S1024x6144.Idx → EReal := m ((c : Thread nD τ).loc main_arg1)
abbrev gain (c : Dev nD) : S192.Idx → EReal := m ((c : Thread nD τ).loc main_arg2)
abbrev cosine (c : Dev nD) : S8192x32.Idx → EReal := m ((c : Thread nD τ).loc main_arg3)
abbrev sine (c : Dev nD) : S8192x32.Idx → EReal := m ((c : Thread nD τ).loc main_arg4)

/-- Three pieces side by side. -/
def beside (x y : FVec Ideal S8192x32 .f32) (z : FVec Ideal S8192x64 .f32) : FVec Ideal S8192x128 .f32 :=
  concatenate S8192x128 1 [⟨S8192x32, x⟩, ⟨S8192x32, y⟩, ⟨S8192x64, z⟩] concatenates_S8192x32_S8192x32_S8192x64_S8192x128_d1

def same (w : BitVec 32) : FVec Ideal S8192x64 .f32 := broadcastInDim S8192x64 ![] bcast_S_S8192x64 (constant S_ .f32 w)

def byHead (w : FVec Ideal S1024x6144 .f32) : FVec Ideal S32x1024x192 .bf16 :=
  transpose S32x1024x192 [1, 0, 2] (shapeCast S1024x32x192 (truncf .bf16 w bitsLt_bf16_f32) shapeCasts_S1024x6144_S1024x32x192) transposes_S1024x32x192_S32x1024x192_1_0_2

def padded (w : FVec Ideal S1024x6144 .f32) : FVec Ideal S32x1024x256 .bf16 :=
  pad S32x1024x256 ![0, 0, 0] ![0, 0, 64] ![0, 0, 0] (byHead w) (sitofp .bf16 (constantI S_ 32 0#32) : FVec Ideal S_ .bf16) pads_S32x1024x192_S32x1024x256_000_000_0640 h_S_

def gainLow (g : FVec Ideal S192 .f32) : FVec Ideal S1x128 .f32 :=
  shapeCast S1x128 (extractStridedSlice S128 ![0] g slices_S192_S128_0) shapeCasts_S128_S1x128

def gainHigh (g : FVec Ideal S192 .f32) : FVec Ideal S1x128 .f32 :=
  shapeCast S1x128 (pad S128 ![0] ![64] ![0] (extractStridedSlice S64 ![128] g slices_S192_S64_128) (sitofp .f32 (constantI S_ 32 0#32) : FVec Ideal S_ .f32) pads_S64_S128_0640 h_S_) shapeCasts_S128_S1x128

theorem V_v2 (c : Dev nD) : V m c main_v2 = beside (cosine m c) (cosine m c) (same 0x3F800000#32) := by
  unfold V; simp only [hostOps0, hostOps0_1, hostOps0_2, hostOps0_3, hostOps0_4, List.flatten_cons, List.flatten_nil, List.cons_append, List.nil_append, List.append_nil]; after_results; try rfl

theorem V_v3 (c : Dev nD) : V m c main_v3 = beside (sine m c) (sine m c) (same 0x00000000#32) := by
  unfold V; simp only [hostOps0, hostOps0_1, hostOps0_2, hostOps0_3, hostOps0_4, List.flatten_cons, List.flatten_nil, List.cons_append, List.nil_append, List.append_nil]; after_results; try rfl

theorem V_v7 (c : Dev nD) : V m c main_v7 = padded (weights m c) := by
  unfold V; simp only [hostOps0, hostOps0_1, hostOps0_2, hostOps0_3, hostOps0_4, List.flatten_cons, List.flatten_nil, List.cons_append, List.nil_append, List.append_nil]; after_results; try rfl

theorem V_v9 (c : Dev nD) : V m c main_v9 = gainLow (gain m c) := by
  unfold V; simp only [hostOps0, hostOps0_1, hostOps0_2, hostOps0_3, hostOps0_4, List.flatten_cons, List.flatten_nil, List.cons_append, List.nil_append, List.append_nil]; after_results; try rfl

theorem V_v12 (c : Dev nD) : V m c main_v12 = gainHigh (gain m c) := by
  unfold V; simp only [hostOps0, hostOps0_1, hostOps0_2, hostOps0_3, hostOps0_4, List.flatten_cons, List.flatten_nil, List.cons_append, List.nil_append, List.append_nil]; after_results; try rfl

/-! ## Read at an index -/

theorem beside_apply (x : FVec Ideal S8192x32 .f32) (z : BitVec 32) (a : Fin 8192) (j : Fin 128) :
    (beside x x (same z) : S8192x128.Idx → EReal) (ix2 a j) = table (fun k => x (ix2 a k)) (Ideal.ofBits .f32 z) j := by
  unfold beside table
  by_cases h : j.val < 32
  · rw [dif_pos h]
    exact concatenate_apply_piece (t := S8192x128) 1 _ _ (ix2 a j) 0 (by simp) S8192x32 x rfl rfl 0 rfl (ix2 a ⟨j.val, h⟩)
      (fun b hb => by fin_cases b; exacts [rfl, absurd rfl hb]) (by show 0 + j.val = j.val; omega)
  · rw [dif_neg h]
    by_cases h' : j.val < 64
    · rw [dif_pos h']
      exact concatenate_apply_piece (t := S8192x128) 1 _ _ (ix2 a j) 1 (by simp) S8192x32 x rfl rfl 32 rfl (ix2 a ⟨j.val - 32, by omega⟩)
        (fun b hb => by fin_cases b; exacts [rfl, absurd rfl hb]) (by show 32 + (j.val - 32) = j.val; omega)
    · rw [dif_neg h']
      exact (concatenate_apply_piece (t := S8192x128) 1 _ _ (ix2 a j) 2 (by simp) S8192x64 (same z) rfl rfl 64 rfl (ix2 a ⟨j.val - 64, by omega⟩)
        (fun b hb => by fin_cases b; exacts [rfl, absurd rfl hb]) (by show 64 + (j.val - 64) = j.val; omega)).trans rfl

theorem byHead_apply (w : FVec Ideal S1024x6144 .f32) (h : Fin 32) (k : Fin 1024) (d : Fin 192) :
    (byHead w : S32x1024x192.Idx → EReal) (ix3 h k d) = w (ix2 k ⟨192 * h.val + d.val, by omega⟩) := by
  refine (transpose_apply _ _ _ _ (ix3 k h d) (fun b => by fin_cases b <;> rfl)).trans ?_
  refine shapeCast_apply _ _ _ (ix2 k ⟨192 * h.val + d.val, by omega⟩) ?_
  rw [Shape.rowMajor_val_two, Shape.rowMajor_val_three]
  show k.val * 6144 + (192 * h.val + d.val) = (k.val * 32 + h.val) * 192 + d.val
  omega

theorem padded_apply (w : FVec Ideal S1024x6144 .f32) (h : Fin 32) (k : Fin 1024) (j : Fin 256) :
    (padded w : S32x1024x256.Idx → EReal) (ix3 h k j) = wide (fun d => w (ix2 k ⟨192 * h.val + d.val, by omega⟩)) j := by
  unfold padded wide
  by_cases hj : j.val < 192
  · rw [dif_pos hj]
    exact (pad_apply_of_inside _ _ _ _ _ _ _ _ (ix3 h k ⟨j.val, hj⟩) (fun a => by
      fin_cases a
      · show h.val = 0 + h.val * 1; omega
      · show k.val = 0 + k.val * 1; omega
      · show j.val = 0 + j.val * 1; omega)).trans (byHead_apply w h k ⟨j.val, hj⟩)
  · rw [dif_neg hj]
    refine (pad_apply_of_not_inside _ _ _ _ _ _ _ _ 2 (fun H => hj ?_)).trans (sitofp_zero (φ := .bf16))
    have := H.2.2
    change (j.val - 0) / 1 < 192 at this
    omega

theorem gainLow_apply (g : FVec Ideal S192 .f32) (j : Fin 128) : (gainLow g : S1x128.Idx → EReal) (ix2 0 j) = g (ix1 ⟨j.val, by omega⟩) := by
  refine (shapeCast_apply _ _ _ (ix1 j) ?_).trans ?_
  · rw [Shape.rowMajor_val_one, Shape.rowMajor_val_two]
    show j.val = 0 * 128 + j.val
    omega
  · exact extractStridedSlice_apply _ _ _ _ _ (fun a => by fin_cases a; show j.val = 0 + j.val; omega)

theorem gainHigh_apply (g : FVec Ideal S192 .f32) (j : Fin 128) : (gainHigh g : S1x128.Idx → EReal) (ix2 0 j) = tail (fun d => g (ix1 d)) j := by
  refine (shapeCast_apply _ _ _ (ix1 j) ?_).trans ?_
  · rw [Shape.rowMajor_val_one, Shape.rowMajor_val_two]
    show j.val = 0 * 128 + j.val
    omega
  · unfold tail
    by_cases hj : j.val < 64
    · rw [dif_pos hj]
      refine (pad_apply_of_inside _ _ _ _ _ _ _ _ (ix1 ⟨j.val, hj⟩) (fun a => by
        fin_cases a; show j.val = 0 + j.val * 1; omega)).trans ?_
      exact extractStridedSlice_apply _ _ _ _ _ (fun a => by fin_cases a; rfl)
    · rw [dif_neg hj]
      refine (pad_apply_of_not_inside _ _ _ _ _ _ _ _ 0 (fun H => hj ?_)).trans (sitofp_zero (φ := .f32))
      have := H.2.2
      change (j.val - 0) / 1 < 64 at this
      omega

end Cert.Kernel11Ideal.QueryBuild

end
-- ==== Proof.QueryBuild.lean ====
module

public import proofs.«01_k».proof.Proof.QueryBuildHost
public import Idealize.ShloMosaic.Lib.Pipeline.Covers
public import Idealize.ShloMosaic.Lib.MatmulPlain

@[expose] public section

/-!
# The heads' queries: each point is a block of 1024 rows of one head

A row's norm and its turn are taken within its point.
-/

set_option maxRecDepth 16384

noncomputable section

namespace Cert.Kernel11Ideal.QueryBuild

open Cert.Kernel11Ideal Cert.Kernel11Ideal.Gen
open Idealize.ShloMosaic Idealize.ShloMosaic.TcCoe
open Idealize.ShloMosaic.Pipeline (Dat Cfg Window)
open Idealize.ShloMosaic.ValueIdx (ix1 ix2 ix3)

variable (m : (ℓ : Loc nD τ sig) → Buf (Elt Ideal) ℓ)

/-! ## A point's arithmetic -/

theorem inv_width : (Named.named (F := Ideal) (φ := .f32) κ "inv_qk" 0x3BAAAAAB#32 : EReal) = ((192⁻¹ : ℝ) : EReal) :=
  IdealRules.named_const.ideal_named_scalar _ _ _ _ (by simp [κ])

/-- A row's lanes before its norm. -/
def lanes (x0 : Vec Ideal S1024x1024 .bf16) (x1 : Vec Ideal S1x1024x256 .bf16) (p : Fin 1024) (j : Fin 256) : EReal :=
  ∑ k : Fin 1024, (x0 (ix2 p k) : EReal) * x1 (ix3 0 k j)

theorem pay2_apply (x0 : Vec Ideal S1024x1024 .bf16) (x1 : Vec Ideal S1x1024x256 .bf16) (p : Fin 1024) (j : Fin 256) :
    (k0_pay2 x0 x1 : S1024x256.Idx → EReal) (ix2 p j) = lanes x0 x1 p j := by
  unfold k0_pay2
  refine (Ideal.matmul_plain_apply (φ₁ := .bf16) (φ₂ := .bf16) none x0 (shapeCast S1024x256 x1 shapeCasts_S1x1024x256_S1024x256) (constant S1024x256 .f32 0x00000000#32) p j).trans ?_
  refine ((congrArg (· + _) Ideal.ofBits_zero_f32).trans (zero_add _)).trans (Finset.sum_congr rfl fun k _ => ?_)
  refine congrArg (fun b : EReal => x0 (ix2 p k) * b) (shapeCast_apply _ _ _ (ix3 0 k j) ?_)
  rw [Shape.rowMajor_val_two, Shape.rowMajor_val_three]
  show (0 * 1024 + k.val) * 256 + j.val = k.val * 256 + j.val
  omega

theorem pay3_apply (x0 : Vec Ideal S1024x1024 .bf16) (x1 : Vec Ideal S1x1024x256 .bf16) (p : Fin 1024) (d : Fin 128) :
    (k0_pay3 x0 x1 : S1024x128.Idx → EReal) (ix2 p d) = lanes x0 x1 p ⟨d.val, by omega⟩ := by
  unfold k0_pay3
  refine (extractStridedSlice_apply _ _ _ _ (ix2 p ⟨d.val, by omega⟩) (fun a => ?_)).trans (pay2_apply x0 x1 p _)
  fin_cases a
  · show p.val = 0 + p.val; omega
  · show d.val = 0 + d.val; omega

theorem pay4_apply (x0 : Vec Ideal S1024x1024 .bf16) (x1 : Vec Ideal S1x1024x256 .bf16) (p : Fin 1024) (d : Fin 128) :
    (k0_pay4 x0 x1 : S1024x128.Idx → EReal) (ix2 p d) = lanes x0 x1 p ⟨128 + d.val, by omega⟩ := by
  unfold k0_pay4
  refine (extractStridedSlice_apply _ _ _ _ (ix2 p ⟨128 + d.val, by omega⟩) (fun a => ?_)).trans (pay2_apply x0 x1 p _)
  fin_cases a
  · show p.val = 0 + p.val; omega
  · rfl

/-- The sum of each row's squares. -/
def rowSquares (x : FVec Ideal S1024x128 .f32) : FVec Ideal S1024x1 .f32 :=
  shapeCast S1024x1 (multiReduction .add [1] S1024 (mulf x x) 0x00000000#32 reduces_S1024x128_S1024 (.inl rfl) rfl) shapeCasts_S1024_S1024x1

theorem rowSquares_apply (x : FVec Ideal S1024x128 .f32) (p : Fin 1024) : (rowSquares x : S1024x1.Idx → EReal) (ix2 p 0) = ∑ k : Fin 128, x (ix2 p k) * x (ix2 p k) := by
  refine (shapeCast_apply _ _ _ (ix1 p) ?_).trans ?_
  · rw [Shape.rowMajor_val_one, Shape.rowMajor_val_two]
    show p.val = p.val * 1 + 0
    omega
  refine (Ideal.multiReduction_add_single (mulf x x) 0x00000000#32 reduces_S1024x128_S1024 (.inl rfl) rfl (ix1 p)).trans ?_
  refine Finset.sum_congr rfl fun k _ => ?_
  have h : reduces_S1024x128_S1024.lift (ix1 p) k = ix2 p k := by funext a; fin_cases a <;> rfl
  rw [h]; rfl

theorem pay5_apply (x0 : Vec Ideal S1024x1024 .bf16) (x1 : Vec Ideal S1x1024x256 .bf16) (p : Fin 1024) :
    (k0_pay5 x0 x1 : S1024x1.Idx → EReal) (ix2 p 0) = scale share (halves (lanes x0 x1 p)) := by
  have e : (k0_pay5 x0 x1 : S1024x1.Idx → EReal) (ix2 p 0)
      = Ideal.rsqrt (((rowSquares (k0_pay3 x0 x1) : S1024x1.Idx → EReal) (ix2 p 0) + (rowSquares (k0_pay4 x0 x1) : S1024x1.Idx → EReal) (ix2 p 0))
        * (Named.named (F := Ideal) (φ := .f32) κ "inv_qk" 0x3BAAAAAB#32 : EReal) + eps) * share := rfl
  rw [e, inv_width, rowSquares_apply, rowSquares_apply]
  simp only [pay3_apply, pay4_apply]
  rfl

theorem same_row (x : FVec Ideal S1x128 .f32) : shapeCast S1x128 x shapeCasts_S1x128_S1x128 = x := by
  funext i; exact shapeCast_apply _ _ _ _ rfl
theorem same_tile (x : FVec Ideal S1024x128 .f32) : shapeCast S1024x128 x shapeCasts_S1024x128_S1024x128 = x := by
  funext i; exact shapeCast_apply _ _ _ _ rfl

theorem spread (x : FVec Ideal S1x128 .f32) (p : Fin 1024) (d : Fin 128) : (broadcastTo S1024x128 x broadcasts_S1x128_S1024x128 : S1024x128.Idx → EReal) (ix2 p d) = x (ix2 0 d) :=
  broadcastTo_apply x _ _ (ix2 0 d) (fun a => by fin_cases a <;> rfl)
theorem spread_col (x : FVec Ideal S1024x1 .f32) (p : Fin 1024) (d : Fin 128) : (broadcastTo S1024x128 x broadcasts_S1024x1_S1024x128 : S1024x128.Idx → EReal) (ix2 p d) = x (ix2 p 0) :=
  broadcastTo_apply x _ _ (ix2 p 0) (fun a => by fin_cases a <;> rfl)

/-- The weighted last 128 lanes. -/
def weighedTile (x0 : Vec Ideal S1024x1024 .bf16) (x1 : Vec Ideal S1x1024x256 .bf16) (g : Vec Ideal S1x128 .f32) : FVec Ideal S1024x128 .f32 :=
  mulf (k0_pay4 x0 x1) (broadcastTo S1024x128 g broadcasts_S1x128_S1024x128)

theorem weighedTile_apply (x0 : Vec Ideal S1024x1024 .bf16) (x1 : Vec Ideal S1x1024x256 .bf16) (g : Vec Ideal S1x128 .f32) (p : Fin 1024) (d : Fin 128) :
    (weighedTile x0 x1 g : S1024x128.Idx → EReal) (ix2 p d) = weighed (lanes x0 x1 p) (fun j => g (ix2 0 j)) d := by
  show (k0_pay4 x0 x1 : S1024x128.Idx → EReal) (ix2 p d) * (broadcastTo S1024x128 g broadcasts_S1x128_S1024x128 : S1024x128.Idx → EReal) (ix2 p d) = _
  rw [pay4_apply, spread]; rfl

theorem turn_apply (x : FVec Ideal S1024x128 .f32) (n : BitVec 32) (j : ℕ) (hj : 128 - n.toNat % 128 = j) (p : Fin 1024) (d : Fin 128) (hn : n.toNat % 128 ≤ 128) :
    (dynamicRotate 1 n none x rotates_S1024x128_d1 : S1024x128.Idx → EReal) (ix2 p d) = x (ix2 p ⟨(d.val + j) % 128, Nat.mod_lt _ (by decide)⟩) := by
  refine dynamicRotate_apply _ _ _ _ _ _ fun b => ?_
  fin_cases b
  · rfl
  · show (d.val + j) % 128 = (d.val + 128 - n.toNat % 128) % 128
    congr 1; omega

theorem pay6_apply (x0 : Vec Ideal S1024x1024 .bf16) (x1 : Vec Ideal S1x1024x256 .bf16) (g : Vec Ideal S1x128 .f32) (c s : Vec Ideal S1024x128 .f32) (p : Fin 1024) (d : Fin 128) :
    (k0_pay6 x0 x1 g c s : S1024x128.Idx → EReal) (ix2 p d)
      = weighed (lanes x0 x1 p) (fun j => g (ix2 0 j)) d * c (ix2 p d)
        + (weighed (lanes x0 x1 p) (fun j => g (ix2 0 j)) ⟨(d.val + 96) % 128, Nat.mod_lt _ (by decide)⟩
          - weighed (lanes x0 x1 p) (fun j => g (ix2 0 j)) ⟨(d.val + 32) % 128, Nat.mod_lt _ (by decide)⟩) * s (ix2 p d) := by
  unfold k0_pay6
  rw [same_row, same_tile, same_tile]
  have e : ∀ w : FVec Ideal S1024x128 .f32, (addf (mulf w c) (mulf (subf (dynamicRotate 1 32#32 none w rotates_S1024x128_d1) (dynamicRotate 1 96#32 none w rotates_S1024x128_d1)) s) : S1024x128.Idx → EReal) (ix2 p d)
      = w (ix2 p d) * c (ix2 p d) + ((dynamicRotate 1 32#32 none w rotates_S1024x128_d1 : S1024x128.Idx → EReal) (ix2 p d) - (dynamicRotate 1 96#32 none w rotates_S1024x128_d1 : S1024x128.Idx → EReal) (ix2 p d)) * s (ix2 p d) := fun _ => rfl
  refine (e (weighedTile x0 x1 g)).trans ?_
  rw [turn_apply _ 32#32 96 (by decide) p d (by decide), turn_apply _ 96#32 32 (by decide) p d (by decide), weighedTile_apply, weighedTile_apply, weighedTile_apply]

/-- A point's block, as the kernel's lanes give it. -/
def block (x0 : Vec Ideal S1024x1024 .bf16) (x1 : Vec Ideal S1x1024x256 .bf16) (x2 x3 : Vec Ideal S1x128 .f32) (x4 x5 : Vec Ideal S1024x128 .f32) : FVec Ideal S1x1024x192 .bf16 :=
  k0_pay1 (k0_pay3 x0 x1) (k0_pay5 x0 x1) (k0_pay6 x0 x1 x3 x4 x5) (k0_pay7 x2)

/-- A row's two pieces, joined. -/
def joined (u : FVec Ideal S1024x128 .f32) (v : FVec Ideal S1024x64 .f32) : FVec Ideal S1x1024x192 .bf16 :=
  shapeCast S1x1024x192 (truncf .bf16 (concatenate S1024x192 1 [⟨S1024x128, u⟩, ⟨S1024x64, v⟩] concatenates_S1024x128_S1024x64_S1024x192_d1 : FVec Ideal S1024x192 .f32) bitsLt_bf16_f32) shapeCasts_S1024x192_S1x1024x192

theorem joined_flat (u : FVec Ideal S1024x128 .f32) (v : FVec Ideal S1024x64 .f32) (p : Fin 1024) (d : Fin 192) :
    (joined u v : S1x1024x192.Idx → EReal) (ix3 0 p d) = (concatenate S1024x192 1 [⟨S1024x128, u⟩, ⟨S1024x64, v⟩] concatenates_S1024x128_S1024x64_S1024x192_d1 : S1024x192.Idx → EReal) (ix2 p d) := by
  refine (shapeCast_apply _ _ _ (ix2 p d) ?_).trans rfl
  rw [Shape.rowMajor_val_two, Shape.rowMajor_val_three]
  show p.val * 192 + d.val = (0 * 1024 + p.val) * 192 + d.val
  omega

theorem joined_low (u : FVec Ideal S1024x128 .f32) (v : FVec Ideal S1024x64 .f32) (p : Fin 1024) (d : Fin 128) :
    (joined u v : S1x1024x192.Idx → EReal) (ix3 0 p ⟨d.val, by omega⟩) = u (ix2 p d) :=
  (joined_flat u v p _).trans (concatenate_pair_apply_left (t := S1024x192) 1 u v _ _ rfl (ix2 p d) (fun b => by fin_cases b <;> rfl))

theorem joined_high (u : FVec Ideal S1024x128 .f32) (v : FVec Ideal S1024x64 .f32) (p : Fin 1024) (d : Fin 64) :
    (joined u v : S1x1024x192.Idx → EReal) (ix3 0 p ⟨128 + d.val, by omega⟩) = v (ix2 p d) :=
  (joined_flat u v p _).trans (concatenate_pair_apply_right (t := S1024x192) 1 u v _ _ rfl rfl (ix2 p d)
    (fun b hb => by fin_cases b; exacts [rfl, absurd rfl hb]) (by show d.val + 128 = 128 + d.val; omega))

variable (x0 : Vec Ideal S1024x1024 .bf16) (x1 : Vec Ideal S1x1024x256 .bf16) (x2 x3 : Vec Ideal S1x128 .f32) (x4 x5 : Vec Ideal S1024x128 .f32)

theorem block_low (p : Fin 1024) (d : Fin 128) :
    (block x0 x1 x2 x3 x4 x5 : S1x1024x192.Idx → EReal) (ix3 0 p ⟨d.val, by omega⟩) = low share (lanes x0 x1 p) (fun j => x2 (ix2 0 j)) d := by
  refine (joined_low _ _ p d).trans ?_
  show (k0_pay3 x0 x1 : S1024x128.Idx → EReal) (ix2 p d) * (k0_pay7 x2 : S1024x128.Idx → EReal) (ix2 p d)
    * (broadcastTo S1024x128 (k0_pay5 x0 x1) broadcasts_S1024x1_S1024x128 : S1024x128.Idx → EReal) (ix2 p d) = _
  unfold k0_pay7
  rw [same_row, spread_col, spread, pay3_apply, pay5_apply]
  rfl

theorem block_high (p : Fin 1024) (d : Fin 64) :
    (block x0 x1 x2 x3 x4 x5 : S1x1024x192.Idx → EReal) (ix3 0 p ⟨128 + d.val, by omega⟩)
      = high share (lanes x0 x1 p) (fun j => x3 (ix2 0 j)) (fun j => x4 (ix2 p j)) (fun j => x5 (ix2 p j)) d := by
  refine (joined_high _ _ p d).trans ((extractStridedSlice_apply _ _ _ _ (ix2 p ⟨d.val, by omega⟩) (fun a => ?_)).trans ?_)
  · fin_cases a
    · show p.val = 0 + p.val; omega
    · show d.val = 0 + d.val; omega
  show (k0_pay6 x0 x1 x3 x4 x5 : S1024x128.Idx → EReal) (ix2 p ⟨d.val, by omega⟩) * (broadcastTo S1024x128 (k0_pay5 x0 x1) broadcasts_S1024x1_S1024x128 : S1024x128.Idx → EReal) (ix2 p ⟨d.val, by omega⟩) = _
  rw [spread_col, pay6_apply, pay5_apply]
  rfl

/-! ## The windows' blocks -/

def row (t : Fin grid0.N) (r : Fin 1024) : Fin 8192 :=
  ⟨1024 * (grid0.coords t 0).val + r.val, by have : (grid0.coords t 0).val < 8 := (grid0.coords t 0).isLt; omega⟩
def headAt (t : Fin grid0.N) : Fin 32 := ⟨(grid0.coords t 1).val, (grid0.coords t 1).isLt⟩

theorem blk0 (c : Dev nD) (t : Fin cfg0.N) (r k : Fin 1024) :
    (iblk m c 0 t : S1024x1024.Idx → EReal) (ix2 r k) = latent m c (ix2 (row t r) k) := by
  show (V m c main_arg0 : S8192x1024.Idx → EReal) _ = _
  rw [V_main_arg0]
  refine congrArg (latent m c) (funext fun a => Fin.ext ?_)
  have h0 : (grid0.coords t 0).val < 8 := (grid0.coords t 0).isLt
  fin_cases a
  · show (BitVec.ofNat 32 (grid0.coords t 0).val).toNat * 1024 + 1 * r.val = 1024 * (grid0.coords t 0).val + r.val
    rw [BitVec.toNat_ofNat]; omega
  · show 0 * 1024 + 1 * k.val = k.val
    omega

theorem blk1 (c : Dev nD) (t : Fin cfg0.N) (k : Fin 1024) (j : Fin 256) :
    (iblk m c 1 t : S1x1024x256.Idx → EReal) (ix3 0 k j) = wide (fun d => weights m c (ix2 k ⟨192 * (headAt t).val + d.val, by omega⟩)) j := by
  have h : (iblk m c 1 t : S1x1024x256.Idx → EReal) (ix3 0 k j) = (V m c main_v7 : S32x1024x256.Idx → EReal) (ix3 (headAt t) k j) := by
    show (V m c main_v7 : S32x1024x256.Idx → EReal) _ = _
    refine congrArg (V m c main_v7 : S32x1024x256.Idx → EReal) (funext fun a => Fin.ext ?_)
    have h1 : (grid0.coords t 1).val < 32 := (grid0.coords t 1).isLt
    fin_cases a
    · show (BitVec.ofNat 32 (grid0.coords t 1).val).toNat * 1 + 1 * 0 = (grid0.coords t 1).val
      rw [BitVec.toNat_ofNat]; omega
    · show 0 * 1024 + 1 * k.val = k.val
      omega
    · show 0 * 256 + 1 * j.val = j.val
      omega
  exact h.trans ((congrFun (V_v7 m c) _).trans (padded_apply _ _ k j))

theorem blk2 (c : Dev nD) (t : Fin cfg0.N) (j : Fin 128) : (iblk m c 2 t : S1x128.Idx → EReal) (ix2 0 j) = gain m c (ix1 ⟨j.val, by omega⟩) := by
  have h : (iblk m c 2 t : S1x128.Idx → EReal) (ix2 0 j) = (V m c main_v9 : S1x128.Idx → EReal) (ix2 0 j) := by
    show (V m c main_v9 : S1x128.Idx → EReal) _ = _
    refine congrArg (V m c main_v9 : S1x128.Idx → EReal) (funext fun a => Fin.ext ?_)
    fin_cases a
    · rfl
    · show 0 * 128 + 1 * j.val = j.val
      omega
  exact h.trans ((congrFun (V_v9 m c) _).trans (gainLow_apply _ j))

theorem blk3 (c : Dev nD) (t : Fin cfg0.N) (j : Fin 128) : (iblk m c 3 t : S1x128.Idx → EReal) (ix2 0 j) = tail (fun d => gain m c (ix1 d)) j := by
  have h : (iblk m c 3 t : S1x128.Idx → EReal) (ix2 0 j) = (V m c main_v12 : S1x128.Idx → EReal) (ix2 0 j) := by
    show (V m c main_v12 : S1x128.Idx → EReal) _ = _
    refine congrArg (V m c main_v12 : S1x128.Idx → EReal) (funext fun a => Fin.ext ?_)
    fin_cases a
    · rfl
    · show 0 * 128 + 1 * j.val = j.val
      omega
  exact h.trans ((congrFun (V_v12 m c) _).trans (gainHigh_apply _ j))

theorem blk4 (c : Dev nD) (t : Fin cfg0.N) (r : Fin 1024) (j : Fin 128) :
    (iblk m c 4 t : S1024x128.Idx → EReal) (ix2 r j) = table (fun k => cosine m c (ix2 (row t r) k)) (Ideal.ofBits .f32 0x3F800000#32) j := by
  have h : (iblk m c 4 t : S1024x128.Idx → EReal) (ix2 r j) = (V m c main_v2 : S8192x128.Idx → EReal) (ix2 (row t r) j) := by
    show (V m c main_v2 : S8192x128.Idx → EReal) _ = _
    refine congrArg (V m c main_v2 : S8192x128.Idx → EReal) (funext fun a => Fin.ext ?_)
    have h0 : (grid0.coords t 0).val < 8 := (grid0.coords t 0).isLt
    fin_cases a
    · show (BitVec.ofNat 32 (grid0.coords t 0).val).toNat * 1024 + 1 * r.val = 1024 * (grid0.coords t 0).val + r.val
      rw [BitVec.toNat_ofNat]; omega
    · show 0 * 128 + 1 * j.val = j.val
      omega
  exact h.trans ((congrFun (V_v2 m c) _).trans (beside_apply _ _ _ j))

theorem blk5 (c : Dev nD) (t : Fin cfg0.N) (r : Fin 1024) (j : Fin 128) :
    (iblk m c 5 t : S1024x128.Idx → EReal) (ix2 r j) = table (fun k => sine m c (ix2 (row t r) k)) (Ideal.ofBits .f32 0x00000000#32) j := by
  have h : (iblk m c 5 t : S1024x128.Idx → EReal) (ix2 r j) = (V m c main_v3 : S8192x128.Idx → EReal) (ix2 (row t r) j) := by
    show (V m c main_v3 : S8192x128.Idx → EReal) _ = _
    refine congrArg (V m c main_v3 : S8192x128.Idx → EReal) (funext fun a => Fin.ext ?_)
    have h0 : (grid0.coords t 0).val < 8 := (grid0.coords t 0).isLt
    fin_cases a
    · show (BitVec.ofNat 32 (grid0.coords t 0).val).toNat * 1024 + 1 * r.val = 1024 * (grid0.coords t 0).val + r.val
      rw [BitVec.toNat_ofNat]; omega
    · show 0 * 128 + 1 * j.val = j.val
      omega
  exact h.trans ((congrFun (V_v3 m c) _).trans (beside_apply _ _ _ j))

theorem no_offset : (![0, 0] : Fin 2 → ℕ) = fun _ => 0 := by funext a; fin_cases a <;> rfl
theorem no_offset3 : (![0, 0, 0] : Fin 3 → ℕ) = fun _ => 0 := by funext a; fin_cases a <;> rfl

theorem left : out0_6 x0 x1 x2 x3 x4 x5 = block x0 x1 x2 x3 x4 x5 := by
  unfold out0_6
  rw [View.canon_unit_zero no_offset3, View.ld_unit_zero no_offset, View.ld_unit_zero no_offset3, View.ld_unit_zero no_offset, View.ld_unit_zero no_offset, View.ld_unit_zero no_offset, View.ld_unit_zero no_offset]
  rfl

theorem lanes_eq (c : Dev nD) (t : Fin cfg0.N) (r : Fin 1024) :
    lanes (iblk m c 0 t) (iblk m c 1 t) r = wide (product (latent m c) (weights m c) (row t r) (headAt t)) := by
  funext j
  unfold lanes
  refine (Finset.sum_congr rfl fun k _ => congrArg₂ (fun a b : EReal => a * b) (blk0 m c t r k) (blk1 m c t k j)).trans ?_
  unfold wide product
  by_cases hj : j.val < 192
  · simp only [dif_pos hj]
  · simp only [dif_neg hj, mul_zero, Finset.sum_const_zero]

theorem point (c : Dev nD) (t : Fin cfg0.N) (r : Fin 1024) (d : Fin 192) :
    (out0_6 (iblk m c 0 t) (iblk m c 1 t) (iblk m c 2 t) (iblk m c 3 t) (iblk m c 4 t) (iblk m c 5 t) : S1x1024x192.Idx → EReal) (ix3 0 r d)
      = plain (latent m c) (weights m c) (gain m c) (cosine m c) (sine m c) (ix3 (headAt t) (row t r) d) := by
  rw [left]
  by_cases hd : d.val < 128
  · refine (block_low _ _ _ _ _ _ r ⟨d.val, hd⟩).trans ?_
    rw [lanes_eq, show (fun j => (iblk m c 2 t : S1x128.Idx → EReal) (ix2 0 j)) = _ from funext fun j => blk2 m c t j]
    exact low_eq _ _ (fun k => gain m c (ix1 k)) _ _ ⟨d.val, hd⟩
  · obtain ⟨e, rfl⟩ : ∃ e : Fin 64, d = ⟨128 + e.val, Nat.add_lt_add_left e.isLt 128⟩ := ⟨⟨d.val - 128, by omega⟩, Fin.ext (by show d.val = 128 + (d.val - 128); omega)⟩
    refine (block_high _ _ _ _ _ _ r e).trans ?_
    rw [lanes_eq, show (fun j => (iblk m c 3 t : S1x128.Idx → EReal) (ix2 0 j)) = _ from funext fun j => blk3 m c t j,
      show (fun j => (iblk m c 4 t : S1024x128.Idx → EReal) (ix2 r j)) = _ from funext fun j => blk4 m c t r j,
      show (fun j => (iblk m c 5 t : S1024x128.Idx → EReal) (ix2 r j)) = _ from funext fun j => blk5 m c t r j]
    exact high_eq _ _ _ _ _ _ _ e

/-! ## The whole array -/

theorem cover : (cfg0.win (6 : Fin 7)).Covers := by
  refine Pipeline.Window.covers_of_indexMap_surj (cfg0.win (6 : Fin 7)) rfl (fun a => by
    fin_cases a
    · show 0 < 1; decide
    · show 0 < 1024; decide
    · show 0 < 192; decide) fun β => ?_
  have h0 : (β 0).val < 32 := lt_of_lt_of_eq (β 0).isLt (show (32 + 1 - 1) / 1 = 32 by decide)
  have h1 : (β 1).val < 8 := lt_of_lt_of_eq (β 1).isLt (show (8192 + 1024 - 1) / 1024 = 8 by decide)
  have h2 : (β 2).val < 1 := lt_of_lt_of_eq (β 2).isLt (show (192 + 192 - 1) / 192 = 1 by decide)
  refine ⟨fun a => match a with
    | ⟨0, _⟩ => (⟨(β 1).val, h1⟩ : Fin 8)
    | ⟨1, _⟩ => (⟨(β 0).val, h0⟩ : Fin 32), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega
  · show 0 = (β 2).val
    omega

/-- The kernel's result is every head's queries. -/
theorem value (c : Dev nD) : (dats m 0 c).arrAt (6 : Fin 7) cfg0.N = plain (latent m c) (weights m c) (gain m c) (cosine m c) (sine m c) := by
  refine Pipeline.Dat.arrAt_eq_of_covers (dat := dats m 0 c) (6 : Fin 7) (plain (latent m c) (weights m c) (gain m c) (cosine m c) (sine m c)) cover fun t _ y => ?_
  show (dats m 0 c).after (6 : Fin 7) t _ = _
  rw [after0_6]
  have h0 : (y 0).val < 1 := (y 0).isLt
  have h1 : (y 1).val < 1024 := (y 1).isLt
  have h2 : (y 2).val < 192 := (y 2).isLt
  refine Eq.trans (congrArg (out0_6 (iblk m c 0 t) (iblk m c 1 t) (iblk m c 2 t) (iblk m c 3 t) (iblk m c 4 t) (iblk m c 5 t) : S1x1024x192.Idx → EReal)
    (a₂ := ix3 0 ⟨(y 1).val, h1⟩ ⟨(y 2).val, h2⟩) (funext fun a => Fin.ext (by
      fin_cases a
      · show (y 0).val = 0; omega
      · rfl
      · rfl))) ((point m c t _ _).trans ?_)
  refine congrArg (plain (latent m c) (weights m c) (gain m c) (cosine m c) (sine m c)) (funext fun a => Fin.ext ?_)
  have g0 : (grid0.coords t 0).val < 8 := (grid0.coords t 0).isLt
  have g1 : (grid0.coords t 1).val < 32 := (grid0.coords t 1).isLt
  fin_cases a
  · show (grid0.coords t 1).val = (BitVec.ofNat 32 (grid0.coords t 1).val).toNat * 1 + 1 * (y 0).val
    rw [BitVec.toNat_ofNat]; omega
  · show 1024 * (grid0.coords t 0).val + (y 1).val = (BitVec.ofNat 32 (grid0.coords t 0).val).toNat * 1024 + 1 * (y 1).val
    rw [BitVec.toNat_ofNat]; omega
  · show (y 2).val = 0 * 192 + 1 * (y 2).val
    omega

end Cert.Kernel11Ideal.QueryBuild

end
-- ==== Proof.KeyBuild.lean ====
module

public import proofs.«01_k».proof.Proof.QueryBuild
public import proofs.«01_k».proof.Proof.Gen.Kernel12Ideal.Value

@[expose] public section

/-!
# The heads' keys: each point is a block of 1024 rows of one head

As for the queries, but a key's last 64 lanes are the same for all heads and nothing scales it.
-/

set_option maxRecDepth 16384

noncomputable section

namespace Cert.Kernel12Ideal.KeyBuild

open Cert.Kernel12Ideal Cert.Kernel12Ideal.Gen
open Idealize.ShloMosaic Idealize.ShloMosaic.TcCoe
open Idealize.ShloMosaic.Pipeline (Dat Cfg Window)
open Idealize.ShloMosaic.ValueIdx (ix1 ix2 ix3)
open Cert.Kernel11Ideal.QueryBuild (eps head turned normed wide tail table halves scale low high weighed low_eq high_eq beside same beside_apply gainLow gainLow_apply gainHigh gainHigh_apply
  rowSquares rowSquares_apply same_row same_tile spread spread_col turn_apply joined joined_low joined_high no_offset no_offset3)

variable (m : (ℓ : Loc nD τ sig) → Buf (Elt Ideal) ℓ)

abbrev latent (c : Dev nD) : S8192x512.Idx → EReal := m ((c : Thread nD τ).loc main_arg0)
abbrev weights (c : Dev nD) : S512x4096.Idx → EReal := m ((c : Thread nD τ).loc main_arg1)
abbrev common (c : Dev nD) : S8192x64.Idx → EReal := m ((c : Thread nD τ).loc main_arg2)
abbrev gain (c : Dev nD) : S192.Idx → EReal := m ((c : Thread nD τ).loc main_arg3)
abbrev cosine (c : Dev nD) : S8192x32.Idx → EReal := m ((c : Thread nD τ).loc main_arg4)
abbrev sine (c : Dev nD) : S8192x32.Idx → EReal := m ((c : Thread nD τ).loc main_arg5)

/-- A row's lanes of one head, before its norm: its own 128, then the common 64. -/
def product (u : S8192x512.Idx → EReal) (w : S512x4096.Idx → EReal) (r : S8192x64.Idx → EReal) (a : Fin 8192) (h : Fin 32) (d : Fin 192) : EReal :=
  if hd : d.val < 128 then ∑ k : Fin 512, u (ix2 a k) * w (ix2 k ⟨128 * h.val + d.val, by omega⟩) else r (ix2 a ⟨d.val - 128, by omega⟩)

/-- Every head's keys. -/
def plain (u : S8192x512.Idx → EReal) (w : S512x4096.Idx → EReal) (r : S8192x64.Idx → EReal) (g : S192.Idx → EReal) (c s : S8192x32.Idx → EReal) : S32x8192x192.Idx → EReal :=
  fun i => head 1 (product u w r (i 1) (i 0)) (fun d => g (ix1 d)) (fun j => c (ix2 (i 1) j)) (fun j => s (ix2 (i 1) j)) (i 2)

/-! ## The arrays the host lays out -/

def byHead (w : FVec Ideal S512x4096 .f32) : FVec Ideal S32x512x128 .bf16 :=
  transpose S32x512x128 [1, 0, 2] (shapeCast S512x32x128 (truncf .bf16 w bitsLt_bf16_f32) shapeCasts_S512x4096_S512x32x128) transposes_S512x32x128_S32x512x128_1_0_2

def widened (r : FVec Ideal S8192x64 .f32) : FVec Ideal S8192x128 .f32 :=
  concatenate S8192x128 1 [⟨S8192x64, r⟩, ⟨S8192x64, same 0x00000000#32⟩] concatenates_S8192x64_S8192x64_S8192x128_d1

theorem V_v2 (c : Dev nD) : V m c main_v2 = widened (common m c) := by
  unfold V; simp only [hostOps0, hostOps0_1, hostOps0_2, List.flatten_cons, List.flatten_nil, List.cons_append, List.nil_append, List.append_nil]; after_results; try rfl

theorem V_v3 (c : Dev nD) : V m c main_v3 = beside (cosine m c) (cosine m c) (same 0x3F800000#32) := by
  unfold V; simp only [hostOps0, hostOps0_1, hostOps0_2, List.flatten_cons, List.flatten_nil, List.cons_append, List.nil_append, List.append_nil]; after_results; try rfl

theorem V_v4 (c : Dev nD) : V m c main_v4 = beside (sine m c) (sine m c) (same 0x00000000#32) := by
  unfold V; simp only [hostOps0, hostOps0_1, hostOps0_2, List.flatten_cons, List.flatten_nil, List.cons_append, List.nil_append, List.append_nil]; after_results; try rfl

theorem V_v7 (c : Dev nD) : V m c main_v7 = byHead (weights m c) := by
  unfold V; simp only [hostOps0, hostOps0_1, hostOps0_2, List.flatten_cons, List.flatten_nil, List.cons_append, List.nil_append, List.append_nil]; after_results; try rfl

theorem V_v9 (c : Dev nD) : V m c main_v9 = gainLow (gain m c) := by
  unfold V; simp only [hostOps0, hostOps0_1, hostOps0_2, List.flatten_cons, List.flatten_nil, List.cons_append, List.nil_append, List.append_nil]; after_results; try rfl

theorem V_v12 (c : Dev nD) : V m c main_v12 = gainHigh (gain m c) := by
  unfold V; simp only [hostOps0, hostOps0_1, hostOps0_2, List.flatten_cons, List.flatten_nil, List.cons_append, List.nil_append, List.append_nil]; after_results; try rfl

theorem byHead_apply (w : FVec Ideal S512x4096 .f32) (h : Fin 32) (k : Fin 512) (d : Fin 128) :
    (byHead w : S32x512x128.Idx → EReal) (ix3 h k d) = w (ix2 k ⟨128 * h.val + d.val, by omega⟩) := by
  refine (transpose_apply _ _ _ _ (ix3 k h d) (fun b => by fin_cases b <;> rfl)).trans ?_
  refine shapeCast_apply _ _ _ (ix2 k ⟨128 * h.val + d.val, by omega⟩) ?_
  rw [Shape.rowMajor_val_two, Shape.rowMajor_val_three]
  show k.val * 4096 + (128 * h.val + d.val) = (k.val * 32 + h.val) * 128 + d.val
  omega

theorem widened_apply (r : FVec Ideal S8192x64 .f32) (a : Fin 8192) (j : Fin 128) :
    (widened r : S8192x128.Idx → EReal) (ix2 a j) = if h : j.val < 64 then r (ix2 a ⟨j.val, h⟩) else 0 := by
  unfold widened
  by_cases h : j.val < 64
  · rw [dif_pos h]
    exact concatenate_pair_apply_left (t := S8192x128) 1 r (same 0x00000000#32) _ _ rfl (ix2 a ⟨j.val, h⟩) (fun b => by fin_cases b <;> rfl)
  · rw [dif_neg h]
    exact (concatenate_pair_apply_right (t := S8192x128) 1 r (same 0x00000000#32) _ _ rfl rfl (ix2 a ⟨j.val - 64, by omega⟩)
      (fun b hb => by fin_cases b; exacts [rfl, absurd rfl hb]) (by show j.val - 64 + 64 = j.val; omega)).trans Ideal.ofBits_zero_f32

/-! ## A point's arithmetic -/

theorem inv_width : (Named.named (F := Ideal) (φ := .f32) κ "inv_qk" 0x3BAAAAAB#32 : EReal) = ((192⁻¹ : ℝ) : EReal) :=
  IdealRules.named_const.ideal_named_scalar _ _ _ _ (by simp [κ])

variable (x0 : Vec Ideal S1024x512 .bf16) (x1 : Vec Ideal S1x512x128 .bf16) (x2 : Vec Ideal S1024x128 .f32) (x3 x4 : Vec Ideal S1x128 .f32) (x5 x6 : Vec Ideal S1024x128 .f32)

/-- A row's lanes before its norm. -/
def lanes (p : Fin 1024) (j : Fin 256) : EReal :=
  if h : j.val < 128 then ∑ k : Fin 512, (x0 (ix2 p k) : EReal) * x1 (ix3 0 k ⟨j.val, h⟩) else x2 (ix2 p ⟨j.val - 128, by omega⟩)

theorem lanes_low (p : Fin 1024) (d : Fin 128) : lanes x0 x1 x2 p ⟨d.val, by omega⟩ = ∑ k : Fin 512, (x0 (ix2 p k) : EReal) * x1 (ix3 0 k d) := by
  unfold lanes
  rw [dif_pos d.isLt]

theorem lanes_high (p : Fin 1024) (d : Fin 128) : lanes x0 x1 x2 p ⟨128 + d.val, by omega⟩ = x2 (ix2 p d) := by
  unfold lanes
  rw [dif_neg (by show ¬ 128 + d.val < 128; omega)]
  exact congrArg (fun e => (x2 (ix2 p e) : EReal)) (Fin.ext (by show 128 + d.val - 128 = d.val; omega))

theorem pay2_apply (p : Fin 1024) (d : Fin 128) : (k0_pay2 x0 x1 : S1024x128.Idx → EReal) (ix2 p d) = lanes x0 x1 x2 p ⟨d.val, by omega⟩ := by
  rw [lanes_low]
  unfold k0_pay2
  refine (Ideal.matmul_plain_apply (φ₁ := .bf16) (φ₂ := .bf16) none x0 (shapeCast S512x128 x1 shapeCasts_S1x512x128_S512x128) (constant S1024x128 .f32 0x00000000#32) p d).trans ?_
  refine ((congrArg (· + _) Ideal.ofBits_zero_f32).trans (zero_add _)).trans (Finset.sum_congr rfl fun k _ => ?_)
  refine congrArg (fun b : EReal => x0 (ix2 p k) * b) (shapeCast_apply _ _ _ (ix3 0 k d) ?_)
  rw [Shape.rowMajor_val_two, Shape.rowMajor_val_three]
  show (0 * 512 + k.val) * 128 + d.val = k.val * 128 + d.val
  omega

theorem pay3_apply (p : Fin 1024) (d : Fin 128) : (k0_pay3 x2 : S1024x128.Idx → EReal) (ix2 p d) = lanes x0 x1 x2 p ⟨128 + d.val, by omega⟩ := by
  rw [lanes_high]
  exact congrFun (same_tile x2) _

theorem pay5_apply (p : Fin 1024) : (k0_pay5 x0 x1 x2 : S1024x1.Idx → EReal) (ix2 p 0) = scale 1 (halves (lanes x0 x1 x2 p)) := by
  have e : (k0_pay5 x0 x1 x2 : S1024x1.Idx → EReal) (ix2 p 0)
      = Ideal.rsqrt (((rowSquares (k0_pay2 x0 x1) : S1024x1.Idx → EReal) (ix2 p 0) + (rowSquares (k0_pay3 x2) : S1024x1.Idx → EReal) (ix2 p 0))
        * (Named.named (F := Ideal) (φ := .f32) κ "inv_qk" 0x3BAAAAAB#32 : EReal) + eps) * Ideal.ofBits .f32 0x3F800000#32 := rfl
  rw [e, inv_width, rowSquares_apply, rowSquares_apply, Ideal.ofBits_one_f32]
  simp only [pay2_apply x0 x1 x2, pay3_apply x0 x1 x2]
  rfl

theorem pay6_apply (p : Fin 1024) (d : Fin 128) : (k0_pay6 x2 x4 : S1024x128.Idx → EReal) (ix2 p d) = weighed (lanes x0 x1 x2 p) (fun j => x4 (ix2 0 j)) d := by
  unfold k0_pay6
  rw [same_row]
  show (k0_pay3 x2 : S1024x128.Idx → EReal) (ix2 p d) * (broadcastTo S1024x128 x4 broadcasts_S1x128_S1024x128 : S1024x128.Idx → EReal) (ix2 p d) = _
  rw [pay3_apply x0 x1 x2, spread]; rfl

theorem pay7_apply (p : Fin 1024) (d : Fin 128) : (k0_pay7 x2 x4 x5 : S1024x128.Idx → EReal) (ix2 p d) = weighed (lanes x0 x1 x2 p) (fun j => x4 (ix2 0 j)) d * x5 (ix2 p d) := by
  unfold k0_pay7
  rw [same_tile]
  exact congrArg (fun b : EReal => b * x5 (ix2 p d)) (pay6_apply x0 x1 x2 x4 p d)

theorem pay8_apply (p : Fin 1024) (d : Fin 128) : (k0_pay8 x2 x4 x6 : S1024x128.Idx → EReal) (ix2 p d)
    = (weighed (lanes x0 x1 x2 p) (fun j => x4 (ix2 0 j)) ⟨(d.val + 96) % 128, Nat.mod_lt _ (by decide)⟩
      - weighed (lanes x0 x1 x2 p) (fun j => x4 (ix2 0 j)) ⟨(d.val + 32) % 128, Nat.mod_lt _ (by decide)⟩) * x6 (ix2 p d) := by
  unfold k0_pay8
  rw [same_tile]
  show ((dynamicRotate 1 32#32 none (k0_pay6 x2 x4) rotates_S1024x128_d1 : S1024x128.Idx → EReal) (ix2 p d) - (dynamicRotate 1 96#32 none (k0_pay6 x2 x4) rotates_S1024x128_d1 : S1024x128.Idx → EReal) (ix2 p d)) * x6 (ix2 p d) = _
  rw [turn_apply _ 32#32 96 (by decide) p d (by decide), turn_apply _ 96#32 32 (by decide) p d (by decide), pay6_apply x0 x1 x2, pay6_apply x0 x1 x2]

/-- A point's block, as the kernel's lanes give it. -/
def block : FVec Ideal S1x1024x192 .bf16 :=
  k0_pay1 (k0_pay2 x0 x1) (k0_pay4 x3) (k0_pay5 x0 x1 x2) (k0_pay7 x2 x4 x5) (k0_pay8 x2 x4 x6)

theorem block_low (p : Fin 1024) (d : Fin 128) :
    (block x0 x1 x2 x3 x4 x5 x6 : S1x1024x192.Idx → EReal) (ix3 0 p ⟨d.val, by omega⟩) = low 1 (lanes x0 x1 x2 p) (fun j => x3 (ix2 0 j)) d := by
  refine (joined_low _ _ p d).trans ?_
  show (k0_pay2 x0 x1 : S1024x128.Idx → EReal) (ix2 p d) * (broadcastTo S1024x128 (k0_pay4 x3) broadcasts_S1x128_S1024x128 : S1024x128.Idx → EReal) (ix2 p d)
    * (broadcastTo S1024x128 (k0_pay5 x0 x1 x2) broadcasts_S1024x1_S1024x128 : S1024x128.Idx → EReal) (ix2 p d) = _
  unfold k0_pay4
  rw [same_row, spread_col, spread, pay2_apply x0 x1 x2, pay5_apply]
  rfl

theorem block_high (p : Fin 1024) (d : Fin 64) :
    (block x0 x1 x2 x3 x4 x5 x6 : S1x1024x192.Idx → EReal) (ix3 0 p ⟨128 + d.val, by omega⟩)
      = high 1 (lanes x0 x1 x2 p) (fun j => x4 (ix2 0 j)) (fun j => x5 (ix2 p j)) (fun j => x6 (ix2 p j)) d := by
  refine (joined_high _ _ p d).trans ((extractStridedSlice_apply _ _ _ _ (ix2 p ⟨d.val, by omega⟩) (fun a => ?_)).trans ?_)
  · fin_cases a
    · show p.val = 0 + p.val; omega
    · show d.val = 0 + d.val; omega
  show ((k0_pay7 x2 x4 x5 : S1024x128.Idx → EReal) (ix2 p ⟨d.val, by omega⟩) + (k0_pay8 x2 x4 x6 : S1024x128.Idx → EReal) (ix2 p ⟨d.val, by omega⟩))
    * (broadcastTo S1024x128 (k0_pay5 x0 x1 x2) broadcasts_S1024x1_S1024x128 : S1024x128.Idx → EReal) (ix2 p ⟨d.val, by omega⟩) = _
  rw [spread_col, pay7_apply x0 x1 x2, pay8_apply x0 x1 x2, pay5_apply]
  rfl

/-! ## The windows' blocks -/

def row (t : Fin grid0.N) (r : Fin 1024) : Fin 8192 :=
  ⟨1024 * (grid0.coords t 0).val + r.val, by have : (grid0.coords t 0).val < 8 := (grid0.coords t 0).isLt; omega⟩
def headAt (t : Fin grid0.N) : Fin 32 := ⟨(grid0.coords t 1).val, (grid0.coords t 1).isLt⟩

theorem blk0 (c : Dev nD) (t : Fin cfg0.N) (r : Fin 1024) (k : Fin 512) :
    (iblk m c 0 t : S1024x512.Idx → EReal) (ix2 r k) = latent m c (ix2 (row t r) k) := by
  show (V m c main_arg0 : S8192x512.Idx → EReal) _ = _
  rw [V_main_arg0]
  refine congrArg (latent m c) (funext fun a => Fin.ext ?_)
  have h0 : (grid0.coords t 0).val < 8 := (grid0.coords t 0).isLt
  fin_cases a
  · show (BitVec.ofNat 32 (grid0.coords t 0).val).toNat * 1024 + 1 * r.val = 1024 * (grid0.coords t 0).val + r.val
    rw [BitVec.toNat_ofNat]; omega
  · show 0 * 512 + 1 * k.val = k.val
    omega

theorem blk1 (c : Dev nD) (t : Fin cfg0.N) (k : Fin 512) (j : Fin 128) :
    (iblk m c 1 t : S1x512x128.Idx → EReal) (ix3 0 k j) = weights m c (ix2 k ⟨128 * (headAt t).val + j.val, by omega⟩) := by
  have h : (iblk m c 1 t : S1x512x128.Idx → EReal) (ix3 0 k j) = (V m c main_v7 : S32x512x128.Idx → EReal) (ix3 (headAt t) k j) := by
    show (V m c main_v7 : S32x512x128.Idx → EReal) _ = _
    refine congrArg (V m c main_v7 : S32x512x128.Idx → EReal) (funext fun a => Fin.ext ?_)
    have h1 : (grid0.coords t 1).val < 32 := (grid0.coords t 1).isLt
    fin_cases a
    · show (BitVec.ofNat 32 (grid0.coords t 1).val).toNat * 1 + 1 * 0 = (grid0.coords t 1).val
      rw [BitVec.toNat_ofNat]; omega
    · show 0 * 512 + 1 * k.val = k.val
      omega
    · show 0 * 128 + 1 * j.val = j.val
      omega
  exact h.trans ((congrFun (V_v7 m c) _).trans (byHead_apply _ _ k j))

theorem blk2 (c : Dev nD) (t : Fin cfg0.N) (r : Fin 1024) (j : Fin 128) :
    (iblk m c 2 t : S1024x128.Idx → EReal) (ix2 r j) = if h : j.val < 64 then common m c (ix2 (row t r) ⟨j.val, h⟩) else 0 := by
  have h : (iblk m c 2 t : S1024x128.Idx → EReal) (ix2 r j) = (V m c main_v2 : S8192x128.Idx → EReal) (ix2 (row t r) j) := by
    show (V m c main_v2 : S8192x128.Idx → EReal) _ = _
    refine congrArg (V m c main_v2 : S8192x128.Idx → EReal) (funext fun a => Fin.ext ?_)
    have h0 : (grid0.coords t 0).val < 8 := (grid0.coords t 0).isLt
    fin_cases a
    · show (BitVec.ofNat 32 (grid0.coords t 0).val).toNat * 1024 + 1 * r.val = 1024 * (grid0.coords t 0).val + r.val
      rw [BitVec.toNat_ofNat]; omega
    · show 0 * 128 + 1 * j.val = j.val
      omega
  exact h.trans ((congrFun (V_v2 m c) _).trans (widened_apply _ _ j))

theorem blk3 (c : Dev nD) (t : Fin cfg0.N) (j : Fin 128) : (iblk m c 3 t : S1x128.Idx → EReal) (ix2 0 j) = gain m c (ix1 ⟨j.val, by omega⟩) := by
  have h : (iblk m c 3 t : S1x128.Idx → EReal) (ix2 0 j) = (V m c main_v9 : S1x128.Idx → EReal) (ix2 0 j) := by
    show (V m c main_v9 : S1x128.Idx → EReal) _ = _
    refine congrArg (V m c main_v9 : S1x128.Idx → EReal) (funext fun a => Fin.ext ?_)
    fin_cases a
    · rfl
    · show 0 * 128 + 1 * j.val = j.val
      omega
  exact h.trans ((congrFun (V_v9 m c) _).trans (gainLow_apply _ j))

theorem blk4 (c : Dev nD) (t : Fin cfg0.N) (j : Fin 128) : (iblk m c 4 t : S1x128.Idx → EReal) (ix2 0 j) = tail (fun d => gain m c (ix1 d)) j := by
  have h : (iblk m c 4 t : S1x128.Idx → EReal) (ix2 0 j) = (V m c main_v12 : S1x128.Idx → EReal) (ix2 0 j) := by
    show (V m c main_v12 : S1x128.Idx → EReal) _ = _
    refine congrArg (V m c main_v12 : S1x128.Idx → EReal) (funext fun a => Fin.ext ?_)
    fin_cases a
    · rfl
    · show 0 * 128 + 1 * j.val = j.val
      omega
  exact h.trans ((congrFun (V_v12 m c) _).trans (gainHigh_apply _ j))

theorem blk5 (c : Dev nD) (t : Fin cfg0.N) (r : Fin 1024) (j : Fin 128) :
    (iblk m c 5 t : S1024x128.Idx → EReal) (ix2 r j) = table (fun k => cosine m c (ix2 (row t r) k)) (Ideal.ofBits .f32 0x3F800000#32) j := by
  have h : (iblk m c 5 t : S1024x128.Idx → EReal) (ix2 r j) = (V m c main_v3 : S8192x128.Idx → EReal) (ix2 (row t r) j) := by
    show (V m c main_v3 : S8192x128.Idx → EReal) _ = _
    refine congrArg (V m c main_v3 : S8192x128.Idx → EReal) (funext fun a => Fin.ext ?_)
    have h0 : (grid0.coords t 0).val < 8 := (grid0.coords t 0).isLt
    fin_cases a
    · show (BitVec.ofNat 32 (grid0.coords t 0).val).toNat * 1024 + 1 * r.val = 1024 * (grid0.coords t 0).val + r.val
      rw [BitVec.toNat_ofNat]; omega
    · show 0 * 128 + 1 * j.val = j.val
      omega
  exact h.trans ((congrFun (V_v3 m c) _).trans (beside_apply _ _ _ j))

theorem blk6 (c : Dev nD) (t : Fin cfg0.N) (r : Fin 1024) (j : Fin 128) :
    (iblk m c 6 t : S1024x128.Idx → EReal) (ix2 r j) = table (fun k => sine m c (ix2 (row t r) k)) (Ideal.ofBits .f32 0x00000000#32) j := by
  have h : (iblk m c 6 t : S1024x128.Idx → EReal) (ix2 r j) = (V m c main_v4 : S8192x128.Idx → EReal) (ix2 (row t r) j) := by
    show (V m c main_v4 : S8192x128.Idx → EReal) _ = _
    refine congrArg (V m c main_v4 : S8192x128.Idx → EReal) (funext fun a => Fin.ext ?_)
    have h0 : (grid0.coords t 0).val < 8 := (grid0.coords t 0).isLt
    fin_cases a
    · show (BitVec.ofNat 32 (grid0.coords t 0).val).toNat * 1024 + 1 * r.val = 1024 * (grid0.coords t 0).val + r.val
      rw [BitVec.toNat_ofNat]; omega
    · show 0 * 128 + 1 * j.val = j.val
      omega
  exact h.trans ((congrFun (V_v4 m c) _).trans (beside_apply _ _ _ j))

theorem left : out0_7 x0 x1 x2 x3 x4 x5 x6 = block x0 x1 x2 x3 x4 x5 x6 := by
  unfold out0_7
  rw [View.canon_unit_zero no_offset3, View.ld_unit_zero no_offset, View.ld_unit_zero no_offset3, View.ld_unit_zero no_offset, View.ld_unit_zero no_offset, View.ld_unit_zero no_offset, View.ld_unit_zero no_offset, View.ld_unit_zero no_offset]
  rfl

theorem lanes_eq (c : Dev nD) (t : Fin cfg0.N) (r : Fin 1024) :
    lanes (iblk m c 0 t) (iblk m c 1 t) (iblk m c 2 t) r = wide (product (latent m c) (weights m c) (common m c) (row t r) (headAt t)) := by
  funext j
  unfold lanes wide product
  by_cases hj : j.val < 128
  · rw [dif_pos hj, dif_pos (by omega), dif_pos hj]
    exact Finset.sum_congr rfl fun k _ => congrArg₂ (fun a b : EReal => a * b) (blk0 m c t r k) (blk1 m c t k ⟨j.val, hj⟩)
  · rw [dif_neg hj]
    refine (blk2 m c t r ⟨j.val - 128, by omega⟩).trans ?_
    by_cases hk : j.val < 192
    · rw [dif_pos hk, dif_neg hj, dif_pos (by show j.val - 128 < 64; omega)]
    · rw [dif_neg hk, dif_neg (by show ¬ j.val - 128 < 64; omega)]

theorem point (c : Dev nD) (t : Fin cfg0.N) (r : Fin 1024) (d : Fin 192) :
    (out0_7 (iblk m c 0 t) (iblk m c 1 t) (iblk m c 2 t) (iblk m c 3 t) (iblk m c 4 t) (iblk m c 5 t) (iblk m c 6 t) : S1x1024x192.Idx → EReal) (ix3 0 r d)
      = plain (latent m c) (weights m c) (common m c) (gain m c) (cosine m c) (sine m c) (ix3 (headAt t) (row t r) d) := by
  rw [left]
  by_cases hd : d.val < 128
  · refine (block_low _ _ _ _ _ _ _ r ⟨d.val, hd⟩).trans ?_
    rw [lanes_eq, show (fun j => (iblk m c 3 t : S1x128.Idx → EReal) (ix2 0 j)) = _ from funext fun j => blk3 m c t j]
    exact low_eq _ _ (fun k => gain m c (ix1 k)) _ _ ⟨d.val, hd⟩
  · obtain ⟨e, rfl⟩ : ∃ e : Fin 64, d = ⟨128 + e.val, Nat.add_lt_add_left e.isLt 128⟩ := ⟨⟨d.val - 128, by omega⟩, Fin.ext (by show d.val = 128 + (d.val - 128); omega)⟩
    refine (block_high _ _ _ _ _ _ _ r e).trans ?_
    rw [lanes_eq, show (fun j => (iblk m c 4 t : S1x128.Idx → EReal) (ix2 0 j)) = _ from funext fun j => blk4 m c t j,
      show (fun j => (iblk m c 5 t : S1024x128.Idx → EReal) (ix2 r j)) = _ from funext fun j => blk5 m c t r j,
      show (fun j => (iblk m c 6 t : S1024x128.Idx → EReal) (ix2 r j)) = _ from funext fun j => blk6 m c t r j]
    exact high_eq _ _ _ _ _ _ _ e

/-! ## The whole array -/

theorem cover : (cfg0.win (7 : Fin 8)).Covers := by
  refine Pipeline.Window.covers_of_indexMap_surj (cfg0.win (7 : Fin 8)) rfl (fun a => by
    fin_cases a
    · show 0 < 1; decide
    · show 0 < 1024; decide
    · show 0 < 192; decide) fun β => ?_
  have h0 : (β 0).val < 32 := lt_of_lt_of_eq (β 0).isLt (show (32 + 1 - 1) / 1 = 32 by decide)
  have h1 : (β 1).val < 8 := lt_of_lt_of_eq (β 1).isLt (show (8192 + 1024 - 1) / 1024 = 8 by decide)
  have h2 : (β 2).val < 1 := lt_of_lt_of_eq (β 2).isLt (show (192 + 192 - 1) / 192 = 1 by decide)
  refine ⟨fun a => match a with
    | ⟨0, _⟩ => (⟨(β 1).val, h1⟩ : Fin 8)
    | ⟨1, _⟩ => (⟨(β 0).val, h0⟩ : Fin 32), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega
  · show 0 = (β 2).val
    omega

/-- The kernel's result is every head's keys. -/
theorem value (c : Dev nD) : (dats m 0 c).arrAt (7 : Fin 8) cfg0.N = plain (latent m c) (weights m c) (common m c) (gain m c) (cosine m c) (sine m c) := by
  refine Pipeline.Dat.arrAt_eq_of_covers (dat := dats m 0 c) (7 : Fin 8) (plain (latent m c) (weights m c) (common m c) (gain m c) (cosine m c) (sine m c)) cover fun t _ y => ?_
  show (dats m 0 c).after (7 : Fin 8) t _ = _
  rw [after0_7]
  have h0 : (y 0).val < 1 := (y 0).isLt
  have h1 : (y 1).val < 1024 := (y 1).isLt
  have h2 : (y 2).val < 192 := (y 2).isLt
  refine Eq.trans (congrArg (out0_7 (iblk m c 0 t) (iblk m c 1 t) (iblk m c 2 t) (iblk m c 3 t) (iblk m c 4 t) (iblk m c 5 t) (iblk m c 6 t) : S1x1024x192.Idx → EReal)
    (a₂ := ix3 0 ⟨(y 1).val, h1⟩ ⟨(y 2).val, h2⟩) (funext fun a => Fin.ext (by
      fin_cases a
      · show (y 0).val = 0; omega
      · rfl
      · rfl))) ((point m c t _ _).trans ?_)
  refine congrArg (plain (latent m c) (weights m c) (common m c) (gain m c) (cosine m c) (sine m c)) (funext fun a => Fin.ext ?_)
  have g0 : (grid0.coords t 0).val < 8 := (grid0.coords t 0).isLt
  have g1 : (grid0.coords t 1).val < 32 := (grid0.coords t 1).isLt
  fin_cases a
  · show (grid0.coords t 1).val = (BitVec.ofNat 32 (grid0.coords t 1).val).toNat * 1 + 1 * (y 0).val
    rw [BitVec.toNat_ofNat]; omega
  · show 1024 * (grid0.coords t 0).val + (y 1).val = (BitVec.ofNat 32 (grid0.coords t 0).val).toNat * 1024 + 1 * (y 1).val
    rw [BitVec.toNat_ofNat]; omega
  · show (y 2).val = 0 * 192 + 1 * (y 2).val
    omega

end Cert.Kernel12Ideal.KeyBuild

end
-- ==== Proof.QueryBuildRef.lean ====
module

public import proofs.«01_k».proof.Proof.QueryBuildMath
public import proofs.«01_k».proof.Proof.Gen.Reference11Ideal
public import Idealize.ShloMosaic.Lib.Pipeline.Value
public import Idealize.ShloMosaic.Lib.StackMember
public import Idealize.ShloMosaic.Lib.IdealHost

@[expose] public section

/-!
# The reference's queries, head by head
-/

set_option maxRecDepth 16384

noncomputable section

namespace Cert.Reference11Ideal.QueryBuild

open Cert.Reference11Ideal Cert.Reference11Ideal.Gen
open Idealize.ShloMosaic Idealize.ShloMosaic.TcCoe
open Cert.Kernel11Ideal.QueryBuild (plain head turned normed product eps share)
open Idealize.ShloMosaic.ValueIdx (ix1 ix2 ix3)

/-- The product, by head. -/
def whole (q : FVec Ideal S8192x1024 .bf16) (w : FVec Ideal S1024x6144 .f32) : FVec Ideal S8192x32x192 .f32 :=
  shapeCast S8192x32x192 (Host.dotGeneral dot_S8192x1024_S1024x6144_S8192x6144_1_0_0_1_n_n none (extf .f32 q bitsLt_bf16_f32) w) shapeCasts_S8192x6144_S8192x32x192

theorem whole_apply (q : FVec Ideal S8192x1024 .bf16) (w : FVec Ideal S1024x6144 .f32) (a : Fin 8192) (h : Fin 32) (d : Fin 192) :
    (whole q w : S8192x32x192.Idx → EReal) (ix3 a h d) = product q w a h d := by
  refine (shapeCast_apply _ _ _ (ix2 a ⟨192 * h.val + d.val, by omega⟩) ?_).trans ?_
  · rw [Shape.rowMajor_val_two, Shape.rowMajor_val_three]
    show a.val * 6144 + (192 * h.val + d.val) = (a.val * 32 + h.val) * 192 + d.val
    omega
  · exact StackMember.dotGeneral_plain_apply (m := 8192) (n := 6144) (k := 1024) (φ₁ := .f32) (φ₂ := .f32) none (fun i => q i) w a _

def squares (x : FVec Ideal S8192x32x192 .f32) : FVec Ideal S8192x32 .f32 :=
  Host.reduceAdd (mulf x x) (constant S_ .f32 0x00000000#32) reducesTo_S8192x32x192_S8192x32_d2 h_S_

theorem squares_apply (x : FVec Ideal S8192x32x192 .f32) (a : Fin 8192) (h : Fin 32) :
    (squares x : S8192x32.Idx → EReal) (ix2 a h) = ∑ k : Fin 192, x (ix3 a h k) * x (ix3 a h k) := by
  have hR : Shape.Reduces S8192x32x192 [2] S8192x32 := by decide
  refine (ValueIdx.hostReduceAdd_apply (mulf x x) _ reducesTo_S8192x32x192_S8192x32_d2 h_S_ (ix2 a h)).trans ?_
  refine (Ideal.hostReduceAdd_single reducesTo_S8192x32x192_S8192x32_d2 hR (mulf x x) _ (ix2 a h)).trans ?_
  refine (congrArg (· + _) (Ideal.ofBits_zero_f32)).trans ((zero_add _).trans (Finset.sum_congr rfl fun k _ => ?_))
  have e : hR.lift (ix2 a h) k = ix3 a h k := by funext b; fin_cases b <;> rfl
  rw [e]; rfl

def factor (x : FVec Ideal S8192x32x192 .f32) : FVec Ideal S8192x32x1 .f32 :=
  Host.rsqrt (addf (Host.divf (broadcastInDim S8192x32x1 ![0, 1] bcast_S8192x32_S8192x32x1_0_1 (squares x))
    (broadcastInDim S8192x32x1 ![] bcast_S_S8192x32x1 (constant S_ .f32 0x43400000#32))) (broadcastInDim S8192x32x1 ![] bcast_S_S8192x32x1 (constant S_ .f32 0x358637BD#32)))

/-- The rows normalized. -/
def norm (x : FVec Ideal S8192x32x192 .f32) (g : FVec Ideal S192 .f32) : FVec Ideal S8192x32x192 .f32 :=
  mulf (mulf x (broadcastInDim S8192x32x192 ![0, 1, 2] bcast_S8192x32x1_S8192x32x192_0_1_2 (factor x)))
    (broadcastInDim S8192x32x192 ![0, 1, 2] bcast_S1x1x192_S8192x32x192_0_1_2 (broadcastInDim S1x1x192 ![2] bcast_S192_S1x1x192_2 g))

theorem norm_apply (x : FVec Ideal S8192x32x192 .f32) (g : FVec Ideal S192 .f32) (a : Fin 8192) (h : Fin 32) (d : Fin 192) :
    (norm x g : S8192x32x192.Idx → EReal) (ix3 a h d) = normed (fun k => x (ix3 a h k)) (fun k => g (ix1 k)) d := by
  unfold norm normed
  show x (ix3 a h d) * (broadcastInDim S8192x32x192 ![0, 1, 2] bcast_S8192x32x1_S8192x32x192_0_1_2 (factor x) (ix3 a h d))
    * (broadcastInDim S8192x32x192 ![0, 1, 2] bcast_S1x1x192_S8192x32x192_0_1_2 (broadcastInDim S1x1x192 ![2] bcast_S192_S1x1x192_2 g) (ix3 a h d)) = _
  rw [broadcastInDim_apply _ _ (factor x) _ (ix3 a h 0) (fun b => by fin_cases b <;> rfl),
    broadcastInDim_apply _ _ (broadcastInDim S1x1x192 ![2] bcast_S192_S1x1x192_2 g) _ (ix3 0 0 d) (fun b => by fin_cases b <;> rfl),
    broadcastInDim_apply _ _ g _ (ix1 d) (fun b => by fin_cases b; rfl)]
  show x (ix3 a h d) * Cert.Kernel11Ideal.QueryBuild.factor (broadcastInDim S8192x32x1 ![0, 1] bcast_S8192x32_S8192x32x1_0_1 (squares x) (ix3 a h 0)) * g (ix1 d) = _
  rw [broadcastInDim_apply _ _ (squares x) _ (ix2 a h) (fun b => by fin_cases b <;> rfl), squares_apply]
  rfl

/-- A table over the heads. -/
def over (c : FVec Ideal S8192x32 .f32) : FVec Ideal S8192x32x32 .f32 :=
  broadcastInDim S8192x32x32 ![0, 1, 2] bcast_S8192x1x32_S8192x32x32_0_1_2 (broadcastInDim S8192x1x32 ![0, 2] bcast_S8192x32_S8192x1x32_0_2 c)

theorem over_apply (c : FVec Ideal S8192x32 .f32) (a : Fin 8192) (h j : Fin 32) : (over c : S8192x32x32.Idx → EReal) (ix3 a h j) = c (ix2 a j) := by
  unfold over
  rw [broadcastInDim_apply _ _ (broadcastInDim S8192x1x32 ![0, 2] bcast_S8192x32_S8192x1x32_0_2 c) _ (ix3 a 0 j) (fun b => by fin_cases b <;> rfl),
    broadcastInDim_apply _ _ c _ (ix2 a j) (fun b => by fin_cases b <;> rfl)]

def first (n : FVec Ideal S8192x32x192 .f32) : FVec Ideal S8192x32x32 .f32 := extractStridedSlice S8192x32x32 ![0, 0, 128] n slices_S8192x32x192_S8192x32x32_0_0_128
def second (n : FVec Ideal S8192x32x192 .f32) : FVec Ideal S8192x32x32 .f32 := extractStridedSlice S8192x32x32 ![0, 0, 160] n slices_S8192x32x192_S8192x32x32_0_0_160
def front (n : FVec Ideal S8192x32x192 .f32) : FVec Ideal S8192x32x128 .f32 := extractStridedSlice S8192x32x128 ![0, 0, 0] n slices_S8192x32x192_S8192x32x128_0_0_0

theorem first_apply (n : FVec Ideal S8192x32x192 .f32) (a : Fin 8192) (h j : Fin 32) : (first n : S8192x32x32.Idx → EReal) (ix3 a h j) = n (ix3 a h ⟨128 + j.val, by omega⟩) :=
  extractStridedSlice_apply _ _ _ _ _ (fun b => by
    fin_cases b
    · show a.val = 0 + a.val; omega
    · show h.val = 0 + h.val; omega
    · rfl)
theorem second_apply (n : FVec Ideal S8192x32x192 .f32) (a : Fin 8192) (h j : Fin 32) : (second n : S8192x32x32.Idx → EReal) (ix3 a h j) = n (ix3 a h ⟨160 + j.val, by omega⟩) :=
  extractStridedSlice_apply _ _ _ _ _ (fun b => by
    fin_cases b
    · show a.val = 0 + a.val; omega
    · show h.val = 0 + h.val; omega
    · rfl)
theorem front_apply (n : FVec Ideal S8192x32x192 .f32) (a : Fin 8192) (h : Fin 32) (j : Fin 128) : (front n : S8192x32x128.Idx → EReal) (ix3 a h j) = n (ix3 a h ⟨j.val, by omega⟩) :=
  extractStridedSlice_apply _ _ _ _ _ (fun b => by
    fin_cases b
    · show a.val = 0 + a.val; omega
    · show h.val = 0 + h.val; omega
    · show j.val = 0 + j.val; omega)

/-- The last 64 lanes turned. -/
def turn (n : FVec Ideal S8192x32x192 .f32) (c s : FVec Ideal S8192x32 .f32) : FVec Ideal S8192x32x192 .f32 :=
  concatenate S8192x32x192 2 [⟨S8192x32x128, front n⟩, ⟨S8192x32x32, subf (mulf (first n) (over c)) (mulf (second n) (over s))⟩,
    ⟨S8192x32x32, addf (mulf (first n) (over s)) (mulf (second n) (over c))⟩] concatenates_S8192x32x128_S8192x32x32_S8192x32x32_S8192x32x192_d2

theorem turn_apply (n : FVec Ideal S8192x32x192 .f32) (c s : FVec Ideal S8192x32 .f32) (a : Fin 8192) (h : Fin 32) (d : Fin 192) :
    (turn n c s : S8192x32x192.Idx → EReal) (ix3 a h d) = turned (fun k => n (ix3 a h k)) (fun j => c (ix2 a j)) (fun j => s (ix2 a j)) d := by
  unfold turn turned
  by_cases h1 : d.val < 128
  · rw [if_pos h1]
    exact (concatenate_apply_piece (t := S8192x32x192) 2 _ _ (ix3 a h d) 0 (by simp) S8192x32x128 (front n) rfl rfl 0 rfl (ix3 a h ⟨d.val, h1⟩)
      (fun b hb => by fin_cases b; exacts [rfl, rfl, absurd rfl hb]) (by show 0 + d.val = d.val; omega)).trans (front_apply n a h _)
  · rw [if_neg h1]
    by_cases h2 : d.val < 160
    · rw [dif_pos h2]
      refine (concatenate_apply_piece (t := S8192x32x192) 2 _ _ (ix3 a h d) 1 (by simp) S8192x32x32 _ rfl rfl 128 rfl (ix3 a h ⟨d.val - 128, by omega⟩)
        (fun b hb => by fin_cases b; exacts [rfl, rfl, absurd rfl hb]) (by show 128 + (d.val - 128) = d.val; omega)).trans ?_
      show (first n : S8192x32x32.Idx → EReal) (ix3 a h _) * (over c : S8192x32x32.Idx → EReal) (ix3 a h _) - (second n : S8192x32x32.Idx → EReal) (ix3 a h _) * (over s : S8192x32x32.Idx → EReal) (ix3 a h _) = _
      rw [first_apply, second_apply, over_apply, over_apply]
      have e : 128 + (d.val - 128) = d.val := by omega
      have e' : 160 + (d.val - 128) = d.val + 32 := by omega
      simp only [e, e']
    · rw [dif_neg h2]
      refine (concatenate_apply_piece (t := S8192x32x192) 2 _ _ (ix3 a h d) 2 (by simp) S8192x32x32 _ rfl rfl 160 rfl (ix3 a h ⟨d.val - 160, by omega⟩)
        (fun b hb => by fin_cases b; exacts [rfl, rfl, absurd rfl hb]) (by show 160 + (d.val - 160) = d.val; omega)).trans ?_
      show (first n : S8192x32x32.Idx → EReal) (ix3 a h _) * (over s : S8192x32x32.Idx → EReal) (ix3 a h _) + (second n : S8192x32x32.Idx → EReal) (ix3 a h _) * (over c : S8192x32x32.Idx → EReal) (ix3 a h _) = _
      rw [first_apply, second_apply, over_apply, over_apply]
      have e : 128 + (d.val - 160) = d.val - 32 := by omega
      have e' : 160 + (d.val - 160) = d.val := by omega
      simp only [e, e']

/-- The queries, heads first, scaled. -/
def queries (q : FVec Ideal S8192x1024 .bf16) (w : FVec Ideal S1024x6144 .f32) (g : FVec Ideal S192 .f32) (c s : FVec Ideal S8192x32 .f32) : FVec Ideal S32x8192x192 .bf16 :=
  truncf .bf16 (mulf (transpose S32x8192x192 [1, 0, 2] (turn (norm (whole q w) g) c s) transposes_S8192x32x192_S32x8192x192_1_0_2)
    (broadcastInDim S32x8192x192 ![] bcast_S_S32x8192x192 (constant S_ .f32 0x3D93CD3A#32))) bitsLt_bf16_f32

/-- The reference's result is the same. -/
theorem value (q : FVec Ideal S8192x1024 .bf16) (w : FVec Ideal S1024x6144 .f32) (g : FVec Ideal S192 .f32) (c s : FVec Ideal S8192x32 .f32) :
    (queries q w g c s : S32x8192x192.Idx → EReal) = plain q w g c s := by
  funext i
  obtain ⟨h, a, d, rfl⟩ : ∃ (h : Fin 32) (a : Fin 8192) (d : Fin 192), i = ix3 h a d := ⟨i 0, i 1, i 2, funext fun x => by fin_cases x <;> rfl⟩
  show (transpose S32x8192x192 [1, 0, 2] (turn (norm (whole q w) g) c s) transposes_S8192x32x192_S32x8192x192_1_0_2 : S32x8192x192.Idx → EReal) (ix3 h a d) * share = _
  rw [transpose_apply _ _ _ _ (ix3 a h d) (fun b => by fin_cases b <;> rfl), turn_apply]
  simp only [norm_apply, whole_apply]
  rfl

end Cert.Reference11Ideal.QueryBuild

end
-- ==== Proof.KeyBuildRef.lean ====
module

public import proofs.«01_k».proof.Proof.KeyBuild
public import proofs.«01_k».proof.Proof.QueryBuildRef
public import proofs.«01_k».proof.Proof.Gen.Reference12Ideal

@[expose] public section

/-!
# The reference's keys, head by head
-/

set_option maxRecDepth 16384

noncomputable section

namespace Cert.Reference12Ideal.KeyBuild

open Cert.Reference12Ideal Cert.Reference12Ideal.Gen
open Idealize.ShloMosaic Idealize.ShloMosaic.TcCoe
open Cert.Kernel11Ideal.QueryBuild (head)
open Cert.Kernel12Ideal.KeyBuild (plain product)
open Cert.Reference11Ideal.QueryBuild (norm norm_apply turn turn_apply)
open Idealize.ShloMosaic.ValueIdx (ix1 ix2 ix3)

/-- Each head's own lanes. -/
def own (u : FVec Ideal S8192x512 .bf16) (w : FVec Ideal S512x4096 .f32) : FVec Ideal S8192x32x128 .f32 :=
  shapeCast S8192x32x128 (Host.dotGeneral dot_S8192x512_S512x4096_S8192x4096_1_0_0_1_n_n none (extf .f32 u bitsLt_bf16_f32) w) shapeCasts_S8192x4096_S8192x32x128

theorem own_apply (u : FVec Ideal S8192x512 .bf16) (w : FVec Ideal S512x4096 .f32) (a : Fin 8192) (h : Fin 32) (d : Fin 128) :
    (own u w : S8192x32x128.Idx → EReal) (ix3 a h d) = ∑ k : Fin 512, (u (ix2 a k) : EReal) * w (ix2 k ⟨128 * h.val + d.val, by omega⟩) := by
  refine (shapeCast_apply _ _ _ (ix2 a ⟨128 * h.val + d.val, by omega⟩) ?_).trans ?_
  · rw [Shape.rowMajor_val_two, Shape.rowMajor_val_three]
    show a.val * 4096 + (128 * h.val + d.val) = (a.val * 32 + h.val) * 128 + d.val
    omega
  · exact StackMember.dotGeneral_plain_apply (m := 8192) (n := 4096) (k := 512) (φ₁ := .f32) (φ₂ := .f32) none (fun i => u i) w a _

/-- The lanes all heads share. -/
def shared (r : FVec Ideal S8192x64 .f32) : FVec Ideal S8192x32x64 .f32 :=
  broadcastInDim S8192x32x64 ![0, 1, 2] bcast_S8192x1x64_S8192x32x64_0_1_2 (broadcastInDim S8192x1x64 ![0, 2] bcast_S8192x64_S8192x1x64_0_2 r)

theorem shared_apply (r : FVec Ideal S8192x64 .f32) (a : Fin 8192) (h : Fin 32) (j : Fin 64) : (shared r : S8192x32x64.Idx → EReal) (ix3 a h j) = r (ix2 a j) := by
  unfold shared
  rw [broadcastInDim_apply _ _ (broadcastInDim S8192x1x64 ![0, 2] bcast_S8192x64_S8192x1x64_0_2 r) _ (ix3 a 0 j) (fun b => by fin_cases b <;> rfl),
    broadcastInDim_apply _ _ r _ (ix2 a j) (fun b => by fin_cases b <;> rfl)]

def whole (u : FVec Ideal S8192x512 .bf16) (w : FVec Ideal S512x4096 .f32) (r : FVec Ideal S8192x64 .f32) : FVec Ideal S8192x32x192 .f32 :=
  concatenate S8192x32x192 2 [⟨S8192x32x128, own u w⟩, ⟨S8192x32x64, shared r⟩] concatenates_S8192x32x128_S8192x32x64_S8192x32x192_d2

theorem whole_apply (u : FVec Ideal S8192x512 .bf16) (w : FVec Ideal S512x4096 .f32) (r : FVec Ideal S8192x64 .f32) (a : Fin 8192) (h : Fin 32) (d : Fin 192) :
    (whole u w r : S8192x32x192.Idx → EReal) (ix3 a h d) = product u w r a h d := by
  unfold whole product
  by_cases hd : d.val < 128
  · rw [dif_pos hd]
    exact (concatenate_pair_apply_left (t := S8192x32x192) 2 (own u w) (shared r) _ _ rfl (ix3 a h ⟨d.val, hd⟩) (fun b => by fin_cases b <;> rfl)).trans (own_apply u w a h _)
  · rw [dif_neg hd]
    exact (concatenate_pair_apply_right (t := S8192x32x192) 2 (own u w) (shared r) _ _ rfl rfl (ix3 a h ⟨d.val - 128, by omega⟩)
      (fun b hb => by fin_cases b; exacts [rfl, rfl, absurd rfl hb]) (by show d.val - 128 + 128 = d.val; omega)).trans (shared_apply r a h _)

/-- The keys, heads first. -/
def keys (u : FVec Ideal S8192x512 .bf16) (w : FVec Ideal S512x4096 .f32) (r : FVec Ideal S8192x64 .f32) (g : FVec Ideal S192 .f32) (c s : FVec Ideal S8192x32 .f32) : FVec Ideal S32x8192x192 .bf16 :=
  truncf .bf16 (transpose S32x8192x192 [1, 0, 2] (turn (norm (whole u w r) g) c s) transposes_S8192x32x192_S32x8192x192_1_0_2) bitsLt_bf16_f32

/-- The reference's result is the same. -/
theorem value (u : FVec Ideal S8192x512 .bf16) (w : FVec Ideal S512x4096 .f32) (r : FVec Ideal S8192x64 .f32) (g : FVec Ideal S192 .f32) (c s : FVec Ideal S8192x32 .f32) :
    (keys u w r g c s : S32x8192x192.Idx → EReal) = plain u w r g c s := by
  funext i
  obtain ⟨h, a, d, rfl⟩ : ∃ (h : Fin 32) (a : Fin 8192) (d : Fin 192), i = ix3 h a d := ⟨i 0, i 1, i 2, funext fun x => by fin_cases x <;> rfl⟩
  show (transpose S32x8192x192 [1, 0, 2] (turn (norm (whole u w r) g) c s) transposes_S8192x32x192_S32x8192x192_1_0_2 : S32x8192x192.Idx → EReal) (ix3 h a d) = head 1 _ _ _ _ _
  rw [transpose_apply _ _ _ _ (ix3 a h d) (fun b => by fin_cases b <;> rfl), turn_apply]
  simp only [norm_apply, whole_apply]
  unfold head
  rw [mul_one]

end Cert.Reference12Ideal.KeyBuild

end
-- ==== Proof.QueryBuildSame.lean ====
module

public import proofs.«01_k».proof.Defs
public import proofs.«01_k».proof.Proof.Gen.Kernel11
public import proofs.«01_k».proof.Proof.Gen.Kernel11Ideal

@[expose] public section

/-!
# The two prints of the heads' queries at the float words

The named constant read as its word, the two agree in their body table and in their host program.
-/

noncomputable section

namespace Cert.Kernel11Ideal.QueryBuild

open Idealize.ShloMosaic Idealize.ShloMosaic.TcCoe

/-- A named constant as the word it is printed with. -/
@[reducible] def asWord : Named Bits where
  named _ _ {φ} w := FloatOps.ofBits φ w

attribute [local instance] asWord

theorem same_sig : Cert.Kernel11.sig = Cert.Kernel11Ideal.sig := rfl
theorem same_labels : Cert.Kernel11.Λ₀ = Cert.Kernel11Ideal.Λ₀ := rfl
theorem same_contents : (fun p => (Cert.Kernel11.pcfgs (F := Bits) p).Adm) = (fun p => (Cert.Kernel11Ideal.pcfgs (F := Bits) p).Adm) := rfl

theorem same_table : Cert.Kernel11.defs₀ (F := Bits) = Cert.Kernel11Ideal.defs₀ (F := Bits) := by
  unfold Cert.Kernel11.defs₀ Cert.Kernel11Ideal.defs₀
  refine congrArg Defs.onTc ?_
  funext l a
  match l, a with
  | 0, (t, s) => rfl

theorem same_defs : Cert.Kernel11.defs (F := Bits) = Cert.Kernel11Ideal.defs (F := Bits) := by
  unfold Cert.Kernel11.defs Cert.Kernel11Ideal.defs
  rw [same_table]; rfl

set_option maxHeartbeats 2000000 in
theorem same_main : Cert.Kernel11.main (F := Bits) = Cert.Kernel11Ideal.main (F := Bits) := by
  unfold Cert.Kernel11.main Cert.Kernel11Ideal.main
  dsimp only [same_sig, same_labels, same_contents]
  rfl

end Cert.Kernel11Ideal.QueryBuild
-- ==== Proof.KeyBuildSame.lean ====
module

public import proofs.«01_k».proof.Defs
public import proofs.«01_k».proof.Proof.Gen.Kernel12
public import proofs.«01_k».proof.Proof.Gen.Kernel12Ideal

@[expose] public section

/-!
# The two prints of the heads' keys at the float words

The named constant read as its word, the two agree in their body table and in their host program.
-/

noncomputable section

namespace Cert.Kernel12Ideal.KeyBuild

open Idealize.ShloMosaic Idealize.ShloMosaic.TcCoe

/-- A named constant as the word it is printed with. -/
@[reducible] def asWord : Named Bits where
  named _ _ {φ} w := FloatOps.ofBits φ w

attribute [local instance] asWord

theorem same_sig : Cert.Kernel12.sig = Cert.Kernel12Ideal.sig := rfl
theorem same_labels : Cert.Kernel12.Λ₀ = Cert.Kernel12Ideal.Λ₀ := rfl
theorem same_contents : (fun p => (Cert.Kernel12.pcfgs (F := Bits) p).Adm) = (fun p => (Cert.Kernel12Ideal.pcfgs (F := Bits) p).Adm) := rfl

theorem same_table : Cert.Kernel12.defs₀ (F := Bits) = Cert.Kernel12Ideal.defs₀ (F := Bits) := by
  unfold Cert.Kernel12.defs₀ Cert.Kernel12Ideal.defs₀
  refine congrArg Defs.onTc ?_
  funext l a
  match l, a with
  | 0, (t, s) => rfl

theorem same_defs : Cert.Kernel12.defs (F := Bits) = Cert.Kernel12Ideal.defs (F := Bits) := by
  unfold Cert.Kernel12.defs Cert.Kernel12Ideal.defs
  rw [same_table]; rfl

set_option maxHeartbeats 2000000 in
theorem same_main : Cert.Kernel12.main (F := Bits) = Cert.Kernel12Ideal.main (F := Bits) := by
  unfold Cert.Kernel12.main Cert.Kernel12Ideal.main
  dsimp only [same_sig, same_labels, same_contents]
  rfl

end Cert.Kernel12Ideal.KeyBuild
-- ==== Proof.LatentProj.lean ====
module

public import proofs.«01_k».proof.Proof.Gen.Kernel9Ideal.Value
public import proofs.«01_k».proof.Proof.Gen.Reference9Ideal
public import Idealize.ShloMosaic.Lib.Pipeline.Covers
public import Idealize.ShloMosaic.Lib.MatmulPlain
public import Idealize.ShloMosaic.Lib.StackMember
public import Idealize.ShloMosaic.Lib.IdealHost

@[expose] public section

/-!
# The shared latent is the plain product, its rows normalized

A point is a block of 1024 rows with all the columns, so a row's norm is taken within its point.
-/

set_option maxRecDepth 16384

noncomputable section

namespace Cert.Kernel9Ideal.LatentProj

open Cert.Kernel9Ideal Cert.Kernel9Ideal.Gen
open Idealize.ShloMosaic Idealize.ShloMosaic.TcCoe
open Idealize.ShloMosaic.Pipeline (Dat Cfg Window)
open Idealize.ShloMosaic.ValueIdx (ix1 ix2)

variable (m : (ℓ : Loc nD τ sig) → Buf (Elt Ideal) ℓ)

abbrev acts (c : Dev nD) : S8192x4096.Idx → EReal := m ((c : Thread nD τ).loc main_arg0)
abbrev weights (c : Dev nD) : S4096x512.Idx → EReal := m ((c : Thread nD τ).loc main_arg1)
abbrev gain (c : Dev nD) : S512.Idx → EReal := m ((c : Thread nD τ).loc main_arg2)

/-- The factor that normalizes a row whose squares sum to `q`. -/
def scale (q : EReal) : EReal :=
  Ideal.rsqrt (Ideal.div q (Ideal.ofBits .f32 0x44000000#32) + Ideal.ofBits .f32 0x358637BD#32)

/-- A normalized row, weighted. -/
def normed (x g : Fin 512 → EReal) (d : Fin 512) : EReal := x d * scale (∑ k, x k * x k) * g d

/-- The plain product. -/
def product (h : S8192x4096.Idx → EReal) (w : S4096x512.Idx → EReal) (a : Fin 8192) (b : Fin 512) : EReal :=
  ∑ k : Fin 4096, h (ix2 a k) * w (ix2 k b)

/-- The plain product, its rows normalized. -/
def plain (h : S8192x4096.Idx → EReal) (w : S4096x512.Idx → EReal) (g : S512.Idx → EReal) : S8192x512.Idx → EReal :=
  fun i => normed (product h w (i 0)) (fun j => g (ix1 j)) (i 1)

def row (t : Fin grid0.N) (r : Fin 1024) : Fin 8192 :=
  ⟨1024 * (grid0.coords t 0).val + r.val, by have : (grid0.coords t 0).val < 8 := (grid0.coords t 0).isLt; omega⟩

theorem V_v0 (c : Dev nD) : V m c main_v0 = (truncf .bf16 (m ((c : Thread nD τ).loc main_arg1)) bitsLt_bf16_f32 : FVec Ideal S4096x512 .bf16) := by
  unfold V; simp only [hostOps0, List.flatten_cons, List.flatten_nil, List.cons_append, List.nil_append, List.append_nil]; after_results

theorem V_v1 (c : Dev nD) : V m c main_v1 = (shapeCast S1x512 (gain m c) shapeCasts_S512_S1x512 : S1x512.Idx → EReal) := by
  unfold V; simp only [hostOps0, List.flatten_cons, List.flatten_nil, List.cons_append, List.nil_append, List.append_nil]; after_results; try rfl

theorem blk0 (c : Dev nD) (t : Fin cfg0.N) (r : Fin 1024) (k : Fin 4096) :
    (iblk m c 0 t : S1024x4096.Idx → EReal) (ix2 r k) = acts m c (ix2 (row t r) k) := by
  show (V m c main_arg0 : S8192x4096.Idx → EReal) _ = _
  rw [V_main_arg0]
  refine congrArg (acts m c) (funext fun a => Fin.ext ?_)
  have h0 : (grid0.coords t 0).val < 8 := (grid0.coords t 0).isLt
  have h2 : (grid0.coords t 2).val < 1 := (grid0.coords t 2).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 2).val).toNat * 4096 + 1 * k.val = k.val
    rw [BitVec.toNat_ofNat]; omega

theorem blk1 (c : Dev nD) (t : Fin cfg0.N) (k : Fin 4096) (j : Fin 512) :
    (iblk m c 1 t : S4096x512.Idx → EReal) (ix2 k j) = weights m c (ix2 k j) := by
  have h : (iblk m c 1 t : S4096x512.Idx → EReal) (ix2 k j) = (V m c main_v0 : S4096x512.Idx → EReal) (ix2 k j) := by
    show (V m c main_v0 : S4096x512.Idx → EReal) _ = _
    refine congrArg (V m c main_v0 : S4096x512.Idx → EReal) (funext fun a => Fin.ext ?_)
    have h1 : (grid0.coords t 1).val < 1 := (grid0.coords t 1).isLt
    have h2 : (grid0.coords t 2).val < 1 := (grid0.coords t 2).isLt
    fin_cases a
    · show (BitVec.ofNat 32 (grid0.coords t 2).val).toNat * 4096 + 1 * k.val = k.val
      rw [BitVec.toNat_ofNat]; omega
    · show (BitVec.ofNat 32 (grid0.coords t 1).val).toNat * 512 + 1 * j.val = j.val
      rw [BitVec.toNat_ofNat]; omega
  exact h.trans (congrFun (V_v0 m c) _)

theorem blk2 (c : Dev nD) (t : Fin cfg0.N) (j : Fin 512) :
    (iblk m c 2 t : S1x512.Idx → EReal) (ix2 (0 : Fin 1) j) = gain m c (ix1 j) := by
  have h : (iblk m c 2 t : S1x512.Idx → EReal) (ix2 (0 : Fin 1) j) = (V m c main_v1 : S1x512.Idx → EReal) (ix2 (0 : Fin 1) j) := by
    show (V m c main_v1 : S1x512.Idx → EReal) _ = _
    refine congrArg (V m c main_v1 : S1x512.Idx → EReal) (funext fun a => Fin.ext ?_)
    have h1 : (grid0.coords t 1).val < 1 := (grid0.coords t 1).isLt
    fin_cases a
    · rfl
    · show (BitVec.ofNat 32 (grid0.coords t 1).val).toNat * 512 + 1 * j.val = j.val
      rw [BitVec.toNat_ofNat]; omega
  refine h.trans ((congrFun (V_v1 m c) _).trans (shapeCast_apply _ _ _ _ ?_))
  rw [Shape.rowMajor_val_one, Shape.rowMajor_val_two]
  show j.val = 0 * 512 + j.val
  omega

theorem no_offset : (![0, 0] : Fin 2 → ℕ) = fun _ => 0 := by funext a; fin_cases a <;> rfl

theorem left (x0 : Vec Ideal S1024x4096 .bf16) (x1 : Vec Ideal S4096x512 .bf16) (x2 : Vec Ideal S1x512 .f32) : out0_3 x0 x1 x2 = k0_pay1 x0 x1 x2 := by
  unfold out0_3
  rw [View.canon_unit_zero no_offset, View.ld_unit_zero no_offset, View.ld_unit_zero no_offset, View.ld_unit_zero no_offset]

theorem same (x : FVec Ideal S4096x512 .bf16) : shapeCast S4096x512 x shapeCasts_S4096x512_S4096x512 = x := by
  funext i; exact shapeCast_apply _ _ _ _ rfl
theorem same_gain (x : FVec Ideal S1x512 .f32) : shapeCast S1x512 x shapeCasts_S1x512_S1x512 = x := by
  funext i; exact shapeCast_apply _ _ _ _ rfl

/-! ## A point's norm -/

/-- The sum of each row's squares. -/
def squares (x : FVec Ideal S1024x512 .f32) : FVec Ideal S1024 .f32 :=
  multiReduction .add [1] S1024 (mulf x x) 0x00000000#32 reduces_S1024x512_S1024 (.inl rfl) rfl

theorem squares_apply (x : FVec Ideal S1024x512 .f32) (p : Fin 1024) : squares x (ix1 p) = ∑ k : Fin 512, x (ix2 p k) * x (ix2 p k) := by
  refine (Ideal.multiReduction_add_single (mulf x x) 0x00000000#32 reduces_S1024x512_S1024 (.inl rfl) rfl (ix1 p)).trans ?_
  refine Finset.sum_congr rfl fun k _ => ?_
  have h : reduces_S1024x512_S1024.lift (ix1 p) k = ix2 p k := by funext a; fin_cases a <;> rfl
  rw [h]; rfl

/-- The rows' normalizing factors. -/
def factor (x : FVec Ideal S1024x512 .f32) : FVec Ideal S1024x1 .f32 :=
  rsqrt (addf (divf (shapeCast S1024x1 (squares x) shapeCasts_S1024_S1024x1)
    (broadcast S1024x1 (Scalar.ofBits .f32 0x44000000#32))) (broadcast S1024x1 (Scalar.ofBits .f32 0x358637BD#32)))

theorem factor_apply (x : FVec Ideal S1024x512 .f32) (p : Fin 1024) : factor x (ix2 p (0 : Fin 1)) = scale (∑ k : Fin 512, x (ix2 p k) * x (ix2 p k)) := by
  show scale (shapeCast S1024x1 (squares x) shapeCasts_S1024_S1024x1 (ix2 p (0 : Fin 1))) = _
  rw [shapeCast_apply (squares x) _ _ (ix1 p) (by
    rw [Shape.rowMajor_val_one, Shape.rowMajor_val_two]
    show p.val = p.val * 1 + 0
    omega), squares_apply]

/-- The normalized rows. -/
def tile (x : FVec Ideal S1024x512 .f32) (g : Vec Ideal S1x512 .f32) : FVec Ideal S1024x512 .f32 :=
  mulf (mulf x (broadcastTo S1024x512 (factor x) broadcasts_S1024x1_S1024x512)) (broadcastTo S1024x512 g broadcasts_S1x512_S1024x512)

theorem tile_apply (x : FVec Ideal S1024x512 .f32) (g : Vec Ideal S1x512 .f32) (p : Fin 1024) (d : Fin 512) :
    tile x g (ix2 p d) = normed (fun k => x (ix2 p k)) (fun k => g (ix2 (0 : Fin 1) k)) d := by
  unfold tile normed
  show x (ix2 p d) * (broadcastTo S1024x512 (factor x) broadcasts_S1024x1_S1024x512 (ix2 p d)) * (broadcastTo S1024x512 g broadcasts_S1x512_S1024x512 (ix2 p d)) = _
  rw [broadcastTo_apply (factor x) _ _ (ix2 p 0) (fun a => by fin_cases a <;> rfl), broadcastTo_apply g _ _ (ix2 0 d) (fun a => by fin_cases a <;> rfl), factor_apply]

/-- A point's product. -/
def dots (x0 : Vec Ideal S1024x4096 .bf16) (x1 : Vec Ideal S4096x512 .bf16) : FVec Ideal S1024x512 .f32 :=
  matmul (φ₁ := .bf16) (φ₂ := .bf16) dot_S1024x4096_S4096x512_S1024x512_1_0_0_1_n_n none x0 x1 (constant S1024x512 .f32 0x00000000#32)

theorem dots_apply (x0 : Vec Ideal S1024x4096 .bf16) (x1 : Vec Ideal S4096x512 .bf16) (r : Fin 1024) (j : Fin 512) :
    (dots x0 x1 : S1024x512.Idx → EReal) (ix2 r j) = ∑ k : Fin 4096, (x0 (ix2 r k) : EReal) * x1 (ix2 k j) := by
  refine (Ideal.matmul_plain_apply (φ₁ := .bf16) (φ₂ := .bf16) none x0 x1 (constant S1024x512 .f32 0x00000000#32) r j).trans ?_
  exact (congrArg (· + _) Ideal.ofBits_zero_f32).trans (zero_add _)

theorem pay_eq (x0 : Vec Ideal S1024x4096 .bf16) (x1 : Vec Ideal S4096x512 .bf16) (x2 : Vec Ideal S1x512 .f32) :
    (k0_pay1 x0 x1 x2 : S1024x512.Idx → EReal) = tile (dots x0 x1) x2 := by
  unfold k0_pay1
  rw [same, same_gain]
  rfl

theorem point (c : Dev nD) (t : Fin cfg0.N) (r : Fin 1024) (j : Fin 512) :
    (out0_3 (iblk m c 0 t) (iblk m c 1 t) (iblk m c 2 t) : S1024x512.Idx → EReal) (ix2 r j) = plain (acts m c) (weights m c) (gain m c) (ix2 (row t r) j) := by
  rw [left]
  refine (congrFun (pay_eq _ _ _) _).trans ((tile_apply _ _ r j).trans ?_)
  refine congrArg₂ (fun x g => normed x g j) (funext fun d => ?_) (funext fun d => blk2 m c t d)
  refine (dots_apply _ _ r d).trans (Finset.sum_congr rfl fun k _ => ?_)
  exact congrArg₂ (fun a b : EReal => a * b) (blk0 m c t r k) (blk1 m c t k d)

theorem cover : (cfg0.win (3 : Fin 4)).Covers := by
  refine Pipeline.Window.covers_of_indexMap_surj (cfg0.win (3 : Fin 4)) rfl (fun a => by
    fin_cases a
    · show 0 < 1024; decide
    · show 0 < 512; decide) fun β => ?_
  have h0 : (β 0).val < 8 := lt_of_lt_of_eq (β 0).isLt (show (8192 + 1024 - 1) / 1024 = 8 by decide)
  have h1 : (β 1).val < 1 := lt_of_lt_of_eq (β 1).isLt (show (512 + 512 - 1) / 512 = 1 by decide)
  refine ⟨fun a => match a with
    | ⟨0, _⟩ => (⟨(β 0).val, h0⟩ : Fin 8)
    | ⟨1, _⟩ => (⟨(β 1).val, h1⟩ : Fin 1)
    | ⟨2, _⟩ => (0 : Fin 1), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The kernel's result is the plain product, its rows normalized. -/
theorem value (c : Dev nD) : (dats m 0 c).arrAt (3 : Fin 4) cfg0.N = plain (acts m c) (weights m c) (gain m c) := by
  refine Pipeline.Dat.arrAt_eq_of_covers (dat := dats m 0 c) (3 : Fin 4) (plain (acts m c) (weights m c) (gain m c)) cover fun t _ y => ?_
  show (dats m 0 c).after (3 : Fin 4) t _ = _
  rw [after0_3]
  have h0 : (y 0).val < 1024 := (y 0).isLt
  have h1 : (y 1).val < 512 := (y 1).isLt
  refine Eq.trans (congrArg (out0_3 (iblk m c 0 t) (iblk m c 1 t) (iblk m c 2 t) : S1024x512.Idx → EReal) (a₂ := ix2 ⟨(y 0).val, h0⟩ ⟨(y 1).val, h1⟩) (funext fun a => by fin_cases a <;> rfl)) ((point m c t _ _).trans ?_)
  refine congrArg (plain (acts m c) (weights m c) (gain m c)) (funext fun a => Fin.ext ?_)
  have g0 : (grid0.coords t 0).val < 8 := (grid0.coords t 0).isLt
  have g1 : (grid0.coords t 1).val < 1 := (grid0.coords t 1).isLt
  fin_cases a
  · show 1024 * (grid0.coords t 0).val + (y 0).val = (BitVec.ofNat 32 (grid0.coords t 0).val).toNat * 1024 + 1 * (y 0).val
    rw [BitVec.toNat_ofNat]; omega
  · show (y 1).val = (BitVec.ofNat 32 (grid0.coords t 1).val).toNat * 512 + 1 * (y 1).val
    rw [BitVec.toNat_ofNat]; omega

end Cert.Kernel9Ideal.LatentProj

namespace Cert.Reference9Ideal.LatentProj

open Cert.Reference9Ideal Cert.Reference9Ideal.Gen
open Idealize.ShloMosaic Idealize.ShloMosaic.TcCoe
open Cert.Kernel9Ideal.LatentProj (plain scale normed product)
open Idealize.ShloMosaic.ValueIdx (ix1 ix2)

/-- The whole product. -/
def whole (h : FVec Ideal S8192x4096 .bf16) (w : FVec Ideal S4096x512 .f32) : FVec Ideal S8192x512 .f32 :=
  Host.dotGeneral dot_S8192x4096_S4096x512_S8192x512_1_0_0_1_n_n none (extf .f32 h bitsLt_bf16_f32) w

theorem whole_apply (h : FVec Ideal S8192x4096 .bf16) (w : FVec Ideal S4096x512 .f32) (a : Fin 8192) (b : Fin 512) : whole h w (ix2 a b) = product h w a b :=
  StackMember.dotGeneral_plain_apply (m := 8192) (n := 512) (k := 4096) (φ₁ := .f32) (φ₂ := .f32) none (fun i => h i) w a b

def squares (x : FVec Ideal S8192x512 .f32) : FVec Ideal S8192 .f32 :=
  Host.reduceAdd (mulf x x) (constant S_ .f32 0x00000000#32) reducesTo_S8192x512_S8192_d1 h_S_

theorem squares_apply (x : FVec Ideal S8192x512 .f32) (r : Fin 8192) : squares x (ix1 r) = ∑ k : Fin 512, x (ix2 r k) * x (ix2 r k) := by
  have hR : Shape.Reduces S8192x512 [1] S8192 := by decide
  refine (ValueIdx.hostReduceAdd_apply (mulf x x) _ reducesTo_S8192x512_S8192_d1 h_S_ (ix1 r)).trans ?_
  refine (Ideal.hostReduceAdd_single reducesTo_S8192x512_S8192_d1 hR (mulf x x) _ (ix1 r)).trans ?_
  refine (congrArg (· + _) (Ideal.ofBits_zero_f32)).trans ((zero_add _).trans (Finset.sum_congr rfl fun k _ => ?_))
  have h : hR.lift (ix1 r) k = ix2 r k := by funext a; fin_cases a <;> rfl
  rw [h]; rfl

def factor (x : FVec Ideal S8192x512 .f32) : FVec Ideal S8192x1 .f32 :=
  Host.rsqrt (addf (Host.divf (broadcastInDim S8192x1 ![0] bcast_S8192_S8192x1_0 (squares x))
    (broadcastInDim S8192x1 ![] bcast_S_S8192x1 (constant S_ .f32 0x44000000#32))) (broadcastInDim S8192x1 ![] bcast_S_S8192x1 (constant S_ .f32 0x358637BD#32)))

/-- The rows normalized. -/
def norm (x : FVec Ideal S8192x512 .f32) (g : FVec Ideal S512 .f32) : FVec Ideal S8192x512 .f32 :=
  mulf (mulf x (broadcastInDim S8192x512 ![0, 1] bcast_S8192x1_S8192x512_0_1 (factor x)))
    (broadcastInDim S8192x512 ![0, 1] bcast_S1x512_S8192x512_0_1 (broadcastInDim S1x512 ![1] bcast_S512_S1x512_1 g))

theorem norm_apply (x : FVec Ideal S8192x512 .f32) (g : FVec Ideal S512 .f32) (r : Fin 8192) (d : Fin 512) :
    norm x g (ix2 r d) = normed (fun k => x (ix2 r k)) (fun k => g (ix1 k)) d := by
  unfold norm normed
  show x (ix2 r d) * (broadcastInDim S8192x512 ![0, 1] bcast_S8192x1_S8192x512_0_1 (factor x) (ix2 r d))
    * (broadcastInDim S8192x512 ![0, 1] bcast_S1x512_S8192x512_0_1 (broadcastInDim S1x512 ![1] bcast_S512_S1x512_1 g) (ix2 r d)) = _
  rw [broadcastInDim_apply _ _ (factor x) _ (ix2 r 0) (fun a => by fin_cases a <;> rfl),
    broadcastInDim_apply _ _ (broadcastInDim S1x512 ![1] bcast_S512_S1x512_1 g) _ (ix2 0 d) (fun a => by fin_cases a <;> rfl),
    broadcastInDim_apply _ _ g _ (ix1 d) (fun a => by fin_cases a; rfl)]
  show x (ix2 r d) * scale (broadcastInDim S8192x1 ![0] bcast_S8192_S8192x1_0 (squares x) (ix2 r 0)) * g (ix1 d) = _
  rw [broadcastInDim_apply _ _ (squares x) _ (ix1 r) (fun a => by fin_cases a; rfl), squares_apply]

/-- The reference's result is the same. -/
theorem value (h : FVec Ideal S8192x4096 .bf16) (w : FVec Ideal S4096x512 .f32) (g : FVec Ideal S512 .f32) :
    (truncf .bf16 (norm (whole h w) g) bitsLt_bf16_f32 : S8192x512.Idx → EReal) = plain h w g := by
  funext i
  obtain ⟨a, b, rfl⟩ : ∃ (a : Fin 8192) (b : Fin 512), i = ix2 a b := ⟨i 0, i 1, funext fun x => by fin_cases x <;> rfl⟩
  refine (norm_apply (whole h w) g a b).trans ?_
  exact congrArg (fun x => normed x (fun k => g (ix1 k)) b) (funext fun k => whole_apply h w a k)

end Cert.Reference9Ideal.LatentProj

end
-- ==== Proof.ValueProj.lean ====
module

public import proofs.«01_k».proof.Proof.Gen.Kernel10Ideal.Value
public import proofs.«01_k».proof.Proof.Gen.Reference10Ideal
public import Idealize.ShloMosaic.Lib.Pipeline.Covers
public import Idealize.ShloMosaic.Lib.MatmulPlain
public import Idealize.ShloMosaic.Lib.StackMember

@[expose] public section

/-!
# The values are the plain product of the shared latent

A point is a block of 1024 rows and a block of 1024 columns, and it contracts all 512 features at once.
-/

set_option maxRecDepth 16384

noncomputable section

namespace Cert.Kernel10Ideal.ValueProj

open Cert.Kernel10Ideal Cert.Kernel10Ideal.Gen
open Idealize.ShloMosaic Idealize.ShloMosaic.TcCoe
open Idealize.ShloMosaic.Pipeline (Dat Cfg Window)
open Idealize.ShloMosaic.ValueIdx (ix2)

variable (m : (ℓ : Loc nD τ sig) → Buf (Elt Ideal) ℓ)

abbrev acts (c : Dev nD) : S8192x512.Idx → EReal := m ((c : Thread nD τ).loc main_arg0)
abbrev weights (c : Dev nD) : S512x4096.Idx → EReal := m ((c : Thread nD τ).loc main_arg1)

/-- The plain product. -/
def plain (h : S8192x512.Idx → EReal) (w : S512x4096.Idx → EReal) : S8192x4096.Idx → EReal :=
  fun i => ∑ k : Fin 512, h (ix2 (i 0) k) * w (ix2 k (i 1))

def row (t : Fin grid0.N) (r : Fin 1024) : Fin 8192 :=
  ⟨1024 * (grid0.coords t 0).val + r.val, by have : (grid0.coords t 0).val < 8 := (grid0.coords t 0).isLt; omega⟩
def column (t : Fin grid0.N) (j : Fin 1024) : Fin 4096 :=
  ⟨1024 * (grid0.coords t 1).val + j.val, by have : (grid0.coords t 1).val < 4 := (grid0.coords t 1).isLt; omega⟩

theorem V_v0 (c : Dev nD) : V m c main_v0 = (truncf .bf16 (m ((c : Thread nD τ).loc main_arg1)) bitsLt_bf16_f32 : FVec Ideal S512x4096 .bf16) := by
  unfold V; simp only [hostOps0, List.flatten_cons, List.flatten_nil, List.cons_append, List.nil_append, List.append_nil]; after_results

theorem blk0 (c : Dev nD) (t : Fin cfg0.N) (r : Fin 1024) (k : Fin 512) :
    (iblk m c 0 t : S1024x512.Idx → EReal) (ix2 r k) = acts m c (ix2 (row t r) k) := by
  show (V m c main_arg0 : S8192x512.Idx → EReal) _ = _
  rw [V_main_arg0]
  refine congrArg (acts m c) (funext fun a => Fin.ext ?_)
  have h0 : (grid0.coords t 0).val < 8 := (grid0.coords t 0).isLt
  have h2 : (grid0.coords t 2).val < 1 := (grid0.coords t 2).isLt
  fin_cases a
  · show (BitVec.ofNat 32 (grid0.coords t 0).val).toNat * 1024 + 1 * r.val = 1024 * (grid0.coords t 0).val + r.val
    rw [BitVec.toNat_ofNat]; omega
  · show (BitVec.ofNat 32 (grid0.coords t 2).val).toNat * 512 + 1 * k.val = k.val
    rw [BitVec.toNat_ofNat]; omega

theorem blk1 (c : Dev nD) (t : Fin cfg0.N) (k : Fin 512) (j : Fin 1024) :
    (iblk m c 1 t : S512x1024.Idx → EReal) (ix2 k j) = weights m c (ix2 k (column t j)) := by
  have h : (iblk m c 1 t : S512x1024.Idx → EReal) (ix2 k j) = (V m c main_v0 : S512x4096.Idx → EReal) (ix2 k (column t j)) := by
    show (V m c main_v0 : S512x4096.Idx → EReal) _ = _
    refine congrArg (V m c main_v0 : S512x4096.Idx → EReal) (funext fun a => Fin.ext ?_)
    have h1 : (grid0.coords t 1).val < 4 := (grid0.coords t 1).isLt
    have h2 : (grid0.coords t 2).val < 1 := (grid0.coords t 2).isLt
    fin_cases a
    · show (BitVec.ofNat 32 (grid0.coords t 2).val).toNat * 512 + 1 * k.val = k.val
      rw [BitVec.toNat_ofNat]; omega
    · show (BitVec.ofNat 32 (grid0.coords t 1).val).toNat * 1024 + 1 * j.val = 1024 * (grid0.coords t 1).val + j.val
      rw [BitVec.toNat_ofNat]; omega
  exact h.trans (congrFun (V_v0 m c) _)

theorem no_offset : (![0, 0] : Fin 2 → ℕ) = fun _ => 0 := by funext a; fin_cases a <;> rfl

theorem left (x0 : Vec Ideal S1024x512 .bf16) (x1 : Vec Ideal S512x1024 .bf16) : out0_2 x0 x1 = k0_pay1 x0 x1 := by
  unfold out0_2
  rw [View.canon_unit_zero no_offset, View.ld_unit_zero no_offset, View.ld_unit_zero no_offset]

theorem same (x : FVec Ideal S512x1024 .bf16) : shapeCast S512x1024 x shapeCasts_S512x1024_S512x1024 = x := by
  funext i; exact shapeCast_apply _ _ _ _ rfl

theorem pay_apply (x0 : Vec Ideal S1024x512 .bf16) (x1 : Vec Ideal S512x1024 .bf16) (r : Fin 1024) (j : Fin 1024) :
    (k0_pay1 x0 x1 : S1024x1024.Idx → EReal) (ix2 r j) = ∑ k : Fin 512, (x0 (ix2 r k) : EReal) * x1 (ix2 k j) := by
  unfold k0_pay1
  rw [same]
  refine (Ideal.matmul_plain_apply (φ₁ := .bf16) (φ₂ := .bf16) none x0 x1 (constant S1024x1024 .f32 0x00000000#32) r j).trans ?_
  exact (congrArg (· + _) Ideal.ofBits_zero_f32).trans (zero_add _)

theorem point (c : Dev nD) (t : Fin cfg0.N) (r : Fin 1024) (j : Fin 1024) :
    (out0_2 (iblk m c 0 t) (iblk m c 1 t) : S1024x1024.Idx → EReal) (ix2 r j) = plain (acts m c) (weights m c) (ix2 (row t r) (column t j)) := by
  rw [left]
  refine (pay_apply _ _ r j).trans (Finset.sum_congr rfl fun k _ => ?_)
  exact congrArg₂ (fun a b : EReal => a * b) (blk0 m c t r k) (blk1 m c t k j)

theorem cover : (cfg0.win (2 : Fin 3)).Covers := by
  refine Pipeline.Window.covers_of_indexMap_surj (cfg0.win (2 : Fin 3)) rfl (fun a => by
    fin_cases a
    · show 0 < 1024; decide
    · show 0 < 1024; decide) fun β => ?_
  have h0 : (β 0).val < 8 := lt_of_lt_of_eq (β 0).isLt (show (8192 + 1024 - 1) / 1024 = 8 by decide)
  have h1 : (β 1).val < 4 := lt_of_lt_of_eq (β 1).isLt (show (4096 + 1024 - 1) / 1024 = 4 by decide)
  refine ⟨fun a => match a with
    | ⟨0, _⟩ => (⟨(β 0).val, h0⟩ : Fin 8)
    | ⟨1, _⟩ => (⟨(β 1).val, h1⟩ : Fin 4)
    | ⟨2, _⟩ => (0 : Fin 1), fun a => ?_⟩
  fin_cases a
  · show (BitVec.ofNat 32 (β 0).val).toNat = (β 0).val
    rw [BitVec.toNat_ofNat]; omega
  · show (BitVec.ofNat 32 (β 1).val).toNat = (β 1).val
    rw [BitVec.toNat_ofNat]; omega

/-- The kernel's result is the plain product. -/
theorem value (c : Dev nD) : (dats m 0 c).arrAt (2 : Fin 3) cfg0.N = plain (acts m c) (weights m c) := by
  refine Pipeline.Dat.arrAt_eq_of_covers (dat := dats m 0 c) (2 : Fin 3) (plain (acts m c) (weights m c)) cover fun t _ y => ?_
  show (dats m 0 c).after (2 : Fin 3) t _ = _
  rw [after0_2]
  have h0 : (y 0).val < 1024 := (y 0).isLt
  have h1 : (y 1).val < 1024 := (y 1).isLt
  refine Eq.trans (congrArg (out0_2 (iblk m c 0 t) (iblk m c 1 t) : S1024x1024.Idx → EReal) (a₂ := ix2 ⟨(y 0).val, h0⟩ ⟨(y 1).val, h1⟩) (funext fun a => by fin_cases a <;> rfl)) ((point m c t _ _).trans ?_)
  refine congrArg (plain (acts m c) (weights m c)) (funext fun a => Fin.ext ?_)
  have g0 : (grid0.coords t 0).val < 8 := (grid0.coords t 0).isLt
  have g1 : (grid0.coords t 1).val < 4 := (grid0.coords t 1).isLt
  fin_cases a
  · show 1024 * (grid0.coords t 0).val + (y 0).val = (BitVec.ofNat 32 (grid0.coords t 0).val).toNat * 1024 + 1 * (y 0).val
    rw [BitVec.toNat_ofNat]; omega
  · show 1024 * (grid0.coords t 1).val + (y 1).val = (BitVec.ofNat 32 (grid0.coords t 1).val).toNat * 1024 + 1 * (y 1).val
    rw [BitVec.toNat_ofNat]; omega

end Cert.Kernel10Ideal.ValueProj

namespace Cert.Reference10Ideal.ValueProj

open Cert.Reference10Ideal Cert.Reference10Ideal.Gen
open Idealize.ShloMosaic Idealize.ShloMosaic.TcCoe
open Cert.Kernel10Ideal.ValueProj (plain)
open Idealize.ShloMosaic.ValueIdx (ix2)

/-- The reference's result is the same. -/
theorem value (h : FVec Ideal S8192x512 .bf16) (w : FVec Ideal S512x4096 .f32) :
    (truncf .bf16 (Host.dotGeneral dot_S8192x512_S512x4096_S8192x4096_1_0_0_1_n_n none (extf .f32 h bitsLt_bf16_f32) w) bitsLt_bf16_f32 : S8192x4096.Idx → EReal) = plain h w := by
  funext i
  obtain ⟨a, b, rfl⟩ : ∃ (a : Fin 8192) (b : Fin 4096), i = ix2 a b := ⟨i 0, i 1, funext fun x => by fin_cases x <;> rfl⟩
  exact StackMember.dotGeneral_plain_apply (m := 8192) (n := 4096) (k := 512) (φ₁ := .f32) (φ₂ := .f32) none (fun i => h i) w a b

end Cert.Reference10Ideal.ValueProj

end
-- ==== Proof.CombineSame.lean ====
module

public import proofs.«01_k».proof.Defs
public import proofs.«01_k».proof.Proof.Gen.Kernel7
public import proofs.«01_k».proof.Proof.Gen.Kernel7Ideal

@[expose] public section

/-!
# The two prints of the combination are one program

Nothing is rewritten between them, so at the float words they agree in their body table and in their host program.
-/

noncomputable section

namespace Cert.Kernel7Ideal.Combine

open Idealize.ShloMosaic Idealize.ShloMosaic.TcCoe

theorem same_sig : Cert.Kernel7.sig = Cert.Kernel7Ideal.sig := rfl
theorem same_labels : Cert.Kernel7.Λ₀ = Cert.Kernel7Ideal.Λ₀ := rfl
theorem same_contents : (fun p => (Cert.Kernel7.pcfgs (F := Bits) p).Adm) = (fun p => (Cert.Kernel7Ideal.pcfgs (F := Bits) p).Adm) := rfl

theorem same_table : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, (t, s) => rfl

theorem same_defs : Cert.Kernel7.defs (F := Bits) = Cert.Kernel7Ideal.defs (F := Bits) := by
  unfold Cert.Kernel7.defs Cert.Kernel7Ideal.defs
  rw [same_table]; rfl

theorem same_main : Cert.Kernel7.main (F := Bits) = Cert.Kernel7Ideal.main (F := Bits) := by
  unfold Cert.Kernel7.main Cert.Kernel7Ideal.main
  dsimp only [same_sig, same_labels, same_contents]
  rfl

end Cert.Kernel7Ideal.Combine
-- ==== Proof.CombineIssue.lean ====
module

public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Loops
public import Idealize.ShloMosaic.Lib.Pipeline.FrameBody
public import Idealize.ShloMosaic.Lib.Pipeline.FrameValue
public import Idealize.ShloMosaic.Lib.ValueIdx
public import Idealize.ShloMosaic.Lib.Batch
public import Idealize.ShloMosaic.Lib.Ring
public import Idealize.ShloMosaic.Lib.Tactic

@[expose] public section

/-!
# The combination's rows on their way

At one step of the grid the first loop issues the `512` rows of `256` tokens, two of each, on the one cell: transfer `m` carries
the experts' row of pair `base + m` to row `m / 2` of half `m % 2` of the scratch.
-/

noncomputable section

namespace Cert.Kernel7Ideal.Combine

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rows in words -/

/-- The table's cell `p`. -/
def cell (p : ℕ) : S16384.Idx := fun a => match a with
  | ⟨0, _⟩ => ⟨p % 16384, Nat.mod_lt _ (by decide)⟩

/-- The element in row `r` and column `j` of the experts' rows. -/
def src (r : ℕ) (j : Fin 4096) : S24576x4096.Idx := fun a => match a with
  | ⟨0, _⟩ => ⟨r % 24576, Nat.mod_lt _ (by decide)⟩
  | ⟨1, _⟩ => j

/-- The experts' row of pair `p`. -/
def row (pos : S16384.Idx → BitVec 32) (p : ℕ) : ℕ := (pos (cell p)).toNat

/-- Every pair's row is one of the experts' rows. -/
def Inside (pos : S16384.Idx → BitVec 32) : Prop := ∀ p, p < 16384 → row pos p < 24576

/-- The scratch when the step's transfers have landed. -/
def gathered {E : Type} (Y : S24576x4096.Idx → E) (pos : S16384.Idx → BitVec 32) (base : ℕ) : S2x256x4096.Idx → E := fun y =>
  Y (src (row pos (base + (2 * (y 1).val + (y 0).val))) (y 2))

/-! ## The buffers and their rows -/

abbrev table : Memref sig .tc .smem S16384 .i32 := Memref.whole main_arg3
abbrev rows : Memref sig .tc .hbm S24576x4096 .f32 := Memref.whole main_arg2
abbrev scratch : Memref sig .tc .vmem S2x256x4096 .f32 := Memref.whole cc0_scratch0

/-- Row `r` of the experts' rows. -/
def srcRow (r : ℕ) : Finset S24576x4096.Idx := Finset.univ.filter fun y => (y 0).val = r
/-- The scratch's row of transfer `m`. -/
def bufRow (m : ℕ) : Finset S2x256x4096.Idx := Finset.univ.filter fun y => 2 * (y 1).val + (y 0).val = m

theorem mem_srcRow {r : ℕ} {y : S24576x4096.Idx} : y ∈ srcRow r ↔ (y 0).val = r := by simp [srcRow]
theorem mem_bufRow {m : ℕ} {y : S2x256x4096.Idx} : y ∈ bufRow m ↔ 2 * (y 1).val + (y 0).val = m := by simp [bufRow]

abbrev srcAt (o : Fin 2 → ℕ) (h : ∀ a, o a + S1x4096.size a ≤ S24576x4096.size a) : Memref sig .tc .hbm S1x4096 .f32 :=
  rows.slice (Rect.unit (s := S24576x4096) o S1x4096.size h) (fun _ => rfl)
abbrev bufAt (o : Fin 3 → ℕ) (h : ∀ a, o a + S1x1x4096.size a ≤ S2x256x4096.size a) : Memref sig .tc .vmem S1x4096 .f32 :=
  (scratch.slice (Rect.unit (s := S2x256x4096) o S1x1x4096.size h) (fun _ => rfl)).squeeze S1x4096 squeezes_S1x1x4096_S1x4096

/-- The row a transfer writes. -/
theorem bufAt_set {o : Fin 3 → ℕ} {h} {b r : ℕ} (hb : b < 2) (e : o = ![b, r, 0]) : (bufAt o h).view.set = bufRow (2 * r + b) := by
  subst e
  refine (View.set_reshape _ _).trans ((View.set_slice_whole cc0_scratch0 _).trans ?_)
  ext y
  rw [Rect.mem_set_unit, mem_bufRow]
  have y0 : (y 0).val < 2 := (y 0).isLt
  constructor
  · intro q
    have q0 := q 0
    have q1 := q 1
    change b ≤ (y 0).val ∧ (y 0).val < b + 1 at q0
    change r ≤ (y 1).val ∧ (y 1).val < r + 1 at q1
    omega
  · intro q a
    match a with
    | ⟨0, _⟩ => change b ≤ (y 0).val ∧ (y 0).val < b + 1; omega
    | ⟨1, _⟩ => change r ≤ (y 1).val ∧ (y 1).val < r + 1; omega
    | ⟨2, _⟩ => change 0 ≤ (y 2).val ∧ (y 2).val < 0 + 4096; have : (y 2).val < 4096 := (y 2).isLt; omega

theorem srcAt_set {o : Fin 2 → ℕ} {h} {r : ℕ} (e : o = ![r, 0]) : (srcAt o h).view.set = srcRow r := by
  subst e
  refine (View.set_slice_whole main_arg2 _).trans ?_
  ext y
  rw [Rect.mem_set_unit, mem_srcRow]
  constructor
  · intro q
    have q0 := q 0
    change r ≤ (y 0).val ∧ (y 0).val < r + 1 at q0
    omega
  · intro q a
    match a with
    | ⟨0, _⟩ => change r ≤ (y 0).val ∧ (y 0).val < r + 1; omega
    | ⟨1, _⟩ => change 0 ≤ (y 1).val ∧ (y 1).val < 0 + 4096; have : (y 1).val < 4096 := (y 1).isLt; omega

/-- Where element `j` of a row of the scratch lies. -/
theorem bufAt_emb {b r : ℕ} (h : ∀ a, (![b, r, 0] : Fin 3 → ℕ) a + S1x1x4096.size a ≤ S2x256x4096.size a) (x : S1x4096.Idx) (y : S2x256x4096.Idx) (h0 : (y 0).val = b) (h1 : (y 1).val = r) (h2 : (y 2).val = (x 1).val) :
    (bufAt ![b, r, 0] h).view.emb x = y := by
  have e : Shape.reshapeEquiv (s := S1x1x4096) (s' := S1x4096) squeezes_S1x1x4096_S1x4096.numel_eq x = Fin.cons ⟨0, Nat.one_pos⟩ x :=
    Shape.reshapeEquiv_cons_one _ x
  show (Rect.unit (s := S2x256x4096) ![b, r, 0] S1x1x4096.size h).emb (Shape.reshapeEquiv (s := S1x1x4096) (s' := S1x4096) squeezes_S1x1x4096_S1x4096.numel_eq x) = y
  rw [e]
  have x0 : (x 0).val < 1 := (x 0).isLt
  funext a
  match a with
  | ⟨0, _⟩ => exact Fin.ext (show b + 1 * 0 = (y 0).val by omega)
  | ⟨1, _⟩ => exact Fin.ext (show r + 1 * (x 0).val = (y 1).val by omega)
  | ⟨2, _⟩ => exact Fin.ext (show 0 + 1 * (x 1).val = (y 2).val by omega)

/-- What a transfer of the experts' row `r'` to a row of the scratch leaves there. -/
theorem landed {o : Fin 2 → ℕ} {o' : Fin 3 → ℕ} {h h'} {b r r' : ℕ} (hb : b < 2) (e : o = ![r', 0]) (e' : o' = ![b, r, 0])
    (Y : S24576x4096.Idx → Elt F .f32) (f : S2x256x4096.Idx → Elt F .f32) (y : S2x256x4096.Idx) (hy : y ∈ bufRow (2 * r + b)) :
    (bufAt o' h').view.write (Elt F) f (ReadAs.same.apply ((srcAt o h).view.read (Elt F) Y)) Finset.univ y = Y (src r' (y 2)) := by
  subst e e'
  rw [mem_bufRow] at hy
  have y0 : (y 0).val < 2 := (y 0).isLt
  have hr : r' < 24576 := by have := h 0; change r' + 1 ≤ 24576 at this; omega
  let x : S1x4096.Idx := fun a => match a with
    | ⟨0, _⟩ => ⟨0, Nat.one_pos⟩
    | ⟨1, _⟩ => y 2
  have hx : (bufAt ![b, r, 0] h').view.emb x = y := bufAt_emb h' x y (by omega) (by omega) rfl
  have hs : (srcAt ![r', 0] h).view.emb x = src r' (y 2) := by
    funext a
    match a with
    | ⟨0, _⟩ => exact Fin.ext (show r' + 1 * 0 = r' % 24576 by rw [Nat.mod_eq_of_lt hr]; omega)
    | ⟨1, _⟩ => exact Fin.ext (show 0 + 1 * (y 2).val = (y 2).val by omega)
  have key := (bufAt ![b, r, 0] h').view.write_emb_of_mem (Val := Elt F) f
    (ReadAs.same.apply ((srcAt ![r', 0] h).view.read (Elt F) Y)) (Finset.mem_univ x)
  rw [hx] at key
  refine key.trans ?_
  show Y ((srcAt ![r', 0] h).view.emb x) = _
  rw [hs]

/-! ## A step's deliveries -/

/-- What transfer `m` of the step holds, the scratch at `f`: its row of the scratch, and the experts' row under a share of its own. -/
def held (f : S2x256x4096.Idx → Elt F .f32) (Y : S24576x4096.Idx → Elt F .f32) (pos : S16384.Idx → BitVec 32) (c : Dev nD) (base : ℕ) (m : Fin 512) : sProp 𝕄 :=
  iprop((scratch.view.loc (c : Thread nD τ) ↦[bufRow m.val]{fullShare} f)
    ∗ (rows.view.loc (c : Thread nD τ) ↦[srcRow (row pos (base + m.val))]{Transfers.shareTokN fullShare m.val} Y))

instance held_storable (f : S2x256x4096.Idx → Elt F .f32) (Y : S24576x4096.Idx → Elt F .f32) (pos : S16384.Idx → BitVec 32) (c : Dev nD) (base : ℕ) (m : Fin 512) :
    Storable (upEmb : UEmb _ 𝕄) (held f Y pos c base m) := by
  unfold held; infer_instance

/-- The amount one row credits. -/
def credit : ℕ := (bufAt ![0, 0, 0] (by decide)).view.amount (SemLoc.dma 6)

/-- The step's batch: the transfers issued, and the amount waited for. -/
abbrev flight (Y : S24576x4096.Idx → Elt F .f32) (pos : S16384.Idx → BitVec 32) (c : Dev nD) (base j u : ℕ) : sProp 𝕄 :=
  Transfers.Batch (countersEmb (U := Pipeline.UD sig nD τ)) (c : Thread nD τ) (SemLoc.dma 6) () credit (held (gathered Y pos base) Y pos c base) j u

variable {f : S2x256x4096.Idx → Elt F .f32} {Y : S24576x4096.Idx → Elt F .f32} {pos : S16384.Idx → BitVec 32}

/-- One transfer of the step, issued. -/
theorem wp_issue (𝒱 : Variants) (c : Dev nD) (bd) {α : Type} {base : ℕ} {b r j : ℕ} (hb : b < 2) (hjr : j = 2 * r + b) (hj : j < 512)
    {o : Fin 2 → ℕ} {o' : Fin 3 → ℕ} {h h'} (e : o = ![row pos (base + j), 0]) (e' : o' = ![b, r, 0])
    {hs hd hsem} {k : PUnit → Prog (TpuEff nD τ sig (Elt F) Λ₀ .tc) α} {Q : α → sProp 𝕄} :
    iprop(held f Y pos c base ⟨j, hj⟩ ∗ flight Y pos c base j 0)
      ⊢ iprop((flight Y pos c base (j + 1) 0 -∗ wp frame (wpE defs₀ 𝒱 (c : Thread nD τ) bd) Set.univ (k ⟨⟩) Q)
          -∗ wp frame (wpE defs₀ 𝒱 (c : Thread nD τ) bd) Set.univ
            (.op (.enqueueDma (srcAt o h) (.here (bufAt o' h')) (SemLoc.dma 6) hs hd hsem) k) Q) := by
  have hset : (bufAt o' h').view.set = bufRow j := hjr ▸ bufAt_set hb e'
  unfold flight
  iintro ⟨HH, HB⟩ Hk
  ihave HH := (Entails.of_eq (show held f Y pos c base ⟨j, hj⟩ = iprop((scratch.view.loc (c : Thread nD τ) ↦[bufRow j]{fullShare} f)
    ∗ (rows.view.loc (c : Thread nD τ) ↦[srcRow (row pos (base + j))]{Transfers.shareTokN fullShare j} Y)) from rfl)) $$ HH
  icases HH with ⟨Hd, Hs⟩
  iapply (Transfers.wp_dmaBatch (countersEmb (U := Pipeline.UD sig nD τ)) 𝒱 (c : Thread nD τ) bd (D := held (gathered Y pos base) Y pos c base)
    (Sd := bufRow j) (fd := f) (fs := Y) (q := Transfers.shareTokN fullShare j) (u := 0)
    () credit rfl hset.le hj (Nat.zero_le _) ?_) $$ [Hd Hs HB] Hk
  · unfold held
    rw [srcAt_set e]
    refine sep_mono (Entails.of_eq (pointsTo_congr fun y hy => ?_)) .rfl
    have hy' := mem_bufRow.1 hy
    refine (landed hb e e' Y _ y (hjr ▸ hy)).trans ?_
    unfold gathered
    rw [hy']
  · rw [srcAt_set e]
    isplitl [Hs]; · iexact Hs
    isplitl [Hd]; · iexact Hd
    iexact HB

/-- The word the table holds at a cell. -/
theorem read_cell {o : Fin 1 → ℕ} {h} {p : ℕ} (e : o = ![p]) (x : (Rect.unit (s := S16384) o S1.size h).shape.Idx) :
    (table.access (Rect.unit (s := S16384) o S1.size h)).read (Elt F) pos x = pos (cell p) := by
  subst e
  have hp : p < 16384 := by have := h 0; change p + 1 ≤ 16384 at this; omega
  have hx : (table.access (Rect.unit (s := S16384) ![p] S1.size h)).emb x = cell p := by
    funext a
    match a with
    | ⟨0, _⟩ =>
      have hx0 : (x 0).val < 1 := (x 0).isLt
      exact Fin.ext (show p + 1 * (x 0).val = p % 16384 by rw [Nat.mod_eq_of_lt hp]; omega)
  show pos _ = _
  rw [hx]

/-- A pair's row fits the experts' rows. -/
theorem row_fits (hA : Inside pos) {p : ℕ} (hp : p < 16384) :
    ∀ a : Fin 2, (![row pos p, 0] : Fin 2 → ℕ) a + S1x4096.size a ≤ S24576x4096.size a := fun a =>
  match a with
  | ⟨0, _⟩ => by have := hA p hp; change row pos p + 1 ≤ 24576; omega
  | ⟨1, _⟩ => by change 0 + 4096 ≤ 4096; omega

/-- Before trip `k` of the first loop: `2 k` transfers issued, what the rest take still in hand. -/
def issuing (f : S2x256x4096.Idx → Elt F .f32) (Y : S24576x4096.Idx → Elt F .f32) (pos : S16384.Idx → BitVec 32)
    (c : Dev nD) (q : PosShare TreeShare) (base k : ℕ) : sProp 𝕄 :=
  iprop((table.view.loc (c : Thread nD τ) ↦{q} pos) ∗ flight Y pos c base (2 * k) 0
    ∗ bigSep (Ring.rangeSet 512 (2 * k) 512) (held f Y pos c base))

theorem coord_lt (i : grid0.Coords) : (i 0).val < 32 := (i 0).isLt
theorem trip1_lt (k : Fin k0_t1_loop.trips) : k.val < 256 := lt_of_lt_of_le k.isLt k0_t1_abs.2.1

/-- One trip of the first loop. -/
theorem issue_trip (𝒱 : Variants) (c : Dev nD) (bd) (q : PosShare TreeShare) (i : grid0.Coords) (hA : Inside pos) (k : Fin k0_t1_loop.trips)
    (arg2 : Memref sig .tc .vmem S256x4096 .f32) (harg2 : arg2.IsWhole) (arg3 : Memref sig .tc .vmem S256x128 .f32) (harg3 : arg3.IsWhole)
    (arg5 : Memref sig .tc .vmem S256x4096 .f32) (harg5 : arg5.IsWhole) {Q : Unit → sProp 𝕄} :
    iprop(issuing f Y pos c q (512 * (i 0).val) k.val)
      ⊢ iprop((issuing f Y pos c q (512 * (i 0).val) (k.val + 1) -∗ Q ⟨⟩)
          -∗ wp frame (wpE defs₀ 𝒱 (c : Thread nD τ) bd) Set.univ (k0_t1_body (F := F) i table (Memref.isWhole_whole _) arg2 harg2 arg3 harg3
            rows (Memref.isWhole_whole _) arg5 harg5 scratch (Memref.isWhole_whole _) cc0_scratch1 k ⟨⟩) Q) := by
  have hi := coord_lt i
  have hk := trip1_lt k
  unfold issuing
  rw [Ring.bigSep_rangeSet_head (show 2 * k.val < 512 by omega) (by omega),
    Ring.bigSep_rangeSet_head (show 2 * k.val + 1 < 512 by omega) (by omega)]
  simp only [k0_t1_body, Prog.lift, Prog.bind_op, Prog.bind_ret, Prog.pure_eq_ret, Prog.bind_assoc, smemLoad, smemLoadElt_bind]
  iintro ⟨HT, HB, H0, H1, HR⟩ HQ
  iapply (wp_smemLoadElt_named 𝒱 (c : Thread nD τ) bd Set.univ (m := table) (f := pos) (q := q)) $$ HT
  iintro HT %w %hw
  rw [read_cell (k0_off1_eq i k)] at hw
  subst hw
  iapply (wp_assume 𝒱 (c : Thread nD τ) bd Set.univ (row_fits hA (p := 512 * (i 0).val + 2 * k.val) (by omega)))
  iapply (wp_issue (f := f) (Y := Y) 𝒱 c bd (base := 512 * (i 0).val) (b := 0) (r := k.val) (j := 2 * k.val) (by omega) (by omega) (by omega)
    rfl (k0_off2_eq k)) $$ [H0 HB]
  · isplitl [H0]; · iexact H0
    iexact HB
  iintro HB
  iapply (wp_smemLoadElt_named 𝒱 (c : Thread nD τ) bd Set.univ (m := table) (f := pos) (q := q)) $$ HT
  iintro HT %w' %hw'
  rw [read_cell (p := 512 * (i 0).val + (2 * k.val + 1)) (k0_off4_eq i k)] at hw'
  subst hw'
  iapply (wp_assume 𝒱 (c : Thread nD τ) bd Set.univ (row_fits hA (p := 512 * (i 0).val + (2 * k.val + 1)) (by omega)))
  iapply (wp_issue (f := f) (Y := Y) 𝒱 c bd (base := 512 * (i 0).val) (b := 1) (r := k.val) (j := 2 * k.val + 1) (by omega) (by omega) (by omega)
    rfl (k0_off5_eq k)) $$ [H1 HB]
  · isplitl [H1]; · iexact H1
    iexact HB
  iintro HB
  rw [wp_ret]
  imodintro
  iapply HQ
  isplitl [HT]; · iexact HT
  isplitl [HB]; · iexact HB
  iexact HR

end Cert.Kernel7Ideal.Combine

end
-- ==== Proof.CombineDrain.lean ====
module

public import proofs.«01_k».proof.Proof.CombineIssue

@[expose] public section

/-!
# The combination's waits, and the rows together

The second loop waits once for each transfer; the last wait hands back every row delivered and the cell at zero. The rows delivered
fill the scratch.
-/

noncomputable section

namespace Cert.Kernel7Ideal.Combine

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {f : S2x256x4096.Idx → Elt F .f32} {Y : S24576x4096.Idx → Elt F .f32} {pos : S16384.Idx → BitVec 32}

theorem credit_eq : credit = 512 := by decide

/-- A wait of the step that is not its last. -/
theorem wp_wait (𝒱 : Variants) (c : Dev nD) (bd) {α : Type} {base u : ℕ} (hu : u + credit < credit * 512)
    {o : Fin 2 → ℕ} {o' : Fin 3 → ℕ} {h h'} {hs hd} {W : Waits sig Unit} {k : PUnit → Prog (TpuEff nD τ sig (Elt F) Λ₀ .tc) α} {Q : α → sProp 𝕄} :
    iprop(flight Y pos c base 512 u ∗ owes (c : Thread nD τ) 0 W)
      ⊢ iprop((flight Y pos c base 512 (u + credit) ∗ owes (c : Thread nD τ) 0 (insert (SemLoc.dma 6, ()) W)
            -∗ wp frame (wpE defs₀ 𝒱 (c : Thread nD τ) bd) Set.univ (k ⟨⟩) Q)
          -∗ wp frame (wpE defs₀ 𝒱 (c : Thread nD τ) bd) Set.univ (.op (.waitDma2 (6 : DmaSem sig) (srcAt o h) (bufAt o' h') hs hd) k) Q) :=
  Transfers.wp_waitBatch (countersEmb (U := Pipeline.UD sig nD τ)) 𝒱 (c : Thread nD τ) bd (srcw := srcAt o h) (dstw := bufAt o' h') () rfl hu

/-- The step's last wait. -/
theorem wp_wait_last (𝒱 : Variants) (c : Dev nD) (bd) {α : Type} {base u : ℕ} (hu : u + credit = credit * 512)
    {o : Fin 2 → ℕ} {o' : Fin 3 → ℕ} {h h'} {hs hd} {W : Waits sig Unit} {k : PUnit → Prog (TpuEff nD τ sig (Elt F) Λ₀ .tc) α} {Q : α → sProp 𝕄} :
    iprop(flight Y pos c base 512 u ∗ owes (c : Thread nD τ) 0 W)
      ⊢ iprop((bigSep Finset.univ (held (gathered Y pos base) Y pos c base) ∗ semVal ((c : Thread nD τ), SemLoc.dma 6) 0
              ∗ owes (c : Thread nD τ) 0 (insert (SemLoc.dma 6, ()) W)
            -∗ wp frame (wpE defs₀ 𝒱 (c : Thread nD τ) bd) Set.univ (k ⟨⟩) Q)
          -∗ wp frame (wpE defs₀ 𝒱 (c : Thread nD τ) bd) Set.univ (.op (.waitDma2 (6 : DmaSem sig) (srcAt o h) (bufAt o' h') hs hd) k) Q) :=
  Transfers.wp_waitBatchLast (countersEmb (U := Pipeline.UD sig nD τ)) 𝒱 (c : Thread nD τ) bd (srcw := srcAt o h) (dstw := bufAt o' h') () rfl
    (show 0 < credit by rw [credit_eq]; decide) hu

/-- Before trip `k` of the second loop: `2 k` transfers waited for, and after the last everything delivered. -/
def draining (Y : S24576x4096.Idx → Elt F .f32) (pos : S16384.Idx → BitVec 32)
    (c : Dev nD) (q : PosShare TreeShare) (base k : ℕ) : sProp 𝕄 :=
  iprop((table.view.loc (c : Thread nD τ) ↦{q} pos) ∗ (∃ W, owes (c : Thread nD τ) 0 W)
    ∗ (if k < 256 then flight Y pos c base 512 (2 * k * credit)
        else iprop(bigSep Finset.univ (held (gathered Y pos base) Y pos c base) ∗ semVal ((c : Thread nD τ), SemLoc.dma 6) 0)))

theorem trip2_lt (k : Fin k0_t2_loop.trips) : k.val < 256 := lt_of_lt_of_le k.isLt k0_t2_abs.2.1

/-- One trip of the second loop. -/
theorem drain_trip (𝒱 : Variants) (c : Dev nD) (bd) (q : PosShare TreeShare) (i : grid0.Coords) (hA : Inside pos) (k : Fin k0_t2_loop.trips)
    (arg2 : Memref sig .tc .vmem S256x4096 .f32) (harg2 : arg2.IsWhole) (arg3 : Memref sig .tc .vmem S256x128 .f32) (harg3 : arg3.IsWhole)
    (arg5 : Memref sig .tc .vmem S256x4096 .f32) (harg5 : arg5.IsWhole) {Q : Unit → sProp 𝕄} :
    iprop(draining Y pos c q (512 * (i 0).val) k.val)
      ⊢ iprop((draining Y pos c q (512 * (i 0).val) (k.val + 1) -∗ Q ⟨⟩)
          -∗ wp frame (wpE defs₀ 𝒱 (c : Thread nD τ) bd) Set.univ (k0_t2_body (F := F) i table (Memref.isWhole_whole _) arg2 harg2 arg3 harg3
            rows (Memref.isWhole_whole _) arg5 harg5 scratch (Memref.isWhole_whole _) cc0_scratch1 k ⟨⟩) Q) := by
  have hi := coord_lt i
  have hk := trip2_lt k
  have hc := credit_eq
  unfold draining
  rw [if_pos hk]
  simp only [k0_t2_body, Prog.lift, Prog.bind_op, Prog.bind_ret, Prog.pure_eq_ret, Prog.bind_assoc, smemLoad, smemLoadElt_bind]
  iintro ⟨HT, ⟨%W, HW⟩, HB⟩ HQ
  iapply (wp_smemLoadElt_named 𝒱 (c : Thread nD τ) bd Set.univ (m := table) (f := pos) (q := q)) $$ HT
  iintro HT %w %hw
  rw [read_cell (k0_off7_eq i k)] at hw
  subst hw
  iapply (wp_assume 𝒱 (c : Thread nD τ) bd Set.univ (row_fits hA (p := 512 * (i 0).val + 2 * k.val) (by omega)))
  iapply (wp_wait (Y := Y) 𝒱 c bd (u := 2 * k.val * credit) (by rw [hc]; omega)) $$ [HB HW]
  · isplitl [HB]; · iexact HB
    iexact HW
  iintro ⟨HB, HW⟩
  iapply (wp_smemLoadElt_named 𝒱 (c : Thread nD τ) bd Set.univ (m := table) (f := pos) (q := q)) $$ HT
  iintro HT %w' %hw'
  rw [read_cell (p := 512 * (i 0).val + (2 * k.val + 1)) (k0_off10_eq i k)] at hw'
  subst hw'
  iapply (wp_assume 𝒱 (c : Thread nD τ) bd Set.univ (row_fits hA (p := 512 * (i 0).val + (2 * k.val + 1)) (by omega)))
  have hs : 2 * k.val * credit + credit + credit = 2 * (k.val + 1) * credit := by rw [hc]; omega
  by_cases hl : k.val + 1 < 256
  · rw [if_pos hl, ← hs]
    iapply (wp_wait (Y := Y) 𝒱 c bd (u := 2 * k.val * credit + credit) (by rw [hc]; omega)) $$ [HB HW]
    · isplitl [HB]; · iexact HB
      iexact HW
    iintro ⟨HB, HW⟩
    rw [wp_ret]
    imodintro
    iapply HQ
    isplitl [HT]; · iexact HT
    isplitl [HW]; · iexists _; iexact HW
    iexact HB
  · rw [if_neg hl]
    have hk' : k.val = 255 := by omega
    iapply (wp_wait_last (Y := Y) 𝒱 c bd (u := 2 * k.val * credit + credit) (by rw [hc]; omega)) $$ [HB HW]
    · isplitl [HB]; · iexact HB
      iexact HW
    iintro ⟨HD, HS, HW⟩
    rw [wp_ret]
    imodintro
    iapply HQ
    isplitl [HT]; · iexact HT
    isplitl [HW]; · iexists _; iexact HW
    isplitl [HD]; · iexact HD
    iexact HS

/-! ## The rows apart, and together -/

theorem bufRows_apart : ∀ m ∈ (Finset.univ : Finset (Fin 512)), ∀ m' ∈ (Finset.univ : Finset (Fin 512)), m ≠ m' →
    Disjoint (bufRow m.val) (bufRow m'.val) := by
  intro m _ m' _ hne
  rw [Finset.disjoint_left]
  intro y hy hy'
  rw [mem_bufRow] at hy hy'
  exact hne (Fin.ext (hy.symm.trans hy'))

theorem bufRows_all : (Finset.univ : Finset (Fin 512)).biUnion (fun m => bufRow m.val) = (Finset.univ : Finset S2x256x4096.Idx) := by
  ext y
  have y0 : (y 0).val < 2 := (y 0).isLt
  have y1 : (y 1).val < 256 := (y 1).isLt
  rw [Finset.mem_biUnion]
  exact ⟨fun _ => Finset.mem_univ _, fun _ => ⟨⟨2 * (y 1).val + (y 0).val, by omega⟩, Finset.mem_univ _, mem_bufRow.2 rfl⟩⟩

/-- The scratch is its rows. -/
theorem scratch_split (c : Dev nD) (f : S2x256x4096.Idx → Elt F .f32) :
    (scratch.view.loc (c : Thread nD τ) ↦{fullShare} f : sProp 𝕄)
      = bigSep Finset.univ fun m : Fin 512 => scratch.view.loc (c : Thread nD τ) ↦[bufRow m.val]{fullShare} f := by
  have h := pointsTo_biUnion (Ix := Unit) (Val := Elt F) (Name := ℕ) (U := Pipeline.UD sig nD τ) (Lvl := ℕ) (ℓ := scratch.view.loc (c : Thread nD τ)) (q := fullShare) (f := f)
    (Finset.univ : Finset (Fin 512)) (fun m => bufRow m.val) bufRows_apart
  rw [← h]
  exact congrArg (fun S => (scratch.view.loc (c : Thread nD τ) ↦[S]{fullShare} f : sProp 𝕄)) bufRows_all.symm

/-- What no transfer takes: of the experts' rows the other rows of every share, and the share kept. -/
def kept (Y : S24576x4096.Idx → Elt F .f32) (pos : S16384.Idx → BitVec 32) (c : Dev nD) (base : ℕ) : sProp 𝕄 :=
  iprop((bigSep Finset.univ fun m : Fin 512 =>
        rows.view.loc (c : Thread nD τ) ↦[Finset.univ \ srcRow (row pos (base + m.val))]{Transfers.shareTokN fullShare m.val} Y)
    ∗ (rows.view.loc (c : Thread nD τ) ↦{Transfers.shareDrop fullShare 512} Y))

/-- The experts' rows, apart. -/
theorem rows_split (c : Dev nD) (base : ℕ) :
    (rows.view.loc (c : Thread nD τ) ↦{fullShare} Y : sProp 𝕄)
      ⊣⊢ iprop((bigSep Finset.univ fun m : Fin 512 =>
            rows.view.loc (c : Thread nD τ) ↦[srcRow (row pos (base + m.val))]{Transfers.shareTokN fullShare m.val} Y)
        ∗ kept Y pos c base) := by
  have h := Transfers.pointsTo_toks_range (Ix := Unit) (Val := Elt F) (Name := ℕ) (U := Pipeline.UD sig nD τ) (Lvl := ℕ)
    (ℓ := rows.view.loc (c : Thread nD τ)) (S := Finset.univ) (f := Y) fullShare 512
  rw [← Ring.bigSep_fin_eq_range 512 (fun m : Fin 512 => rows.view.loc (c : Thread nD τ) ↦[Finset.univ]{Transfers.shareTokN fullShare m.val} Y) _ (fun _ _ => rfl)] at h
  have hs : ∀ m : Fin 512, (rows.view.loc (c : Thread nD τ) ↦[Finset.univ]{Transfers.shareTokN fullShare m.val} Y : sProp 𝕄)
      ⊣⊢ iprop((rows.view.loc (c : Thread nD τ) ↦[srcRow (row pos (base + m.val))]{Transfers.shareTokN fullShare m.val} Y)
        ∗ (rows.view.loc (c : Thread nD τ) ↦[Finset.univ \ srcRow (row pos (base + m.val))]{Transfers.shareTokN fullShare m.val} Y)) :=
    fun m => pointsTo_split_subset (Finset.subset_univ _)
  have hm : (bigSep Finset.univ (fun m : Fin 512 => rows.view.loc (c : Thread nD τ) ↦[Finset.univ]{Transfers.shareTokN fullShare m.val} Y) : sProp 𝕄)
      = iprop((bigSep Finset.univ fun m : Fin 512 =>
            rows.view.loc (c : Thread nD τ) ↦[srcRow (row pos (base + m.val))]{Transfers.shareTokN fullShare m.val} Y)
        ∗ (bigSep Finset.univ fun m : Fin 512 =>
            rows.view.loc (c : Thread nD τ) ↦[Finset.univ \ srcRow (row pos (base + m.val))]{Transfers.shareTokN fullShare m.val} Y)) :=
    (BI.bigSep_congr fun m _ => Idealize.SL.BI.Entails.antisymm (hs m).1 (hs m).2).trans (bigSep_sep' _ _ _)
  rw [hm] at h
  unfold kept
  constructor
  · refine h.1.trans ?_
    iintro ⟨HD, H1, H2⟩
    isplitl [H1]; · iexact H1
    isplitl [H2]; · iexact H2
    iexact HD
  · refine BIBase.Entails.trans ?_ h.2
    iintro ⟨H1, H2, HD⟩
    isplitl [HD]; · iexact HD
    isplitl [H1]; · iexact H1
    iexact H2

/-- Both, apart. -/
theorem step_split (c : Dev nD) (base : ℕ) (f : S2x256x4096.Idx → Elt F .f32) :
    iprop((scratch.view.loc (c : Thread nD τ) ↦{fullShare} f) ∗ (rows.view.loc (c : Thread nD τ) ↦{fullShare} Y))
      ⊣⊢ iprop(bigSep Finset.univ (held f Y pos c base) ∗ kept Y pos c base) := by
  have e : (bigSep Finset.univ (held f Y pos c base) : sProp 𝕄) = _ := bigSep_sep' _ _ _
  rw [e, scratch_split]
  constructor
  · iintro ⟨HO, HT⟩
    ihave HT := (rows_split (pos := pos) c base).1 $$ HT
    icases HT with ⟨H3, H4⟩
    isplitl [HO H3]
    · isplitl [HO]; · iexact HO
      iexact H3
    iexact H4
  · iintro ⟨⟨H1, H3⟩, H4⟩
    isplitl [H1]; · iexact H1
    iapply (rows_split (pos := pos) c base).2
    isplitl [H3]; · iexact H3
    iexact H4

end Cert.Kernel7Ideal.Combine

end
-- ==== Proof.CombinePoint.lean ====
module

public import proofs.«01_k».proof.Proof.CombineDrain
public import Idealize.ShloMosaic.Lib.Pipeline.Value

@[expose] public section

/-!
# One step of the combination

The staged block of the result is the residual's block and the two gathered rows of each token under its gate weights.
-/

noncomputable section

namespace Cert.Kernel7Ideal.Combine

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {Y : S24576x4096.Idx → Elt F .f32} {pos : S16384.Idx → BitVec 32}

/-- The two halves of the scratch. -/
def half0 (g : S2x256x4096.Idx → Elt F .f32) : Vec F S1x256x4096 .f32 :=
  scratch.view.readAt (Elt F) (Rect.unit (s := S2x256x4096) ![0, 0, 0] S1x256x4096.size inb_S2x256x4096_S1x256x4096_0_0_0).toLoadRect g
def half1 (g : S2x256x4096.Idx → Elt F .f32) : Vec F S1x256x4096 .f32 :=
  scratch.view.readAt (Elt F) (Rect.unit (s := S2x256x4096) ![1, 0, 0] S1x256x4096.size inb_S2x256x4096_S1x256x4096_1_0_0).toLoadRect g

/-- What a step leaves. -/
def combined (x : Vec F S256x4096 .f32) (wt : Vec F S256x128 .f32) (Y : S24576x4096.Idx → Elt F .f32) (pos : S16384.Idx → BitVec 32) (base : ℕ) :
    Vec F S256x4096 .f32 :=
  k0_pay1 wt x (half0 (gathered Y pos base)) (half1 (gathered Y pos base))

theorem zeros2 : (![0, 0] : Fin 2 → ℕ) = fun _ => 0 := by funext a; fin_cases a <;> rfl

/-- A block stored whole reads back. -/
theorem read_stored (arg : Memref sig .tc .vmem S256x4096 .f32) (f : BufTy.Contents (Elt F) arg.view.ty) (p : Vec F S256x4096 .f32) :
    arg.view.read (Elt F) (arg.view.writes (Elt F) f
      [(⟨Rect.unit ![0, 0] S256x4096.size inb_S256x4096_S256x4096_0_0, p⟩ : View.Piece (Elt F) S256x4096 .f32)]) = p := by
  funext y
  have h := View.read_writes_of_unique (v := arg.view) (f := f) (⟨Rect.unit ![0, 0] S256x4096.size inb_S256x4096_S256x4096_0_0, p⟩ : View.Piece (Elt F) S256x4096 .f32) y
    [_] (List.mem_singleton_self _) (fun q hq _ => List.mem_singleton.mp hq)
  have e : (Rect.unit (s := S256x4096) ![0, 0] S256x4096.size inb_S256x4096_S256x4096_0_0).emb y = y := by
    funext a; apply Fin.ext; fin_cases a <;> simp [Rect.emb, Rect.unit]
  exact (congrArg _ e.symm).trans h

/-- A block loaded whole is what it holds. -/
theorem loaded {S : Shape} {e : EltTy} (arg : Memref sig .tc .vmem S e) {off : Fin S.rank → ℕ} (h : off = fun _ => 0)
    (inb : ∀ a, off a + S.size a ≤ S.size a) (f : BufTy.Contents (Elt F) arg.view.ty) (x : S.Idx → Elt F e) (hf : arg.view.read (Elt F) f = x) :
    arg.view.readAt (Elt F) (Rect.unit off S.size inb).toLoadRect f = x :=
  (View.ld_unit_zero h inb (arg.view.read (Elt F) f)).trans hf

/-- One step. -/
theorem leaves (c : Dev nD) (q : PosShare TreeShare) (i : grid0.Coords) (hA : Inside pos)
    (arg2 : Memref sig .tc .vmem S256x4096 .f32) (harg2 : arg2.IsWhole) (arg3 : Memref sig .tc .vmem S256x128 .f32) (harg3 : arg3.IsWhole)
    (arg5 : Memref sig .tc .vmem S256x4096 .f32) (harg5 : arg5.IsWhole) (x : Vec F S256x4096 .f32) (wt : Vec F S256x128 .f32) (K : PUnit → sProp 𝕄) :
    iprop(owns (c : Thread nD τ) arg2 fullShare x ∗ owns (c : Thread nD τ) arg3 fullShare wt ∗ (∃ d, owns (c : Thread nD τ) arg5 fullShare d)
        ∗ (table.view.loc (c : Thread nD τ) ↦{q} pos) ∗ (∃ W, owes (c : Thread nD τ) 0 W) ∗ semVal ((c : Thread nD τ), SemLoc.dma 6) 0
        ∗ (∃ f : S2x256x4096.Idx → Elt F .f32, scratch.view.loc (c : Thread nD τ) ↦{fullShare} f) ∗ (rows.view.loc (c : Thread nD τ) ↦{fullShare} Y)
        ∗ (iprop(owns (c : Thread nD τ) arg2 fullShare x ∗ owns (c : Thread nD τ) arg3 fullShare wt
            ∗ owns (c : Thread nD τ) arg5 fullShare (combined x wt Y pos (512 * (i 0).val))
            ∗ (table.view.loc (c : Thread nD τ) ↦{q} pos) ∗ (∃ W, owes (c : Thread nD τ) 0 W) ∗ semVal ((c : Thread nD τ), SemLoc.dma 6) 0
            ∗ (∃ f : S2x256x4096.Idx → Elt F .f32, scratch.view.loc (c : Thread nD τ) ↦{fullShare} f) ∗ (rows.view.loc (c : Thread nD τ) ↦{fullShare} Y)) -∗ K ⟨⟩))
      ⊢ wp frame (wpE (defs₀ (F := F)) Variants.none c none) Set.univ
          (cc0_moe_combine (F := F) i table (Memref.isWhole_whole _) arg2 harg2 arg3 harg3 rows (Memref.isWhole_whole _) arg5 harg5
            scratch (Memref.isWhole_whole _) cc0_scratch1) K := by
  rw [cc0_moe_combine_eq_skeleton]
  unfold cc0_moe_combine_skel
  iintro ⟨H2, H3, H5, HT, HW, HS, ⟨%f, HB⟩, HY, HK⟩
  imod (Transfers.batch_alloc' (Lvl := ℕ) (countersEmb (U := Pipeline.UD sig nD τ)) (c : Thread nD τ) () credit
    (held (gathered Y pos (512 * (i 0).val)) Y pos c (512 * (i 0).val)) (sm := SemLoc.dma 6) (E := Set.univ)) $$ HS with HF
  ihave HP := (step_split (Y := Y) (pos := pos) c (512 * (i 0).val) f).1 $$ [HB HY]
  · isplitl [HB]; · iexact HB
    iexact HY
  icases HP with ⟨HP, HR⟩
  iapply (Scf.wp_for_bind _ _ _ _ _ _ _ _ _ (fun k _ => issuing f Y pos c q (512 * (i 0).val) k) (fun k acc => by
    iintro H
    iapply (issue_trip (f := f) (Y := Y) Variants.none c none q i hA k arg2 harg2 arg3 harg3 arg5 harg5) $$ H
    iintro H
    iexact H)) $$ [HT HF HP]
  · unfold issuing
    isplitl [HT]; · iexact HT
    isplitl [HF]; · iexact HF
    rw [show 2 * 0 = 0 from rfl, Ring.rangeSet_univ]
    iexact HP
  iintro %acc HL
  have t1 : Scf.trips k0_t1_loop.lb k0_t1_loop.ub k0_t1_loop.st = 256 := by decide
  have t2 : Scf.trips k0_t2_loop.lb k0_t2_loop.ub k0_t2_loop.st = 256 := by decide
  unfold issuing
  icases HL with ⟨HT, HF, -⟩
  iapply (Scf.wp_for_bind _ _ _ _ _ _ _ _ _ (fun k _ => draining Y pos c q (512 * (i 0).val) k) (fun k acc => by
    iintro H
    iapply (drain_trip (Y := Y) Variants.none c none q i hA k arg2 harg2 arg3 harg3 arg5 harg5) $$ H
    iintro H
    iexact H)) $$ [HT HF HW]
  · unfold draining
    rw [if_pos (by decide : 0 < 256)]
    isplitl [HT]; · iexact HT
    isplitl [HW]; · iexact HW
    rw [show 2 * 0 * credit = 0 by simp]
    iexact HF
  iintro %acc' HL
  unfold draining
  rw [if_neg (by decide)]
  icases HL with ⟨HT, HW, HD, HS⟩
  ihave HP := (step_split (Y := Y) (pos := pos) c (512 * (i 0).val) (gathered Y pos (512 * (i 0).val))).2 $$ [HD HR]
  · isplitl [HD]; · iexact HD
    iexact HR
  icases HP with ⟨HB, HY⟩
  unfold owns
  icases H2 with ⟨%f2, %hf2, H2⟩
  icases H3 with ⟨%f3, %hf3, H3⟩
  icases H5 with ⟨%d5, %f5, -, H5⟩
  sl_exec
  sl_step
  iapply HK
  isplitl [H2]
  · iexists _; isplitr; · ipureintro; exact hf2
    iexact H2
  isplitl [H3]
  · iexists _; isplitr; · ipureintro; exact hf3
    iexact H3
  isplitl [H5]
  · iexists _; isplitr; swap; · iexact H5
    ipureintro
    refine (read_stored arg5 _ _).trans ?_
    rw [loaded arg3 zeros2 _ _ _ hf3, loaded arg2 zeros2 _ _ _ hf2]
    rfl
  isplitl [HT]; · iexact HT
  isplitl [HW]; · iexact HW
  isplitl [HS]; · iexact HS
  isplitl [HB]; · iexists _; iexact HB
  iexact HY

end Cert.Kernel7Ideal.Combine

end
-- ==== Proof.CombineRun.lean ====
module

public import proofs.«01_k».proof.Proof.CombinePoint
public import Idealize.ShloMosaic.Lib.Pipeline.FrameBody
public import Idealize.ShloMosaic.Lib.Pipeline.FrameValue
public import Idealize.ShloMosaic.Lib.Pipeline.TalkSched

@[expose] public section

/-!
# The combination's whole call

The 32 steps one after another: the result's blocks are what the steps leave, and the arguments are as they were.
-/

set_option maxRecDepth 16384

noncomputable section

namespace Cert.Kernel7Ideal.Combine

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch holds -/

/-- The buffers when the call starts. -/
def V (c : Dev nD) (b : Ref sig .tc) : Buf (Elt F) ((c : Thread nD τ).loc b) := m ((c : Thread nD τ).loc b)

/-- The table and the experts' rows. -/
def posOf (c : Dev nD) : S16384.Idx → BitVec 32 := m ((c.tc : Thread nD τ).loc main_arg3)
def rowsOf (c : Dev nD) : S24576x4096.Idx → Elt F .f32 := m ((c.tc : Thread nD τ).loc main_arg2)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [] trivial trivial main_chain

/-- The table's contents at entry. -/
def tables : (p : Fin 1) → (pcfgs (F := F) p).Adm := fun _ => ⟨fun k => V m 0 (pre0.ref k), trivial⟩

theorem tables_eq (c : Dev nD) (k : Fin pre0.K) : V m c (pre0.ref k) = (tables m 0).1 k := by
  obtain rfl : c = 0 := Subsingleton.elim _ _
  rfl

abbrev cfgH : Cfg sig Λ₀ := cfg0 (tables m 0)

/-- The kernel's own semaphore. -/
abbrev osem0 : Fin 1 → SemLoc sig := fun j => (![SemLoc.dma 6] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 6) 0 := by
  rw [Pipeline.ownSems0_eq_of_list c osem0 [0] (by decide) (by decide)]; rfl

/-- The buffer the transfers read. -/
def H0 : Finset (Ref sig .tc) := {main_arg2}
theorem H0_sub : H0 ⊆ Pipeline.restRefsP sig pre0 spec0 := by decide

/-- What the steps hand on. -/
def inv (c : Dev nD) : sProp 𝕄 :=
  iprop((∃ r, prngReg c r) ∗ (table.view.loc (c : Thread nD τ) ↦{fullShare.right} posOf m c)
    ∗ semVal ((c : Thread nD τ), SemLoc.dma 6) 0
    ∗ (∃ f : S2x256x4096.Idx → Elt F .f32, scratch.view.loc (c : Thread nD τ) ↦{fullShare} f)
    ∗ (rows.view.loc (c : Thread nD τ) ↦{fullShare} rowsOf m c))

/-! ## The blocks -/

/-- Window `w`'s block at step `t`. -/
def blk (c : Dev nD) (w : Fin (cfgH m).W) (t : Fin (cfgH m).N) : (((cfgH m).win w).xblock ((cfgH m).grid.coords t)).Idx → Elt F ((cfgH m).win w).elt :=
  (((cfgH m).win w).blk t).view.read (Elt F) (V m c (Pipeline.arrRef spec0 w))

/-- What a step leaves. -/
def leaves_at (c : Dev nD) (t : Fin grid0.N) : Vec F S256x4096 .f32 :=
  combined (blk m c 0 t) (blk m c 1 t) (rowsOf m c) (posOf m c) (512 * (grid0.coords t 0).val)

def dats (_ : Fin 1) (c : Dev nD) : Dat τ (Elt F) Unit ℕ (Pipeline.UD sig nD τ) ℕ (cfgH m) c where
  A w := V m c (Pipeline.arrRef spec0 w)
  after w t := match w with
    | ⟨0, _⟩ => blk m c 0 t
    | ⟨1, _⟩ => blk m c 1 t
    | ⟨2, _⟩ => leaves_at m c t
  Φ _ := inv m c
  q _ := fullShare
  owed _ := 0

theorem dats_A (c : Dev nD) (w : Fin (cfgH m).W) : (dats m 0 c).A w = V m c (Pipeline.arrRef spec0 w) := by dsimp only [dats]

theorem after0 (c : Dev nD) (t : Fin (cfgH m).N) : (dats m 0 c).after 0 t = blk m c 0 t := by dsimp only [dats]; try rfl
theorem after1 (c : Dev nD) (t : Fin (cfgH m).N) : (dats m 0 c).after 1 t = blk m c 1 t := by dsimp only [dats]; try rfl
theorem after2 (c : Dev nD) (t : Fin (cfgH m).N) : (dats m 0 c).after 2 t = leaves_at m c t := by dsimp only [dats]; try rfl

theorem before0 (c : Dev nD) (t : Fin (cfgH m).N) (d) : (dats m 0 c).before 0 t d = blk m c 0 t :=
  ((dats m 0 c).before_in_eq_fetched 0 rfl (fun _ => rfl) (fun _ _ _ => rfl) (fun t => by rw [after0]; unfold Dat.blockOf blk; rw [dats_A]; try rfl) t d).trans
    (by unfold Dat.fetched Dat.blockOf blk; rw [dats_A]; try rfl)
theorem before1 (c : Dev nD) (t : Fin (cfgH m).N) (d) : (dats m 0 c).before 1 t d = blk m c 1 t :=
  ((dats m 0 c).before_in_eq_fetched 1 rfl (fun _ => rfl) (fun _ _ _ => rfl) (fun t => by rw [after1]; unfold Dat.blockOf blk; rw [dats_A]; try rfl) t d).trans
    (by unfold Dat.fetched Dat.blockOf blk; rw [dats_A]; try rfl)

/-! ## One step -/

abbrev stg (t : Fin (cfgH m).N) (w : Fin (cfgH m).W) := ((cfgH m).win w).stage ((cfgH m).slots t w)

/-- The body at a step. -/
abbrev bodyAt (t : Fin (cfgH m).N) : Prog (TpuEff nD τ sig (Elt F) Λ₀ .tc) PUnit :=
  cc0_moe_combine (grid0.coords t) table (Memref.isWhole_whole _)
    (spec0_0.stage ((cfgH m).slots t 0)) (hstage0_0 (((cfgH m).slots t 0).cast nbuf0_0))
    (spec0_1.stage ((cfgH m).slots t 1)) (hstage0_1 (((cfgH m).slots t 1).cast nbuf0_1))
    rows (Memref.isWhole_whole _)
    (spec0_2.stage ((cfgH m).slots t 2)) (hstage0_2 (((cfgH m).slots t 2).cast nbuf0_2))
    scratch (Memref.isWhole_whole _) cc0_scratch1

def preAt (c : Dev nD) (t : Fin (cfgH m).N) : sProp 𝕄 :=
  iprop((dats m 0 c).Φ t.castSucc ∗ (dats m 0 c).owesAt () t.castSucc
    ∗ (∃ d, owns (c : Thread nD τ) (stg m t 0) fullShare ((dats m 0 c).before 0 t d))
    ∗ (∃ d, owns (c : Thread nD τ) (stg m t 1) fullShare ((dats m 0 c).before 1 t d))
    ∗ (∃ d, owns (c : Thread nD τ) (stg m t 2) fullShare ((dats m 0 c).before 2 t d)))

def postAt (c : Dev nD) (t : Fin (cfgH m).N) : sProp 𝕄 :=
  iprop((dats m 0 c).Φ t.succ ∗ (dats m 0 c).owesAt () t.succ
    ∗ owns (c : Thread nD τ) (stg m t 0) fullShare ((dats m 0 c).after 0 t)
    ∗ owns (c : Thread nD τ) (stg m t 1) fullShare ((dats m 0 c).after 1 t)
    ∗ owns (c : Thread nD τ) (stg m t 2) fullShare ((dats m 0 c).after 2 t))

theorem sound (hA : ∀ c, Inside (posOf m c)) (c : Dev nD) (t : Fin (cfgH m).N) :
    preAt m c t ⊢ wp frame (wpE (defs₀ (F := F)) Variants.none c none) Set.univ (bodyAt m t) (fun _ => postAt m c t) := by
  unfold preAt postAt bodyAt
  simp only [before0, before1]
  rw [show (dats m 0 c).Φ t.succ = inv m c from rfl, show (dats m 0 c).Φ t.castSucc = inv m c from rfl, after0, after1, after2]
  unfold inv
  iintro ⟨⟨HG, HT, HS, HB, HY⟩, HW, ⟨%d0, H0⟩, ⟨%d1, H1⟩, ⟨%d2, H2⟩⟩
  ihave HW := TalkSites.owesAt_elim (dats m 0 c) () t.castSucc 0 rfl $$ HW
  iapply (leaves (Y := rowsOf m c) c fullShare.right (grid0.coords t) (hA c) _ _ _ _ _ _ (blk m c 0 t) (blk m c 1 t) _)
  isplitl [H0]; · iexact H0
  isplitl [H1]; · iexact H1
  isplitl [H2]; · iexists _; iexact H2
  isplitl [HT]; · iexact HT
  isplitl [HW]; · iexact HW
  isplitl [HS]; · iexact HS
  isplitl [HB]; · iexact HB
  isplitl [HY]; · iexact HY
  iintro ⟨H0, H1, H2, HT, ⟨%W, HW⟩, HS, HB, HY⟩
  isplitl [HG HT HS HB HY]
  · isplitl [HG]; · iexact HG
    isplitl [HT]; · iexact HT
    isplitl [HS]; · iexact HS
    isplitl [HB]; · iexact HB
    iexact HY
  isplitl [HW]
  · iapply TalkSites.owesAt_intro (dats m 0 c) () t.succ 0 rfl rfl W
    iexact HW
  isplitl [H0]; · iexact H0
  isplitl [H1]; · iexact H1
  iexact H2

theorem obligation (hA : ∀ c, Inside (posOf m c)) (c : Dev nD) : BodyObligation (dats (F := F) m 0 c) (defs₀ (F := F)) Variants.none () Set.univ := fun t => by
  rw [bigSep_W0, bigSep_W0]
  rw [show defs₀ (F := F) .tc (cfgH m).body ((cfgH m).bodyArgs t ((cfgH m).slots t)) = bodyAt m t from by unfold defs₀; rw [Defs.onTc_tc]]
  refine triple_restated (sound m hA c t) rfl .rfl fun _ => ?_
  unfold postAt
  iintro ⟨HΦ, Ho, H0, H1, H2⟩
  isplitl [HΦ]; · iexact HΦ
  isplitl [Ho]; · iexact Ho
  isplitl [H0]; · iexact H0
  isplitl [H1]; · iexact H1
  iexact H2

/-! ## The run -/

theorem read_eq (c : Dev nD) (W : (b : Ref sig .tc) → Buf (Elt F) ((c : Thread nD τ).loc b)) :
    (bigSep H0 (fun b => ((c : Thread nD τ).loc b) ↦{fullShare} W b) : sProp 𝕄) = (rows.view.loc (c : Thread nD τ) ↦{fullShare} W main_arg2) := by
  rw [BI.bigSep_eq_bigSepL_of_eq [main_arg2] (by decide) (by decide)]; rfl

theorem tables_held (c : Dev nD) :
    (Pipeline.ΦT pre0 (tables m 0).1 c : sProp 𝕄) = (table.view.loc (c : Thread nD τ) ↦{fullShare.right} posOf m c) := by
  have h : (tables m 0).1 0 = posOf m c := (tables_eq m c 0).symm
  unfold Pipeline.ΦT Pipeline.prefHeld
  rw [BI.bigSep_eq_bigSepL_of_eq [(0 : Fin 1)] (by decide) (by decide)]
  exact congrArg (fun f => (table.view.loc (c : Thread nD τ) ↦{fullShare.right} f : sProp 𝕄)) h

theorem enter (c : Dev nD) :
    iprop(Pipeline.ΦD osem0 spec0 H0 (V m) c ∗ Pipeline.ΦT pre0 (tables m 0).1 c) ⊢ (inv m c : sProp 𝕄) := by
  rw [Pipeline.ΦD_eq, scopedRest0_eq, ownSems00_eq, read_eq, tables_held]
  unfold inv
  iintro ⟨⟨HB, HG, HS, HY⟩, HT⟩
  isplitl [HG]; · iexact HG
  isplitl [HT]; · iexact HT
  isplitl [HS]; · iexact HS
  isplitl [HB]; · iexact HB
  iexact HY

theorem leave (c : Dev nD) : (inv m c : sProp 𝕄) ⊢ Pipeline.ΦD osem0 spec0 H0 (V m) c := by
  rw [Pipeline.ΦD_eq, scopedRest0_eq, ownSems00_eq, read_eq]
  unfold inv
  iintro ⟨HG, -, HS, HB, HY⟩
  isplitl [HB]; · iexact HB
  isplitl [HG]; · iexact HG
  isplitl [HS]; · iexact HS
  iexact HY

set_option backward.isDefEq.respectTransparency.types false in
theorem run (hA : ∀ c, Inside (posOf m c)) : θ_run defs (onTc (τ := τ) (main (F := F))) (s₀ m ρ)
    (fun r => (Pipeline.FramePost (Pipeline.pin pcfgs (tables m)) (dats m) 0 (V m)) r ∧ r.2.sem = fun _ => 0) :=
  Pipeline.θ_run_frameP_dma (Q' := _) pcfgs (tables m) (dats m) (0 : Fin 1) launch0 osem0 defs₀ Variants.none ownSemFacts0 H0 H0_sub m ρ main
    (hbody := fun c => (obligation m hA c).loose) (hshare := fun c => (dats m 0 c).share_full fun _ => rfl)
    (howed := fun _ _ => rfl) (V := V m) (hmain := hmain m Variants.none) (hA := dats_A m) (hpf := fun c k => tables_eq m c k)
    (hin := fun c => enter m c) (hout := fun c => leave m c) (hQ' := fun _ h => h)

/-- The result, and the arguments as they were. -/
theorem combination (hA : ∀ c, Inside (posOf m c)) : θ_run defs (onTc (τ := τ) (main (F := F))) ⟨m, fun _ => 0, ρ⟩ (fun r =>
    (∀ c : Dev nD, r.2.mem ((c.tc : Thread nD τ).loc main_v0) = (dats m 0 c).arrAt 2 (cfgH m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c).1 2,
      ((h.1 c).1 0).trans (((dats m 0 c).arrAt_in 0 rfl _).trans (dats_A m c 0)),
      ((h.1 c).1 1).trans (((dats m 0 c).arrAt_in 1 rfl _).trans (dats_A m c 1)),
      (h.1 c).2 main_arg2 (by decide : main_arg2 ∈ Pipeline.restRefs sig spec0),
      (h.1 c).2 main_arg3 (by decide : main_arg3 ∈ Pipeline.restRefs sig spec0)⟩, h.2⟩) (run m ρ hA)

end Cert.Kernel7Ideal.Combine

end
-- ==== Proof.CombineValue.lean ====
module

public import proofs.«01_k».proof.Proof.CombineRun
public import proofs.«01_k».proof.Proof.Pre
public import proofs.«01_k».proof.Proof.Gen.Pre_rows_exist
public import Idealize.ShloMosaic.Lib.Pipeline.Covers

@[expose] public section

/-!
# The combination's result over the reals

A token's result is its residual and the rows of its two pairs, each under its gate weight.
-/

set_option maxRecDepth 16384

noncomputable section

namespace Cert.Kernel7Ideal.Combine

open Cert.Kernel7Ideal Cert.Kernel7Ideal.Gen
open Idealize.ShloMosaic Idealize.ShloMosaic.TcCoe Idealize.ShloMosaic.ValueIdx
open Idealize.ShloMosaic.Pipeline (Dat Cfg Window)
open Cert.KernelIdeal.Dispatch (one_of_and word_lt)

/-! ## The precondition -/

theorem cell_eq (p : ℕ) (h : p < 16384) : cell p = ix1 ⟨p, h⟩ := by
  funext a
  match a with
  | ⟨0, _⟩ => exact Fin.ext (Nat.mod_eq_of_lt h)

/-- The printed precondition, all ones, says that every pair's row is there. -/
theorem inside_of_pre {F : FTy → Type} [FloatOps F] [hPre : Cert.Pre_rows_exist.Facts] {x : FVec F S8192x4096 .f32} {w : FVec F S8192x128 .f32}
    {Y : FVec F S24576x4096 .f32} {pos : S16384.Idx → BitVec 32} (h : Cert.Pre_rows_exist.fn (F := F) x w Y pos = fun _ => 1#1) : Inside pos :=
  fun p hp => by
    have e := one_of_and (congrFun h (ix1 ⟨p, hp⟩))
    rw [row, cell_eq p hp]
    exact word_lt e.1 e.2

/-! ## One token -/

/-- A token's residual and its two pairs' rows under their weights. -/
def plain (x : S8192x4096.Idx → EReal) (w : S8192x128.Idx → EReal) (Y : S24576x4096.Idx → EReal) (pos : S16384.Idx → BitVec 32) : S8192x4096.Idx → EReal :=
  fun i => x i + (w (ix2 (i 0) (0 : Fin 128)) * Y (src (row pos (2 * (i 0).val)) (i 1))
    + w (ix2 (i 0) (1 : Fin 128)) * Y (src (row pos (2 * (i 0).val + 1)) (i 1)))

theorem half0_apply (g : S2x256x4096.Idx → EReal) (r : Fin 256) (j : Fin 4096) :
    (half0 (F := Ideal) g : S1x256x4096.Idx → EReal) (ix3 (0 : Fin 1) r j) = g (ix3 (0 : Fin 2) r j) :=
  congrArg g (funext fun a => Fin.ext (by
    fin_cases a
    · rfl
    · show 0 + 1 * r.val = r.val; omega
    · show 0 + 1 * j.val = j.val; omega))

theorem half1_apply (g : S2x256x4096.Idx → EReal) (r : Fin 256) (j : Fin 4096) :
    (half1 (F := Ideal) g : S1x256x4096.Idx → EReal) (ix3 (0 : Fin 1) r j) = g (ix3 (1 : Fin 2) r j) :=
  congrArg g (funext fun a => Fin.ext (by
    fin_cases a
    · rfl
    · show 0 + 1 * r.val = r.val; omega
    · show 0 + 1 * j.val = j.val; omega))

theorem flat (h : Vec Ideal S1x256x4096 .f32) (r : Fin 256) (j : Fin 4096) :
    (shapeCast S256x4096 h shapeCasts_S1x256x4096_S256x4096 : S256x4096.Idx → EReal) (ix2 r j) = h (ix3 (0 : Fin 1) r j) :=
  shapeCast_apply _ _ _ _ (by
    rw [Shape.rowMajor_val_three, Shape.rowMajor_val_two]
    show (0 * 256 + r.val) * 4096 + j.val = r.val * 4096 + j.val
    omega)

theorem weight0 (w : Vec Ideal S256x128 .f32) (r : Fin 256) (j : Fin 4096) :
    (broadcastTo S256x4096 (extractStridedSlice S256x1 ![0, 0] w slices_S256x128_o0_0_S256x1) broadcasts_S256x1_S256x4096 : S256x4096.Idx → EReal) (ix2 r j)
      = w (ix2 r (0 : Fin 128)) := by
  refine (broadcastTo_apply _ _ (ix2 r j) (ix2 r (0 : Fin 1)) (fun a => by fin_cases a <;> rfl)).trans ?_
  exact extractStridedSlice_apply _ _ _ _ _ fun a => by fin_cases a <;> simp [ix2]

theorem weight1 (w : Vec Ideal S256x128 .f32) (r : Fin 256) (j : Fin 4096) :
    (broadcastTo S256x4096 (extractStridedSlice S256x1 ![0, 1] w slices_S256x128_o0_1_S256x1) broadcasts_S256x1_S256x4096 : S256x4096.Idx → EReal) (ix2 r j)
      = w (ix2 r (1 : Fin 128)) := by
  refine (broadcastTo_apply _ _ (ix2 r j) (ix2 r (0 : Fin 1)) (fun a => by fin_cases a <;> rfl)).trans ?_
  exact extractStridedSlice_apply _ _ _ _ _ fun a => by fin_cases a <;> simp [ix2]

theorem pay_apply (w : Vec Ideal S256x128 .f32) (x : Vec Ideal S256x4096 .f32) (h0 h1 : Vec Ideal S1x256x4096 .f32) (r : Fin 256) (j : Fin 4096) :
    (k0_pay1 w x h0 h1 : S256x4096.Idx → EReal) (ix2 r j) = (x (ix2 r j) : EReal) + ((w (ix2 r (0 : Fin 128)) : EReal) * h0 (ix3 (0 : Fin 1) r j)
      + (w (ix2 r (1 : Fin 128)) : EReal) * h1 (ix3 (0 : Fin 1) r j)) := by
  rw [← add_assoc]
  unfold k0_pay1
  exact congrArg₂ (fun a b : EReal => a + b) (congrArg (fun b : EReal => x (ix2 r j) + b) (congrArg₂ (fun a b : EReal => a * b) (weight0 w r j) (flat h0 r j)))
    (congrArg₂ (fun a b : EReal => a * b) (weight1 w r j) (flat h1 r j))

/-! ## The blocks -/

variable (m : (ℓ : Loc nD τ sig) → Buf (Elt Ideal) ℓ)

abbrev residual (c : Dev nD) : S8192x4096.Idx → EReal := m ((c : Thread nD τ).loc main_arg0)
abbrev weights (c : Dev nD) : S8192x128.Idx → EReal := m ((c : Thread nD τ).loc main_arg1)

theorem step_lt (t : Fin grid0.N) : (grid0.coords t 0).val < 32 := (grid0.coords t 0).isLt

def token (t : Fin grid0.N) (r : Fin 256) : Fin 8192 :=
  ⟨256 * (grid0.coords t 0).val + r.val, by have := step_lt t; omega⟩

theorem blk0 (c : Dev nD) (t : Fin grid0.N) (r : Fin 256) (j : Fin 4096) :
    (blk m c 0 t : S256x4096.Idx → EReal) (ix2 r j) = residual m c (ix2 (token t r) j) := by
  refine congrArg (residual m c) (funext fun a => Fin.ext ?_)
  have h0 := step_lt t
  fin_cases a
  · show (BitVec.ofNat 32 (grid0.coords t 0).val).toNat * 256 + 1 * r.val = 256 * (grid0.coords t 0).val + r.val
    rw [BitVec.toNat_ofNat]; omega
  · show 0 * 4096 + 1 * j.val = j.val
    omega

theorem blk1 (c : Dev nD) (t : Fin grid0.N) (r : Fin 256) (j : Fin 128) :
    (blk m c 1 t : S256x128.Idx → EReal) (ix2 r j) = weights m c (ix2 (token t r) j) := by
  refine congrArg (weights m c) (funext fun a => Fin.ext ?_)
  have h0 := step_lt t
  fin_cases a
  · show (BitVec.ofNat 32 (grid0.coords t 0).val).toNat * 256 + 1 * r.val = 256 * (grid0.coords t 0).val + r.val
    rw [BitVec.toNat_ofNat]; omega
  · show 0 * 128 + 1 * j.val = j.val
    omega

theorem pair0 (Y : S24576x4096.Idx → EReal) (pos : S16384.Idx → BitVec 32) (t : Fin grid0.N) (r : Fin 256) (j : Fin 4096) :
    (half0 (F := Ideal) (gathered Y pos (512 * (grid0.coords t 0).val)) : S1x256x4096.Idx → EReal) (ix3 (0 : Fin 1) r j)
      = Y (src (row pos (2 * (token t r).val)) j) := by
  rw [half0_apply]
  show Y (src (row pos (512 * (grid0.coords t 0).val + (2 * r.val + 0))) j) = Y (src (row pos (2 * (256 * (grid0.coords t 0).val + r.val))) j)
  rw [show 512 * (grid0.coords t 0).val + (2 * r.val + 0) = 2 * (256 * (grid0.coords t 0).val + r.val) by omega]

theorem pair1 (Y : S24576x4096.Idx → EReal) (pos : S16384.Idx → BitVec 32) (t : Fin grid0.N) (r : Fin 256) (j : Fin 4096) :
    (half1 (F := Ideal) (gathered Y pos (512 * (grid0.coords t 0).val)) : S1x256x4096.Idx → EReal) (ix3 (0 : Fin 1) r j)
      = Y (src (row pos (2 * (token t r).val + 1)) j) := by
  rw [half1_apply]
  show Y (src (row pos (512 * (grid0.coords t 0).val + (2 * r.val + 1))) j) = Y (src (row pos (2 * (256 * (grid0.coords t 0).val + r.val) + 1)) j)
  rw [show 512 * (grid0.coords t 0).val + (2 * r.val + 1) = 2 * (256 * (grid0.coords t 0).val + r.val) + 1 by omega]

theorem point (c : Dev nD) (t : Fin grid0.N) (r : Fin 256) (j : Fin 4096) :
    (leaves_at m c t : S256x4096.Idx → EReal) (ix2 r j) = plain (residual m c) (weights m c) (rowsOf m c) (posOf m c) (ix2 (token t r) j) := by
  unfold leaves_at combined
  refine (pay_apply _ _ _ _ r j).trans (congrArg₂ (fun a b : EReal => a + b) (blk0 m c t r j) (congrArg₂ (fun a b : EReal => a + b) ?_ ?_))
  · exact congrArg₂ (fun a b : EReal => a * b) (blk1 m c t r 0) (pair0 (rowsOf m c) (posOf m c) t r j)
  · exact congrArg₂ (fun a b : EReal => a * b) (blk1 m c t r 1) (pair1 (rowsOf m c) (posOf m c) t r j)

theorem cover : ((cfgH m).win (2 : Fin 3)).Covers := by
  refine Pipeline.Window.covers_of_indexMap_surj ((cfgH m).win (2 : Fin 3)) rfl (fun a => by
    fin_cases a
    · show 0 < 256; decide
    · show 0 < 4096; decide) fun β => ?_
  have h0 : (β 0).val < 32 := lt_of_lt_of_eq (β 0).isLt (show (8192 + 256 - 1) / 256 = 32 by decide)
  have h1 : (β 1).val < 1 := lt_of_lt_of_eq (β 1).isLt (show (4096 + 4096 - 1) / 4096 = 1 by decide)
  refine ⟨fun a => match a with
    | ⟨0, _⟩ => (⟨(β 0).val, h0⟩ : Fin 32), fun a => ?_⟩
  fin_cases a
  · show (BitVec.ofNat 32 (β 0).val).toNat = (β 0).val
    rw [BitVec.toNat_ofNat]; omega
  · show 0 = (β 1).val
    omega

/-- The kernel's result. -/
theorem value (c : Dev nD) : (dats m 0 c).arrAt (2 : Fin 3) (cfgH m).N = plain (residual m c) (weights m c) (rowsOf m c) (posOf m c) := by
  refine Pipeline.Dat.arrAt_eq_of_covers (dat := dats m 0 c) (2 : Fin 3) (plain (residual m c) (weights m c) (rowsOf m c) (posOf m c)) (cover m) fun t _ y => ?_
  show (dats m 0 c).after (2 : Fin 3) t _ = _
  rw [after2]
  have h0 : (y 0).val < 256 := (y 0).isLt
  have h1 : (y 1).val < 4096 := (y 1).isLt
  refine Eq.trans (congrArg (leaves_at m c t : S256x4096.Idx → EReal) (a₂ := ix2 ⟨(y 0).val, h0⟩ ⟨(y 1).val, h1⟩) (funext fun a => by fin_cases a <;> rfl)) ((point m c t _ _).trans ?_)
  refine congrArg (plain (residual m c) (weights m c) (rowsOf m c) (posOf m c)) (funext fun a => Fin.ext ?_)
  have g0 := step_lt t
  fin_cases a
  · show 256 * (grid0.coords t 0).val + (y 0).val = (BitVec.ofNat 32 (grid0.coords t 0).val).toNat * 256 + 1 * (y 0).val
    rw [BitVec.toNat_ofNat]; omega
  · show (y 1).val = 0 * 4096 + 1 * (y 1).val
    omega

end Cert.Kernel7Ideal.Combine

end
-- ==== Proof.CombineRef.lean ====
module

public import proofs.«01_k».proof.Proof.CombineValue
public import proofs.«01_k».proof.Proof.Gen.Reference7Ideal
public import Idealize.ShloMosaic.Lib.Routing.Ops
public import Idealize.ShloMosaic.Lib.Routing.OpsPair
public import Idealize.ShloMosaic.Lib.IdealHost

@[expose] public section

/-!
# The reference's combination

The reference takes all the rows at once and sums each token's two over their axis.
-/

set_option maxRecDepth 16384

noncomputable section

namespace Cert.Reference7Ideal.Combine

open Cert.Reference7Ideal Cert.Reference7Ideal.Gen
open Idealize.ShloMosaic Idealize.ShloMosaic.TcCoe Idealize.ShloMosaic.ValueIdx
open Cert.Kernel7Ideal.Combine (plain src row cell cell_eq Inside)

/-- The table as the reference reads it, each place's sign mended first. -/
def places (pos : S16384.Idx → BitVec 32) : IVec S16384x1 32 :=
  broadcastInDim S16384x1 ![0] bcast_S16384_S16384x1_0
    (select (cmpi .slt pos (broadcastInDim S16384 ![] bcast_S_S16384 (constantI S_ 32 0#32)))
      (addi pos (broadcastInDim S16384 ![] bcast_S_S16384 (constantI S_ 32 24576#32))) pos)

theorem places_apply {pos : S16384.Idx → BitVec 32} (hA : Inside pos) (p : Fin 16384) : places pos (ix2 p (0 : Fin 1)) = BitVec.ofNat 32 (row pos p.val) := by
  have hl := hA p.val p.isLt
  rw [row, cell_eq p.val p.isLt] at hl
  unfold places
  rw [broadcastInDim_apply _ _ _ (ix2 p (0 : Fin 1)) (ix1 p) (by intro a; match a with | ⟨0, _⟩ => rfl), row, cell_eq p.val p.isLt]
  refine (Routing.wrap_of_lt (pos (ix1 p)) _ (show (pos (ix1 p)).toNat < 2 ^ 31 from ?_)).trans (by rw [BitVec.ofNat_toNat, BitVec.setWidth_eq])
  exact lt_trans hl (by decide)

/-- The rows of all pairs. -/
def taken (Y : FVec Ideal S24576x4096 .f32) (pos : S16384.Idx → BitVec 32) : FVec Ideal S16384x4096 .f32 :=
  Host.gather gather_S24576x4096_S16384x1_S16384x4096_1_0_n_n_0_1_14096 Y (places pos)

theorem taken_apply (Y : FVec Ideal S24576x4096 .f32) {pos : S16384.Idx → BitVec 32} (hA : Inside pos) (p : Fin 16384) (j : Fin 4096) :
    taken Y pos (ix2 p j) = Y (src (row pos p.val) j) := by
  have hl := hA p.val p.isLt
  refine (Routing.gather_row (nb := 24576) (B := 4096) (n := 16384) gather_S24576x4096_S16384x1_S16384x4096_1_0_n_n_0_1_14096 rfl rfl rfl rfl rfl Y (places pos) p j
    ⟨row pos p.val, hl⟩ (places_apply hA p) (by decide)).trans ?_
  refine congrArg Y (funext fun a => ?_)
  match a with
  | ⟨0, _⟩ => exact Fin.ext (Nat.mod_eq_of_lt hl).symm
  | ⟨1, _⟩ => rfl

/-- The rows by token and choice. -/
theorem split_apply (Y : FVec Ideal S24576x4096 .f32) {pos : S16384.Idx → BitVec 32} (hA : Inside pos) (s : Fin 8192) (k : Fin 2) (j : Fin 4096) :
    shapeCast S8192x2x4096 (taken Y pos) shapeCasts_S16384x4096_S8192x2x4096 (ix3 s k j) = Y (src (row pos (2 * s.val + k.val)) j) := by
  have hs := s.isLt
  have hk := k.isLt
  rw [shapeCast_apply _ _ (ix3 s k j) (ix2 (⟨2 * s.val + k.val, by omega⟩ : Fin 16384) j) (by
    rw [Shape.rowMajor_val_three, Shape.rowMajor_val_two]
    show (2 * s.val + k.val) * 4096 + j.val = (s.val * 2 + k.val) * 4096 + j.val
    omega)]
  exact taken_apply Y hA _ j

/-- The weights by token and choice. -/
def gates (w : FVec Ideal S8192x128 .f32) : FVec Ideal S8192x2x4096 .f32 :=
  broadcastInDim S8192x2x4096 ![0, 1, 2] bcast_S8192x2x1_S8192x2x4096_0_1_2
    (broadcastInDim S8192x2x1 ![0, 1] bcast_S8192x2_S8192x2x1_0_1 (extractStridedSlice S8192x2 ![0, 0] w slices_S8192x128_S8192x2_0_0))

theorem gates_apply (w : FVec Ideal S8192x128 .f32) (s : Fin 8192) (k : Fin 2) (j : Fin 4096) :
    gates w (ix3 s k j) = w (ix2 s (⟨k.val, by omega⟩ : Fin 128)) := by
  unfold gates
  rw [broadcastInDim_apply _ _ _ (ix3 s k j) (ix3 s k (0 : Fin 1)) (by intro a; match a with | ⟨0, _⟩ => rfl | ⟨1, _⟩ => rfl | ⟨2, _⟩ => rfl),
    broadcastInDim_apply _ _ _ (ix3 s k (0 : Fin 1)) (ix2 s k) (by intro a; match a with | ⟨0, _⟩ => rfl | ⟨1, _⟩ => rfl)]
  exact extractStridedSlice_apply _ _ _ _ _ fun a => by fin_cases a <;> simp [ix2]

/-- The sum over a token's two choices. -/
theorem summed (X : FVec Ideal S8192x2x4096 .f32) (s : Fin 8192) (j : Fin 4096) :
    Host.reduceAdd X (constant S_ .f32 0x00000000#32) reducesTo_S8192x2x4096_S8192x4096_d1 h_S_ (ix2 s j)
      = (X (ix3 s (0 : Fin 2) j) : EReal) + X (ix3 s (1 : Fin 2) j) := by
  have hR : Shape.Reduces S8192x2x4096 [1] S8192x4096 := by decide
  refine (hostReduceAdd_apply X _ reducesTo_S8192x2x4096_S8192x4096_d1 h_S_ (ix2 s j)).trans ?_
  refine (Ideal.hostReduceAdd_single reducesTo_S8192x2x4096_S8192x4096_d1 hR X _ (ix2 s j)).trans ?_
  refine (congrArg (· + _) (Ideal.ofBits_zero_f32)).trans ((zero_add _).trans ?_)
  have h : ∀ k : Fin 2, hR.lift (ix2 s j) k = ix3 s k j := fun k => by funext a; fin_cases a <;> rfl
  refine (Finset.sum_congr rfl fun k _ => congrArg X (h k)).trans ?_
  exact Fin.sum_univ_two (fun k : Fin 2 => (X (ix3 s k j) : EReal))

/-- The reference's result is the same. -/
theorem value (x : FVec Ideal S8192x4096 .f32) (w : FVec Ideal S8192x128 .f32) (Y : FVec Ideal S24576x4096 .f32) {pos : S16384.Idx → BitVec 32} (hA : Inside pos) :
    (addf x (Host.reduceAdd (mulf (gates w) (shapeCast S8192x2x4096 (taken Y pos) shapeCasts_S16384x4096_S8192x2x4096))
      (constant S_ .f32 0x00000000#32) reducesTo_S8192x2x4096_S8192x4096_d1 h_S_) : S8192x4096.Idx → EReal) = plain x w Y pos := by
  funext i
  obtain ⟨s, j, rfl⟩ : ∃ (s : Fin 8192) (j : Fin 4096), i = ix2 s j := ⟨i 0, i 1, funext fun a => by fin_cases a <;> rfl⟩
  refine congrArg (fun b : EReal => x (ix2 s j) + b) ((summed _ s j).trans (congrArg₂ (fun a b : EReal => a + b) ?_ ?_))
  · exact congrArg₂ (fun a b : EReal => a * b) (gates_apply w s 0 j) (split_apply Y hA s 0 j)
  · exact congrArg₂ (fun a b : EReal => a * b) (gates_apply w s 1 j) (split_apply Y hA s 1 j)

end Cert.Reference7Ideal.Combine

end
-- ==== Proof.lean ====
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Pre_rows_apart
public import proofs.«01_k».proof.Proof.Gen.Pre_finite
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Loops
public import proofs.«01_k».proof.Proof.Gen.Reference7Ideal.Run
public import proofs.«01_k».proof.Proof.Gen.Pre_rows_exist
public import proofs.«01_k».proof.Proof.Gen.Kernel8
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.Gen.Kernel8Ideal.Value
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Value
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Launch
public import proofs.«01_k».proof.Proof.Gen.Kernel10Ideal.Skeleton
public import proofs.«01_k».proof.Proof.Gen.Kernel10Ideal.Value
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Launch
public import proofs.«01_k».proof.Proof.Gen.Kernel11Ideal.Skeleton
public import proofs.«01_k».proof.Proof.Gen.Kernel11Ideal.Value
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Launch
public import proofs.«01_k».proof.Proof.Gen.Kernel12Ideal.Skeleton
public import proofs.«01_k».proof.Proof.Gen.Kernel12Ideal.Value
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel4Ideal.Value
public import proofs.«01_k».proof.Proof.Gen.Kernel4Ideal.Frame
public import proofs.«01_k».proof.Proof.Gen.Kernel5Ideal.Value
public import proofs.«01_k».proof.Proof.Gen.Kernel5Ideal.Frame
public import proofs.«01_k».proof.Proof.Gen.Kernel6Ideal.Value
public import proofs.«01_k».proof.Proof.Gen.Kernel6Ideal.Frame
public import proofs.«01_k».proof.Proof.Run
public import proofs.«01_k».proof.Proof.Pre
public import proofs.«01_k».proof.Proof.Value
public import proofs.«01_k».proof.Proof.ExpertsSame
public import proofs.«01_k».proof.Proof.ExpertsValue
public import proofs.«01_k».proof.Proof.AttentionSame
public import proofs.«01_k».proof.Proof.AttentionRun
public import proofs.«01_k».proof.Proof.AttentionValue
public import proofs.«01_k».proof.Proof.ProjectionsSame
public import proofs.«01_k».proof.Proof.InProj
public import proofs.«01_k».proof.Proof.MlaProj
public import proofs.«01_k».proof.Proof.SsmProj
public import proofs.«01_k».proof.Proof.QueryProj
public import proofs.«01_k».proof.Proof.QueryBuild
public import proofs.«01_k».proof.Proof.KeyBuild
public import proofs.«01_k».proof.Proof.QueryBuildRef
public import proofs.«01_k».proof.Proof.KeyBuildRef
public import proofs.«01_k».proof.Proof.QueryBuildSame
public import proofs.«01_k».proof.Proof.KeyBuildSame
public import proofs.«01_k».proof.Proof.LatentProj
public import proofs.«01_k».proof.Proof.ValueProj
public import proofs.«01_k».proof.Proof.CombineSame
public import proofs.«01_k».proof.Proof.CombineRef
public import Idealize.ShloMosaic.Lib.Quiescent

@[expose] public section

/-!
# The claims about the dispatch, the experts, the attention, the projections and the combination

The dispatch and its reference both end with `mix` of the tokens and the table after all the pairs, over zeros.
The experts and their reference both end with each row through its tile's expert, and zeros past the last tile that carries tokens.
The attention and its reference both end, from queries and keys that are numbers, with `plain` of the arguments.
Each projection and its reference both end with the plain product, the two output projections on top of their residuals,
the queries' down projection and the shared latent with their rows normalized.
The combination and its reference both end with `plain` of the residual, the weights, the rows and the table.
-/

noncomputable section

namespace Cert.Proof

open Idealize.ShloMosaic Idealize.ShloMosaic.TcCoe Idealize.SL.Sem
open Cert.KernelIdeal.Dispatch (mix Z posOf tokOf Apart apart_of_pre dispatched)

variable {F : FTy → Type} [FloatOps F]

/-- The reference's result, its operands as they were, and no semaphore counting: it has none. -/
theorem referred (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ (fun r => (∀ c : Dev Cert.ReferenceIdeal.nD,
      (Apart (m ((c.tc : Thread _ Cert.ReferenceIdeal.τ).loc Cert.ReferenceIdeal.main_arg1)) →
        r.2.mem ((c.tc : Thread _ Cert.ReferenceIdeal.τ).loc Cert.ReferenceIdeal.main_v9)
          = mix (Z : Cert.KernelIdeal.S24576x4096.Idx → Elt F .f32) (m ((c.tc : Thread _ Cert.ReferenceIdeal.τ).loc Cert.ReferenceIdeal.main_arg0))
              (m ((c.tc : Thread _ Cert.ReferenceIdeal.τ).loc Cert.ReferenceIdeal.main_arg1)) 16384)
      ∧ r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1))
      ∧ r.2.sem = fun _ => 0) :=
  (θ_run Cert.ReferenceIdeal.defs _ _).mono (fun r h => ⟨fun c => ⟨fun hA => (h c).1.trans
      (Cert.KernelIdeal.Dispatch.scattered_rows hA Z _ _ _ (Cert.KernelIdeal.Dispatch.mended hA) (Cert.KernelIdeal.Dispatch.doubled _)), (h c).2⟩,
      Idealize.ShloMosaic.sem_eq_zero_of_no_sems (by decide) r.2⟩)
    (Cert.ReferenceIdeal.Value.run (F := F) m ρ)

theorem frame_kernel : Cert.quiescent_Kernel := fun m ρ h =>
  (θ_run Cert.KernelIdeal.defs _ _).mono (fun _ h => ⟨fun c => (h.1 c).2, h.2⟩)
    (dispatched (F := Bits) m ρ fun c => apart_of_pre (h c))

theorem frame_kernel_ideal : Cert.quiescent_KernelIdeal := fun m ρ h =>
  (θ_run Cert.KernelIdeal.defs _ _).mono (fun _ h => ⟨fun c => (h.1 c).2, h.2⟩)
    (dispatched (F := Ideal) m ρ fun c => apart_of_pre (h c))

theorem frame_reference : Cert.quiescent_Reference := fun m ρ _ =>
  (θ_run Cert.ReferenceIdeal.defs _ _).mono (fun _ h => ⟨fun c => (h.1 c).2, h.2⟩) (referred (F := Bits) m ρ)

theorem frame_reference_ideal : Cert.quiescent_ReferenceIdeal := fun m ρ _ =>
  (θ_run Cert.ReferenceIdeal.defs _ _).mono (fun _ h => ⟨fun c => (h.1 c).2, h.2⟩) (referred (F := Ideal) m ρ)

theorem same_bits : Cert.bitexact_Kernel_Reference := fun m ρ m' ρ' h e => by
  have hA : ∀ c, Apart (posOf m c) := fun c => apart_of_pre (h c)
  refine ⟨fun c => mix Z (tokOf m c) (posOf m c) 16384, ?_, ?_⟩
  · exact (θ_run Cert.KernelIdeal.defs _ _).mono (fun _ h => h.1) (dispatched (F := Bits) m ρ hA)
  · refine (θ_run Cert.ReferenceIdeal.defs _ _).mono (fun _ h c => ⟨((h.1 c).1 ?_).trans ?_, (h.1 c).2⟩) (referred (F := Bits) m' ρ')
    · rw [(e c).2]; exact hA c
    · rw [(e c).1, (e c).2]; rfl

theorem same_values : Cert.algebraic_KernelIdeal_ReferenceIdeal := fun m ρ m' ρ' h e => by
  have hA : ∀ c, Apart (posOf m c) := fun c => apart_of_pre (h c)
  refine ⟨fun c => mix Z (tokOf m c) (posOf m c) 16384, ?_, ?_⟩
  · exact (θ_run Cert.KernelIdeal.defs _ _).mono (fun _ h => h.1) (dispatched (F := Ideal) m ρ hA)
  · refine (θ_run Cert.ReferenceIdeal.defs _ _).mono (fun _ h c => ⟨((h.1 c).1 ?_).trans ?_, (h.1 c).2⟩) (referred (F := Ideal) m' ρ')
    · rw [(e c).2]; exact hA c
    · rw [(e c).1, (e c).2]; rfl

/-! ## The experts -/

theorem frame_experts : Cert.quiescent_Kernel2 := fun m ρ _ => by
  rw [Cert.Kernel2Ideal.Experts.same_defs, Cert.Kernel2Ideal.Experts.same_main]
  exact (θ_run Cert.Kernel2Ideal.defs _ _).mono (fun _ h => ⟨fun c => (h.1 c).2, h.2⟩) (Cert.Kernel2Ideal.Experts.experts (F := Bits) m ρ)

theorem frame_experts_ideal : Cert.quiescent_Kernel2Ideal := fun m ρ _ =>
  (θ_run Cert.Kernel2Ideal.defs _ _).mono (fun _ h => ⟨fun c => (h.1 c).2, h.2⟩) (Cert.Kernel2Ideal.Experts.experts (F := Ideal) m ρ)

theorem frame_experts_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem experts_values : Cert.algebraic_Kernel2Ideal_Reference2Ideal := fun m ρ m' ρ' _ e => by
  refine ⟨fun c => Cert.Kernel2Ideal.Experts.plain m c, ?_, ?_⟩
  · exact (θ_run Cert.Kernel2Ideal.defs _ _).mono (fun _ h c => ⟨(h.1 c).1.trans (Cert.Kernel2Ideal.Experts.value m c), (h.1 c).2⟩)
      (Cert.Kernel2Ideal.Experts.experts (F := Ideal) m ρ)
  · refine (θ_run Cert.Reference2Ideal.defs _ _).mono (fun _ h c => ⟨((h c).1.trans (Cert.Reference2Ideal.Dense.res_eq m' c)).trans ?_, (h c).2⟩)
      (Cert.Reference2Ideal.Value.run (F := Ideal) m' ρ')
    obtain ⟨e0, e1, e2, e3, e4, e5⟩ := e c
    rw [e0, e1, e2, e3, e4, e5]; rfl

/-! ## The attention -/

section
attribute [local instance] Cert.Kernel3Ideal.Attention.asWord

theorem frame_attention : Cert.quiescent_Kernel3 := fun m ρ _ => by
  rw [Cert.Kernel3Ideal.Attention.same_defs, Cert.Kernel3Ideal.Attention.same_main]
  exact (θ_run Cert.Kernel3Ideal.defs _ _).mono (fun _ h => ⟨fun c => (h.1 c).2, h.2⟩) (Cert.Kernel3Ideal.Attention.attention (F := Bits) m ρ)

end

theorem frame_attention_ideal : Cert.quiescent_Kernel3Ideal := fun m ρ _ =>
  (θ_run Cert.Kernel3Ideal.defs _ _).mono (fun _ h => ⟨fun c => (h.1 c).2, h.2⟩) (Cert.Kernel3Ideal.Attention.attention (F := Ideal) m ρ)

theorem frame_attention_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_attention_finite : Cert.quiescent_Kernel3Ideal_pre_finite := fun m ρ _ => frame_attention_ideal m ρ trivial

theorem frame_attention_reference_finite : Cert.quiescent_Reference3Ideal_pre_finite := fun m ρ _ => frame_attention_reference m ρ trivial

theorem attention_values : Cert.algebraic_Kernel3Ideal_Reference3Ideal_pre_finite := fun m ρ m' ρ' h e => by
  refine ⟨fun c => Cert.Reference3Ideal.Plain.plain (Cert.Kernel3Ideal.Attention.queries m c) (Cert.Kernel3Ideal.Attention.keys m c)
    (Cert.Kernel3Ideal.Attention.values m c) (Cert.Kernel3Ideal.Attention.posOf m c), ?_, ?_⟩
  · exact (θ_run Cert.Kernel3Ideal.defs _ _).mono (fun _ hr c =>
      ⟨(hr.1 c).1.trans (Cert.Kernel3Ideal.Attention.value m c (Cert.Kernel3Ideal.Attention.numbers_of_pre (h c))), (hr.1 c).2⟩)
      (Cert.Kernel3Ideal.Attention.attention (F := Ideal) m ρ)
  · refine (θ_run Cert.Reference3Ideal.defs _ _).mono (fun _ hr c => ⟨((hr c).1.trans (Cert.Reference3Ideal.Plain.res_eq m' c)).trans ?_, (hr c).2⟩)
      (Cert.Reference3Ideal.Value.run (F := Ideal) m' ρ')
    obtain ⟨e0, e1, e2, e3⟩ := e c
    rw [e0, e1, e2, e3]; rfl

theorem mask_named : Cert.preserves_Kernel3_Kernel3Ideal :=
  have h : Cert.Kernel3Ideal.κ "mask" = some ⊥ := by simp [Cert.Kernel3Ideal.κ]
  ⟨h, fun _ => IdealRules.named_const.ideal_named _ _ _ _ h, IdealRules.named_const.ideal_named_scalar _ _ _ _ h⟩

/-! ## The projections -/

theorem frame_in_proj : Cert.quiescent_Kernel4 := fun m ρ _ => by
  rw [Cert.Kernel4Ideal.InProj.same_defs, Cert.Kernel4Ideal.InProj.same_main]
  exact Cert.Kernel4Ideal.Gen.frame (F := Bits) m ρ

theorem frame_in_proj_ideal : Cert.quiescent_Kernel4Ideal := fun m ρ _ => Cert.Kernel4Ideal.Gen.frame (F := Ideal) m ρ

theorem frame_in_proj_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem in_proj_values : Cert.algebraic_Kernel4Ideal_Reference4Ideal := fun m ρ m' ρ' _ e => by
  refine ⟨fun c => Cert.Kernel4Ideal.InProj.plain (Cert.Kernel4Ideal.InProj.acts m c) (Cert.Kernel4Ideal.InProj.weights m c), ?_, ?_⟩
  · exact (θ_run Cert.Kernel4Ideal.defs _ _).mono (fun _ h c => ⟨(h c).1.trans (Cert.Kernel4Ideal.InProj.value m c), (h c).2⟩)
      (Cert.Kernel4Ideal.Value.run_blocks (F := Ideal) m ρ)
  · refine (θ_run Cert.Reference4Ideal.defs _ _).mono (fun _ h c => ⟨((h c).1.trans (Cert.Reference4Ideal.InProj.value _ _)).trans ?_, (h c).2⟩)
      (Cert.Reference4Ideal.Value.run (F := Ideal) m' ρ')
    obtain ⟨e0, e1⟩ := e c
    rw [e0, e1]

theorem frame_mla_proj : Cert.quiescent_Kernel5 := fun m ρ _ => by
  rw [Cert.Kernel5Ideal.MlaProj.same_defs, Cert.Kernel5Ideal.MlaProj.same_main]
  exact Cert.Kernel5Ideal.Gen.frame (F := Bits) m ρ

theorem frame_mla_proj_ideal : Cert.quiescent_Kernel5Ideal := fun m ρ _ => Cert.Kernel5Ideal.Gen.frame (F := Ideal) m ρ

theorem frame_mla_proj_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem mla_proj_values : Cert.algebraic_Kernel5Ideal_Reference5Ideal := fun m ρ m' ρ' _ e => by
  refine ⟨fun c => Cert.Kernel5Ideal.MlaProj.plain (Cert.Kernel5Ideal.MlaProj.acts m c) (Cert.Kernel5Ideal.MlaProj.weights m c) (Cert.Kernel5Ideal.MlaProj.residual m c), ?_, ?_⟩
  · exact (θ_run Cert.Kernel5Ideal.defs _ _).mono (fun _ h c => ⟨(h c).1.trans (Cert.Kernel5Ideal.MlaProj.value m c), (h c).2⟩)
      (Cert.Kernel5Ideal.Value.run_blocks (F := Ideal) m ρ)
  · refine (θ_run Cert.Reference5Ideal.defs _ _).mono (fun _ h c => ⟨((h c).1.trans (Cert.Reference5Ideal.MlaProj.value _ _ _)).trans ?_, (h c).2⟩)
      (Cert.Reference5Ideal.Value.run (F := Ideal) m' ρ')
    obtain ⟨e0, e1, e2⟩ := e c
    rw [e0, e1, e2]

theorem frame_ssm_proj : Cert.quiescent_Kernel6 := fun m ρ _ => by
  rw [Cert.Kernel6Ideal.SsmProj.same_defs, Cert.Kernel6Ideal.SsmProj.same_main]
  exact Cert.Kernel6Ideal.Gen.frame (F := Bits) m ρ

theorem frame_ssm_proj_ideal : Cert.quiescent_Kernel6Ideal := fun m ρ _ => Cert.Kernel6Ideal.Gen.frame (F := Ideal) m ρ

theorem frame_ssm_proj_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem ssm_proj_values : Cert.algebraic_Kernel6Ideal_Reference6Ideal := fun m ρ m' ρ' _ e => by
  refine ⟨fun c => Cert.Kernel6Ideal.SsmProj.plain (Cert.Kernel6Ideal.SsmProj.acts m c) (Cert.Kernel6Ideal.SsmProj.weights m c) (Cert.Kernel6Ideal.SsmProj.residual m c), ?_, ?_⟩
  · exact (θ_run Cert.Kernel6Ideal.defs _ _).mono (fun _ h c => ⟨(h c).1.trans (Cert.Kernel6Ideal.SsmProj.value m c), (h c).2⟩)
      (Cert.Kernel6Ideal.Value.run_blocks (F := Ideal) m ρ)
  · refine (θ_run Cert.Reference6Ideal.defs _ _).mono (fun _ h c => ⟨((h c).1.trans (Cert.Reference6Ideal.SsmProj.value _ _ _)).trans ?_, (h c).2⟩)
      (Cert.Reference6Ideal.Value.run (F := Ideal) m' ρ')
    obtain ⟨e0, e1, e2⟩ := e c
    rw [e0, e1, e2]

/-! ## The combination -/

theorem frame_combine : Cert.quiescent_Kernel7 := fun m ρ h => by
  rw [Cert.Kernel7Ideal.Combine.same_defs, Cert.Kernel7Ideal.Combine.same_main]
  exact (θ_run Cert.Kernel7Ideal.defs _ _).mono (fun _ h => ⟨fun c => (h.1 c).2, h.2⟩)
    (Cert.Kernel7Ideal.Combine.combination (F := Bits) m ρ fun c => Cert.Kernel7Ideal.Combine.inside_of_pre (h c))

theorem frame_combine_ideal : Cert.quiescent_Kernel7Ideal := fun m ρ h =>
  (θ_run Cert.Kernel7Ideal.defs _ _).mono (fun _ h => ⟨fun c => (h.1 c).2, h.2⟩)
    (Cert.Kernel7Ideal.Combine.combination (F := Ideal) m ρ fun c => Cert.Kernel7Ideal.Combine.inside_of_pre (h c))

theorem frame_combine_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem combine_values : Cert.algebraic_Kernel7Ideal_Reference7Ideal := fun m ρ m' ρ' h e => by
  have hA : ∀ c, Cert.Kernel7Ideal.Combine.Inside (Cert.Kernel7Ideal.Combine.posOf m c) := fun c => Cert.Kernel7Ideal.Combine.inside_of_pre (h c)
  refine ⟨fun c => Cert.Kernel7Ideal.Combine.plain (Cert.Kernel7Ideal.Combine.residual m c) (Cert.Kernel7Ideal.Combine.weights m c)
    (Cert.Kernel7Ideal.Combine.rowsOf m c) (Cert.Kernel7Ideal.Combine.posOf m c), ?_, ?_⟩
  · exact (θ_run Cert.Kernel7Ideal.defs _ _).mono (fun _ h c => ⟨(h.1 c).1.trans (Cert.Kernel7Ideal.Combine.value m c), (h.1 c).2⟩)
      (Cert.Kernel7Ideal.Combine.combination (F := Ideal) m ρ hA)
  · refine (θ_run Cert.Reference7Ideal.defs _ _).mono (fun _ h c => ⟨((h c).1.trans (Cert.Reference7Ideal.Combine.value _ _ _ ?_)).trans ?_, (h c).2⟩)
      (Cert.Reference7Ideal.Value.run (F := Ideal) m' ρ')
    · rw [(e c).2.2.2]; exact hA c
    · obtain ⟨e0, e1, e2, e3⟩ := e c
      rw [e0, e1, e2, e3]; rfl

/-! ## The queries' down projection, the shared latent and the values -/

theorem frame_query_proj : Cert.quiescent_Kernel8 := fun m ρ _ => by
  rw [Cert.Kernel8Ideal.QueryProj.same_defs, Cert.Kernel8Ideal.QueryProj.same_main]
  exact Cert.Kernel8Ideal.Gen.frame (F := Bits) m ρ

theorem frame_query_proj_ideal : Cert.quiescent_Kernel8Ideal := fun m ρ _ => Cert.Kernel8Ideal.Gen.frame (F := Ideal) m ρ

theorem frame_query_proj_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem query_proj_values : Cert.algebraic_Kernel8Ideal_Reference8Ideal := fun m ρ m' ρ' _ e => by
  refine ⟨fun c => Cert.Kernel8Ideal.QueryProj.plain (Cert.Kernel8Ideal.QueryProj.acts m c) (Cert.Kernel8Ideal.QueryProj.weights m c) (Cert.Kernel8Ideal.QueryProj.gain m c), ?_, ?_⟩
  · exact (θ_run Cert.Kernel8Ideal.defs _ _).mono (fun _ h c => ⟨(h c).1.trans (Cert.Kernel8Ideal.QueryProj.value m c), (h c).2⟩)
      (Cert.Kernel8Ideal.Value.run_blocks (F := Ideal) m ρ)
  · refine (θ_run Cert.Reference8Ideal.defs _ _).mono (fun _ h c => ⟨((h c).1.trans (Cert.Reference8Ideal.QueryProj.value _ _ _)).trans ?_, (h c).2⟩)
      (Cert.Reference8Ideal.Value.run (F := Ideal) m' ρ')
    obtain ⟨e0, e1, e2⟩ := e c
    rw [e0, e1, e2]

theorem frame_latent_proj : Cert.quiescent_Kernel9 := fun m ρ _ => by
  rw [Cert.Kernel9Ideal.LatentProj.same_defs, Cert.Kernel9Ideal.LatentProj.same_main]
  exact Cert.Kernel9Ideal.Gen.frame (F := Bits) m ρ

theorem frame_latent_proj_ideal : Cert.quiescent_Kernel9Ideal := fun m ρ _ => Cert.Kernel9Ideal.Gen.frame (F := Ideal) m ρ

theorem frame_latent_proj_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem latent_proj_values : Cert.algebraic_Kernel9Ideal_Reference9Ideal := fun m ρ m' ρ' _ e => by
  refine ⟨fun c => Cert.Kernel9Ideal.LatentProj.plain (Cert.Kernel9Ideal.LatentProj.acts m c) (Cert.Kernel9Ideal.LatentProj.weights m c) (Cert.Kernel9Ideal.LatentProj.gain m c), ?_, ?_⟩
  · exact (θ_run Cert.Kernel9Ideal.defs _ _).mono (fun _ h c => ⟨(h c).1.trans (Cert.Kernel9Ideal.LatentProj.value m c), (h c).2⟩)
      (Cert.Kernel9Ideal.Value.run_blocks (F := Ideal) m ρ)
  · refine (θ_run Cert.Reference9Ideal.defs _ _).mono (fun _ h c => ⟨((h c).1.trans (Cert.Reference9Ideal.LatentProj.value _ _ _)).trans ?_, (h c).2⟩)
      (Cert.Reference9Ideal.Value.run (F := Ideal) m' ρ')
    obtain ⟨e0, e1, e2⟩ := e c
    rw [e0, e1, e2]

theorem frame_value_proj : Cert.quiescent_Kernel10 := fun m ρ _ => by
  rw [Cert.Kernel10Ideal.ValueProj.same_defs, Cert.Kernel10Ideal.ValueProj.same_main]
  exact Cert.Kernel10Ideal.Gen.frame (F := Bits) m ρ

theorem frame_value_proj_ideal : Cert.quiescent_Kernel10Ideal := fun m ρ _ => Cert.Kernel10Ideal.Gen.frame (F := Ideal) m ρ

theorem frame_value_proj_reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem value_proj_values : Cert.algebraic_Kernel10Ideal_Reference10Ideal := fun m ρ m' ρ' _ e => by
  refine ⟨fun c => Cert.Kernel10Ideal.ValueProj.plain (Cert.Kernel10Ideal.ValueProj.acts m c) (Cert.Kernel10Ideal.ValueProj.weights m c), ?_, ?_⟩
  · exact (θ_run Cert.Kernel10Ideal.defs _ _).mono (fun _ h c => ⟨(h c).1.trans (Cert.Kernel10Ideal.ValueProj.value m c), (h c).2⟩)
      (Cert.Kernel10Ideal.Value.run_blocks (F := Ideal) m ρ)
  · refine (θ_run Cert.Reference10Ideal.defs _ _).mono (fun _ h c => ⟨((h c).1.trans (Cert.Reference10Ideal.ValueProj.value _ _)).trans ?_, (h c).2⟩)
      (Cert.Reference10Ideal.Value.run (F := Ideal) m' ρ')
    obtain ⟨e0, e1⟩ := e c
    rw [e0, e1]

/-! ## The heads' queries -/

section
attribute [local instance] Cert.Kernel11Ideal.QueryBuild.asWord

theorem frame_query_build : Cert.quiescent_Kernel11 := fun m ρ _ => by
  rw [Cert.Kernel11Ideal.QueryBuild.same_defs, Cert.Kernel11Ideal.QueryBuild.same_main]
  exact Cert.Kernel11Ideal.Gen.frame (F := Bits) m ρ

end

theorem frame_query_build_ideal : Cert.quiescent_Kernel11Ideal := fun m ρ _ => Cert.Kernel11Ideal.Gen.frame (F := Ideal) m ρ

theorem frame_query_build_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem width_named : Cert.preserves_Kernel11_Kernel11Ideal :=
  have h : Cert.Kernel11Ideal.κ "inv_qk" = some ((192⁻¹ : ℝ) : EReal) := by simp [Cert.Kernel11Ideal.κ]
  ⟨h, fun _ => IdealRules.named_const.ideal_named _ _ _ _ h, IdealRules.named_const.ideal_named_scalar _ _ _ _ h⟩

theorem query_build_values : Cert.algebraic_Kernel11Ideal_Reference11Ideal := fun m ρ m' ρ' _ e => by
  refine ⟨fun c => Cert.Kernel11Ideal.QueryBuild.plain (Cert.Kernel11Ideal.QueryBuild.latent m c) (Cert.Kernel11Ideal.QueryBuild.weights m c) (Cert.Kernel11Ideal.QueryBuild.gain m c)
    (Cert.Kernel11Ideal.QueryBuild.cosine m c) (Cert.Kernel11Ideal.QueryBuild.sine m c), ?_, ?_⟩
  · exact (θ_run Cert.Kernel11Ideal.defs _ _).mono (fun _ h c => ⟨(h c).1.trans (Cert.Kernel11Ideal.QueryBuild.value m c), (h c).2⟩)
      (Cert.Kernel11Ideal.Value.run_blocks (F := Ideal) m ρ)
  · refine (θ_run Cert.Reference11Ideal.defs _ _).mono (fun _ h c => ⟨((h c).1.trans (Cert.Reference11Ideal.QueryBuild.value _ _ _ _ _)).trans ?_, (h c).2⟩)
      (Cert.Reference11Ideal.Value.run (F := Ideal) m' ρ')
    obtain ⟨e0, e1, e2, e3, e4⟩ := e c
    rw [e0, e1, e2, e3, e4]

section
attribute [local instance] Cert.Kernel12Ideal.KeyBuild.asWord

theorem frame_key_build : Cert.quiescent_Kernel12 := fun m ρ _ => by
  rw [Cert.Kernel12Ideal.KeyBuild.same_defs, Cert.Kernel12Ideal.KeyBuild.same_main]
  exact Cert.Kernel12Ideal.Gen.frame (F := Bits) m ρ

end

theorem frame_key_build_ideal : Cert.quiescent_Kernel12Ideal := fun m ρ _ => Cert.Kernel12Ideal.Gen.frame (F := Ideal) m ρ

theorem frame_key_build_reference : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem key_width_named : Cert.preserves_Kernel12_Kernel12Ideal :=
  have h : Cert.Kernel12Ideal.κ "inv_qk" = some ((192⁻¹ : ℝ) : EReal) := by simp [Cert.Kernel12Ideal.κ]
  ⟨h, fun _ => IdealRules.named_const.ideal_named _ _ _ _ h, IdealRules.named_const.ideal_named_scalar _ _ _ _ h⟩

theorem key_build_values : Cert.algebraic_Kernel12Ideal_Reference12Ideal := fun m ρ m' ρ' _ e => by
  refine ⟨fun c => Cert.Kernel12Ideal.KeyBuild.plain (Cert.Kernel12Ideal.KeyBuild.latent m c) (Cert.Kernel12Ideal.KeyBuild.weights m c) (Cert.Kernel12Ideal.KeyBuild.common m c) (Cert.Kernel12Ideal.KeyBuild.gain m c)
    (Cert.Kernel12Ideal.KeyBuild.cosine m c) (Cert.Kernel12Ideal.KeyBuild.sine m c), ?_, ?_⟩
  · exact (θ_run Cert.Kernel12Ideal.defs _ _).mono (fun _ h c => ⟨(h c).1.trans (Cert.Kernel12Ideal.KeyBuild.value m c), (h c).2⟩)
      (Cert.Kernel12Ideal.Value.run_blocks (F := Ideal) m ρ)
  · refine (θ_run Cert.Reference12Ideal.defs _ _).mono (fun _ h c => ⟨((h c).1.trans (Cert.Reference12Ideal.KeyBuild.value _ _ _ _ _ _)).trans ?_, (h c).2⟩)
      (Cert.Reference12Ideal.Value.run (F := Ideal) m' ρ')
    obtain ⟨e0, e1, e2, e3, e4, e5⟩ := e c
    rw [e0, e1, e2, e3, e4, e5]

theorem claim : Cert.Claim :=
  ⟨Cert.Kernel.Gen.facts, Cert.KernelIdeal.Gen.facts, Cert.Reference.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_rows_apart.Gen.facts, Cert.Pre_finite.Gen.facts, Cert.Pre_rows_exist.Gen.facts,
    frame_kernel, frame_kernel_ideal, frame_reference, frame_reference_ideal, frame_experts, frame_experts_ideal, frame_experts_reference,
    frame_attention, frame_attention_ideal, frame_attention_finite, frame_attention_reference, frame_attention_reference_finite,
    frame_in_proj, frame_in_proj_ideal, frame_in_proj_reference,
    frame_mla_proj, frame_mla_proj_ideal, frame_mla_proj_reference,
    frame_ssm_proj, frame_ssm_proj_ideal, frame_ssm_proj_reference,
    frame_combine, frame_combine_ideal, frame_combine_reference,
    frame_query_proj, frame_query_proj_ideal, frame_query_proj_reference,
    frame_latent_proj, frame_latent_proj_ideal, frame_latent_proj_reference,
    frame_value_proj, frame_value_proj_ideal, frame_value_proj_reference,
    frame_query_build, frame_query_build_ideal, frame_query_build_reference,
    frame_key_build, frame_key_build_ideal, frame_key_build_reference,
    trivial, same_bits, same_values, trivial, experts_values, mask_named, attention_values,
    trivial, in_proj_values, trivial, mla_proj_values, trivial, ssm_proj_values, trivial, combine_values,
    trivial, query_proj_values, trivial, latent_proj_values, trivial, value_proj_values,
    width_named, query_build_values, key_width_named, key_build_values⟩

end Cert.Proof
